-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_kfact" .f32 0x4171ABAD#32 ((Real.log 3628800 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S1024x200 : Shape := ⟨2, ![1024, 200]⟩
abbrev S1024x200x8 : Shape := ⟨3, ![1024, 200, 8]⟩
abbrev S25600x200 : Shape := ⟨2, ![25600, 200]⟩
abbrev S25600x10 : Shape := ⟨2, ![25600, 10]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S1024x200x8 : S_.BroadcastsInDim S1024x200x8 (![] : Fin 0 → Fin S1024x200x8.rank)
  reducesTo_S1024x200x8_S_d0_1_2 : S1024x200x8.ReducesTo [0, 1, 2] S_
  bcast_S_S25600x200 : S_.BroadcastsInDim S25600x200 (![] : Fin 0 → Fin S25600x200.rank)
  reducesTo_S25600x200_S_d0_1 : S25600x200.ReducesTo [0, 1] S_

variable [Facts]

def fn {F : FTy → Type} [FloatOps F] (main_arg0 : FVec F S1024x200 .f32) (main_arg1 : FVec F S1024x200 .f32) (main_arg2 : FVec F S1024x200x8 .f32) (main_arg3 : FVec F S25600x200 .f32) (main_arg4 : FVec F S25600x10 .f32) : IVec S_ 1 :=
  let main_v0 : FVec F S1024x200 .f32 := Host.absf main_arg0
  let main_cst : FVec F S_ .f32 := constant S_ .f32 0x7F800000#32
  let main_v1 : FVec F S1024x200 .f32 := broadcastInDim S1024x200 ![] bcast_S_S1024x200 main_cst
  let main_v2 : IVec S1024x200 1 := cmpf .olt main_v0 main_v1
  let main_c : IVec S_ 1 := constantI S_ 1 1#1
  let main_v3 : IVec S_ 1 := (fun x v => Host.reduce IntOp.andi x v reducesTo_S1024x200_S_d0_1 h_S_) main_v2 main_c
  let main_cst_0 : FVec F S_ .f32 := constant S_ .f32 0x00000000#32
  let main_v4 : FVec F S1024x200 .f32 := broadcastInDim S1024x200 ![] bcast_S_S1024x200 main_cst_0
  let main_v5 : IVec S1024x200 1 := cmpf .oge main_arg1 main_v4
  let main_c_1 : IVec S_ 1 := constantI S_ 1 1#1
  let main_v6 : IVec S_ 1 := (fun x v => Host.reduce IntOp.andi x v reducesTo_S1024x200_S_d0_1 h_S_) main_v5 main_c_1
  let main_v7 : IVec S_ 1 := andi main_v3 main_v6
  let main_cst_2 : FVec F S_ .f32 := constant S_ .f32 0x00000000#32
  let main_v8 : FVec F S1024x200x8 .f32 := broadcastInDim S1024x200x8 ![] bcast_S_S1024x200x8 main_cst_2
  let main_v9 : IVec S1024x200x8 1 := cmpf .oge main_arg2 main_v8
  let main_c_3 : IVec S_ 1 := constantI S_ 1 1#1
  let main_v10 : IVec S_ 1 := (fun x v => Host.reduce IntOp.andi x v reducesTo_S1024x200x8_S_d0_1_2 h_S_) main_v9 main_c_3
  let main_v11 : IVec S_ 1 := andi main_v7 main_v10
  let main_cst_4 : FVec F S_ .f32 := constant S_ .f32 0xFF800000#32
  let main_v12 : FVec F S25600x200 .f32 := broadcastInDim S25600x200 ![] bcast_S_S25600x200 main_cst_4
  let main_v13 : IVec S25600x200 1 := cmpf .ogt main_arg3 main_v12
  let main_c_5 : IVec S_ 1 := constantI S_ 1 1#1
  let main_v14 : IVec S_ 1 := (fun x v => Host.reduce IntOp.andi x v reducesTo_S25600x200_S_d0_1 h_S_) main_v13 main_c_5
  let main_v15 : IVec S_ 1 := andi main_v11 main_v14
  main_v15
-- ==== Kernel.lean ====
abbrev S1024x200 : Shape := ⟨2, ![1024, 200]⟩
abbrev S1024x200x8 : Shape := ⟨3, ![1024, 200, 8]⟩
abbrev S25600x200 : Shape := ⟨2, ![25600, 200]⟩
abbrev S25600x10 : Shape := ⟨2, ![25600, 10]⟩
abbrev S32x16 : Shape := ⟨2, ![32, 16]⟩
abbrev S32x200 : Shape := ⟨2, ![32, 200]⟩
abbrev S32x200x8 : Shape := ⟨3, ![32, 200, 8]⟩
abbrev S16x200 : Shape := ⟨2, ![16, 200]⟩
abbrev S16x10 : Shape := ⟨2, ![16, 10]⟩
abbrev S3200 : Shape := ⟨1, ![3200]⟩
abbrev S160 : Shape := ⟨1, ![160]⟩
abbrev S32 : Shape := ⟨1, ![32]⟩
abbrev S16 : Shape := ⟨1, ![16]⟩
abbrev S_ : Shape := ⟨0, ![]⟩
abbrev S1x16 : Shape := ⟨2, ![1, 16]⟩

abbrev nBuf : Table → Nat
  | .hbm => 11
  | .local .scVector .vmem => 12
  | _ => 0

abbrev bufTy : (tb : Table) → Fin (nBuf tb) → BufTy
  | .hbm, ⟨0, _⟩ => ⟨S1024x200, .f32⟩
  | .hbm, ⟨1, _⟩ => ⟨S1024x200, .f32⟩
  | .hbm, ⟨2, _⟩ => ⟨S1024x200x8, .f32⟩
  | .hbm, ⟨3, _⟩ => ⟨S25600x200, .f32⟩
  | .hbm, ⟨4, _⟩ => ⟨S25600x10, .f32⟩
  | .hbm, ⟨5, _⟩ => ⟨S32x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .scVector .vmem, ⟨0, _⟩ => ⟨S32x200, .f32⟩
  | .local .scVector .vmem, ⟨1, _⟩ => ⟨S32x200, .f32⟩
  | .local .scVector .vmem, ⟨2, _⟩ => ⟨S32x200x8, .f32⟩
  | .local .scVector .vmem, ⟨3, _⟩ => ⟨S32x200, .f32⟩
  | .local .scVector .vmem, ⟨4, _⟩ => ⟨S16x200, .f32⟩
  | .local .scVector .vmem, ⟨5, _⟩ => ⟨S16x10, .f32⟩
  | .local .scVector .vmem, ⟨6, _⟩ => ⟨S3200, .f32⟩
  | .local .scVector .vmem, ⟨7, _⟩ => ⟨S160, .f32⟩
  | .local .scVector .vmem, ⟨8, _⟩ => ⟨S160, .f32⟩
  | .local .scVector .vmem, ⟨9, _⟩ => ⟨S32, .f32⟩
  | .local .scVector .vmem, ⟨10, _⟩ => ⟨S32, .f32⟩
  | .local .scVector .vmem, ⟨11, _⟩ => ⟨S16, .f32⟩
  | _, _ => ⟨S1024x200, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.muli v1 c32_i32
  let c0_i32_35_r0 : BitVec 32 := 0#32
  ![v7.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v9 : BitVec 32 := Scalar.muli v1 c32_i32_2
  let c0_i32_35_r2 : BitVec 32 := 0#32
  let c0_i32_36_r2 : BitVec 32 := 0#32
  ![v9.toNat, 0, 0]
@[reducible] def k0_t1_loop : Scf.Loop 32 :=
  let c0_i32_4 : BitVec 32 := 0#32
  let c200_i32 : BitVec 32 := 200#32
  let v12 : BitVec 32 := Scalar.addi c0_i32_4 c200_i32
  let c1_i32_5 : BitVec 32 := 1#32
  ⟨c0_i32_4, v12, c1_i32_5⟩

def k0_chk1 (v11 : IVec S16 32) (v37 : IVec S16 32) : Prop :=
  (∀ a x, ((![v11, v37] : Fin 2 → IVec S16 32) a x).toNat < S32x200.size a)
theorem k0_idx1_inb : ∀ (v11 : IVec S16 32) (v37 : IVec S16 32) (k0_hw1 : k0_chk1 v11 v37), ∀ a x, ((![v11, v37] : Fin 2 → IVec S16 32) a x).toNat < S32x200.size a := fun v11 v37 k0_hw1 => k0_hw1
@[reducible] def k0_t2_loop : Scf.Loop 32 :=
  let c0_i32_7 : BitVec 32 := 0#32
  let c200_i32_8 : BitVec 32 := 200#32
  let v14 : BitVec 32 := Scalar.addi c0_i32_7 c200_i32_8
  let c1_i32_9 : BitVec 32 := 1#32
  ⟨c0_i32_7, v14, c1_i32_9⟩

def k0_chk2 (v11 : IVec S16 32) (v37 : IVec S16 32) : Prop :=
  (∀ a x, ((![v11, v37] : Fin 2 → IVec S16 32) a x).toNat < S32x200.size a) ∧
  (∀ a x, ((![v11, v37] : Fin 2 → IVec S16 32) a x).toNat < S32x200.size a) ∧
  (∀ a x, ((![v11, v37] : Fin 2 → IVec S16 32) a x).toNat < S32x200.size a)
theorem k0_idx2_inb : ∀ (v11 : IVec S16 32) (v37 : IVec S16 32) (k0_hw2 : k0_chk2 v11 v37), ∀ a x, ((![v11, v37] : Fin 2 → IVec S16 32) a x).toNat < S32x200.size a := fun v11 v37 k0_hw2 => k0_hw2.1
theorem k0_idx3_inb : ∀ (v11 : IVec S16 32) (v37 : IVec S16 32) (k0_hw2 : k0_chk2 v11 v37), ∀ a x, ((![v11, v37] : Fin 2 → IVec S16 32) a x).toNat < S32x200.size a := fun v11 v37 k0_hw2 => k0_hw2.2.1
theorem k0_idx4_inb : ∀ (v11 : IVec S16 32) (v37 : IVec S16 32) (k0_hw2 : k0_chk2 v11 v37), ∀ a x, ((![v11, v37] : Fin 2 → IVec S16 32) a x).toNat < S32x200.size a := fun v11 v37 k0_hw2 => k0_hw2.2.2
@[reducible] def k0_t3_loop : Scf.Loop 32 :=
  let c0_i32_12 : BitVec 32 := 0#32
  let c200_i32_13 : BitVec 32 := 200#32
  let v18 : BitVec 32 := Scalar.addi c0_i32_12 c200_i32_13
  let c1_i32_14 : BitVec 32 := 1#32
  ⟨c0_i32_12, v18, c1_i32_14⟩

def k0_chk3 (v11 : IVec S16 32) (v37 : IVec S16 32) : Prop :=
  (∀ a x, ((![v11, v37] : Fin 2 → IVec S16 32) a x).toNat < S32x200.size a) ∧
  (∀ a x, ((![v11, v37] : Fin 2 → IVec S16 32) a x).toNat < S32x200.size a)
theorem k0_idx5_inb : ∀ (v11 : IVec S16 32) (v37 : IVec S16 32) (k0_hw3 : k0_chk3 v11 v37), ∀ a x, ((![v11, v37] : Fin 2 → IVec S16 32) a x).toNat < S32x200.size a := fun v11 v37 k0_hw3 => k0_hw3.1
theorem k0_idx6_inb : ∀ (v11 : IVec S16 32) (v37 : IVec S16 32) (k0_hw3 : k0_chk3 v11 v37), ∀ a x, ((![v11, v37] : Fin 2 → IVec S16 32) a x).toNat < S32x200.size a := fun v11 v37 k0_hw3 => k0_hw3.2
@[reducible] def k0_t4_loop : Scf.Loop 32 :=
  let c0_i32_17 : BitVec 32 := 0#32
  let c200_i32_18 : BitVec 32 := 200#32
  let v24 : BitVec 32 := Scalar.addi c0_i32_17 c200_i32_18
  let c1_i32_19 : BitVec 32 := 1#32
  ⟨c0_i32_17, v24, c1_i32_19⟩

def k0_chk4 (v23 : IVec S16 32) (v37 : IVec S16 32) : Prop :=
  (∀ a x, ((![v23, v37] : Fin 2 → IVec S16 32) a x).toNat < S32x200.size a)
theorem k0_idx7_inb : ∀ (v23 : IVec S16 32) (v37 : IVec S16 32) (k0_hw4 : k0_chk4 v23 v37), ∀ a x, ((![v23, v37] : Fin 2 → IVec S16 32) a x).toNat < S32x200.size a := fun v23 v37 k0_hw4 => k0_hw4
@[reducible] def k0_t5_loop : Scf.Loop 32 :=
  let c0_i32_21 : BitVec 32 := 0#32
  let c200_i32_22 : BitVec 32 := 200#32
  let v26 : BitVec 32 := Scalar.addi c0_i32_21 c200_i32_22
  let c1_i32_23 : BitVec 32 := 1#32
  ⟨c0_i32_21, v26, c1_i32_23⟩

def k0_chk5 (v23 : IVec S16 32) (v37 : IVec S16 32) : Prop :=
  (∀ a x, ((![v23, v37] : Fin 2 → IVec S16 32) a x).toNat < S32x200.size a) ∧
  (∀ a x, ((![v23, v37] : Fin 2 → IVec S16 32) a x).toNat < S32x200.size a) ∧
  (∀ a x, ((![v23, v37] : Fin 2 → IVec S16 32) a x).toNat < S32x200.size a)
theorem k0_idx8_inb : ∀ (v23 : IVec S16 32) (v37 : IVec S16 32) (k0_hw5 : k0_chk5 v23 v37), ∀ a x, ((![v23, v37] : Fin 2 → IVec S16 32) a x).toNat < S32x200.size a := fun v23 v37 k0_hw5 => k0_hw5.1
theorem k0_idx9_inb : ∀ (v23 : IVec S16 32) (v37 : IVec S16 32) (k0_hw5 : k0_chk5 v23 v37), ∀ a x, ((![v23, v37] : Fin 2 → IVec S16 32) a x).toNat < S32x200.size a := fun v23 v37 k0_hw5 => k0_hw5.2.1
theorem k0_idx10_inb : ∀ (v23 : IVec S16 32) (v37 : IVec S16 32) (k0_hw5 : k0_chk5 v23 v37), ∀ a x, ((![v23, v37] : Fin 2 → IVec S16 32) a x).toNat < S32x200.size a := fun v23 v37 k0_hw5 => k0_hw5.2.2
@[reducible] def k0_t6_loop : Scf.Loop 32 :=
  let c0_i32_26 : BitVec 32 := 0#32
  let c200_i32_27 : BitVec 32 := 200#32
  let v30 : BitVec 32 := Scalar.addi c0_i32_26 c200_i32_27
  let c1_i32_28 : BitVec 32 := 1#32
  ⟨c0_i32_26, v30, c1_i32_28⟩

def k0_chk6 (v23 : IVec S16 32) (v37 : IVec S16 32) : Prop :=
  (∀ a x, ((![v23, v37] : Fin 2 → IVec S16 32) a x).toNat < S32x200.size a) ∧
  (∀ a x, ((![v23, v37] : Fin 2 → IVec S16 32) a x).toNat < S32x200.size a)
theorem k0_idx11_inb : ∀ (v23 : IVec S16 32) (v37 : IVec S16 32) (k0_hw6 : k0_chk6 v23 v37), ∀ a x, ((![v23, v37] : Fin 2 → IVec S16 32) a x).toNat < S32x200.size a := fun v23 v37 k0_hw6 => k0_hw6.1
theorem k0_idx12_inb : ∀ (v23 : IVec S16 32) (v37 : IVec S16 32) (k0_hw6 : k0_chk6 v23 v37), ∀ a x, ((![v23, v37] : Fin 2 → IVec S16 32) a x).toNat < S32x200.size a := fun v23 v37 k0_hw6 => k0_hw6.2
@[reducible] def k0_t7_loop : Scf.Loop 32 :=
  let c0_i32_31 : BitVec 32 := 0#32
  let c50_i32 : BitVec 32 := 50#32
  let v34 : BitVec 32 := Scalar.addi c0_i32_31 c50_i32
  let c1_i32_32 : BitVec 32 := 1#32
  ⟨c0_i32_31, v34, c1_i32_32⟩
def k0_off3 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v37 : BitVec 32 := Scalar.muli v1 c800_i32
  let c0_i32_31 : BitVec 32 := 0#32
  let c1_i32_32 : BitVec 32 := 1#32
  let arg20 : BitVec 32 := Scf.iv c0_i32_31 c1_i32_32 k0_t7
  let c16_i32_35 : BitVec 32 := 16#32
  let v38 : BitVec 32 := Scalar.muli arg20 c16_i32_35
  let v39 : BitVec 32 := Scalar.addi v37 v38
  let c0_i32_716_r3 : BitVec 32 := 0#32
  ![v39.toNat, 0]
def k0_off4 (i : grid0.Coords) (k0_t7 : Fin k0_t7_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v37 : BitVec 32 := Scalar.muli v1 c800_i32
  let c0_i32_31 : BitVec 32 := 0#32
  let c1_i32_32 : BitVec 32 := 1#32
  let arg20 : BitVec 32 := Scf.iv c0_i32_31 c1_i32_32 k0_t7
  let c16_i32_35 : BitVec 32 := 16#32
  let v38 : BitVec 32 := Scalar.muli arg20 c16_i32_35
  let v39 : BitVec 32 := Scalar.addi v37 v38
  let c0_i32_716_r4 : BitVec 32 := 0#32
  ![v39.toNat, 0]
@[reducible] def k0_t8_loop : Scf.Loop 32 :=
  let c0_i32_43 : BitVec 32 := 0#32
  let c10_i32 : BitVec 32 := 10#32
  let v67 : BitVec 32 := Scalar.addi c0_i32_43 c10_i32
  let c1_i32_44 : BitVec 32 := 1#32
  ⟨c0_i32_43, v67, c1_i32_44⟩

def k0_chk7 (v2 : IVec S16 32) (v3371 : IVec S16 32) : Prop :=
  (∀ a x, ((![v2, v3371] : Fin 2 → IVec S16 32) a x).toNat < S16x200.size a)
theorem k0_idx13_inb : ∀ (v2 : IVec S16 32) (v3371 : IVec S16 32) (k0_hw7 : k0_chk7 v2 v3371), ∀ a x, ((![v2, v3371] : Fin 2 → IVec S16 32) a x).toNat < S16x200.size a := fun v2 v3371 k0_hw7 => k0_hw7

def k0_chk8 (v66 : IVec S16 32) (v3374 : IVec S16 32) : Prop :=
  (∀ a x, ((![v66, v3374] : Fin 2 → IVec S16 32) a x).toNat < S32x200.size a)
theorem k0_idx14_inb : ∀ (v66 : IVec S16 32) (v3374 : IVec S16 32) (k0_hw8 : k0_chk8 v66 v3374), ∀ a x, ((![v66, v3374] : Fin 2 → IVec S16 32) a x).toNat < S32x200.size a := fun v66 v3374 k0_hw8 => k0_hw8
def k0_mult1 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_718 : BitVec 32 := 320#32
  let v3377 : BitVec 32 := Scalar.muli arg22 c320_i32_718
  let c0_i32_719 : BitVec 32 := 0#32
  let v3378 : BitVec 32 := Scalar.addi v3377 c0_i32_719
  v3378
def k0_off5 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_718 : BitVec 32 := 320#32
  let v3377 : BitVec 32 := Scalar.muli arg22 c320_i32_718
  let c0_i32_719 : BitVec 32 := 0#32
  let v3378 : BitVec 32 := Scalar.addi v3377 c0_i32_719
  let v3379 : BitVec 32 := v3378
  let v3380 : Index := Scalar.indexCast v3379
  ![v3380.toNat]

def k0_chk9 (v2 : IVec S16 32) (v3384 : IVec S16 32) : Prop :=
  (∀ a x, ((![v2, v3384] : Fin 2 → IVec S16 32) a x).toNat < S16x200.size a)
theorem k0_idx15_inb : ∀ (v2 : IVec S16 32) (v3384 : IVec S16 32) (k0_hw9 : k0_chk9 v2 v3384), ∀ a x, ((![v2, v3384] : Fin 2 → IVec S16 32) a x).toNat < S16x200.size a := fun v2 v3384 k0_hw9 => k0_hw9

def k0_chk10 (v66 : IVec S16 32) (v3387 : IVec S16 32) : Prop :=
  (∀ a x, ((![v66, v3387] : Fin 2 → IVec S16 32) a x).toNat < S32x200.size a)
theorem k0_idx16_inb : ∀ (v66 : IVec S16 32) (v3387 : IVec S16 32) (k0_hw10 : k0_chk10 v66 v3387), ∀ a x, ((![v66, v3387] : Fin 2 → IVec S16 32) a x).toNat < S32x200.size a := fun v66 v3387 k0_hw10 => k0_hw10
def k0_mult2 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_722 : BitVec 32 := 320#32
  let v3390 : BitVec 32 := Scalar.muli arg22 c320_i32_722
  let c16_i32_723 : BitVec 32 := 16#32
  let v3391 : BitVec 32 := Scalar.addi v3390 c16_i32_723
  v3391
def k0_off6 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_722 : BitVec 32 := 320#32
  let v3390 : BitVec 32 := Scalar.muli arg22 c320_i32_722
  let c16_i32_723 : BitVec 32 := 16#32
  let v3391 : BitVec 32 := Scalar.addi v3390 c16_i32_723
  let v3392 : BitVec 32 := v3391
  let v3393 : Index := Scalar.indexCast v3392
  ![v3393.toNat]

def k0_chk11 (v2 : IVec S16 32) (v3397 : IVec S16 32) : Prop :=
  (∀ a x, ((![v2, v3397] : Fin 2 → IVec S16 32) a x).toNat < S16x200.size a)
theorem k0_idx17_inb : ∀ (v2 : IVec S16 32) (v3397 : IVec S16 32) (k0_hw11 : k0_chk11 v2 v3397), ∀ a x, ((![v2, v3397] : Fin 2 → IVec S16 32) a x).toNat < S16x200.size a := fun v2 v3397 k0_hw11 => k0_hw11

def k0_chk12 (v66 : IVec S16 32) (v3400 : IVec S16 32) : Prop :=
  (∀ a x, ((![v66, v3400] : Fin 2 → IVec S16 32) a x).toNat < S32x200.size a)
theorem k0_idx18_inb : ∀ (v66 : IVec S16 32) (v3400 : IVec S16 32) (k0_hw12 : k0_chk12 v66 v3400), ∀ a x, ((![v66, v3400] : Fin 2 → IVec S16 32) a x).toNat < S32x200.size a := fun v66 v3400 k0_hw12 => k0_hw12
def k0_mult3 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_726 : BitVec 32 := 320#32
  let v3403 : BitVec 32 := Scalar.muli arg22 c320_i32_726
  let c32_i32_727 : BitVec 32 := 32#32
  let v3404 : BitVec 32 := Scalar.addi v3403 c32_i32_727
  v3404
def k0_off7 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_726 : BitVec 32 := 320#32
  let v3403 : BitVec 32 := Scalar.muli arg22 c320_i32_726
  let c32_i32_727 : BitVec 32 := 32#32
  let v3404 : BitVec 32 := Scalar.addi v3403 c32_i32_727
  let v3405 : BitVec 32 := v3404
  let v3406 : Index := Scalar.indexCast v3405
  ![v3406.toNat]

def k0_chk13 (v2 : IVec S16 32) (v3410 : IVec S16 32) : Prop :=
  (∀ a x, ((![v2, v3410] : Fin 2 → IVec S16 32) a x).toNat < S16x200.size a)
theorem k0_idx19_inb : ∀ (v2 : IVec S16 32) (v3410 : IVec S16 32) (k0_hw13 : k0_chk13 v2 v3410), ∀ a x, ((![v2, v3410] : Fin 2 → IVec S16 32) a x).toNat < S16x200.size a := fun v2 v3410 k0_hw13 => k0_hw13

def k0_chk14 (v66 : IVec S16 32) (v3413 : IVec S16 32) : Prop :=
  (∀ a x, ((![v66, v3413] : Fin 2 → IVec S16 32) a x).toNat < S32x200.size a)
theorem k0_idx20_inb : ∀ (v66 : IVec S16 32) (v3413 : IVec S16 32) (k0_hw14 : k0_chk14 v66 v3413), ∀ a x, ((![v66, v3413] : Fin 2 → IVec S16 32) a x).toNat < S32x200.size a := fun v66 v3413 k0_hw14 => k0_hw14
def k0_mult4 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_730 : BitVec 32 := 320#32
  let v3416 : BitVec 32 := Scalar.muli arg22 c320_i32_730
  let c48_i32_731 : BitVec 32 := 48#32
  let v3417 : BitVec 32 := Scalar.addi v3416 c48_i32_731
  v3417
def k0_off8 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_730 : BitVec 32 := 320#32
  let v3416 : BitVec 32 := Scalar.muli arg22 c320_i32_730
  let c48_i32_731 : BitVec 32 := 48#32
  let v3417 : BitVec 32 := Scalar.addi v3416 c48_i32_731
  let v3418 : BitVec 32 := v3417
  let v3419 : Index := Scalar.indexCast v3418
  ![v3419.toNat]

def k0_chk15 (v2 : IVec S16 32) (v3423 : IVec S16 32) : Prop :=
  (∀ a x, ((![v2, v3423] : Fin 2 → IVec S16 32) a x).toNat < S16x200.size a)
theorem k0_idx21_inb : ∀ (v2 : IVec S16 32) (v3423 : IVec S16 32) (k0_hw15 : k0_chk15 v2 v3423), ∀ a x, ((![v2, v3423] : Fin 2 → IVec S16 32) a x).toNat < S16x200.size a := fun v2 v3423 k0_hw15 => k0_hw15

def k0_chk16 (v66 : IVec S16 32) (v3426 : IVec S16 32) : Prop :=
  (∀ a x, ((![v66, v3426] : Fin 2 → IVec S16 32) a x).toNat < S32x200.size a)
theorem k0_idx22_inb : ∀ (v66 : IVec S16 32) (v3426 : IVec S16 32) (k0_hw16 : k0_chk16 v66 v3426), ∀ a x, ((![v66, v3426] : Fin 2 → IVec S16 32) a x).toNat < S32x200.size a := fun v66 v3426 k0_hw16 => k0_hw16
def k0_mult5 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_734 : BitVec 32 := 320#32
  let v3429 : BitVec 32 := Scalar.muli arg22 c320_i32_734
  let c64_i32_735 : BitVec 32 := 64#32
  let v3430 : BitVec 32 := Scalar.addi v3429 c64_i32_735
  v3430
def k0_off9 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_734 : BitVec 32 := 320#32
  let v3429 : BitVec 32 := Scalar.muli arg22 c320_i32_734
  let c64_i32_735 : BitVec 32 := 64#32
  let v3430 : BitVec 32 := Scalar.addi v3429 c64_i32_735
  let v3431 : BitVec 32 := v3430
  let v3432 : Index := Scalar.indexCast v3431
  ![v3432.toNat]

def k0_chk17 (v2 : IVec S16 32) (v3436 : IVec S16 32) : Prop :=
  (∀ a x, ((![v2, v3436] : Fin 2 → IVec S16 32) a x).toNat < S16x200.size a)
theorem k0_idx23_inb : ∀ (v2 : IVec S16 32) (v3436 : IVec S16 32) (k0_hw17 : k0_chk17 v2 v3436), ∀ a x, ((![v2, v3436] : Fin 2 → IVec S16 32) a x).toNat < S16x200.size a := fun v2 v3436 k0_hw17 => k0_hw17

def k0_chk18 (v66 : IVec S16 32) (v3439 : IVec S16 32) : Prop :=
  (∀ a x, ((![v66, v3439] : Fin 2 → IVec S16 32) a x).toNat < S32x200.size a)
theorem k0_idx24_inb : ∀ (v66 : IVec S16 32) (v3439 : IVec S16 32) (k0_hw18 : k0_chk18 v66 v3439), ∀ a x, ((![v66, v3439] : Fin 2 → IVec S16 32) a x).toNat < S32x200.size a := fun v66 v3439 k0_hw18 => k0_hw18
def k0_mult6 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_738 : BitVec 32 := 320#32
  let v3442 : BitVec 32 := Scalar.muli arg22 c320_i32_738
  let c80_i32_739 : BitVec 32 := 80#32
  let v3443 : BitVec 32 := Scalar.addi v3442 c80_i32_739
  v3443
def k0_off10 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_738 : BitVec 32 := 320#32
  let v3442 : BitVec 32 := Scalar.muli arg22 c320_i32_738
  let c80_i32_739 : BitVec 32 := 80#32
  let v3443 : BitVec 32 := Scalar.addi v3442 c80_i32_739
  let v3444 : BitVec 32 := v3443
  let v3445 : Index := Scalar.indexCast v3444
  ![v3445.toNat]

def k0_chk19 (v2 : IVec S16 32) (v3449 : IVec S16 32) : Prop :=
  (∀ a x, ((![v2, v3449] : Fin 2 → IVec S16 32) a x).toNat < S16x200.size a)
theorem k0_idx25_inb : ∀ (v2 : IVec S16 32) (v3449 : IVec S16 32) (k0_hw19 : k0_chk19 v2 v3449), ∀ a x, ((![v2, v3449] : Fin 2 → IVec S16 32) a x).toNat < S16x200.size a := fun v2 v3449 k0_hw19 => k0_hw19

def k0_chk20 (v66 : IVec S16 32) (v3452 : IVec S16 32) : Prop :=
  (∀ a x, ((![v66, v3452] : Fin 2 → IVec S16 32) a x).toNat < S32x200.size a)
theorem k0_idx26_inb : ∀ (v66 : IVec S16 32) (v3452 : IVec S16 32) (k0_hw20 : k0_chk20 v66 v3452), ∀ a x, ((![v66, v3452] : Fin 2 → IVec S16 32) a x).toNat < S32x200.size a := fun v66 v3452 k0_hw20 => k0_hw20
def k0_mult7 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_742 : BitVec 32 := 320#32
  let v3455 : BitVec 32 := Scalar.muli arg22 c320_i32_742
  let c96_i32_743 : BitVec 32 := 96#32
  let v3456 : BitVec 32 := Scalar.addi v3455 c96_i32_743
  v3456
def k0_off11 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_742 : BitVec 32 := 320#32
  let v3455 : BitVec 32 := Scalar.muli arg22 c320_i32_742
  let c96_i32_743 : BitVec 32 := 96#32
  let v3456 : BitVec 32 := Scalar.addi v3455 c96_i32_743
  let v3457 : BitVec 32 := v3456
  let v3458 : Index := Scalar.indexCast v3457
  ![v3458.toNat]

def k0_chk21 (v2 : IVec S16 32) (v3462 : IVec S16 32) : Prop :=
  (∀ a x, ((![v2, v3462] : Fin 2 → IVec S16 32) a x).toNat < S16x200.size a)
theorem k0_idx27_inb : ∀ (v2 : IVec S16 32) (v3462 : IVec S16 32) (k0_hw21 : k0_chk21 v2 v3462), ∀ a x, ((![v2, v3462] : Fin 2 → IVec S16 32) a x).toNat < S16x200.size a := fun v2 v3462 k0_hw21 => k0_hw21

def k0_chk22 (v66 : IVec S16 32) (v3465 : IVec S16 32) : Prop :=
  (∀ a x, ((![v66, v3465] : Fin 2 → IVec S16 32) a x).toNat < S32x200.size a)
theorem k0_idx28_inb : ∀ (v66 : IVec S16 32) (v3465 : IVec S16 32) (k0_hw22 : k0_chk22 v66 v3465), ∀ a x, ((![v66, v3465] : Fin 2 → IVec S16 32) a x).toNat < S32x200.size a := fun v66 v3465 k0_hw22 => k0_hw22
def k0_mult8 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_746 : BitVec 32 := 320#32
  let v3468 : BitVec 32 := Scalar.muli arg22 c320_i32_746
  let c112_i32_747 : BitVec 32 := 112#32
  let v3469 : BitVec 32 := Scalar.addi v3468 c112_i32_747
  v3469
def k0_off12 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_746 : BitVec 32 := 320#32
  let v3468 : BitVec 32 := Scalar.muli arg22 c320_i32_746
  let c112_i32_747 : BitVec 32 := 112#32
  let v3469 : BitVec 32 := Scalar.addi v3468 c112_i32_747
  let v3470 : BitVec 32 := v3469
  let v3471 : Index := Scalar.indexCast v3470
  ![v3471.toNat]

def k0_chk23 (v2 : IVec S16 32) (v3475 : IVec S16 32) : Prop :=
  (∀ a x, ((![v2, v3475] : Fin 2 → IVec S16 32) a x).toNat < S16x200.size a)
theorem k0_idx29_inb : ∀ (v2 : IVec S16 32) (v3475 : IVec S16 32) (k0_hw23 : k0_chk23 v2 v3475), ∀ a x, ((![v2, v3475] : Fin 2 → IVec S16 32) a x).toNat < S16x200.size a := fun v2 v3475 k0_hw23 => k0_hw23

def k0_chk24 (v66 : IVec S16 32) (v3478 : IVec S16 32) : Prop :=
  (∀ a x, ((![v66, v3478] : Fin 2 → IVec S16 32) a x).toNat < S32x200.size a)
theorem k0_idx30_inb : ∀ (v66 : IVec S16 32) (v3478 : IVec S16 32) (k0_hw24 : k0_chk24 v66 v3478), ∀ a x, ((![v66, v3478] : Fin 2 → IVec S16 32) a x).toNat < S32x200.size a := fun v66 v3478 k0_hw24 => k0_hw24
def k0_mult9 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_750 : BitVec 32 := 320#32
  let v3481 : BitVec 32 := Scalar.muli arg22 c320_i32_750
  let c128_i32_751 : BitVec 32 := 128#32
  let v3482 : BitVec 32 := Scalar.addi v3481 c128_i32_751
  v3482
def k0_off13 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_750 : BitVec 32 := 320#32
  let v3481 : BitVec 32 := Scalar.muli arg22 c320_i32_750
  let c128_i32_751 : BitVec 32 := 128#32
  let v3482 : BitVec 32 := Scalar.addi v3481 c128_i32_751
  let v3483 : BitVec 32 := v3482
  let v3484 : Index := Scalar.indexCast v3483
  ![v3484.toNat]

def k0_chk25 (v2 : IVec S16 32) (v3488 : IVec S16 32) : Prop :=
  (∀ a x, ((![v2, v3488] : Fin 2 → IVec S16 32) a x).toNat < S16x200.size a)
theorem k0_idx31_inb : ∀ (v2 : IVec S16 32) (v3488 : IVec S16 32) (k0_hw25 : k0_chk25 v2 v3488), ∀ a x, ((![v2, v3488] : Fin 2 → IVec S16 32) a x).toNat < S16x200.size a := fun v2 v3488 k0_hw25 => k0_hw25

def k0_chk26 (v66 : IVec S16 32) (v3491 : IVec S16 32) : Prop :=
  (∀ a x, ((![v66, v3491] : Fin 2 → IVec S16 32) a x).toNat < S32x200.size a)
theorem k0_idx32_inb : ∀ (v66 : IVec S16 32) (v3491 : IVec S16 32) (k0_hw26 : k0_chk26 v66 v3491), ∀ a x, ((![v66, v3491] : Fin 2 → IVec S16 32) a x).toNat < S32x200.size a := fun v66 v3491 k0_hw26 => k0_hw26
def k0_mult10 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_754 : BitVec 32 := 320#32
  let v3494 : BitVec 32 := Scalar.muli arg22 c320_i32_754
  let c144_i32_755 : BitVec 32 := 144#32
  let v3495 : BitVec 32 := Scalar.addi v3494 c144_i32_755
  v3495
def k0_off14 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_754 : BitVec 32 := 320#32
  let v3494 : BitVec 32 := Scalar.muli arg22 c320_i32_754
  let c144_i32_755 : BitVec 32 := 144#32
  let v3495 : BitVec 32 := Scalar.addi v3494 c144_i32_755
  let v3496 : BitVec 32 := v3495
  let v3497 : Index := Scalar.indexCast v3496
  ![v3497.toNat]

def k0_chk27 (v2 : IVec S16 32) (v3501 : IVec S16 32) : Prop :=
  (∀ a x, ((![v2, v3501] : Fin 2 → IVec S16 32) a x).toNat < S16x200.size a)
theorem k0_idx33_inb : ∀ (v2 : IVec S16 32) (v3501 : IVec S16 32) (k0_hw27 : k0_chk27 v2 v3501), ∀ a x, ((![v2, v3501] : Fin 2 → IVec S16 32) a x).toNat < S16x200.size a := fun v2 v3501 k0_hw27 => k0_hw27

def k0_chk28 (v66 : IVec S16 32) (v3504 : IVec S16 32) : Prop :=
  (∀ a x, ((![v66, v3504] : Fin 2 → IVec S16 32) a x).toNat < S32x200.size a)
theorem k0_idx34_inb : ∀ (v66 : IVec S16 32) (v3504 : IVec S16 32) (k0_hw28 : k0_chk28 v66 v3504), ∀ a x, ((![v66, v3504] : Fin 2 → IVec S16 32) a x).toNat < S32x200.size a := fun v66 v3504 k0_hw28 => k0_hw28
def k0_mult11 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_758 : BitVec 32 := 320#32
  let v3507 : BitVec 32 := Scalar.muli arg22 c320_i32_758
  let c160_i32_759 : BitVec 32 := 160#32
  let v3508 : BitVec 32 := Scalar.addi v3507 c160_i32_759
  v3508
def k0_off15 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_758 : BitVec 32 := 320#32
  let v3507 : BitVec 32 := Scalar.muli arg22 c320_i32_758
  let c160_i32_759 : BitVec 32 := 160#32
  let v3508 : BitVec 32 := Scalar.addi v3507 c160_i32_759
  let v3509 : BitVec 32 := v3508
  let v3510 : Index := Scalar.indexCast v3509
  ![v3510.toNat]

def k0_chk29 (v2 : IVec S16 32) (v3514 : IVec S16 32) : Prop :=
  (∀ a x, ((![v2, v3514] : Fin 2 → IVec S16 32) a x).toNat < S16x200.size a)
theorem k0_idx35_inb : ∀ (v2 : IVec S16 32) (v3514 : IVec S16 32) (k0_hw29 : k0_chk29 v2 v3514), ∀ a x, ((![v2, v3514] : Fin 2 → IVec S16 32) a x).toNat < S16x200.size a := fun v2 v3514 k0_hw29 => k0_hw29

def k0_chk30 (v66 : IVec S16 32) (v3517 : IVec S16 32) : Prop :=
  (∀ a x, ((![v66, v3517] : Fin 2 → IVec S16 32) a x).toNat < S32x200.size a)
theorem k0_idx36_inb : ∀ (v66 : IVec S16 32) (v3517 : IVec S16 32) (k0_hw30 : k0_chk30 v66 v3517), ∀ a x, ((![v66, v3517] : Fin 2 → IVec S16 32) a x).toNat < S32x200.size a := fun v66 v3517 k0_hw30 => k0_hw30
def k0_mult12 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_762 : BitVec 32 := 320#32
  let v3520 : BitVec 32 := Scalar.muli arg22 c320_i32_762
  let c176_i32_763 : BitVec 32 := 176#32
  let v3521 : BitVec 32 := Scalar.addi v3520 c176_i32_763
  v3521
def k0_off16 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_762 : BitVec 32 := 320#32
  let v3520 : BitVec 32 := Scalar.muli arg22 c320_i32_762
  let c176_i32_763 : BitVec 32 := 176#32
  let v3521 : BitVec 32 := Scalar.addi v3520 c176_i32_763
  let v3522 : BitVec 32 := v3521
  let v3523 : Index := Scalar.indexCast v3522
  ![v3523.toNat]

def k0_chk31 (v2 : IVec S16 32) (v3527 : IVec S16 32) : Prop :=
  (∀ a x, ((![v2, v3527] : Fin 2 → IVec S16 32) a x).toNat < S16x200.size a)
theorem k0_idx37_inb : ∀ (v2 : IVec S16 32) (v3527 : IVec S16 32) (k0_hw31 : k0_chk31 v2 v3527), ∀ a x, ((![v2, v3527] : Fin 2 → IVec S16 32) a x).toNat < S16x200.size a := fun v2 v3527 k0_hw31 => k0_hw31

def k0_chk32 (v66 : IVec S16 32) (v3530 : IVec S16 32) : Prop :=
  (∀ a x, ((![v66, v3530] : Fin 2 → IVec S16 32) a x).toNat < S32x200.size a)
theorem k0_idx38_inb : ∀ (v66 : IVec S16 32) (v3530 : IVec S16 32) (k0_hw32 : k0_chk32 v66 v3530), ∀ a x, ((![v66, v3530] : Fin 2 → IVec S16 32) a x).toNat < S32x200.size a := fun v66 v3530 k0_hw32 => k0_hw32
def k0_mult13 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_766 : BitVec 32 := 320#32
  let v3533 : BitVec 32 := Scalar.muli arg22 c320_i32_766
  let c192_i32_767 : BitVec 32 := 192#32
  let v3534 : BitVec 32 := Scalar.addi v3533 c192_i32_767
  v3534
def k0_off17 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_766 : BitVec 32 := 320#32
  let v3533 : BitVec 32 := Scalar.muli arg22 c320_i32_766
  let c192_i32_767 : BitVec 32 := 192#32
  let v3534 : BitVec 32 := Scalar.addi v3533 c192_i32_767
  let v3535 : BitVec 32 := v3534
  let v3536 : Index := Scalar.indexCast v3535
  ![v3536.toNat]

def k0_chk33 (v2 : IVec S16 32) (v3540 : IVec S16 32) : Prop :=
  (∀ a x, ((![v2, v3540] : Fin 2 → IVec S16 32) a x).toNat < S16x200.size a)
theorem k0_idx39_inb : ∀ (v2 : IVec S16 32) (v3540 : IVec S16 32) (k0_hw33 : k0_chk33 v2 v3540), ∀ a x, ((![v2, v3540] : Fin 2 → IVec S16 32) a x).toNat < S16x200.size a := fun v2 v3540 k0_hw33 => k0_hw33

def k0_chk34 (v66 : IVec S16 32) (v3543 : IVec S16 32) : Prop :=
  (∀ a x, ((![v66, v3543] : Fin 2 → IVec S16 32) a x).toNat < S32x200.size a)
theorem k0_idx40_inb : ∀ (v66 : IVec S16 32) (v3543 : IVec S16 32) (k0_hw34 : k0_chk34 v66 v3543), ∀ a x, ((![v66, v3543] : Fin 2 → IVec S16 32) a x).toNat < S32x200.size a := fun v66 v3543 k0_hw34 => k0_hw34
def k0_mult14 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_770 : BitVec 32 := 320#32
  let v3546 : BitVec 32 := Scalar.muli arg22 c320_i32_770
  let c208_i32_771 : BitVec 32 := 208#32
  let v3547 : BitVec 32 := Scalar.addi v3546 c208_i32_771
  v3547
def k0_off18 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_770 : BitVec 32 := 320#32
  let v3546 : BitVec 32 := Scalar.muli arg22 c320_i32_770
  let c208_i32_771 : BitVec 32 := 208#32
  let v3547 : BitVec 32 := Scalar.addi v3546 c208_i32_771
  let v3548 : BitVec 32 := v3547
  let v3549 : Index := Scalar.indexCast v3548
  ![v3549.toNat]

def k0_chk35 (v2 : IVec S16 32) (v3553 : IVec S16 32) : Prop :=
  (∀ a x, ((![v2, v3553] : Fin 2 → IVec S16 32) a x).toNat < S16x200.size a)
theorem k0_idx41_inb : ∀ (v2 : IVec S16 32) (v3553 : IVec S16 32) (k0_hw35 : k0_chk35 v2 v3553), ∀ a x, ((![v2, v3553] : Fin 2 → IVec S16 32) a x).toNat < S16x200.size a := fun v2 v3553 k0_hw35 => k0_hw35

def k0_chk36 (v66 : IVec S16 32) (v3556 : IVec S16 32) : Prop :=
  (∀ a x, ((![v66, v3556] : Fin 2 → IVec S16 32) a x).toNat < S32x200.size a)
theorem k0_idx42_inb : ∀ (v66 : IVec S16 32) (v3556 : IVec S16 32) (k0_hw36 : k0_chk36 v66 v3556), ∀ a x, ((![v66, v3556] : Fin 2 → IVec S16 32) a x).toNat < S32x200.size a := fun v66 v3556 k0_hw36 => k0_hw36
def k0_mult15 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_774 : BitVec 32 := 320#32
  let v3559 : BitVec 32 := Scalar.muli arg22 c320_i32_774
  let c224_i32_775 : BitVec 32 := 224#32
  let v3560 : BitVec 32 := Scalar.addi v3559 c224_i32_775
  v3560
def k0_off19 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_774 : BitVec 32 := 320#32
  let v3559 : BitVec 32 := Scalar.muli arg22 c320_i32_774
  let c224_i32_775 : BitVec 32 := 224#32
  let v3560 : BitVec 32 := Scalar.addi v3559 c224_i32_775
  let v3561 : BitVec 32 := v3560
  let v3562 : Index := Scalar.indexCast v3561
  ![v3562.toNat]

def k0_chk37 (v2 : IVec S16 32) (v3566 : IVec S16 32) : Prop :=
  (∀ a x, ((![v2, v3566] : Fin 2 → IVec S16 32) a x).toNat < S16x200.size a)
theorem k0_idx43_inb : ∀ (v2 : IVec S16 32) (v3566 : IVec S16 32) (k0_hw37 : k0_chk37 v2 v3566), ∀ a x, ((![v2, v3566] : Fin 2 → IVec S16 32) a x).toNat < S16x200.size a := fun v2 v3566 k0_hw37 => k0_hw37

def k0_chk38 (v66 : IVec S16 32) (v3569 : IVec S16 32) : Prop :=
  (∀ a x, ((![v66, v3569] : Fin 2 → IVec S16 32) a x).toNat < S32x200.size a)
theorem k0_idx44_inb : ∀ (v66 : IVec S16 32) (v3569 : IVec S16 32) (k0_hw38 : k0_chk38 v66 v3569), ∀ a x, ((![v66, v3569] : Fin 2 → IVec S16 32) a x).toNat < S32x200.size a := fun v66 v3569 k0_hw38 => k0_hw38
def k0_mult16 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_778 : BitVec 32 := 320#32
  let v3572 : BitVec 32 := Scalar.muli arg22 c320_i32_778
  let c240_i32_779 : BitVec 32 := 240#32
  let v3573 : BitVec 32 := Scalar.addi v3572 c240_i32_779
  v3573
def k0_off20 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_778 : BitVec 32 := 320#32
  let v3572 : BitVec 32 := Scalar.muli arg22 c320_i32_778
  let c240_i32_779 : BitVec 32 := 240#32
  let v3573 : BitVec 32 := Scalar.addi v3572 c240_i32_779
  let v3574 : BitVec 32 := v3573
  let v3575 : Index := Scalar.indexCast v3574
  ![v3575.toNat]

def k0_chk39 (v2 : IVec S16 32) (v3579 : IVec S16 32) : Prop :=
  (∀ a x, ((![v2, v3579] : Fin 2 → IVec S16 32) a x).toNat < S16x200.size a)
theorem k0_idx45_inb : ∀ (v2 : IVec S16 32) (v3579 : IVec S16 32) (k0_hw39 : k0_chk39 v2 v3579), ∀ a x, ((![v2, v3579] : Fin 2 → IVec S16 32) a x).toNat < S16x200.size a := fun v2 v3579 k0_hw39 => k0_hw39

def k0_chk40 (v66 : IVec S16 32) (v3582 : IVec S16 32) : Prop :=
  (∀ a x, ((![v66, v3582] : Fin 2 → IVec S16 32) a x).toNat < S32x200.size a)
theorem k0_idx46_inb : ∀ (v66 : IVec S16 32) (v3582 : IVec S16 32) (k0_hw40 : k0_chk40 v66 v3582), ∀ a x, ((![v66, v3582] : Fin 2 → IVec S16 32) a x).toNat < S32x200.size a := fun v66 v3582 k0_hw40 => k0_hw40
def k0_mult17 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_782 : BitVec 32 := 320#32
  let v3585 : BitVec 32 := Scalar.muli arg22 c320_i32_782
  let c256_i32_783 : BitVec 32 := 256#32
  let v3586 : BitVec 32 := Scalar.addi v3585 c256_i32_783
  v3586
def k0_off21 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_782 : BitVec 32 := 320#32
  let v3585 : BitVec 32 := Scalar.muli arg22 c320_i32_782
  let c256_i32_783 : BitVec 32 := 256#32
  let v3586 : BitVec 32 := Scalar.addi v3585 c256_i32_783
  let v3587 : BitVec 32 := v3586
  let v3588 : Index := Scalar.indexCast v3587
  ![v3588.toNat]

def k0_chk41 (v2 : IVec S16 32) (v3592 : IVec S16 32) : Prop :=
  (∀ a x, ((![v2, v3592] : Fin 2 → IVec S16 32) a x).toNat < S16x200.size a)
theorem k0_idx47_inb : ∀ (v2 : IVec S16 32) (v3592 : IVec S16 32) (k0_hw41 : k0_chk41 v2 v3592), ∀ a x, ((![v2, v3592] : Fin 2 → IVec S16 32) a x).toNat < S16x200.size a := fun v2 v3592 k0_hw41 => k0_hw41

def k0_chk42 (v66 : IVec S16 32) (v3595 : IVec S16 32) : Prop :=
  (∀ a x, ((![v66, v3595] : Fin 2 → IVec S16 32) a x).toNat < S32x200.size a)
theorem k0_idx48_inb : ∀ (v66 : IVec S16 32) (v3595 : IVec S16 32) (k0_hw42 : k0_chk42 v66 v3595), ∀ a x, ((![v66, v3595] : Fin 2 → IVec S16 32) a x).toNat < S32x200.size a := fun v66 v3595 k0_hw42 => k0_hw42
def k0_mult18 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_786 : BitVec 32 := 320#32
  let v3598 : BitVec 32 := Scalar.muli arg22 c320_i32_786
  let c272_i32_787 : BitVec 32 := 272#32
  let v3599 : BitVec 32 := Scalar.addi v3598 c272_i32_787
  v3599
def k0_off22 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_786 : BitVec 32 := 320#32
  let v3598 : BitVec 32 := Scalar.muli arg22 c320_i32_786
  let c272_i32_787 : BitVec 32 := 272#32
  let v3599 : BitVec 32 := Scalar.addi v3598 c272_i32_787
  let v3600 : BitVec 32 := v3599
  let v3601 : Index := Scalar.indexCast v3600
  ![v3601.toNat]

def k0_chk43 (v2 : IVec S16 32) (v3605 : IVec S16 32) : Prop :=
  (∀ a x, ((![v2, v3605] : Fin 2 → IVec S16 32) a x).toNat < S16x200.size a)
theorem k0_idx49_inb : ∀ (v2 : IVec S16 32) (v3605 : IVec S16 32) (k0_hw43 : k0_chk43 v2 v3605), ∀ a x, ((![v2, v3605] : Fin 2 → IVec S16 32) a x).toNat < S16x200.size a := fun v2 v3605 k0_hw43 => k0_hw43

def k0_chk44 (v66 : IVec S16 32) (v3608 : IVec S16 32) : Prop :=
  (∀ a x, ((![v66, v3608] : Fin 2 → IVec S16 32) a x).toNat < S32x200.size a)
theorem k0_idx50_inb : ∀ (v66 : IVec S16 32) (v3608 : IVec S16 32) (k0_hw44 : k0_chk44 v66 v3608), ∀ a x, ((![v66, v3608] : Fin 2 → IVec S16 32) a x).toNat < S32x200.size a := fun v66 v3608 k0_hw44 => k0_hw44
def k0_mult19 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_790 : BitVec 32 := 320#32
  let v3611 : BitVec 32 := Scalar.muli arg22 c320_i32_790
  let c288_i32_791 : BitVec 32 := 288#32
  let v3612 : BitVec 32 := Scalar.addi v3611 c288_i32_791
  v3612
def k0_off23 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_790 : BitVec 32 := 320#32
  let v3611 : BitVec 32 := Scalar.muli arg22 c320_i32_790
  let c288_i32_791 : BitVec 32 := 288#32
  let v3612 : BitVec 32 := Scalar.addi v3611 c288_i32_791
  let v3613 : BitVec 32 := v3612
  let v3614 : Index := Scalar.indexCast v3613
  ![v3614.toNat]

def k0_chk45 (v2 : IVec S16 32) (v3618 : IVec S16 32) : Prop :=
  (∀ a x, ((![v2, v3618] : Fin 2 → IVec S16 32) a x).toNat < S16x200.size a)
theorem k0_idx51_inb : ∀ (v2 : IVec S16 32) (v3618 : IVec S16 32) (k0_hw45 : k0_chk45 v2 v3618), ∀ a x, ((![v2, v3618] : Fin 2 → IVec S16 32) a x).toNat < S16x200.size a := fun v2 v3618 k0_hw45 => k0_hw45

def k0_chk46 (v66 : IVec S16 32) (v3621 : IVec S16 32) : Prop :=
  (∀ a x, ((![v66, v3621] : Fin 2 → IVec S16 32) a x).toNat < S32x200.size a)
theorem k0_idx52_inb : ∀ (v66 : IVec S16 32) (v3621 : IVec S16 32) (k0_hw46 : k0_chk46 v66 v3621), ∀ a x, ((![v66, v3621] : Fin 2 → IVec S16 32) a x).toNat < S32x200.size a := fun v66 v3621 k0_hw46 => k0_hw46
def k0_mult20 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c320_i32_794 : BitVec 32 := 320#32
  let v3624 : BitVec 32 := Scalar.muli arg22 c320_i32_794
  let c304_i32_795 : BitVec 32 := 304#32
  let v3625 : BitVec 32 := Scalar.addi v3624 c304_i32_795
  v3625
def k0_off24 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c320_i32_794 : BitVec 32 := 320#32
  let v3624 : BitVec 32 := Scalar.muli arg22 c320_i32_794
  let c304_i32_795 : BitVec 32 := 304#32
  let v3625 : BitVec 32 := Scalar.addi v3624 c304_i32_795
  let v3626 : BitVec 32 := v3625
  let v3627 : Index := Scalar.indexCast v3626
  ![v3627.toNat]
def k0_mult21 (k0_t8 : Fin k0_t8_loop.trips) : BitVec 32 :=
  let c0_i32_43 : BitVec 32 := 0#32
  let c1_i32_44 : BitVec 32 := 1#32
  let arg22 : BitVec 32 := Scf.iv c0_i32_43 c1_i32_44 k0_t8
  let c16_i32_796 : BitVec 32 := 16#32
  let v3630 : BitVec 32 := Scalar.muli arg22 c16_i32_796
  v3630
def k0_off25 (k0_t8 : Fin k0_t8_loop.trips) : Fin 1 → Nat :=
  let c0_i32_43 : BitVec 32 := 0#32
  let c1_i32_44 : BitVec 32 := 1#32
  let arg22 : BitVec 32 := Scf.iv c0_i32_43 c1_i32_44 k0_t8
  let c16_i32_796 : BitVec 32 := 16#32
  let v3630 : BitVec 32 := Scalar.muli arg22 c16_i32_796
  let v3631 : BitVec 32 := v3630
  let v3632 : Index := Scalar.indexCast v3631
  ![v3632.toNat]

def k0_chk47 (v2 : IVec S16 32) (v69 : IVec S16 32) : Prop :=
  (∀ a x, ((![v2, v69] : Fin 2 → IVec S16 32) a x).toNat < S16x10.size a)
theorem k0_idx53_inb : ∀ (v2 : IVec S16 32) (v69 : IVec S16 32) (k0_hw47 : k0_chk47 v2 v69), ∀ a x, ((![v2, v69] : Fin 2 → IVec S16 32) a x).toNat < S16x10.size a := fun v2 v69 k0_hw47 => k0_hw47

def k0_chk48 (v2 : IVec S16 32) (v71 : IVec S16 32) : Prop :=
  (∀ a x, ((![v2, v71] : Fin 2 → IVec S16 32) a x).toNat < S16x10.size a)
theorem k0_idx54_inb : ∀ (v2 : IVec S16 32) (v71 : IVec S16 32) (k0_hw48 : k0_chk48 v2 v71), ∀ a x, ((![v2, v71] : Fin 2 → IVec S16 32) a x).toNat < S16x10.size a := fun v2 v71 k0_hw48 => k0_hw48

def k0_chk49 (v2 : IVec S16 32) (v73 : IVec S16 32) : Prop :=
  (∀ a x, ((![v2, v73] : Fin 2 → IVec S16 32) a x).toNat < S16x10.size a)
theorem k0_idx55_inb : ∀ (v2 : IVec S16 32) (v73 : IVec S16 32) (k0_hw49 : k0_chk49 v2 v73), ∀ a x, ((![v2, v73] : Fin 2 → IVec S16 32) a x).toNat < S16x10.size a := fun v2 v73 k0_hw49 => k0_hw49

def k0_chk50 (v2 : IVec S16 32) (v75 : IVec S16 32) : Prop :=
  (∀ a x, ((![v2, v75] : Fin 2 → IVec S16 32) a x).toNat < S16x10.size a)
theorem k0_idx56_inb : ∀ (v2 : IVec S16 32) (v75 : IVec S16 32) (k0_hw50 : k0_chk50 v2 v75), ∀ a x, ((![v2, v75] : Fin 2 → IVec S16 32) a x).toNat < S16x10.size a := fun v2 v75 k0_hw50 => k0_hw50

def k0_chk51 (v2 : IVec S16 32) (v77 : IVec S16 32) : Prop :=
  (∀ a x, ((![v2, v77] : Fin 2 → IVec S16 32) a x).toNat < S16x10.size a)
theorem k0_idx57_inb : ∀ (v2 : IVec S16 32) (v77 : IVec S16 32) (k0_hw51 : k0_chk51 v2 v77), ∀ a x, ((![v2, v77] : Fin 2 → IVec S16 32) a x).toNat < S16x10.size a := fun v2 v77 k0_hw51 => k0_hw51

def k0_chk52 (v2 : IVec S16 32) (v79 : IVec S16 32) : Prop :=
  (∀ a x, ((![v2, v79] : Fin 2 → IVec S16 32) a x).toNat < S16x10.size a)
theorem k0_idx58_inb : ∀ (v2 : IVec S16 32) (v79 : IVec S16 32) (k0_hw52 : k0_chk52 v2 v79), ∀ a x, ((![v2, v79] : Fin 2 → IVec S16 32) a x).toNat < S16x10.size a := fun v2 v79 k0_hw52 => k0_hw52

def k0_chk53 (v2 : IVec S16 32) (v81 : IVec S16 32) : Prop :=
  (∀ a x, ((![v2, v81] : Fin 2 → IVec S16 32) a x).toNat < S16x10.size a)
theorem k0_idx59_inb : ∀ (v2 : IVec S16 32) (v81 : IVec S16 32) (k0_hw53 : k0_chk53 v2 v81), ∀ a x, ((![v2, v81] : Fin 2 → IVec S16 32) a x).toNat < S16x10.size a := fun v2 v81 k0_hw53 => k0_hw53

def k0_chk54 (v2 : IVec S16 32) (v83 : IVec S16 32) : Prop :=
  (∀ a x, ((![v2, v83] : Fin 2 → IVec S16 32) a x).toNat < S16x10.size a)
theorem k0_idx60_inb : ∀ (v2 : IVec S16 32) (v83 : IVec S16 32) (k0_hw54 : k0_chk54 v2 v83), ∀ a x, ((![v2, v83] : Fin 2 → IVec S16 32) a x).toNat < S16x10.size a := fun v2 v83 k0_hw54 => k0_hw54

def k0_chk55 (v2 : IVec S16 32) (v85 : IVec S16 32) : Prop :=
  (∀ a x, ((![v2, v85] : Fin 2 → IVec S16 32) a x).toNat < S16x10.size a)
theorem k0_idx61_inb : ∀ (v2 : IVec S16 32) (v85 : IVec S16 32) (k0_hw55 : k0_chk55 v2 v85), ∀ a x, ((![v2, v85] : Fin 2 → IVec S16 32) a x).toNat < S16x10.size a := fun v2 v85 k0_hw55 => k0_hw55

def k0_chk56 (v2 : IVec S16 32) (v87 : IVec S16 32) : Prop :=
  (∀ a x, ((![v2, v87] : Fin 2 → IVec S16 32) a x).toNat < S16x10.size a)
theorem k0_idx62_inb : ∀ (v2 : IVec S16 32) (v87 : IVec S16 32) (k0_hw56 : k0_chk56 v2 v87), ∀ a x, ((![v2, v87] : Fin 2 → IVec S16 32) a x).toNat < S16x10.size a := fun v2 v87 k0_hw56 => k0_hw56

def k0_chk57 (v503 : IVec S16 32) : Prop :=
  (∀ a x, ((![v503] : Fin 1 → IVec S16 32) a x).toNat < S3200.size a)
theorem k0_idx63_inb : ∀ (v503 : IVec S16 32) (k0_hw57 : k0_chk57 v503), ∀ a x, ((![v503] : Fin 1 → IVec S16 32) a x).toNat < S3200.size a := fun v503 k0_hw57 => k0_hw57

def k0_chk58 (v512 : IVec S16 32) : Prop :=
  (∀ a x, ((![v512] : Fin 1 → IVec S16 32) a x).toNat < S3200.size a)
theorem k0_idx64_inb : ∀ (v512 : IVec S16 32) (k0_hw58 : k0_chk58 v512), ∀ a x, ((![v512] : Fin 1 → IVec S16 32) a x).toNat < S3200.size a := fun v512 k0_hw58 => k0_hw58

def k0_chk59 (v521 : IVec S16 32) : Prop :=
  (∀ a x, ((![v521] : Fin 1 → IVec S16 32) a x).toNat < S3200.size a)
theorem k0_idx65_inb : ∀ (v521 : IVec S16 32) (k0_hw59 : k0_chk59 v521), ∀ a x, ((![v521] : Fin 1 → IVec S16 32) a x).toNat < S3200.size a := fun v521 k0_hw59 => k0_hw59

def k0_chk60 (v530 : IVec S16 32) : Prop :=
  (∀ a x, ((![v530] : Fin 1 → IVec S16 32) a x).toNat < S3200.size a)
theorem k0_idx66_inb : ∀ (v530 : IVec S16 32) (k0_hw60 : k0_chk60 v530), ∀ a x, ((![v530] : Fin 1 → IVec S16 32) a x).toNat < S3200.size a := fun v530 k0_hw60 => k0_hw60

def k0_chk61 (v539 : IVec S16 32) : Prop :=
  (∀ a x, ((![v539] : Fin 1 → IVec S16 32) a x).toNat < S3200.size a)
theorem k0_idx67_inb : ∀ (v539 : IVec S16 32) (k0_hw61 : k0_chk61 v539), ∀ a x, ((![v539] : Fin 1 → IVec S16 32) a x).toNat < S3200.size a := fun v539 k0_hw61 => k0_hw61

def k0_chk62 (v548 : IVec S16 32) : Prop :=
  (∀ a x, ((![v548] : Fin 1 → IVec S16 32) a x).toNat < S3200.size a)
theorem k0_idx68_inb : ∀ (v548 : IVec S16 32) (k0_hw62 : k0_chk62 v548), ∀ a x, ((![v548] : Fin 1 → IVec S16 32) a x).toNat < S3200.size a := fun v548 k0_hw62 => k0_hw62

def k0_chk63 (v557 : IVec S16 32) : Prop :=
  (∀ a x, ((![v557] : Fin 1 → IVec S16 32) a x).toNat < S3200.size a)
theorem k0_idx69_inb : ∀ (v557 : IVec S16 32) (k0_hw63 : k0_chk63 v557), ∀ a x, ((![v557] : Fin 1 → IVec S16 32) a x).toNat < S3200.size a := fun v557 k0_hw63 => k0_hw63

def k0_chk64 (v566 : IVec S16 32) : Prop :=
  (∀ a x, ((![v566] : Fin 1 → IVec S16 32) a x).toNat < S3200.size a)
theorem k0_idx70_inb : ∀ (v566 : IVec S16 32) (k0_hw64 : k0_chk64 v566), ∀ a x, ((![v566] : Fin 1 → IVec S16 32) a x).toNat < S3200.size a := fun v566 k0_hw64 => k0_hw64

def k0_chk65 (v575 : IVec S16 32) : Prop :=
  (∀ a x, ((![v575] : Fin 1 → IVec S16 32) a x).toNat < S3200.size a)
theorem k0_idx71_inb : ∀ (v575 : IVec S16 32) (k0_hw65 : k0_chk65 v575), ∀ a x, ((![v575] : Fin 1 → IVec S16 32) a x).toNat < S3200.size a := fun v575 k0_hw65 => k0_hw65

def k0_chk66 (v584 : IVec S16 32) : Prop :=
  (∀ a x, ((![v584] : Fin 1 → IVec S16 32) a x).toNat < S3200.size a)
theorem k0_idx72_inb : ∀ (v584 : IVec S16 32) (k0_hw66 : k0_chk66 v584), ∀ a x, ((![v584] : Fin 1 → IVec S16 32) a x).toNat < S3200.size a := fun v584 k0_hw66 => k0_hw66

def k0_chk67 (v593 : IVec S16 32) : Prop :=
  (∀ a x, ((![v593] : Fin 1 → IVec S16 32) a x).toNat < S3200.size a)
theorem k0_idx73_inb : ∀ (v593 : IVec S16 32) (k0_hw67 : k0_chk67 v593), ∀ a x, ((![v593] : Fin 1 → IVec S16 32) a x).toNat < S3200.size a := fun v593 k0_hw67 => k0_hw67

def k0_chk68 (v602 : IVec S16 32) : Prop :=
  (∀ a x, ((![v602] : Fin 1 → IVec S16 32) a x).toNat < S3200.size a)
theorem k0_idx74_inb : ∀ (v602 : IVec S16 32) (k0_hw68 : k0_chk68 v602), ∀ a x, ((![v602] : Fin 1 → IVec S16 32) a x).toNat < S3200.size a := fun v602 k0_hw68 => k0_hw68

def k0_chk69 (v611 : IVec S16 32) : Prop :=
  (∀ a x, ((![v611] : Fin 1 → IVec S16 32) a x).toNat < S3200.size a)
theorem k0_idx75_inb : ∀ (v611 : IVec S16 32) (k0_hw69 : k0_chk69 v611), ∀ a x, ((![v611] : Fin 1 → IVec S16 32) a x).toNat < S3200.size a := fun v611 k0_hw69 => k0_hw69

def k0_chk70 (v620 : IVec S16 32) : Prop :=
  (∀ a x, ((![v620] : Fin 1 → IVec S16 32) a x).toNat < S3200.size a)
theorem k0_idx76_inb : ∀ (v620 : IVec S16 32) (k0_hw70 : k0_chk70 v620), ∀ a x, ((![v620] : Fin 1 → IVec S16 32) a x).toNat < S3200.size a := fun v620 k0_hw70 => k0_hw70

def k0_chk71 (v629 : IVec S16 32) : Prop :=
  (∀ a x, ((![v629] : Fin 1 → IVec S16 32) a x).toNat < S3200.size a)
theorem k0_idx77_inb : ∀ (v629 : IVec S16 32) (k0_hw71 : k0_chk71 v629), ∀ a x, ((![v629] : Fin 1 → IVec S16 32) a x).toNat < S3200.size a := fun v629 k0_hw71 => k0_hw71

def k0_chk72 (v638 : IVec S16 32) : Prop :=
  (∀ a x, ((![v638] : Fin 1 → IVec S16 32) a x).toNat < S3200.size a)
theorem k0_idx78_inb : ∀ (v638 : IVec S16 32) (k0_hw72 : k0_chk72 v638), ∀ a x, ((![v638] : Fin 1 → IVec S16 32) a x).toNat < S3200.size a := fun v638 k0_hw72 => k0_hw72

def k0_chk73 (v647 : IVec S16 32) : Prop :=
  (∀ a x, ((![v647] : Fin 1 → IVec S16 32) a x).toNat < S3200.size a)
theorem k0_idx79_inb : ∀ (v647 : IVec S16 32) (k0_hw73 : k0_chk73 v647), ∀ a x, ((![v647] : Fin 1 → IVec S16 32) a x).toNat < S3200.size a := fun v647 k0_hw73 => k0_hw73

def k0_chk74 (v656 : IVec S16 32) : Prop :=
  (∀ a x, ((![v656] : Fin 1 → IVec S16 32) a x).toNat < S3200.size a)
theorem k0_idx80_inb : ∀ (v656 : IVec S16 32) (k0_hw74 : k0_chk74 v656), ∀ a x, ((![v656] : Fin 1 → IVec S16 32) a x).toNat < S3200.size a := fun v656 k0_hw74 => k0_hw74

def k0_chk75 (v665 : IVec S16 32) : Prop :=
  (∀ a x, ((![v665] : Fin 1 → IVec S16 32) a x).toNat < S3200.size a)
theorem k0_idx81_inb : ∀ (v665 : IVec S16 32) (k0_hw75 : k0_chk75 v665), ∀ a x, ((![v665] : Fin 1 → IVec S16 32) a x).toNat < S3200.size a := fun v665 k0_hw75 => k0_hw75

def k0_chk76 (v674 : IVec S16 32) : Prop :=
  (∀ a x, ((![v674] : Fin 1 → IVec S16 32) a x).toNat < S3200.size a)
theorem k0_idx82_inb : ∀ (v674 : IVec S16 32) (k0_hw76 : k0_chk76 v674), ∀ a x, ((![v674] : Fin 1 → IVec S16 32) a x).toNat < S3200.size a := fun v674 k0_hw76 => k0_hw76

def k0_chk77 (v687 : IVec S16 32) : Prop :=
  (∀ a x, ((![v687] : Fin 1 → IVec S16 32) a x).toNat < S3200.size a)
theorem k0_idx83_inb : ∀ (v687 : IVec S16 32) (k0_hw77 : k0_chk77 v687), ∀ a x, ((![v687] : Fin 1 → IVec S16 32) a x).toNat < S3200.size a := fun v687 k0_hw77 => k0_hw77

def k0_chk78 (v690 : IVec S16 32) : Prop :=
  (∀ a x, ((![v690] : Fin 1 → IVec S16 32) a x).toNat < S160.size a)
theorem k0_idx84_inb : ∀ (v690 : IVec S16 32) (k0_hw78 : k0_chk78 v690), ∀ a x, ((![v690] : Fin 1 → IVec S16 32) a x).toNat < S160.size a := fun v690 k0_hw78 => k0_hw78

def k0_chk80 (v694 : IVec S16 32) : Prop :=
  (∀ a x, ((![v694] : Fin 1 → IVec S16 32) a x).toNat < S160.size a)
theorem k0_idx86_inb : ∀ (v694 : IVec S16 32) (k0_hw80 : k0_chk80 v694), ∀ a x, ((![v694] : Fin 1 → IVec S16 32) a x).toNat < S160.size a := fun v694 k0_hw80 => k0_hw80

def k0_chk79 (v66 : IVec S16 32) (v684 : IVec S16 32) : Prop :=
  (∀ a x, ((![v66, v684] : Fin 2 → IVec S16 32) a x).toNat < S32x200.size a) ∧
  (∀ a x, ((![v66, v684] : Fin 2 → IVec S16 32) a x).toNat < S32x200.size a)
theorem k0_idx85_inb : ∀ (v66 : IVec S16 32) (v684 : IVec S16 32) (k0_hw79 : k0_chk79 v66 v684), ∀ a x, ((![v66, v684] : Fin 2 → IVec S16 32) a x).toNat < S32x200.size a := fun v66 v684 k0_hw79 => k0_hw79.1
theorem k0_idx87_inb : ∀ (v66 : IVec S16 32) (v684 : IVec S16 32) (k0_hw79 : k0_chk79 v66 v684), ∀ a x, ((![v66, v684] : Fin 2 → IVec S16 32) a x).toNat < S32x200.size a := fun v66 v684 k0_hw79 => k0_hw79.2

def k0_chk81 (v750 : IVec S16 32) : Prop :=
  (∀ a x, ((![v750] : Fin 1 → IVec S16 32) a x).toNat < S3200.size a)
theorem k0_idx88_inb : ∀ (v750 : IVec S16 32) (k0_hw81 : k0_chk81 v750), ∀ a x, ((![v750] : Fin 1 → IVec S16 32) a x).toNat < S3200.size a := fun v750 k0_hw81 => k0_hw81

def k0_chk82 (v759 : IVec S16 32) : Prop :=
  (∀ a x, ((![v759] : Fin 1 → IVec S16 32) a x).toNat < S3200.size a)
theorem k0_idx89_inb : ∀ (v759 : IVec S16 32) (k0_hw82 : k0_chk82 v759), ∀ a x, ((![v759] : Fin 1 → IVec S16 32) a x).toNat < S3200.size a := fun v759 k0_hw82 => k0_hw82

def k0_chk83 (v768 : IVec S16 32) : Prop :=
  (∀ a x, ((![v768] : Fin 1 → IVec S16 32) a x).toNat < S3200.size a)
theorem k0_idx90_inb : ∀ (v768 : IVec S16 32) (k0_hw83 : k0_chk83 v768), ∀ a x, ((![v768] : Fin 1 → IVec S16 32) a x).toNat < S3200.size a := fun v768 k0_hw83 => k0_hw83

def k0_chk84 (v777 : IVec S16 32) : Prop :=
  (∀ a x, ((![v777] : Fin 1 → IVec S16 32) a x).toNat < S3200.size a)
theorem k0_idx91_inb : ∀ (v777 : IVec S16 32) (k0_hw84 : k0_chk84 v777), ∀ a x, ((![v777] : Fin 1 → IVec S16 32) a x).toNat < S3200.size a := fun v777 k0_hw84 => k0_hw84

def k0_chk85 (v786 : IVec S16 32) : Prop :=
  (∀ a x, ((![v786] : Fin 1 → IVec S16 32) a x).toNat < S3200.size a)
theorem k0_idx92_inb : ∀ (v786 : IVec S16 32) (k0_hw85 : k0_chk85 v786), ∀ a x, ((![v786] : Fin 1 → IVec S16 32) a x).toNat < S3200.size a := fun v786 k0_hw85 => k0_hw85

def k0_chk86 (v795 : IVec S16 32) : Prop :=
  (∀ a x, ((![v795] : Fin 1 → IVec S16 32) a x).toNat < S3200.size a)
theorem k0_idx93_inb : ∀ (v795 : IVec S16 32) (k0_hw86 : k0_chk86 v795), ∀ a x, ((![v795] : Fin 1 → IVec S16 32) a x).toNat < S3200.size a := fun v795 k0_hw86 => k0_hw86

def k0_chk87 (v804 : IVec S16 32) : Prop :=
  (∀ a x, ((![v804] : Fin 1 → IVec S16 32) a x).toNat < S3200.size a)
theorem k0_idx94_inb : ∀ (v804 : IVec S16 32) (k0_hw87 : k0_chk87 v804), ∀ a x, ((![v804] : Fin 1 → IVec S16 32) a x).toNat < S3200.size a := fun v804 k0_hw87 => k0_hw87

def k0_chk88 (v813 : IVec S16 32) : Prop :=
  (∀ a x, ((![v813] : Fin 1 → IVec S16 32) a x).toNat < S3200.size a)
theorem k0_idx95_inb : ∀ (v813 : IVec S16 32) (k0_hw88 : k0_chk88 v813), ∀ a x, ((![v813] : Fin 1 → IVec S16 32) a x).toNat < S3200.size a := fun v813 k0_hw88 => k0_hw88

def k0_chk89 (v822 : IVec S16 32) : Prop :=
  (∀ a x, ((![v822] : Fin 1 → IVec S16 32) a x).toNat < S3200.size a)
theorem k0_idx96_inb : ∀ (v822 : IVec S16 32) (k0_hw89 : k0_chk89 v822), ∀ a x, ((![v822] : Fin 1 → IVec S16 32) a x).toNat < S3200.size a := fun v822 k0_hw89 => k0_hw89

def k0_chk90 (v831 : IVec S16 32) : Prop :=
  (∀ a x, ((![v831] : Fin 1 → IVec S16 32) a x).toNat < S3200.size a)
theorem k0_idx97_inb : ∀ (v831 : IVec S16 32) (k0_hw90 : k0_chk90 v831), ∀ a x, ((![v831] : Fin 1 → IVec S16 32) a x).toNat < S3200.size a := fun v831 k0_hw90 => k0_hw90

def k0_chk91 (v840 : IVec S16 32) : Prop :=
  (∀ a x, ((![v840] : Fin 1 → IVec S16 32) a x).toNat < S3200.size a)
theorem k0_idx98_inb : ∀ (v840 : IVec S16 32) (k0_hw91 : k0_chk91 v840), ∀ a x, ((![v840] : Fin 1 → IVec S16 32) a x).toNat < S3200.size a := fun v840 k0_hw91 => k0_hw91

def k0_chk92 (v849 : IVec S16 32) : Prop :=
  (∀ a x, ((![v849] : Fin 1 → IVec S16 32) a x).toNat < S3200.size a)
theorem k0_idx99_inb : ∀ (v849 : IVec S16 32) (k0_hw92 : k0_chk92 v849), ∀ a x, ((![v849] : Fin 1 → IVec S16 32) a x).toNat < S3200.size a := fun v849 k0_hw92 => k0_hw92

def k0_chk93 (v858 : IVec S16 32) : Prop :=
  (∀ a x, ((![v858] : Fin 1 → IVec S16 32) a x).toNat < S3200.size a)
theorem k0_idx100_inb : ∀ (v858 : IVec S16 32) (k0_hw93 : k0_chk93 v858), ∀ a x, ((![v858] : Fin 1 → IVec S16 32) a x).toNat < S3200.size a := fun v858 k0_hw93 => k0_hw93

def k0_chk94 (v867 : IVec S16 32) : Prop :=
  (∀ a x, ((![v867] : Fin 1 → IVec S16 32) a x).toNat < S3200.size a)
theorem k0_idx101_inb : ∀ (v867 : IVec S16 32) (k0_hw94 : k0_chk94 v867), ∀ a x, ((![v867] : Fin 1 → IVec S16 32) a x).toNat < S3200.size a := fun v867 k0_hw94 => k0_hw94

def k0_chk95 (v876 : IVec S16 32) : Prop :=
  (∀ a x, ((![v876] : Fin 1 → IVec S16 32) a x).toNat < S3200.size a)
theorem k0_idx102_inb : ∀ (v876 : IVec S16 32) (k0_hw95 : k0_chk95 v876), ∀ a x, ((![v876] : Fin 1 → IVec S16 32) a x).toNat < S3200.size a := fun v876 k0_hw95 => k0_hw95

def k0_chk96 (v885 : IVec S16 32) : Prop :=
  (∀ a x, ((![v885] : Fin 1 → IVec S16 32) a x).toNat < S3200.size a)
theorem k0_idx103_inb : ∀ (v885 : IVec S16 32) (k0_hw96 : k0_chk96 v885), ∀ a x, ((![v885] : Fin 1 → IVec S16 32) a x).toNat < S3200.size a := fun v885 k0_hw96 => k0_hw96

def k0_chk97 (v894 : IVec S16 32) : Prop :=
  (∀ a x, ((![v894] : Fin 1 → IVec S16 32) a x).toNat < S3200.size a)
theorem k0_idx104_inb : ∀ (v894 : IVec S16 32) (k0_hw97 : k0_chk97 v894), ∀ a x, ((![v894] : Fin 1 → IVec S16 32) a x).toNat < S3200.size a := fun v894 k0_hw97 => k0_hw97

def k0_chk98 (v903 : IVec S16 32) : Prop :=
  (∀ a x, ((![v903] : Fin 1 → IVec S16 32) a x).toNat < S3200.size a)
theorem k0_idx105_inb : ∀ (v903 : IVec S16 32) (k0_hw98 : k0_chk98 v903), ∀ a x, ((![v903] : Fin 1 → IVec S16 32) a x).toNat < S3200.size a := fun v903 k0_hw98 => k0_hw98

def k0_chk99 (v912 : IVec S16 32) : Prop :=
  (∀ a x, ((![v912] : Fin 1 → IVec S16 32) a x).toNat < S3200.size a)
theorem k0_idx106_inb : ∀ (v912 : IVec S16 32) (k0_hw99 : k0_chk99 v912), ∀ a x, ((![v912] : Fin 1 → IVec S16 32) a x).toNat < S3200.size a := fun v912 k0_hw99 => k0_hw99

def k0_chk100 (v921 : IVec S16 32) : Prop :=
  (∀ a x, ((![v921] : Fin 1 → IVec S16 32) a x).toNat < S3200.size a)
theorem k0_idx107_inb : ∀ (v921 : IVec S16 32) (k0_hw100 : k0_chk100 v921), ∀ a x, ((![v921] : Fin 1 → IVec S16 32) a x).toNat < S3200.size a := fun v921 k0_hw100 => k0_hw100

def k0_chk101 (v934 : IVec S16 32) : Prop :=
  (∀ a x, ((![v934] : Fin 1 → IVec S16 32) a x).toNat < S3200.size a)
theorem k0_idx108_inb : ∀ (v934 : IVec S16 32) (k0_hw101 : k0_chk101 v934), ∀ a x, ((![v934] : Fin 1 → IVec S16 32) a x).toNat < S3200.size a := fun v934 k0_hw101 => k0_hw101

def k0_chk102 (v937 : IVec S16 32) : Prop :=
  (∀ a x, ((![v937] : Fin 1 → IVec S16 32) a x).toNat < S160.size a)
theorem k0_idx109_inb : ∀ (v937 : IVec S16 32) (k0_hw102 : k0_chk102 v937), ∀ a x, ((![v937] : Fin 1 → IVec S16 32) a x).toNat < S160.size a := fun v937 k0_hw102 => k0_hw102

def k0_chk104 (v941 : IVec S16 32) : Prop :=
  (∀ a x, ((![v941] : Fin 1 → IVec S16 32) a x).toNat < S160.size a)
theorem k0_idx111_inb : ∀ (v941 : IVec S16 32) (k0_hw104 : k0_chk104 v941), ∀ a x, ((![v941] : Fin 1 → IVec S16 32) a x).toNat < S160.size a := fun v941 k0_hw104 => k0_hw104

def k0_chk103 (v66 : IVec S16 32) (v931 : IVec S16 32) : Prop :=
  (∀ a x, ((![v66, v931] : Fin 2 → IVec S16 32) a x).toNat < S32x200.size a) ∧
  (∀ a x, ((![v66, v931] : Fin 2 → IVec S16 32) a x).toNat < S32x200.size a)
theorem k0_idx110_inb : ∀ (v66 : IVec S16 32) (v931 : IVec S16 32) (k0_hw103 : k0_chk103 v66 v931), ∀ a x, ((![v66, v931] : Fin 2 → IVec S16 32) a x).toNat < S32x200.size a := fun v66 v931 k0_hw103 => k0_hw103.1
theorem k0_idx112_inb : ∀ (v66 : IVec S16 32) (v931 : IVec S16 32) (k0_hw103 : k0_chk103 v66 v931), ∀ a x, ((![v66, v931] : Fin 2 → IVec S16 32) a x).toNat < S32x200.size a := fun v66 v931 k0_hw103 => k0_hw103.2

def k0_chk105 (v997 : IVec S16 32) : Prop :=
  (∀ a x, ((![v997] : Fin 1 → IVec S16 32) a x).toNat < S3200.size a)
theorem k0_idx113_inb : ∀ (v997 : IVec S16 32) (k0_hw105 : k0_chk105 v997), ∀ a x, ((![v997] : Fin 1 → IVec S16 32) a x).toNat < S3200.size a := fun v997 k0_hw105 => k0_hw105

def k0_chk106 (v1006 : IVec S16 32) : Prop :=
  (∀ a x, ((![v1006] : Fin 1 → IVec S16 32) a x).toNat < S3200.size a)
theorem k0_idx114_inb : ∀ (v1006 : IVec S16 32) (k0_hw106 : k0_chk106 v1006), ∀ a x, ((![v1006] : Fin 1 → IVec S16 32) a x).toNat < S3200.size a := fun v1006 k0_hw106 => k0_hw106

def k0_chk107 (v1015 : IVec S16 32) : Prop :=
  (∀ a x, ((![v1015] : Fin 1 → IVec S16 32) a x).toNat < S3200.size a)
theorem k0_idx115_inb : ∀ (v1015 : IVec S16 32) (k0_hw107 : k0_chk107 v1015), ∀ a x, ((![v1015] : Fin 1 → IVec S16 32) a x).toNat < S3200.size a := fun v1015 k0_hw107 => k0_hw107

def k0_chk108 (v1024 : IVec S16 32) : Prop :=
  (∀ a x, ((![v1024] : Fin 1 → IVec S16 32) a x).toNat < S3200.size a)
theorem k0_idx116_inb : ∀ (v1024 : IVec S16 32) (k0_hw108 : k0_chk108 v1024), ∀ a x, ((![v1024] : Fin 1 → IVec S16 32) a x).toNat < S3200.size a := fun v1024 k0_hw108 => k0_hw108

def k0_chk109 (v1033 : IVec S16 32) : Prop :=
  (∀ a x, ((![v1033] : Fin 1 → IVec S16 32) a x).toNat < S3200.size a)
theorem k0_idx117_inb : ∀ (v1033 : IVec S16 32) (k0_hw109 : k0_chk109 v1033), ∀ a x, ((![v1033] : Fin 1 → IVec S16 32) a x).toNat < S3200.size a := fun v1033 k0_hw109 => k0_hw109

def k0_chk110 (v1042 : IVec S16 32) : Prop :=
  (∀ a x, ((![v1042] : Fin 1 → IVec S16 32) a x).toNat < S3200.size a)
theorem k0_idx118_inb : ∀ (v1042 : IVec S16 32) (k0_hw110 : k0_chk110 v1042), ∀ a x, ((![v1042] : Fin 1 → IVec S16 32) a x).toNat < S3200.size a := fun v1042 k0_hw110 => k0_hw110

def k0_chk111 (v1051 : IVec S16 32) : Prop :=
  (∀ a x, ((![v1051] : Fin 1 → IVec S16 32) a x).toNat < S3200.size a)
theorem k0_idx119_inb : ∀ (v1051 : IVec S16 32) (k0_hw111 : k0_chk111 v1051), ∀ a x, ((![v1051] : Fin 1 → IVec S16 32) a x).toNat < S3200.size a := fun v1051 k0_hw111 => k0_hw111

def k0_chk112 (v1060 : IVec S16 32) : Prop :=
  (∀ a x, ((![v1060] : Fin 1 → IVec S16 32) a x).toNat < S3200.size a)
theorem k0_idx120_inb : ∀ (v1060 : IVec S16 32) (k0_hw112 : k0_chk112 v1060), ∀ a x, ((![v1060] : Fin 1 → IVec S16 32) a x).toNat < S3200.size a := fun v1060 k0_hw112 => k0_hw112

def k0_chk113 (v1069 : IVec S16 32) : Prop :=
  (∀ a x, ((![v1069] : Fin 1 → IVec S16 32) a x).toNat < S3200.size a)
theorem k0_idx121_inb : ∀ (v1069 : IVec S16 32) (k0_hw113 : k0_chk113 v1069), ∀ a x, ((![v1069] : Fin 1 → IVec S16 32) a x).toNat < S3200.size a := fun v1069 k0_hw113 => k0_hw113

def k0_chk114 (v1078 : IVec S16 32) : Prop :=
  (∀ a x, ((![v1078] : Fin 1 → IVec S16 32) a x).toNat < S3200.size a)
theorem k0_idx122_inb : ∀ (v1078 : IVec S16 32) (k0_hw114 : k0_chk114 v1078), ∀ a x, ((![v1078] : Fin 1 → IVec S16 32) a x).toNat < S3200.size a := fun v1078 k0_hw114 => k0_hw114

def k0_chk115 (v1087 : IVec S16 32) : Prop :=
  (∀ a x, ((![v1087] : Fin 1 → IVec S16 32) a x).toNat < S3200.size a)
theorem k0_idx123_inb : ∀ (v1087 : IVec S16 32) (k0_hw115 : k0_chk115 v1087), ∀ a x, ((![v1087] : Fin 1 → IVec S16 32) a x).toNat < S3200.size a := fun v1087 k0_hw115 => k0_hw115

def k0_chk116 (v1096 : IVec S16 32) : Prop :=
  (∀ a x, ((![v1096] : Fin 1 → IVec S16 32) a x).toNat < S3200.size a)
theorem k0_idx124_inb : ∀ (v1096 : IVec S16 32) (k0_hw116 : k0_chk116 v1096), ∀ a x, ((![v1096] : Fin 1 → IVec S16 32) a x).toNat < S3200.size a := fun v1096 k0_hw116 => k0_hw116

def k0_chk117 (v1105 : IVec S16 32) : Prop :=
  (∀ a x, ((![v1105] : Fin 1 → IVec S16 32) a x).toNat < S3200.size a)
theorem k0_idx125_inb : ∀ (v1105 : IVec S16 32) (k0_hw117 : k0_chk117 v1105), ∀ a x, ((![v1105] : Fin 1 → IVec S16 32) a x).toNat < S3200.size a := fun v1105 k0_hw117 => k0_hw117

def k0_chk118 (v1114 : IVec S16 32) : Prop :=
  (∀ a x, ((![v1114] : Fin 1 → IVec S16 32) a x).toNat < S3200.size a)
theorem k0_idx126_inb : ∀ (v1114 : IVec S16 32) (k0_hw118 : k0_chk118 v1114), ∀ a x, ((![v1114] : Fin 1 → IVec S16 32) a x).toNat < S3200.size a := fun v1114 k0_hw118 => k0_hw118

def k0_chk119 (v1123 : IVec S16 32) : Prop :=
  (∀ a x, ((![v1123] : Fin 1 → IVec S16 32) a x).toNat < S3200.size a)
theorem k0_idx127_inb : ∀ (v1123 : IVec S16 32) (k0_hw119 : k0_chk119 v1123), ∀ a x, ((![v1123] : Fin 1 → IVec S16 32) a x).toNat < S3200.size a := fun v1123 k0_hw119 => k0_hw119

def k0_chk120 (v1132 : IVec S16 32) : Prop :=
  (∀ a x, ((![v1132] : Fin 1 → IVec S16 32) a x).toNat < S3200.size a)
theorem k0_idx128_inb : ∀ (v1132 : IVec S16 32) (k0_hw120 : k0_chk120 v1132), ∀ a x, ((![v1132] : Fin 1 → IVec S16 32) a x).toNat < S3200.size a := fun v1132 k0_hw120 => k0_hw120

def k0_chk121 (v1141 : IVec S16 32) : Prop :=
  (∀ a x, ((![v1141] : Fin 1 → IVec S16 32) a x).toNat < S3200.size a)
theorem k0_idx129_inb : ∀ (v1141 : IVec S16 32) (k0_hw121 : k0_chk121 v1141), ∀ a x, ((![v1141] : Fin 1 → IVec S16 32) a x).toNat < S3200.size a := fun v1141 k0_hw121 => k0_hw121

def k0_chk122 (v1150 : IVec S16 32) : Prop :=
  (∀ a x, ((![v1150] : Fin 1 → IVec S16 32) a x).toNat < S3200.size a)
theorem k0_idx130_inb : ∀ (v1150 : IVec S16 32) (k0_hw122 : k0_chk122 v1150), ∀ a x, ((![v1150] : Fin 1 → IVec S16 32) a x).toNat < S3200.size a := fun v1150 k0_hw122 => k0_hw122

def k0_chk123 (v1159 : IVec S16 32) : Prop :=
  (∀ a x, ((![v1159] : Fin 1 → IVec S16 32) a x).toNat < S3200.size a)
theorem k0_idx131_inb : ∀ (v1159 : IVec S16 32) (k0_hw123 : k0_chk123 v1159), ∀ a x, ((![v1159] : Fin 1 → IVec S16 32) a x).toNat < S3200.size a := fun v1159 k0_hw123 => k0_hw123

def k0_chk124 (v1168 : IVec S16 32) : Prop :=
  (∀ a x, ((![v1168] : Fin 1 → IVec S16 32) a x).toNat < S3200.size a)
theorem k0_idx132_inb : ∀ (v1168 : IVec S16 32) (k0_hw124 : k0_chk124 v1168), ∀ a x, ((![v1168] : Fin 1 → IVec S16 32) a x).toNat < S3200.size a := fun v1168 k0_hw124 => k0_hw124

def k0_chk125 (v1181 : IVec S16 32) : Prop :=
  (∀ a x, ((![v1181] : Fin 1 → IVec S16 32) a x).toNat < S3200.size a)
theorem k0_idx133_inb : ∀ (v1181 : IVec S16 32) (k0_hw125 : k0_chk125 v1181), ∀ a x, ((![v1181] : Fin 1 → IVec S16 32) a x).toNat < S3200.size a := fun v1181 k0_hw125 => k0_hw125

def k0_chk126 (v1184 : IVec S16 32) : Prop :=
  (∀ a x, ((![v1184] : Fin 1 → IVec S16 32) a x).toNat < S160.size a)
theorem k0_idx134_inb : ∀ (v1184 : IVec S16 32) (k0_hw126 : k0_chk126 v1184), ∀ a x, ((![v1184] : Fin 1 → IVec S16 32) a x).toNat < S160.size a := fun v1184 k0_hw126 => k0_hw126

def k0_chk128 (v1188 : IVec S16 32) : Prop :=
  (∀ a x, ((![v1188] : Fin 1 → IVec S16 32) a x).toNat < S160.size a)
theorem k0_idx136_inb : ∀ (v1188 : IVec S16 32) (k0_hw128 : k0_chk128 v1188), ∀ a x, ((![v1188] : Fin 1 → IVec S16 32) a x).toNat < S160.size a := fun v1188 k0_hw128 => k0_hw128

def k0_chk127 (v66 : IVec S16 32) (v1178 : IVec S16 32) : Prop :=
  (∀ a x, ((![v66, v1178] : Fin 2 → IVec S16 32) a x).toNat < S32x200.size a) ∧
  (∀ a x, ((![v66, v1178] : Fin 2 → IVec S16 32) a x).toNat < S32x200.size a)
theorem k0_idx135_inb : ∀ (v66 : IVec S16 32) (v1178 : IVec S16 32) (k0_hw127 : k0_chk127 v66 v1178), ∀ a x, ((![v66, v1178] : Fin 2 → IVec S16 32) a x).toNat < S32x200.size a := fun v66 v1178 k0_hw127 => k0_hw127.1
theorem k0_idx137_inb : ∀ (v66 : IVec S16 32) (v1178 : IVec S16 32) (k0_hw127 : k0_chk127 v66 v1178), ∀ a x, ((![v66, v1178] : Fin 2 → IVec S16 32) a x).toNat < S32x200.size a := fun v66 v1178 k0_hw127 => k0_hw127.2

def k0_chk129 (v1244 : IVec S16 32) : Prop :=
  (∀ a x, ((![v1244] : Fin 1 → IVec S16 32) a x).toNat < S3200.size a)
theorem k0_idx138_inb : ∀ (v1244 : IVec S16 32) (k0_hw129 : k0_chk129 v1244), ∀ a x, ((![v1244] : Fin 1 → IVec S16 32) a x).toNat < S3200.size a := fun v1244 k0_hw129 => k0_hw129

def k0_chk130 (v1253 : IVec S16 32) : Prop :=
  (∀ a x, ((![v1253] : Fin 1 → IVec S16 32) a x).toNat < S3200.size a)
theorem k0_idx139_inb : ∀ (v1253 : IVec S16 32) (k0_hw130 : k0_chk130 v1253), ∀ a x, ((![v1253] : Fin 1 → IVec S16 32) a x).toNat < S3200.size a := fun v1253 k0_hw130 => k0_hw130

def k0_chk131 (v1262 : IVec S16 32) : Prop :=
  (∀ a x, ((![v1262] : Fin 1 → IVec S16 32) a x).toNat < S3200.size a)
theorem k0_idx140_inb : ∀ (v1262 : IVec S16 32) (k0_hw131 : k0_chk131 v1262), ∀ a x, ((![v1262] : Fin 1 → IVec S16 32) a x).toNat < S3200.size a := fun v1262 k0_hw131 => k0_hw131

def k0_chk132 (v1271 : IVec S16 32) : Prop :=
  (∀ a x, ((![v1271] : Fin 1 → IVec S16 32) a x).toNat < S3200.size a)
theorem k0_idx141_inb : ∀ (v1271 : IVec S16 32) (k0_hw132 : k0_chk132 v1271), ∀ a x, ((![v1271] : Fin 1 → IVec S16 32) a x).toNat < S3200.size a := fun v1271 k0_hw132 => k0_hw132

def k0_chk133 (v1280 : IVec S16 32) : Prop :=
  (∀ a x, ((![v1280] : Fin 1 → IVec S16 32) a x).toNat < S3200.size a)
theorem k0_idx142_inb : ∀ (v1280 : IVec S16 32) (k0_hw133 : k0_chk133 v1280), ∀ a x, ((![v1280] : Fin 1 → IVec S16 32) a x).toNat < S3200.size a := fun v1280 k0_hw133 => k0_hw133

def k0_chk134 (v1289 : IVec S16 32) : Prop :=
  (∀ a x, ((![v1289] : Fin 1 → IVec S16 32) a x).toNat < S3200.size a)
theorem k0_idx143_inb : ∀ (v1289 : IVec S16 32) (k0_hw134 : k0_chk134 v1289), ∀ a x, ((![v1289] : Fin 1 → IVec S16 32) a x).toNat < S3200.size a := fun v1289 k0_hw134 => k0_hw134

def k0_chk135 (v1298 : IVec S16 32) : Prop :=
  (∀ a x, ((![v1298] : Fin 1 → IVec S16 32) a x).toNat < S3200.size a)
theorem k0_idx144_inb : ∀ (v1298 : IVec S16 32) (k0_hw135 : k0_chk135 v1298), ∀ a x, ((![v1298] : Fin 1 → IVec S16 32) a x).toNat < S3200.size a := fun v1298 k0_hw135 => k0_hw135

def k0_chk136 (v1307 : IVec S16 32) : Prop :=
  (∀ a x, ((![v1307] : Fin 1 → IVec S16 32) a x).toNat < S3200.size a)
theorem k0_idx145_inb : ∀ (v1307 : IVec S16 32) (k0_hw136 : k0_chk136 v1307), ∀ a x, ((![v1307] : Fin 1 → IVec S16 32) a x).toNat < S3200.size a := fun v1307 k0_hw136 => k0_hw136

def k0_chk137 (v1316 : IVec S16 32) : Prop :=
  (∀ a x, ((![v1316] : Fin 1 → IVec S16 32) a x).toNat < S3200.size a)
theorem k0_idx146_inb : ∀ (v1316 : IVec S16 32) (k0_hw137 : k0_chk137 v1316), ∀ a x, ((![v1316] : Fin 1 → IVec S16 32) a x).toNat < S3200.size a := fun v1316 k0_hw137 => k0_hw137

def k0_chk138 (v1325 : IVec S16 32) : Prop :=
  (∀ a x, ((![v1325] : Fin 1 → IVec S16 32) a x).toNat < S3200.size a)
theorem k0_idx147_inb : ∀ (v1325 : IVec S16 32) (k0_hw138 : k0_chk138 v1325), ∀ a x, ((![v1325] : Fin 1 → IVec S16 32) a x).toNat < S3200.size a := fun v1325 k0_hw138 => k0_hw138

def k0_chk139 (v1334 : IVec S16 32) : Prop :=
  (∀ a x, ((![v1334] : Fin 1 → IVec S16 32) a x).toNat < S3200.size a)
theorem k0_idx148_inb : ∀ (v1334 : IVec S16 32) (k0_hw139 : k0_chk139 v1334), ∀ a x, ((![v1334] : Fin 1 → IVec S16 32) a x).toNat < S3200.size a := fun v1334 k0_hw139 => k0_hw139

def k0_chk140 (v1343 : IVec S16 32) : Prop :=
  (∀ a x, ((![v1343] : Fin 1 → IVec S16 32) a x).toNat < S3200.size a)
theorem k0_idx149_inb : ∀ (v1343 : IVec S16 32) (k0_hw140 : k0_chk140 v1343), ∀ a x, ((![v1343] : Fin 1 → IVec S16 32) a x).toNat < S3200.size a := fun v1343 k0_hw140 => k0_hw140

def k0_chk141 (v1352 : IVec S16 32) : Prop :=
  (∀ a x, ((![v1352] : Fin 1 → IVec S16 32) a x).toNat < S3200.size a)
theorem k0_idx150_inb : ∀ (v1352 : IVec S16 32) (k0_hw141 : k0_chk141 v1352), ∀ a x, ((![v1352] : Fin 1 → IVec S16 32) a x).toNat < S3200.size a := fun v1352 k0_hw141 => k0_hw141

def k0_chk142 (v1361 : IVec S16 32) : Prop :=
  (∀ a x, ((![v1361] : Fin 1 → IVec S16 32) a x).toNat < S3200.size a)
theorem k0_idx151_inb : ∀ (v1361 : IVec S16 32) (k0_hw142 : k0_chk142 v1361), ∀ a x, ((![v1361] : Fin 1 → IVec S16 32) a x).toNat < S3200.size a := fun v1361 k0_hw142 => k0_hw142

def k0_chk143 (v1370 : IVec S16 32) : Prop :=
  (∀ a x, ((![v1370] : Fin 1 → IVec S16 32) a x).toNat < S3200.size a)
theorem k0_idx152_inb : ∀ (v1370 : IVec S16 32) (k0_hw143 : k0_chk143 v1370), ∀ a x, ((![v1370] : Fin 1 → IVec S16 32) a x).toNat < S3200.size a := fun v1370 k0_hw143 => k0_hw143

def k0_chk144 (v1379 : IVec S16 32) : Prop :=
  (∀ a x, ((![v1379] : Fin 1 → IVec S16 32) a x).toNat < S3200.size a)
theorem k0_idx153_inb : ∀ (v1379 : IVec S16 32) (k0_hw144 : k0_chk144 v1379), ∀ a x, ((![v1379] : Fin 1 → IVec S16 32) a x).toNat < S3200.size a := fun v1379 k0_hw144 => k0_hw144

def k0_chk145 (v1388 : IVec S16 32) : Prop :=
  (∀ a x, ((![v1388] : Fin 1 → IVec S16 32) a x).toNat < S3200.size a)
theorem k0_idx154_inb : ∀ (v1388 : IVec S16 32) (k0_hw145 : k0_chk145 v1388), ∀ a x, ((![v1388] : Fin 1 → IVec S16 32) a x).toNat < S3200.size a := fun v1388 k0_hw145 => k0_hw145

def k0_chk146 (v1397 : IVec S16 32) : Prop :=
  (∀ a x, ((![v1397] : Fin 1 → IVec S16 32) a x).toNat < S3200.size a)
theorem k0_idx155_inb : ∀ (v1397 : IVec S16 32) (k0_hw146 : k0_chk146 v1397), ∀ a x, ((![v1397] : Fin 1 → IVec S16 32) a x).toNat < S3200.size a := fun v1397 k0_hw146 => k0_hw146

def k0_chk147 (v1406 : IVec S16 32) : Prop :=
  (∀ a x, ((![v1406] : Fin 1 → IVec S16 32) a x).toNat < S3200.size a)
theorem k0_idx156_inb : ∀ (v1406 : IVec S16 32) (k0_hw147 : k0_chk147 v1406), ∀ a x, ((![v1406] : Fin 1 → IVec S16 32) a x).toNat < S3200.size a := fun v1406 k0_hw147 => k0_hw147

def k0_chk148 (v1415 : IVec S16 32) : Prop :=
  (∀ a x, ((![v1415] : Fin 1 → IVec S16 32) a x).toNat < S3200.size a)
theorem k0_idx157_inb : ∀ (v1415 : IVec S16 32) (k0_hw148 : k0_chk148 v1415), ∀ a x, ((![v1415] : Fin 1 → IVec S16 32) a x).toNat < S3200.size a := fun v1415 k0_hw148 => k0_hw148

def k0_chk149 (v1428 : IVec S16 32) : Prop :=
  (∀ a x, ((![v1428] : Fin 1 → IVec S16 32) a x).toNat < S3200.size a)
theorem k0_idx158_inb : ∀ (v1428 : IVec S16 32) (k0_hw149 : k0_chk149 v1428), ∀ a x, ((![v1428] : Fin 1 → IVec S16 32) a x).toNat < S3200.size a := fun v1428 k0_hw149 => k0_hw149

def k0_chk150 (v1431 : IVec S16 32) : Prop :=
  (∀ a x, ((![v1431] : Fin 1 → IVec S16 32) a x).toNat < S160.size a)
theorem k0_idx159_inb : ∀ (v1431 : IVec S16 32) (k0_hw150 : k0_chk150 v1431), ∀ a x, ((![v1431] : Fin 1 → IVec S16 32) a x).toNat < S160.size a := fun v1431 k0_hw150 => k0_hw150

def k0_chk152 (v1435 : IVec S16 32) : Prop :=
  (∀ a x, ((![v1435] : Fin 1 → IVec S16 32) a x).toNat < S160.size a)
theorem k0_idx161_inb : ∀ (v1435 : IVec S16 32) (k0_hw152 : k0_chk152 v1435), ∀ a x, ((![v1435] : Fin 1 → IVec S16 32) a x).toNat < S160.size a := fun v1435 k0_hw152 => k0_hw152

def k0_chk151 (v66 : IVec S16 32) (v1425 : IVec S16 32) : Prop :=
  (∀ a x, ((![v66, v1425] : Fin 2 → IVec S16 32) a x).toNat < S32x200.size a) ∧
  (∀ a x, ((![v66, v1425] : Fin 2 → IVec S16 32) a x).toNat < S32x200.size a)
theorem k0_idx160_inb : ∀ (v66 : IVec S16 32) (v1425 : IVec S16 32) (k0_hw151 : k0_chk151 v66 v1425), ∀ a x, ((![v66, v1425] : Fin 2 → IVec S16 32) a x).toNat < S32x200.size a := fun v66 v1425 k0_hw151 => k0_hw151.1
theorem k0_idx162_inb : ∀ (v66 : IVec S16 32) (v1425 : IVec S16 32) (k0_hw151 : k0_chk151 v66 v1425), ∀ a x, ((![v66, v1425] : Fin 2 → IVec S16 32) a x).toNat < S32x200.size a := fun v66 v1425 k0_hw151 => k0_hw151.2

def k0_chk153 (v1491 : IVec S16 32) : Prop :=
  (∀ a x, ((![v1491] : Fin 1 → IVec S16 32) a x).toNat < S3200.size a)
theorem k0_idx163_inb : ∀ (v1491 : IVec S16 32) (k0_hw153 : k0_chk153 v1491), ∀ a x, ((![v1491] : Fin 1 → IVec S16 32) a x).toNat < S3200.size a := fun v1491 k0_hw153 => k0_hw153

def k0_chk154 (v1500 : IVec S16 32) : Prop :=
  (∀ a x, ((![v1500] : Fin 1 → IVec S16 32) a x).toNat < S3200.size a)
theorem k0_idx164_inb : ∀ (v1500 : IVec S16 32) (k0_hw154 : k0_chk154 v1500), ∀ a x, ((![v1500] : Fin 1 → IVec S16 32) a x).toNat < S3200.size a := fun v1500 k0_hw154 => k0_hw154

def k0_chk155 (v1509 : IVec S16 32) : Prop :=
  (∀ a x, ((![v1509] : Fin 1 → IVec S16 32) a x).toNat < S3200.size a)
theorem k0_idx165_inb : ∀ (v1509 : IVec S16 32) (k0_hw155 : k0_chk155 v1509), ∀ a x, ((![v1509] : Fin 1 → IVec S16 32) a x).toNat < S3200.size a := fun v1509 k0_hw155 => k0_hw155

def k0_chk156 (v1518 : IVec S16 32) : Prop :=
  (∀ a x, ((![v1518] : Fin 1 → IVec S16 32) a x).toNat < S3200.size a)
theorem k0_idx166_inb : ∀ (v1518 : IVec S16 32) (k0_hw156 : k0_chk156 v1518), ∀ a x, ((![v1518] : Fin 1 → IVec S16 32) a x).toNat < S3200.size a := fun v1518 k0_hw156 => k0_hw156

def k0_chk157 (v1527 : IVec S16 32) : Prop :=
  (∀ a x, ((![v1527] : Fin 1 → IVec S16 32) a x).toNat < S3200.size a)
theorem k0_idx167_inb : ∀ (v1527 : IVec S16 32) (k0_hw157 : k0_chk157 v1527), ∀ a x, ((![v1527] : Fin 1 → IVec S16 32) a x).toNat < S3200.size a := fun v1527 k0_hw157 => k0_hw157

def k0_chk158 (v1536 : IVec S16 32) : Prop :=
  (∀ a x, ((![v1536] : Fin 1 → IVec S16 32) a x).toNat < S3200.size a)
theorem k0_idx168_inb : ∀ (v1536 : IVec S16 32) (k0_hw158 : k0_chk158 v1536), ∀ a x, ((![v1536] : Fin 1 → IVec S16 32) a x).toNat < S3200.size a := fun v1536 k0_hw158 => k0_hw158

def k0_chk159 (v1545 : IVec S16 32) : Prop :=
  (∀ a x, ((![v1545] : Fin 1 → IVec S16 32) a x).toNat < S3200.size a)
theorem k0_idx169_inb : ∀ (v1545 : IVec S16 32) (k0_hw159 : k0_chk159 v1545), ∀ a x, ((![v1545] : Fin 1 → IVec S16 32) a x).toNat < S3200.size a := fun v1545 k0_hw159 => k0_hw159

def k0_chk160 (v1554 : IVec S16 32) : Prop :=
  (∀ a x, ((![v1554] : Fin 1 → IVec S16 32) a x).toNat < S3200.size a)
theorem k0_idx170_inb : ∀ (v1554 : IVec S16 32) (k0_hw160 : k0_chk160 v1554), ∀ a x, ((![v1554] : Fin 1 → IVec S16 32) a x).toNat < S3200.size a := fun v1554 k0_hw160 => k0_hw160

def k0_chk161 (v1563 : IVec S16 32) : Prop :=
  (∀ a x, ((![v1563] : Fin 1 → IVec S16 32) a x).toNat < S3200.size a)
theorem k0_idx171_inb : ∀ (v1563 : IVec S16 32) (k0_hw161 : k0_chk161 v1563), ∀ a x, ((![v1563] : Fin 1 → IVec S16 32) a x).toNat < S3200.size a := fun v1563 k0_hw161 => k0_hw161

def k0_chk162 (v1572 : IVec S16 32) : Prop :=
  (∀ a x, ((![v1572] : Fin 1 → IVec S16 32) a x).toNat < S3200.size a)
theorem k0_idx172_inb : ∀ (v1572 : IVec S16 32) (k0_hw162 : k0_chk162 v1572), ∀ a x, ((![v1572] : Fin 1 → IVec S16 32) a x).toNat < S3200.size a := fun v1572 k0_hw162 => k0_hw162

def k0_chk163 (v1581 : IVec S16 32) : Prop :=
  (∀ a x, ((![v1581] : Fin 1 → IVec S16 32) a x).toNat < S3200.size a)
theorem k0_idx173_inb : ∀ (v1581 : IVec S16 32) (k0_hw163 : k0_chk163 v1581), ∀ a x, ((![v1581] : Fin 1 → IVec S16 32) a x).toNat < S3200.size a := fun v1581 k0_hw163 => k0_hw163

def k0_chk164 (v1590 : IVec S16 32) : Prop :=
  (∀ a x, ((![v1590] : Fin 1 → IVec S16 32) a x).toNat < S3200.size a)
theorem k0_idx174_inb : ∀ (v1590 : IVec S16 32) (k0_hw164 : k0_chk164 v1590), ∀ a x, ((![v1590] : Fin 1 → IVec S16 32) a x).toNat < S3200.size a := fun v1590 k0_hw164 => k0_hw164

def k0_chk165 (v1599 : IVec S16 32) : Prop :=
  (∀ a x, ((![v1599] : Fin 1 → IVec S16 32) a x).toNat < S3200.size a)
theorem k0_idx175_inb : ∀ (v1599 : IVec S16 32) (k0_hw165 : k0_chk165 v1599), ∀ a x, ((![v1599] : Fin 1 → IVec S16 32) a x).toNat < S3200.size a := fun v1599 k0_hw165 => k0_hw165

def k0_chk166 (v1608 : IVec S16 32) : Prop :=
  (∀ a x, ((![v1608] : Fin 1 → IVec S16 32) a x).toNat < S3200.size a)
theorem k0_idx176_inb : ∀ (v1608 : IVec S16 32) (k0_hw166 : k0_chk166 v1608), ∀ a x, ((![v1608] : Fin 1 → IVec S16 32) a x).toNat < S3200.size a := fun v1608 k0_hw166 => k0_hw166

def k0_chk167 (v1617 : IVec S16 32) : Prop :=
  (∀ a x, ((![v1617] : Fin 1 → IVec S16 32) a x).toNat < S3200.size a)
theorem k0_idx177_inb : ∀ (v1617 : IVec S16 32) (k0_hw167 : k0_chk167 v1617), ∀ a x, ((![v1617] : Fin 1 → IVec S16 32) a x).toNat < S3200.size a := fun v1617 k0_hw167 => k0_hw167

def k0_chk168 (v1626 : IVec S16 32) : Prop :=
  (∀ a x, ((![v1626] : Fin 1 → IVec S16 32) a x).toNat < S3200.size a)
theorem k0_idx178_inb : ∀ (v1626 : IVec S16 32) (k0_hw168 : k0_chk168 v1626), ∀ a x, ((![v1626] : Fin 1 → IVec S16 32) a x).toNat < S3200.size a := fun v1626 k0_hw168 => k0_hw168

def k0_chk169 (v1635 : IVec S16 32) : Prop :=
  (∀ a x, ((![v1635] : Fin 1 → IVec S16 32) a x).toNat < S3200.size a)
theorem k0_idx179_inb : ∀ (v1635 : IVec S16 32) (k0_hw169 : k0_chk169 v1635), ∀ a x, ((![v1635] : Fin 1 → IVec S16 32) a x).toNat < S3200.size a := fun v1635 k0_hw169 => k0_hw169

def k0_chk170 (v1644 : IVec S16 32) : Prop :=
  (∀ a x, ((![v1644] : Fin 1 → IVec S16 32) a x).toNat < S3200.size a)
theorem k0_idx180_inb : ∀ (v1644 : IVec S16 32) (k0_hw170 : k0_chk170 v1644), ∀ a x, ((![v1644] : Fin 1 → IVec S16 32) a x).toNat < S3200.size a := fun v1644 k0_hw170 => k0_hw170

def k0_chk171 (v1653 : IVec S16 32) : Prop :=
  (∀ a x, ((![v1653] : Fin 1 → IVec S16 32) a x).toNat < S3200.size a)
theorem k0_idx181_inb : ∀ (v1653 : IVec S16 32) (k0_hw171 : k0_chk171 v1653), ∀ a x, ((![v1653] : Fin 1 → IVec S16 32) a x).toNat < S3200.size a := fun v1653 k0_hw171 => k0_hw171

def k0_chk172 (v1662 : IVec S16 32) : Prop :=
  (∀ a x, ((![v1662] : Fin 1 → IVec S16 32) a x).toNat < S3200.size a)
theorem k0_idx182_inb : ∀ (v1662 : IVec S16 32) (k0_hw172 : k0_chk172 v1662), ∀ a x, ((![v1662] : Fin 1 → IVec S16 32) a x).toNat < S3200.size a := fun v1662 k0_hw172 => k0_hw172

def k0_chk173 (v1675 : IVec S16 32) : Prop :=
  (∀ a x, ((![v1675] : Fin 1 → IVec S16 32) a x).toNat < S3200.size a)
theorem k0_idx183_inb : ∀ (v1675 : IVec S16 32) (k0_hw173 : k0_chk173 v1675), ∀ a x, ((![v1675] : Fin 1 → IVec S16 32) a x).toNat < S3200.size a := fun v1675 k0_hw173 => k0_hw173

def k0_chk174 (v1678 : IVec S16 32) : Prop :=
  (∀ a x, ((![v1678] : Fin 1 → IVec S16 32) a x).toNat < S160.size a)
theorem k0_idx184_inb : ∀ (v1678 : IVec S16 32) (k0_hw174 : k0_chk174 v1678), ∀ a x, ((![v1678] : Fin 1 → IVec S16 32) a x).toNat < S160.size a := fun v1678 k0_hw174 => k0_hw174

def k0_chk176 (v1682 : IVec S16 32) : Prop :=
  (∀ a x, ((![v1682] : Fin 1 → IVec S16 32) a x).toNat < S160.size a)
theorem k0_idx186_inb : ∀ (v1682 : IVec S16 32) (k0_hw176 : k0_chk176 v1682), ∀ a x, ((![v1682] : Fin 1 → IVec S16 32) a x).toNat < S160.size a := fun v1682 k0_hw176 => k0_hw176

def k0_chk175 (v66 : IVec S16 32) (v1672 : IVec S16 32) : Prop :=
  (∀ a x, ((![v66, v1672] : Fin 2 → IVec S16 32) a x).toNat < S32x200.size a) ∧
  (∀ a x, ((![v66, v1672] : Fin 2 → IVec S16 32) a x).toNat < S32x200.size a)
theorem k0_idx185_inb : ∀ (v66 : IVec S16 32) (v1672 : IVec S16 32) (k0_hw175 : k0_chk175 v66 v1672), ∀ a x, ((![v66, v1672] : Fin 2 → IVec S16 32) a x).toNat < S32x200.size a := fun v66 v1672 k0_hw175 => k0_hw175.1
theorem k0_idx187_inb : ∀ (v66 : IVec S16 32) (v1672 : IVec S16 32) (k0_hw175 : k0_chk175 v66 v1672), ∀ a x, ((![v66, v1672] : Fin 2 → IVec S16 32) a x).toNat < S32x200.size a := fun v66 v1672 k0_hw175 => k0_hw175.2

def k0_chk177 (v1738 : IVec S16 32) : Prop :=
  (∀ a x, ((![v1738] : Fin 1 → IVec S16 32) a x).toNat < S3200.size a)
theorem k0_idx188_inb : ∀ (v1738 : IVec S16 32) (k0_hw177 : k0_chk177 v1738), ∀ a x, ((![v1738] : Fin 1 → IVec S16 32) a x).toNat < S3200.size a := fun v1738 k0_hw177 => k0_hw177

def k0_chk178 (v1747 : IVec S16 32) : Prop :=
  (∀ a x, ((![v1747] : Fin 1 → IVec S16 32) a x).toNat < S3200.size a)
theorem k0_idx189_inb : ∀ (v1747 : IVec S16 32) (k0_hw178 : k0_chk178 v1747), ∀ a x, ((![v1747] : Fin 1 → IVec S16 32) a x).toNat < S3200.size a := fun v1747 k0_hw178 => k0_hw178

def k0_chk179 (v1756 : IVec S16 32) : Prop :=
  (∀ a x, ((![v1756] : Fin 1 → IVec S16 32) a x).toNat < S3200.size a)
theorem k0_idx190_inb : ∀ (v1756 : IVec S16 32) (k0_hw179 : k0_chk179 v1756), ∀ a x, ((![v1756] : Fin 1 → IVec S16 32) a x).toNat < S3200.size a := fun v1756 k0_hw179 => k0_hw179

def k0_chk180 (v1765 : IVec S16 32) : Prop :=
  (∀ a x, ((![v1765] : Fin 1 → IVec S16 32) a x).toNat < S3200.size a)
theorem k0_idx191_inb : ∀ (v1765 : IVec S16 32) (k0_hw180 : k0_chk180 v1765), ∀ a x, ((![v1765] : Fin 1 → IVec S16 32) a x).toNat < S3200.size a := fun v1765 k0_hw180 => k0_hw180

def k0_chk181 (v1774 : IVec S16 32) : Prop :=
  (∀ a x, ((![v1774] : Fin 1 → IVec S16 32) a x).toNat < S3200.size a)
theorem k0_idx192_inb : ∀ (v1774 : IVec S16 32) (k0_hw181 : k0_chk181 v1774), ∀ a x, ((![v1774] : Fin 1 → IVec S16 32) a x).toNat < S3200.size a := fun v1774 k0_hw181 => k0_hw181

def k0_chk182 (v1783 : IVec S16 32) : Prop :=
  (∀ a x, ((![v1783] : Fin 1 → IVec S16 32) a x).toNat < S3200.size a)
theorem k0_idx193_inb : ∀ (v1783 : IVec S16 32) (k0_hw182 : k0_chk182 v1783), ∀ a x, ((![v1783] : Fin 1 → IVec S16 32) a x).toNat < S3200.size a := fun v1783 k0_hw182 => k0_hw182

def k0_chk183 (v1792 : IVec S16 32) : Prop :=
  (∀ a x, ((![v1792] : Fin 1 → IVec S16 32) a x).toNat < S3200.size a)
theorem k0_idx194_inb : ∀ (v1792 : IVec S16 32) (k0_hw183 : k0_chk183 v1792), ∀ a x, ((![v1792] : Fin 1 → IVec S16 32) a x).toNat < S3200.size a := fun v1792 k0_hw183 => k0_hw183

def k0_chk184 (v1801 : IVec S16 32) : Prop :=
  (∀ a x, ((![v1801] : Fin 1 → IVec S16 32) a x).toNat < S3200.size a)
theorem k0_idx195_inb : ∀ (v1801 : IVec S16 32) (k0_hw184 : k0_chk184 v1801), ∀ a x, ((![v1801] : Fin 1 → IVec S16 32) a x).toNat < S3200.size a := fun v1801 k0_hw184 => k0_hw184

def k0_chk185 (v1810 : IVec S16 32) : Prop :=
  (∀ a x, ((![v1810] : Fin 1 → IVec S16 32) a x).toNat < S3200.size a)
theorem k0_idx196_inb : ∀ (v1810 : IVec S16 32) (k0_hw185 : k0_chk185 v1810), ∀ a x, ((![v1810] : Fin 1 → IVec S16 32) a x).toNat < S3200.size a := fun v1810 k0_hw185 => k0_hw185

def k0_chk186 (v1819 : IVec S16 32) : Prop :=
  (∀ a x, ((![v1819] : Fin 1 → IVec S16 32) a x).toNat < S3200.size a)
theorem k0_idx197_inb : ∀ (v1819 : IVec S16 32) (k0_hw186 : k0_chk186 v1819), ∀ a x, ((![v1819] : Fin 1 → IVec S16 32) a x).toNat < S3200.size a := fun v1819 k0_hw186 => k0_hw186

def k0_chk187 (v1828 : IVec S16 32) : Prop :=
  (∀ a x, ((![v1828] : Fin 1 → IVec S16 32) a x).toNat < S3200.size a)
theorem k0_idx198_inb : ∀ (v1828 : IVec S16 32) (k0_hw187 : k0_chk187 v1828), ∀ a x, ((![v1828] : Fin 1 → IVec S16 32) a x).toNat < S3200.size a := fun v1828 k0_hw187 => k0_hw187

def k0_chk188 (v1837 : IVec S16 32) : Prop :=
  (∀ a x, ((![v1837] : Fin 1 → IVec S16 32) a x).toNat < S3200.size a)
theorem k0_idx199_inb : ∀ (v1837 : IVec S16 32) (k0_hw188 : k0_chk188 v1837), ∀ a x, ((![v1837] : Fin 1 → IVec S16 32) a x).toNat < S3200.size a := fun v1837 k0_hw188 => k0_hw188

def k0_chk189 (v1846 : IVec S16 32) : Prop :=
  (∀ a x, ((![v1846] : Fin 1 → IVec S16 32) a x).toNat < S3200.size a)
theorem k0_idx200_inb : ∀ (v1846 : IVec S16 32) (k0_hw189 : k0_chk189 v1846), ∀ a x, ((![v1846] : Fin 1 → IVec S16 32) a x).toNat < S3200.size a := fun v1846 k0_hw189 => k0_hw189

def k0_chk190 (v1855 : IVec S16 32) : Prop :=
  (∀ a x, ((![v1855] : Fin 1 → IVec S16 32) a x).toNat < S3200.size a)
theorem k0_idx201_inb : ∀ (v1855 : IVec S16 32) (k0_hw190 : k0_chk190 v1855), ∀ a x, ((![v1855] : Fin 1 → IVec S16 32) a x).toNat < S3200.size a := fun v1855 k0_hw190 => k0_hw190

def k0_chk191 (v1864 : IVec S16 32) : Prop :=
  (∀ a x, ((![v1864] : Fin 1 → IVec S16 32) a x).toNat < S3200.size a)
theorem k0_idx202_inb : ∀ (v1864 : IVec S16 32) (k0_hw191 : k0_chk191 v1864), ∀ a x, ((![v1864] : Fin 1 → IVec S16 32) a x).toNat < S3200.size a := fun v1864 k0_hw191 => k0_hw191

def k0_chk192 (v1873 : IVec S16 32) : Prop :=
  (∀ a x, ((![v1873] : Fin 1 → IVec S16 32) a x).toNat < S3200.size a)
theorem k0_idx203_inb : ∀ (v1873 : IVec S16 32) (k0_hw192 : k0_chk192 v1873), ∀ a x, ((![v1873] : Fin 1 → IVec S16 32) a x).toNat < S3200.size a := fun v1873 k0_hw192 => k0_hw192

def k0_chk193 (v1882 : IVec S16 32) : Prop :=
  (∀ a x, ((![v1882] : Fin 1 → IVec S16 32) a x).toNat < S3200.size a)
theorem k0_idx204_inb : ∀ (v1882 : IVec S16 32) (k0_hw193 : k0_chk193 v1882), ∀ a x, ((![v1882] : Fin 1 → IVec S16 32) a x).toNat < S3200.size a := fun v1882 k0_hw193 => k0_hw193

def k0_chk194 (v1891 : IVec S16 32) : Prop :=
  (∀ a x, ((![v1891] : Fin 1 → IVec S16 32) a x).toNat < S3200.size a)
theorem k0_idx205_inb : ∀ (v1891 : IVec S16 32) (k0_hw194 : k0_chk194 v1891), ∀ a x, ((![v1891] : Fin 1 → IVec S16 32) a x).toNat < S3200.size a := fun v1891 k0_hw194 => k0_hw194

def k0_chk195 (v1900 : IVec S16 32) : Prop :=
  (∀ a x, ((![v1900] : Fin 1 → IVec S16 32) a x).toNat < S3200.size a)
theorem k0_idx206_inb : ∀ (v1900 : IVec S16 32) (k0_hw195 : k0_chk195 v1900), ∀ a x, ((![v1900] : Fin 1 → IVec S16 32) a x).toNat < S3200.size a := fun v1900 k0_hw195 => k0_hw195

def k0_chk196 (v1909 : IVec S16 32) : Prop :=
  (∀ a x, ((![v1909] : Fin 1 → IVec S16 32) a x).toNat < S3200.size a)
theorem k0_idx207_inb : ∀ (v1909 : IVec S16 32) (k0_hw196 : k0_chk196 v1909), ∀ a x, ((![v1909] : Fin 1 → IVec S16 32) a x).toNat < S3200.size a := fun v1909 k0_hw196 => k0_hw196

def k0_chk197 (v1922 : IVec S16 32) : Prop :=
  (∀ a x, ((![v1922] : Fin 1 → IVec S16 32) a x).toNat < S3200.size a)
theorem k0_idx208_inb : ∀ (v1922 : IVec S16 32) (k0_hw197 : k0_chk197 v1922), ∀ a x, ((![v1922] : Fin 1 → IVec S16 32) a x).toNat < S3200.size a := fun v1922 k0_hw197 => k0_hw197

def k0_chk198 (v1925 : IVec S16 32) : Prop :=
  (∀ a x, ((![v1925] : Fin 1 → IVec S16 32) a x).toNat < S160.size a)
theorem k0_idx209_inb : ∀ (v1925 : IVec S16 32) (k0_hw198 : k0_chk198 v1925), ∀ a x, ((![v1925] : Fin 1 → IVec S16 32) a x).toNat < S160.size a := fun v1925 k0_hw198 => k0_hw198

def k0_chk200 (v1929 : IVec S16 32) : Prop :=
  (∀ a x, ((![v1929] : Fin 1 → IVec S16 32) a x).toNat < S160.size a)
theorem k0_idx211_inb : ∀ (v1929 : IVec S16 32) (k0_hw200 : k0_chk200 v1929), ∀ a x, ((![v1929] : Fin 1 → IVec S16 32) a x).toNat < S160.size a := fun v1929 k0_hw200 => k0_hw200

def k0_chk199 (v66 : IVec S16 32) (v1919 : IVec S16 32) : Prop :=
  (∀ a x, ((![v66, v1919] : Fin 2 → IVec S16 32) a x).toNat < S32x200.size a) ∧
  (∀ a x, ((![v66, v1919] : Fin 2 → IVec S16 32) a x).toNat < S32x200.size a)
theorem k0_idx210_inb : ∀ (v66 : IVec S16 32) (v1919 : IVec S16 32) (k0_hw199 : k0_chk199 v66 v1919), ∀ a x, ((![v66, v1919] : Fin 2 → IVec S16 32) a x).toNat < S32x200.size a := fun v66 v1919 k0_hw199 => k0_hw199.1
theorem k0_idx212_inb : ∀ (v66 : IVec S16 32) (v1919 : IVec S16 32) (k0_hw199 : k0_chk199 v66 v1919), ∀ a x, ((![v66, v1919] : Fin 2 → IVec S16 32) a x).toNat < S32x200.size a := fun v66 v1919 k0_hw199 => k0_hw199.2

def k0_chk201 (v1985 : IVec S16 32) : Prop :=
  (∀ a x, ((![v1985] : Fin 1 → IVec S16 32) a x).toNat < S3200.size a)
theorem k0_idx213_inb : ∀ (v1985 : IVec S16 32) (k0_hw201 : k0_chk201 v1985), ∀ a x, ((![v1985] : Fin 1 → IVec S16 32) a x).toNat < S3200.size a := fun v1985 k0_hw201 => k0_hw201

def k0_chk202 (v1994 : IVec S16 32) : Prop :=
  (∀ a x, ((![v1994] : Fin 1 → IVec S16 32) a x).toNat < S3200.size a)
theorem k0_idx214_inb : ∀ (v1994 : IVec S16 32) (k0_hw202 : k0_chk202 v1994), ∀ a x, ((![v1994] : Fin 1 → IVec S16 32) a x).toNat < S3200.size a := fun v1994 k0_hw202 => k0_hw202

def k0_chk203 (v2003 : IVec S16 32) : Prop :=
  (∀ a x, ((![v2003] : Fin 1 → IVec S16 32) a x).toNat < S3200.size a)
theorem k0_idx215_inb : ∀ (v2003 : IVec S16 32) (k0_hw203 : k0_chk203 v2003), ∀ a x, ((![v2003] : Fin 1 → IVec S16 32) a x).toNat < S3200.size a := fun v2003 k0_hw203 => k0_hw203

def k0_chk204 (v2012 : IVec S16 32) : Prop :=
  (∀ a x, ((![v2012] : Fin 1 → IVec S16 32) a x).toNat < S3200.size a)
theorem k0_idx216_inb : ∀ (v2012 : IVec S16 32) (k0_hw204 : k0_chk204 v2012), ∀ a x, ((![v2012] : Fin 1 → IVec S16 32) a x).toNat < S3200.size a := fun v2012 k0_hw204 => k0_hw204

def k0_chk205 (v2021 : IVec S16 32) : Prop :=
  (∀ a x, ((![v2021] : Fin 1 → IVec S16 32) a x).toNat < S3200.size a)
theorem k0_idx217_inb : ∀ (v2021 : IVec S16 32) (k0_hw205 : k0_chk205 v2021), ∀ a x, ((![v2021] : Fin 1 → IVec S16 32) a x).toNat < S3200.size a := fun v2021 k0_hw205 => k0_hw205

def k0_chk206 (v2030 : IVec S16 32) : Prop :=
  (∀ a x, ((![v2030] : Fin 1 → IVec S16 32) a x).toNat < S3200.size a)
theorem k0_idx218_inb : ∀ (v2030 : IVec S16 32) (k0_hw206 : k0_chk206 v2030), ∀ a x, ((![v2030] : Fin 1 → IVec S16 32) a x).toNat < S3200.size a := fun v2030 k0_hw206 => k0_hw206

def k0_chk207 (v2039 : IVec S16 32) : Prop :=
  (∀ a x, ((![v2039] : Fin 1 → IVec S16 32) a x).toNat < S3200.size a)
theorem k0_idx219_inb : ∀ (v2039 : IVec S16 32) (k0_hw207 : k0_chk207 v2039), ∀ a x, ((![v2039] : Fin 1 → IVec S16 32) a x).toNat < S3200.size a := fun v2039 k0_hw207 => k0_hw207

def k0_chk208 (v2048 : IVec S16 32) : Prop :=
  (∀ a x, ((![v2048] : Fin 1 → IVec S16 32) a x).toNat < S3200.size a)
theorem k0_idx220_inb : ∀ (v2048 : IVec S16 32) (k0_hw208 : k0_chk208 v2048), ∀ a x, ((![v2048] : Fin 1 → IVec S16 32) a x).toNat < S3200.size a := fun v2048 k0_hw208 => k0_hw208

def k0_chk209 (v2057 : IVec S16 32) : Prop :=
  (∀ a x, ((![v2057] : Fin 1 → IVec S16 32) a x).toNat < S3200.size a)
theorem k0_idx221_inb : ∀ (v2057 : IVec S16 32) (k0_hw209 : k0_chk209 v2057), ∀ a x, ((![v2057] : Fin 1 → IVec S16 32) a x).toNat < S3200.size a := fun v2057 k0_hw209 => k0_hw209

def k0_chk210 (v2066 : IVec S16 32) : Prop :=
  (∀ a x, ((![v2066] : Fin 1 → IVec S16 32) a x).toNat < S3200.size a)
theorem k0_idx222_inb : ∀ (v2066 : IVec S16 32) (k0_hw210 : k0_chk210 v2066), ∀ a x, ((![v2066] : Fin 1 → IVec S16 32) a x).toNat < S3200.size a := fun v2066 k0_hw210 => k0_hw210

def k0_chk211 (v2075 : IVec S16 32) : Prop :=
  (∀ a x, ((![v2075] : Fin 1 → IVec S16 32) a x).toNat < S3200.size a)
theorem k0_idx223_inb : ∀ (v2075 : IVec S16 32) (k0_hw211 : k0_chk211 v2075), ∀ a x, ((![v2075] : Fin 1 → IVec S16 32) a x).toNat < S3200.size a := fun v2075 k0_hw211 => k0_hw211

def k0_chk212 (v2084 : IVec S16 32) : Prop :=
  (∀ a x, ((![v2084] : Fin 1 → IVec S16 32) a x).toNat < S3200.size a)
theorem k0_idx224_inb : ∀ (v2084 : IVec S16 32) (k0_hw212 : k0_chk212 v2084), ∀ a x, ((![v2084] : Fin 1 → IVec S16 32) a x).toNat < S3200.size a := fun v2084 k0_hw212 => k0_hw212

def k0_chk213 (v2093 : IVec S16 32) : Prop :=
  (∀ a x, ((![v2093] : Fin 1 → IVec S16 32) a x).toNat < S3200.size a)
theorem k0_idx225_inb : ∀ (v2093 : IVec S16 32) (k0_hw213 : k0_chk213 v2093), ∀ a x, ((![v2093] : Fin 1 → IVec S16 32) a x).toNat < S3200.size a := fun v2093 k0_hw213 => k0_hw213

def k0_chk214 (v2102 : IVec S16 32) : Prop :=
  (∀ a x, ((![v2102] : Fin 1 → IVec S16 32) a x).toNat < S3200.size a)
theorem k0_idx226_inb : ∀ (v2102 : IVec S16 32) (k0_hw214 : k0_chk214 v2102), ∀ a x, ((![v2102] : Fin 1 → IVec S16 32) a x).toNat < S3200.size a := fun v2102 k0_hw214 => k0_hw214

def k0_chk215 (v2111 : IVec S16 32) : Prop :=
  (∀ a x, ((![v2111] : Fin 1 → IVec S16 32) a x).toNat < S3200.size a)
theorem k0_idx227_inb : ∀ (v2111 : IVec S16 32) (k0_hw215 : k0_chk215 v2111), ∀ a x, ((![v2111] : Fin 1 → IVec S16 32) a x).toNat < S3200.size a := fun v2111 k0_hw215 => k0_hw215

def k0_chk216 (v2120 : IVec S16 32) : Prop :=
  (∀ a x, ((![v2120] : Fin 1 → IVec S16 32) a x).toNat < S3200.size a)
theorem k0_idx228_inb : ∀ (v2120 : IVec S16 32) (k0_hw216 : k0_chk216 v2120), ∀ a x, ((![v2120] : Fin 1 → IVec S16 32) a x).toNat < S3200.size a := fun v2120 k0_hw216 => k0_hw216

def k0_chk217 (v2129 : IVec S16 32) : Prop :=
  (∀ a x, ((![v2129] : Fin 1 → IVec S16 32) a x).toNat < S3200.size a)
theorem k0_idx229_inb : ∀ (v2129 : IVec S16 32) (k0_hw217 : k0_chk217 v2129), ∀ a x, ((![v2129] : Fin 1 → IVec S16 32) a x).toNat < S3200.size a := fun v2129 k0_hw217 => k0_hw217

def k0_chk218 (v2138 : IVec S16 32) : Prop :=
  (∀ a x, ((![v2138] : Fin 1 → IVec S16 32) a x).toNat < S3200.size a)
theorem k0_idx230_inb : ∀ (v2138 : IVec S16 32) (k0_hw218 : k0_chk218 v2138), ∀ a x, ((![v2138] : Fin 1 → IVec S16 32) a x).toNat < S3200.size a := fun v2138 k0_hw218 => k0_hw218

def k0_chk219 (v2147 : IVec S16 32) : Prop :=
  (∀ a x, ((![v2147] : Fin 1 → IVec S16 32) a x).toNat < S3200.size a)
theorem k0_idx231_inb : ∀ (v2147 : IVec S16 32) (k0_hw219 : k0_chk219 v2147), ∀ a x, ((![v2147] : Fin 1 → IVec S16 32) a x).toNat < S3200.size a := fun v2147 k0_hw219 => k0_hw219

def k0_chk220 (v2156 : IVec S16 32) : Prop :=
  (∀ a x, ((![v2156] : Fin 1 → IVec S16 32) a x).toNat < S3200.size a)
theorem k0_idx232_inb : ∀ (v2156 : IVec S16 32) (k0_hw220 : k0_chk220 v2156), ∀ a x, ((![v2156] : Fin 1 → IVec S16 32) a x).toNat < S3200.size a := fun v2156 k0_hw220 => k0_hw220

def k0_chk221 (v2169 : IVec S16 32) : Prop :=
  (∀ a x, ((![v2169] : Fin 1 → IVec S16 32) a x).toNat < S3200.size a)
theorem k0_idx233_inb : ∀ (v2169 : IVec S16 32) (k0_hw221 : k0_chk221 v2169), ∀ a x, ((![v2169] : Fin 1 → IVec S16 32) a x).toNat < S3200.size a := fun v2169 k0_hw221 => k0_hw221

def k0_chk222 (v2172 : IVec S16 32) : Prop :=
  (∀ a x, ((![v2172] : Fin 1 → IVec S16 32) a x).toNat < S160.size a)
theorem k0_idx234_inb : ∀ (v2172 : IVec S16 32) (k0_hw222 : k0_chk222 v2172), ∀ a x, ((![v2172] : Fin 1 → IVec S16 32) a x).toNat < S160.size a := fun v2172 k0_hw222 => k0_hw222

def k0_chk224 (v2176 : IVec S16 32) : Prop :=
  (∀ a x, ((![v2176] : Fin 1 → IVec S16 32) a x).toNat < S160.size a)
theorem k0_idx236_inb : ∀ (v2176 : IVec S16 32) (k0_hw224 : k0_chk224 v2176), ∀ a x, ((![v2176] : Fin 1 → IVec S16 32) a x).toNat < S160.size a := fun v2176 k0_hw224 => k0_hw224

def k0_chk223 (v66 : IVec S16 32) (v2166 : IVec S16 32) : Prop :=
  (∀ a x, ((![v66, v2166] : Fin 2 → IVec S16 32) a x).toNat < S32x200.size a) ∧
  (∀ a x, ((![v66, v2166] : Fin 2 → IVec S16 32) a x).toNat < S32x200.size a)
theorem k0_idx235_inb : ∀ (v66 : IVec S16 32) (v2166 : IVec S16 32) (k0_hw223 : k0_chk223 v66 v2166), ∀ a x, ((![v66, v2166] : Fin 2 → IVec S16 32) a x).toNat < S32x200.size a := fun v66 v2166 k0_hw223 => k0_hw223.1
theorem k0_idx237_inb : ∀ (v66 : IVec S16 32) (v2166 : IVec S16 32) (k0_hw223 : k0_chk223 v66 v2166), ∀ a x, ((![v66, v2166] : Fin 2 → IVec S16 32) a x).toNat < S32x200.size a := fun v66 v2166 k0_hw223 => k0_hw223.2

def k0_chk225 (v2232 : IVec S16 32) : Prop :=
  (∀ a x, ((![v2232] : Fin 1 → IVec S16 32) a x).toNat < S3200.size a)
theorem k0_idx238_inb : ∀ (v2232 : IVec S16 32) (k0_hw225 : k0_chk225 v2232), ∀ a x, ((![v2232] : Fin 1 → IVec S16 32) a x).toNat < S3200.size a := fun v2232 k0_hw225 => k0_hw225

def k0_chk226 (v2241 : IVec S16 32) : Prop :=
  (∀ a x, ((![v2241] : Fin 1 → IVec S16 32) a x).toNat < S3200.size a)
theorem k0_idx239_inb : ∀ (v2241 : IVec S16 32) (k0_hw226 : k0_chk226 v2241), ∀ a x, ((![v2241] : Fin 1 → IVec S16 32) a x).toNat < S3200.size a := fun v2241 k0_hw226 => k0_hw226

def k0_chk227 (v2250 : IVec S16 32) : Prop :=
  (∀ a x, ((![v2250] : Fin 1 → IVec S16 32) a x).toNat < S3200.size a)
theorem k0_idx240_inb : ∀ (v2250 : IVec S16 32) (k0_hw227 : k0_chk227 v2250), ∀ a x, ((![v2250] : Fin 1 → IVec S16 32) a x).toNat < S3200.size a := fun v2250 k0_hw227 => k0_hw227

def k0_chk228 (v2259 : IVec S16 32) : Prop :=
  (∀ a x, ((![v2259] : Fin 1 → IVec S16 32) a x).toNat < S3200.size a)
theorem k0_idx241_inb : ∀ (v2259 : IVec S16 32) (k0_hw228 : k0_chk228 v2259), ∀ a x, ((![v2259] : Fin 1 → IVec S16 32) a x).toNat < S3200.size a := fun v2259 k0_hw228 => k0_hw228

def k0_chk229 (v2268 : IVec S16 32) : Prop :=
  (∀ a x, ((![v2268] : Fin 1 → IVec S16 32) a x).toNat < S3200.size a)
theorem k0_idx242_inb : ∀ (v2268 : IVec S16 32) (k0_hw229 : k0_chk229 v2268), ∀ a x, ((![v2268] : Fin 1 → IVec S16 32) a x).toNat < S3200.size a := fun v2268 k0_hw229 => k0_hw229

def k0_chk230 (v2277 : IVec S16 32) : Prop :=
  (∀ a x, ((![v2277] : Fin 1 → IVec S16 32) a x).toNat < S3200.size a)
theorem k0_idx243_inb : ∀ (v2277 : IVec S16 32) (k0_hw230 : k0_chk230 v2277), ∀ a x, ((![v2277] : Fin 1 → IVec S16 32) a x).toNat < S3200.size a := fun v2277 k0_hw230 => k0_hw230

def k0_chk231 (v2286 : IVec S16 32) : Prop :=
  (∀ a x, ((![v2286] : Fin 1 → IVec S16 32) a x).toNat < S3200.size a)
theorem k0_idx244_inb : ∀ (v2286 : IVec S16 32) (k0_hw231 : k0_chk231 v2286), ∀ a x, ((![v2286] : Fin 1 → IVec S16 32) a x).toNat < S3200.size a := fun v2286 k0_hw231 => k0_hw231

def k0_chk232 (v2295 : IVec S16 32) : Prop :=
  (∀ a x, ((![v2295] : Fin 1 → IVec S16 32) a x).toNat < S3200.size a)
theorem k0_idx245_inb : ∀ (v2295 : IVec S16 32) (k0_hw232 : k0_chk232 v2295), ∀ a x, ((![v2295] : Fin 1 → IVec S16 32) a x).toNat < S3200.size a := fun v2295 k0_hw232 => k0_hw232

def k0_chk233 (v2304 : IVec S16 32) : Prop :=
  (∀ a x, ((![v2304] : Fin 1 → IVec S16 32) a x).toNat < S3200.size a)
theorem k0_idx246_inb : ∀ (v2304 : IVec S16 32) (k0_hw233 : k0_chk233 v2304), ∀ a x, ((![v2304] : Fin 1 → IVec S16 32) a x).toNat < S3200.size a := fun v2304 k0_hw233 => k0_hw233

def k0_chk234 (v2313 : IVec S16 32) : Prop :=
  (∀ a x, ((![v2313] : Fin 1 → IVec S16 32) a x).toNat < S3200.size a)
theorem k0_idx247_inb : ∀ (v2313 : IVec S16 32) (k0_hw234 : k0_chk234 v2313), ∀ a x, ((![v2313] : Fin 1 → IVec S16 32) a x).toNat < S3200.size a := fun v2313 k0_hw234 => k0_hw234

def k0_chk235 (v2322 : IVec S16 32) : Prop :=
  (∀ a x, ((![v2322] : Fin 1 → IVec S16 32) a x).toNat < S3200.size a)
theorem k0_idx248_inb : ∀ (v2322 : IVec S16 32) (k0_hw235 : k0_chk235 v2322), ∀ a x, ((![v2322] : Fin 1 → IVec S16 32) a x).toNat < S3200.size a := fun v2322 k0_hw235 => k0_hw235

def k0_chk236 (v2331 : IVec S16 32) : Prop :=
  (∀ a x, ((![v2331] : Fin 1 → IVec S16 32) a x).toNat < S3200.size a)
theorem k0_idx249_inb : ∀ (v2331 : IVec S16 32) (k0_hw236 : k0_chk236 v2331), ∀ a x, ((![v2331] : Fin 1 → IVec S16 32) a x).toNat < S3200.size a := fun v2331 k0_hw236 => k0_hw236

def k0_chk237 (v2340 : IVec S16 32) : Prop :=
  (∀ a x, ((![v2340] : Fin 1 → IVec S16 32) a x).toNat < S3200.size a)
theorem k0_idx250_inb : ∀ (v2340 : IVec S16 32) (k0_hw237 : k0_chk237 v2340), ∀ a x, ((![v2340] : Fin 1 → IVec S16 32) a x).toNat < S3200.size a := fun v2340 k0_hw237 => k0_hw237

def k0_chk238 (v2349 : IVec S16 32) : Prop :=
  (∀ a x, ((![v2349] : Fin 1 → IVec S16 32) a x).toNat < S3200.size a)
theorem k0_idx251_inb : ∀ (v2349 : IVec S16 32) (k0_hw238 : k0_chk238 v2349), ∀ a x, ((![v2349] : Fin 1 → IVec S16 32) a x).toNat < S3200.size a := fun v2349 k0_hw238 => k0_hw238

def k0_chk239 (v2358 : IVec S16 32) : Prop :=
  (∀ a x, ((![v2358] : Fin 1 → IVec S16 32) a x).toNat < S3200.size a)
theorem k0_idx252_inb : ∀ (v2358 : IVec S16 32) (k0_hw239 : k0_chk239 v2358), ∀ a x, ((![v2358] : Fin 1 → IVec S16 32) a x).toNat < S3200.size a := fun v2358 k0_hw239 => k0_hw239

def k0_chk240 (v2367 : IVec S16 32) : Prop :=
  (∀ a x, ((![v2367] : Fin 1 → IVec S16 32) a x).toNat < S3200.size a)
theorem k0_idx253_inb : ∀ (v2367 : IVec S16 32) (k0_hw240 : k0_chk240 v2367), ∀ a x, ((![v2367] : Fin 1 → IVec S16 32) a x).toNat < S3200.size a := fun v2367 k0_hw240 => k0_hw240

def k0_chk241 (v2376 : IVec S16 32) : Prop :=
  (∀ a x, ((![v2376] : Fin 1 → IVec S16 32) a x).toNat < S3200.size a)
theorem k0_idx254_inb : ∀ (v2376 : IVec S16 32) (k0_hw241 : k0_chk241 v2376), ∀ a x, ((![v2376] : Fin 1 → IVec S16 32) a x).toNat < S3200.size a := fun v2376 k0_hw241 => k0_hw241

def k0_chk242 (v2385 : IVec S16 32) : Prop :=
  (∀ a x, ((![v2385] : Fin 1 → IVec S16 32) a x).toNat < S3200.size a)
theorem k0_idx255_inb : ∀ (v2385 : IVec S16 32) (k0_hw242 : k0_chk242 v2385), ∀ a x, ((![v2385] : Fin 1 → IVec S16 32) a x).toNat < S3200.size a := fun v2385 k0_hw242 => k0_hw242

def k0_chk243 (v2394 : IVec S16 32) : Prop :=
  (∀ a x, ((![v2394] : Fin 1 → IVec S16 32) a x).toNat < S3200.size a)
theorem k0_idx256_inb : ∀ (v2394 : IVec S16 32) (k0_hw243 : k0_chk243 v2394), ∀ a x, ((![v2394] : Fin 1 → IVec S16 32) a x).toNat < S3200.size a := fun v2394 k0_hw243 => k0_hw243

def k0_chk244 (v2403 : IVec S16 32) : Prop :=
  (∀ a x, ((![v2403] : Fin 1 → IVec S16 32) a x).toNat < S3200.size a)
theorem k0_idx257_inb : ∀ (v2403 : IVec S16 32) (k0_hw244 : k0_chk244 v2403), ∀ a x, ((![v2403] : Fin 1 → IVec S16 32) a x).toNat < S3200.size a := fun v2403 k0_hw244 => k0_hw244

def k0_chk245 (v2416 : IVec S16 32) : Prop :=
  (∀ a x, ((![v2416] : Fin 1 → IVec S16 32) a x).toNat < S3200.size a)
theorem k0_idx258_inb : ∀ (v2416 : IVec S16 32) (k0_hw245 : k0_chk245 v2416), ∀ a x, ((![v2416] : Fin 1 → IVec S16 32) a x).toNat < S3200.size a := fun v2416 k0_hw245 => k0_hw245

def k0_chk246 (v2419 : IVec S16 32) : Prop :=
  (∀ a x, ((![v2419] : Fin 1 → IVec S16 32) a x).toNat < S160.size a)
theorem k0_idx259_inb : ∀ (v2419 : IVec S16 32) (k0_hw246 : k0_chk246 v2419), ∀ a x, ((![v2419] : Fin 1 → IVec S16 32) a x).toNat < S160.size a := fun v2419 k0_hw246 => k0_hw246

def k0_chk248 (v2423 : IVec S16 32) : Prop :=
  (∀ a x, ((![v2423] : Fin 1 → IVec S16 32) a x).toNat < S160.size a)
theorem k0_idx261_inb : ∀ (v2423 : IVec S16 32) (k0_hw248 : k0_chk248 v2423), ∀ a x, ((![v2423] : Fin 1 → IVec S16 32) a x).toNat < S160.size a := fun v2423 k0_hw248 => k0_hw248

def k0_chk247 (v66 : IVec S16 32) (v2413 : IVec S16 32) : Prop :=
  (∀ a x, ((![v66, v2413] : Fin 2 → IVec S16 32) a x).toNat < S32x200.size a) ∧
  (∀ a x, ((![v66, v2413] : Fin 2 → IVec S16 32) a x).toNat < S32x200.size a)
theorem k0_idx260_inb : ∀ (v66 : IVec S16 32) (v2413 : IVec S16 32) (k0_hw247 : k0_chk247 v66 v2413), ∀ a x, ((![v66, v2413] : Fin 2 → IVec S16 32) a x).toNat < S32x200.size a := fun v66 v2413 k0_hw247 => k0_hw247.1
theorem k0_idx262_inb : ∀ (v66 : IVec S16 32) (v2413 : IVec S16 32) (k0_hw247 : k0_chk247 v66 v2413), ∀ a x, ((![v66, v2413] : Fin 2 → IVec S16 32) a x).toNat < S32x200.size a := fun v66 v2413 k0_hw247 => k0_hw247.2

def k0_chk249 (v2479 : IVec S16 32) : Prop :=
  (∀ a x, ((![v2479] : Fin 1 → IVec S16 32) a x).toNat < S3200.size a)
theorem k0_idx263_inb : ∀ (v2479 : IVec S16 32) (k0_hw249 : k0_chk249 v2479), ∀ a x, ((![v2479] : Fin 1 → IVec S16 32) a x).toNat < S3200.size a := fun v2479 k0_hw249 => k0_hw249

def k0_chk250 (v2488 : IVec S16 32) : Prop :=
  (∀ a x, ((![v2488] : Fin 1 → IVec S16 32) a x).toNat < S3200.size a)
theorem k0_idx264_inb : ∀ (v2488 : IVec S16 32) (k0_hw250 : k0_chk250 v2488), ∀ a x, ((![v2488] : Fin 1 → IVec S16 32) a x).toNat < S3200.size a := fun v2488 k0_hw250 => k0_hw250

def k0_chk251 (v2497 : IVec S16 32) : Prop :=
  (∀ a x, ((![v2497] : Fin 1 → IVec S16 32) a x).toNat < S3200.size a)
theorem k0_idx265_inb : ∀ (v2497 : IVec S16 32) (k0_hw251 : k0_chk251 v2497), ∀ a x, ((![v2497] : Fin 1 → IVec S16 32) a x).toNat < S3200.size a := fun v2497 k0_hw251 => k0_hw251

def k0_chk252 (v2506 : IVec S16 32) : Prop :=
  (∀ a x, ((![v2506] : Fin 1 → IVec S16 32) a x).toNat < S3200.size a)
theorem k0_idx266_inb : ∀ (v2506 : IVec S16 32) (k0_hw252 : k0_chk252 v2506), ∀ a x, ((![v2506] : Fin 1 → IVec S16 32) a x).toNat < S3200.size a := fun v2506 k0_hw252 => k0_hw252

def k0_chk253 (v2515 : IVec S16 32) : Prop :=
  (∀ a x, ((![v2515] : Fin 1 → IVec S16 32) a x).toNat < S3200.size a)
theorem k0_idx267_inb : ∀ (v2515 : IVec S16 32) (k0_hw253 : k0_chk253 v2515), ∀ a x, ((![v2515] : Fin 1 → IVec S16 32) a x).toNat < S3200.size a := fun v2515 k0_hw253 => k0_hw253

def k0_chk254 (v2524 : IVec S16 32) : Prop :=
  (∀ a x, ((![v2524] : Fin 1 → IVec S16 32) a x).toNat < S3200.size a)
theorem k0_idx268_inb : ∀ (v2524 : IVec S16 32) (k0_hw254 : k0_chk254 v2524), ∀ a x, ((![v2524] : Fin 1 → IVec S16 32) a x).toNat < S3200.size a := fun v2524 k0_hw254 => k0_hw254

def k0_chk255 (v2533 : IVec S16 32) : Prop :=
  (∀ a x, ((![v2533] : Fin 1 → IVec S16 32) a x).toNat < S3200.size a)
theorem k0_idx269_inb : ∀ (v2533 : IVec S16 32) (k0_hw255 : k0_chk255 v2533), ∀ a x, ((![v2533] : Fin 1 → IVec S16 32) a x).toNat < S3200.size a := fun v2533 k0_hw255 => k0_hw255

def k0_chk256 (v2542 : IVec S16 32) : Prop :=
  (∀ a x, ((![v2542] : Fin 1 → IVec S16 32) a x).toNat < S3200.size a)
theorem k0_idx270_inb : ∀ (v2542 : IVec S16 32) (k0_hw256 : k0_chk256 v2542), ∀ a x, ((![v2542] : Fin 1 → IVec S16 32) a x).toNat < S3200.size a := fun v2542 k0_hw256 => k0_hw256

def k0_chk257 (v2551 : IVec S16 32) : Prop :=
  (∀ a x, ((![v2551] : Fin 1 → IVec S16 32) a x).toNat < S3200.size a)
theorem k0_idx271_inb : ∀ (v2551 : IVec S16 32) (k0_hw257 : k0_chk257 v2551), ∀ a x, ((![v2551] : Fin 1 → IVec S16 32) a x).toNat < S3200.size a := fun v2551 k0_hw257 => k0_hw257

def k0_chk258 (v2560 : IVec S16 32) : Prop :=
  (∀ a x, ((![v2560] : Fin 1 → IVec S16 32) a x).toNat < S3200.size a)
theorem k0_idx272_inb : ∀ (v2560 : IVec S16 32) (k0_hw258 : k0_chk258 v2560), ∀ a x, ((![v2560] : Fin 1 → IVec S16 32) a x).toNat < S3200.size a := fun v2560 k0_hw258 => k0_hw258

def k0_chk259 (v2569 : IVec S16 32) : Prop :=
  (∀ a x, ((![v2569] : Fin 1 → IVec S16 32) a x).toNat < S3200.size a)
theorem k0_idx273_inb : ∀ (v2569 : IVec S16 32) (k0_hw259 : k0_chk259 v2569), ∀ a x, ((![v2569] : Fin 1 → IVec S16 32) a x).toNat < S3200.size a := fun v2569 k0_hw259 => k0_hw259

def k0_chk260 (v2578 : IVec S16 32) : Prop :=
  (∀ a x, ((![v2578] : Fin 1 → IVec S16 32) a x).toNat < S3200.size a)
theorem k0_idx274_inb : ∀ (v2578 : IVec S16 32) (k0_hw260 : k0_chk260 v2578), ∀ a x, ((![v2578] : Fin 1 → IVec S16 32) a x).toNat < S3200.size a := fun v2578 k0_hw260 => k0_hw260

def k0_chk261 (v2587 : IVec S16 32) : Prop :=
  (∀ a x, ((![v2587] : Fin 1 → IVec S16 32) a x).toNat < S3200.size a)
theorem k0_idx275_inb : ∀ (v2587 : IVec S16 32) (k0_hw261 : k0_chk261 v2587), ∀ a x, ((![v2587] : Fin 1 → IVec S16 32) a x).toNat < S3200.size a := fun v2587 k0_hw261 => k0_hw261

def k0_chk262 (v2596 : IVec S16 32) : Prop :=
  (∀ a x, ((![v2596] : Fin 1 → IVec S16 32) a x).toNat < S3200.size a)
theorem k0_idx276_inb : ∀ (v2596 : IVec S16 32) (k0_hw262 : k0_chk262 v2596), ∀ a x, ((![v2596] : Fin 1 → IVec S16 32) a x).toNat < S3200.size a := fun v2596 k0_hw262 => k0_hw262

def k0_chk263 (v2605 : IVec S16 32) : Prop :=
  (∀ a x, ((![v2605] : Fin 1 → IVec S16 32) a x).toNat < S3200.size a)
theorem k0_idx277_inb : ∀ (v2605 : IVec S16 32) (k0_hw263 : k0_chk263 v2605), ∀ a x, ((![v2605] : Fin 1 → IVec S16 32) a x).toNat < S3200.size a := fun v2605 k0_hw263 => k0_hw263

def k0_chk264 (v2614 : IVec S16 32) : Prop :=
  (∀ a x, ((![v2614] : Fin 1 → IVec S16 32) a x).toNat < S3200.size a)
theorem k0_idx278_inb : ∀ (v2614 : IVec S16 32) (k0_hw264 : k0_chk264 v2614), ∀ a x, ((![v2614] : Fin 1 → IVec S16 32) a x).toNat < S3200.size a := fun v2614 k0_hw264 => k0_hw264

def k0_chk265 (v2623 : IVec S16 32) : Prop :=
  (∀ a x, ((![v2623] : Fin 1 → IVec S16 32) a x).toNat < S3200.size a)
theorem k0_idx279_inb : ∀ (v2623 : IVec S16 32) (k0_hw265 : k0_chk265 v2623), ∀ a x, ((![v2623] : Fin 1 → IVec S16 32) a x).toNat < S3200.size a := fun v2623 k0_hw265 => k0_hw265

def k0_chk266 (v2632 : IVec S16 32) : Prop :=
  (∀ a x, ((![v2632] : Fin 1 → IVec S16 32) a x).toNat < S3200.size a)
theorem k0_idx280_inb : ∀ (v2632 : IVec S16 32) (k0_hw266 : k0_chk266 v2632), ∀ a x, ((![v2632] : Fin 1 → IVec S16 32) a x).toNat < S3200.size a := fun v2632 k0_hw266 => k0_hw266

def k0_chk267 (v2641 : IVec S16 32) : Prop :=
  (∀ a x, ((![v2641] : Fin 1 → IVec S16 32) a x).toNat < S3200.size a)
theorem k0_idx281_inb : ∀ (v2641 : IVec S16 32) (k0_hw267 : k0_chk267 v2641), ∀ a x, ((![v2641] : Fin 1 → IVec S16 32) a x).toNat < S3200.size a := fun v2641 k0_hw267 => k0_hw267

def k0_chk268 (v2650 : IVec S16 32) : Prop :=
  (∀ a x, ((![v2650] : Fin 1 → IVec S16 32) a x).toNat < S3200.size a)
theorem k0_idx282_inb : ∀ (v2650 : IVec S16 32) (k0_hw268 : k0_chk268 v2650), ∀ a x, ((![v2650] : Fin 1 → IVec S16 32) a x).toNat < S3200.size a := fun v2650 k0_hw268 => k0_hw268

def k0_chk269 (v2663 : IVec S16 32) : Prop :=
  (∀ a x, ((![v2663] : Fin 1 → IVec S16 32) a x).toNat < S3200.size a)
theorem k0_idx283_inb : ∀ (v2663 : IVec S16 32) (k0_hw269 : k0_chk269 v2663), ∀ a x, ((![v2663] : Fin 1 → IVec S16 32) a x).toNat < S3200.size a := fun v2663 k0_hw269 => k0_hw269

def k0_chk270 (v2666 : IVec S16 32) : Prop :=
  (∀ a x, ((![v2666] : Fin 1 → IVec S16 32) a x).toNat < S160.size a)
theorem k0_idx284_inb : ∀ (v2666 : IVec S16 32) (k0_hw270 : k0_chk270 v2666), ∀ a x, ((![v2666] : Fin 1 → IVec S16 32) a x).toNat < S160.size a := fun v2666 k0_hw270 => k0_hw270

def k0_chk272 (v2670 : IVec S16 32) : Prop :=
  (∀ a x, ((![v2670] : Fin 1 → IVec S16 32) a x).toNat < S160.size a)
theorem k0_idx286_inb : ∀ (v2670 : IVec S16 32) (k0_hw272 : k0_chk272 v2670), ∀ a x, ((![v2670] : Fin 1 → IVec S16 32) a x).toNat < S160.size a := fun v2670 k0_hw272 => k0_hw272

def k0_chk271 (v66 : IVec S16 32) (v2660 : IVec S16 32) : Prop :=
  (∀ a x, ((![v66, v2660] : Fin 2 → IVec S16 32) a x).toNat < S32x200.size a) ∧
  (∀ a x, ((![v66, v2660] : Fin 2 → IVec S16 32) a x).toNat < S32x200.size a)
theorem k0_idx285_inb : ∀ (v66 : IVec S16 32) (v2660 : IVec S16 32) (k0_hw271 : k0_chk271 v66 v2660), ∀ a x, ((![v66, v2660] : Fin 2 → IVec S16 32) a x).toNat < S32x200.size a := fun v66 v2660 k0_hw271 => k0_hw271.1
theorem k0_idx287_inb : ∀ (v66 : IVec S16 32) (v2660 : IVec S16 32) (k0_hw271 : k0_chk271 v66 v2660), ∀ a x, ((![v66, v2660] : Fin 2 → IVec S16 32) a x).toNat < S32x200.size a := fun v66 v2660 k0_hw271 => k0_hw271.2

def k0_chk273 (v2726 : IVec S16 32) : Prop :=
  (∀ a x, ((![v2726] : Fin 1 → IVec S16 32) a x).toNat < S3200.size a)
theorem k0_idx288_inb : ∀ (v2726 : IVec S16 32) (k0_hw273 : k0_chk273 v2726), ∀ a x, ((![v2726] : Fin 1 → IVec S16 32) a x).toNat < S3200.size a := fun v2726 k0_hw273 => k0_hw273

def k0_chk274 (v2735 : IVec S16 32) : Prop :=
  (∀ a x, ((![v2735] : Fin 1 → IVec S16 32) a x).toNat < S3200.size a)
theorem k0_idx289_inb : ∀ (v2735 : IVec S16 32) (k0_hw274 : k0_chk274 v2735), ∀ a x, ((![v2735] : Fin 1 → IVec S16 32) a x).toNat < S3200.size a := fun v2735 k0_hw274 => k0_hw274

def k0_chk275 (v2744 : IVec S16 32) : Prop :=
  (∀ a x, ((![v2744] : Fin 1 → IVec S16 32) a x).toNat < S3200.size a)
theorem k0_idx290_inb : ∀ (v2744 : IVec S16 32) (k0_hw275 : k0_chk275 v2744), ∀ a x, ((![v2744] : Fin 1 → IVec S16 32) a x).toNat < S3200.size a := fun v2744 k0_hw275 => k0_hw275

def k0_chk276 (v2753 : IVec S16 32) : Prop :=
  (∀ a x, ((![v2753] : Fin 1 → IVec S16 32) a x).toNat < S3200.size a)
theorem k0_idx291_inb : ∀ (v2753 : IVec S16 32) (k0_hw276 : k0_chk276 v2753), ∀ a x, ((![v2753] : Fin 1 → IVec S16 32) a x).toNat < S3200.size a := fun v2753 k0_hw276 => k0_hw276

def k0_chk277 (v2762 : IVec S16 32) : Prop :=
  (∀ a x, ((![v2762] : Fin 1 → IVec S16 32) a x).toNat < S3200.size a)
theorem k0_idx292_inb : ∀ (v2762 : IVec S16 32) (k0_hw277 : k0_chk277 v2762), ∀ a x, ((![v2762] : Fin 1 → IVec S16 32) a x).toNat < S3200.size a := fun v2762 k0_hw277 => k0_hw277

def k0_chk278 (v2771 : IVec S16 32) : Prop :=
  (∀ a x, ((![v2771] : Fin 1 → IVec S16 32) a x).toNat < S3200.size a)
theorem k0_idx293_inb : ∀ (v2771 : IVec S16 32) (k0_hw278 : k0_chk278 v2771), ∀ a x, ((![v2771] : Fin 1 → IVec S16 32) a x).toNat < S3200.size a := fun v2771 k0_hw278 => k0_hw278

def k0_chk279 (v2780 : IVec S16 32) : Prop :=
  (∀ a x, ((![v2780] : Fin 1 → IVec S16 32) a x).toNat < S3200.size a)
theorem k0_idx294_inb : ∀ (v2780 : IVec S16 32) (k0_hw279 : k0_chk279 v2780), ∀ a x, ((![v2780] : Fin 1 → IVec S16 32) a x).toNat < S3200.size a := fun v2780 k0_hw279 => k0_hw279

def k0_chk280 (v2789 : IVec S16 32) : Prop :=
  (∀ a x, ((![v2789] : Fin 1 → IVec S16 32) a x).toNat < S3200.size a)
theorem k0_idx295_inb : ∀ (v2789 : IVec S16 32) (k0_hw280 : k0_chk280 v2789), ∀ a x, ((![v2789] : Fin 1 → IVec S16 32) a x).toNat < S3200.size a := fun v2789 k0_hw280 => k0_hw280

def k0_chk281 (v2798 : IVec S16 32) : Prop :=
  (∀ a x, ((![v2798] : Fin 1 → IVec S16 32) a x).toNat < S3200.size a)
theorem k0_idx296_inb : ∀ (v2798 : IVec S16 32) (k0_hw281 : k0_chk281 v2798), ∀ a x, ((![v2798] : Fin 1 → IVec S16 32) a x).toNat < S3200.size a := fun v2798 k0_hw281 => k0_hw281

def k0_chk282 (v2807 : IVec S16 32) : Prop :=
  (∀ a x, ((![v2807] : Fin 1 → IVec S16 32) a x).toNat < S3200.size a)
theorem k0_idx297_inb : ∀ (v2807 : IVec S16 32) (k0_hw282 : k0_chk282 v2807), ∀ a x, ((![v2807] : Fin 1 → IVec S16 32) a x).toNat < S3200.size a := fun v2807 k0_hw282 => k0_hw282

def k0_chk283 (v2816 : IVec S16 32) : Prop :=
  (∀ a x, ((![v2816] : Fin 1 → IVec S16 32) a x).toNat < S3200.size a)
theorem k0_idx298_inb : ∀ (v2816 : IVec S16 32) (k0_hw283 : k0_chk283 v2816), ∀ a x, ((![v2816] : Fin 1 → IVec S16 32) a x).toNat < S3200.size a := fun v2816 k0_hw283 => k0_hw283

def k0_chk284 (v2825 : IVec S16 32) : Prop :=
  (∀ a x, ((![v2825] : Fin 1 → IVec S16 32) a x).toNat < S3200.size a)
theorem k0_idx299_inb : ∀ (v2825 : IVec S16 32) (k0_hw284 : k0_chk284 v2825), ∀ a x, ((![v2825] : Fin 1 → IVec S16 32) a x).toNat < S3200.size a := fun v2825 k0_hw284 => k0_hw284

def k0_chk285 (v2834 : IVec S16 32) : Prop :=
  (∀ a x, ((![v2834] : Fin 1 → IVec S16 32) a x).toNat < S3200.size a)
theorem k0_idx300_inb : ∀ (v2834 : IVec S16 32) (k0_hw285 : k0_chk285 v2834), ∀ a x, ((![v2834] : Fin 1 → IVec S16 32) a x).toNat < S3200.size a := fun v2834 k0_hw285 => k0_hw285

def k0_chk286 (v2843 : IVec S16 32) : Prop :=
  (∀ a x, ((![v2843] : Fin 1 → IVec S16 32) a x).toNat < S3200.size a)
theorem k0_idx301_inb : ∀ (v2843 : IVec S16 32) (k0_hw286 : k0_chk286 v2843), ∀ a x, ((![v2843] : Fin 1 → IVec S16 32) a x).toNat < S3200.size a := fun v2843 k0_hw286 => k0_hw286

def k0_chk287 (v2852 : IVec S16 32) : Prop :=
  (∀ a x, ((![v2852] : Fin 1 → IVec S16 32) a x).toNat < S3200.size a)
theorem k0_idx302_inb : ∀ (v2852 : IVec S16 32) (k0_hw287 : k0_chk287 v2852), ∀ a x, ((![v2852] : Fin 1 → IVec S16 32) a x).toNat < S3200.size a := fun v2852 k0_hw287 => k0_hw287

def k0_chk288 (v2861 : IVec S16 32) : Prop :=
  (∀ a x, ((![v2861] : Fin 1 → IVec S16 32) a x).toNat < S3200.size a)
theorem k0_idx303_inb : ∀ (v2861 : IVec S16 32) (k0_hw288 : k0_chk288 v2861), ∀ a x, ((![v2861] : Fin 1 → IVec S16 32) a x).toNat < S3200.size a := fun v2861 k0_hw288 => k0_hw288

def k0_chk289 (v2870 : IVec S16 32) : Prop :=
  (∀ a x, ((![v2870] : Fin 1 → IVec S16 32) a x).toNat < S3200.size a)
theorem k0_idx304_inb : ∀ (v2870 : IVec S16 32) (k0_hw289 : k0_chk289 v2870), ∀ a x, ((![v2870] : Fin 1 → IVec S16 32) a x).toNat < S3200.size a := fun v2870 k0_hw289 => k0_hw289

def k0_chk290 (v2879 : IVec S16 32) : Prop :=
  (∀ a x, ((![v2879] : Fin 1 → IVec S16 32) a x).toNat < S3200.size a)
theorem k0_idx305_inb : ∀ (v2879 : IVec S16 32) (k0_hw290 : k0_chk290 v2879), ∀ a x, ((![v2879] : Fin 1 → IVec S16 32) a x).toNat < S3200.size a := fun v2879 k0_hw290 => k0_hw290

def k0_chk291 (v2888 : IVec S16 32) : Prop :=
  (∀ a x, ((![v2888] : Fin 1 → IVec S16 32) a x).toNat < S3200.size a)
theorem k0_idx306_inb : ∀ (v2888 : IVec S16 32) (k0_hw291 : k0_chk291 v2888), ∀ a x, ((![v2888] : Fin 1 → IVec S16 32) a x).toNat < S3200.size a := fun v2888 k0_hw291 => k0_hw291

def k0_chk292 (v2897 : IVec S16 32) : Prop :=
  (∀ a x, ((![v2897] : Fin 1 → IVec S16 32) a x).toNat < S3200.size a)
theorem k0_idx307_inb : ∀ (v2897 : IVec S16 32) (k0_hw292 : k0_chk292 v2897), ∀ a x, ((![v2897] : Fin 1 → IVec S16 32) a x).toNat < S3200.size a := fun v2897 k0_hw292 => k0_hw292

def k0_chk294 (v2911 : IVec S16 32) : Prop :=
  (∀ a x, ((![v2911] : Fin 1 → IVec S16 32) a x).toNat < S160.size a)
theorem k0_idx309_inb : ∀ (v2911 : IVec S16 32) (k0_hw294 : k0_chk294 v2911), ∀ a x, ((![v2911] : Fin 1 → IVec S16 32) a x).toNat < S160.size a := fun v2911 k0_hw294 => k0_hw294

def k0_chk293 (v66 : IVec S16 32) (v2907 : IVec S16 32) : Prop :=
  (∀ a x, ((![v66, v2907] : Fin 2 → IVec S16 32) a x).toNat < S32x200.size a) ∧
  (∀ a x, ((![v66, v2907] : Fin 2 → IVec S16 32) a x).toNat < S32x200.size a)
theorem k0_idx308_inb : ∀ (v66 : IVec S16 32) (v2907 : IVec S16 32) (k0_hw293 : k0_chk293 v66 v2907), ∀ a x, ((![v66, v2907] : Fin 2 → IVec S16 32) a x).toNat < S32x200.size a := fun v66 v2907 k0_hw293 => k0_hw293.1
theorem k0_idx310_inb : ∀ (v66 : IVec S16 32) (v2907 : IVec S16 32) (k0_hw293 : k0_chk293 v66 v2907), ∀ a x, ((![v66, v2907] : Fin 2 → IVec S16 32) a x).toNat < S32x200.size a := fun v66 v2907 k0_hw293 => k0_hw293.2

def k0_chk295 (v66 : IVec S16 32) : Prop :=
  (∀ a x, ((![v66] : Fin 1 → IVec S16 32) a x).toNat < S32.size a) ∧
  (∀ a x, ((![v66] : Fin 1 → IVec S16 32) a x).toNat < S32.size a)
theorem k0_idx311_inb : ∀ (v66 : IVec S16 32) (k0_hw295 : k0_chk295 v66), ∀ a x, ((![v66] : Fin 1 → IVec S16 32) a x).toNat < S32.size a := fun v66 k0_hw295 => k0_hw295.1
theorem k0_idx312_inb : ∀ (v66 : IVec S16 32) (k0_hw295 : k0_chk295 v66), ∀ a x, ((![v66] : Fin 1 → IVec S16 32) a x).toNat < S32.size a := fun v66 k0_hw295 => k0_hw295.2

def k0_chk296 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) : Prop :=
  (∀ a x, ((![v66, v684, v2971] : Fin 3 → IVec S16 32) a x).toNat < S32x200x8.size a) ∧
  (∀ a x, ((![v66, v931, v2971] : Fin 3 → IVec S16 32) a x).toNat < S32x200x8.size a) ∧
  (∀ a x, ((![v66, v1178, v2971] : Fin 3 → IVec S16 32) a x).toNat < S32x200x8.size a) ∧
  (∀ a x, ((![v66, v1425, v2971] : Fin 3 → IVec S16 32) a x).toNat < S32x200x8.size a) ∧
  (∀ a x, ((![v66, v1672, v2971] : Fin 3 → IVec S16 32) a x).toNat < S32x200x8.size a) ∧
  (∀ a x, ((![v66, v1919, v2971] : Fin 3 → IVec S16 32) a x).toNat < S32x200x8.size a) ∧
  (∀ a x, ((![v66, v2166, v2971] : Fin 3 → IVec S16 32) a x).toNat < S32x200x8.size a) ∧
  (∀ a x, ((![v66, v2413, v2971] : Fin 3 → IVec S16 32) a x).toNat < S32x200x8.size a) ∧
  (∀ a x, ((![v66, v2660, v2971] : Fin 3 → IVec S16 32) a x).toNat < S32x200x8.size a) ∧
  (∀ a x, ((![v66, v2907, v2971] : Fin 3 → IVec S16 32) a x).toNat < S32x200x8.size a)
theorem k0_idx313_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v684, v2971] : Fin 3 → IVec S16 32) a x).toNat < S32x200x8.size a := fun v66 v684 v931 v1178 v1425 v1672 v1919 v2166 v2413 v2660 v2907 v2971 k0_hw296 => k0_hw296.1
theorem k0_idx314_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v931, v2971] : Fin 3 → IVec S16 32) a x).toNat < S32x200x8.size a := fun v66 v684 v931 v1178 v1425 v1672 v1919 v2166 v2413 v2660 v2907 v2971 k0_hw296 => k0_hw296.2.1
theorem k0_idx315_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v1178, v2971] : Fin 3 → IVec S16 32) a x).toNat < S32x200x8.size a := fun v66 v684 v931 v1178 v1425 v1672 v1919 v2166 v2413 v2660 v2907 v2971 k0_hw296 => k0_hw296.2.2.1
theorem k0_idx316_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v1425, v2971] : Fin 3 → IVec S16 32) a x).toNat < S32x200x8.size a := fun v66 v684 v931 v1178 v1425 v1672 v1919 v2166 v2413 v2660 v2907 v2971 k0_hw296 => k0_hw296.2.2.2.1
theorem k0_idx317_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v1672, v2971] : Fin 3 → IVec S16 32) a x).toNat < S32x200x8.size a := fun v66 v684 v931 v1178 v1425 v1672 v1919 v2166 v2413 v2660 v2907 v2971 k0_hw296 => k0_hw296.2.2.2.2.1
theorem k0_idx318_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v1919, v2971] : Fin 3 → IVec S16 32) a x).toNat < S32x200x8.size a := fun v66 v684 v931 v1178 v1425 v1672 v1919 v2166 v2413 v2660 v2907 v2971 k0_hw296 => k0_hw296.2.2.2.2.2.1
theorem k0_idx319_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v2166, v2971] : Fin 3 → IVec S16 32) a x).toNat < S32x200x8.size a := fun v66 v684 v931 v1178 v1425 v1672 v1919 v2166 v2413 v2660 v2907 v2971 k0_hw296 => k0_hw296.2.2.2.2.2.2.1
theorem k0_idx320_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v2413, v2971] : Fin 3 → IVec S16 32) a x).toNat < S32x200x8.size a := fun v66 v684 v931 v1178 v1425 v1672 v1919 v2166 v2413 v2660 v2907 v2971 k0_hw296 => k0_hw296.2.2.2.2.2.2.2.1
theorem k0_idx321_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v2660, v2971] : Fin 3 → IVec S16 32) a x).toNat < S32x200x8.size a := fun v66 v684 v931 v1178 v1425 v1672 v1919 v2166 v2413 v2660 v2907 v2971 k0_hw296 => k0_hw296.2.2.2.2.2.2.2.2.1
theorem k0_idx322_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v2971 : IVec S16 32) (k0_hw296 : k0_chk296 v66 v684 v931 v1178 v1425 v1672 v1919 v2166 v2413 v2660 v2907 v2971), ∀ a x, ((![v66, v2907, v2971] : Fin 3 → IVec S16 32) a x).toNat < S32x200x8.size a := fun v66 v684 v931 v1178 v1425 v1672 v1919 v2166 v2413 v2660 v2907 v2971 k0_hw296 => k0_hw296.2.2.2.2.2.2.2.2.2

def k0_chk297 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) : Prop :=
  (∀ a x, ((![v66, v684, v3002] : Fin 3 → IVec S16 32) a x).toNat < S32x200x8.size a) ∧
  (∀ a x, ((![v66, v931, v3002] : Fin 3 → IVec S16 32) a x).toNat < S32x200x8.size a) ∧
  (∀ a x, ((![v66, v1178, v3002] : Fin 3 → IVec S16 32) a x).toNat < S32x200x8.size a) ∧
  (∀ a x, ((![v66, v1425, v3002] : Fin 3 → IVec S16 32) a x).toNat < S32x200x8.size a) ∧
  (∀ a x, ((![v66, v1672, v3002] : Fin 3 → IVec S16 32) a x).toNat < S32x200x8.size a) ∧
  (∀ a x, ((![v66, v1919, v3002] : Fin 3 → IVec S16 32) a x).toNat < S32x200x8.size a) ∧
  (∀ a x, ((![v66, v2166, v3002] : Fin 3 → IVec S16 32) a x).toNat < S32x200x8.size a) ∧
  (∀ a x, ((![v66, v2413, v3002] : Fin 3 → IVec S16 32) a x).toNat < S32x200x8.size a) ∧
  (∀ a x, ((![v66, v2660, v3002] : Fin 3 → IVec S16 32) a x).toNat < S32x200x8.size a) ∧
  (∀ a x, ((![v66, v2907, v3002] : Fin 3 → IVec S16 32) a x).toNat < S32x200x8.size a)
theorem k0_idx323_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v684, v3002] : Fin 3 → IVec S16 32) a x).toNat < S32x200x8.size a := fun v66 v684 v931 v1178 v1425 v1672 v1919 v2166 v2413 v2660 v2907 v3002 k0_hw297 => k0_hw297.1
theorem k0_idx324_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v931, v3002] : Fin 3 → IVec S16 32) a x).toNat < S32x200x8.size a := fun v66 v684 v931 v1178 v1425 v1672 v1919 v2166 v2413 v2660 v2907 v3002 k0_hw297 => k0_hw297.2.1
theorem k0_idx325_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v1178, v3002] : Fin 3 → IVec S16 32) a x).toNat < S32x200x8.size a := fun v66 v684 v931 v1178 v1425 v1672 v1919 v2166 v2413 v2660 v2907 v3002 k0_hw297 => k0_hw297.2.2.1
theorem k0_idx326_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v1425, v3002] : Fin 3 → IVec S16 32) a x).toNat < S32x200x8.size a := fun v66 v684 v931 v1178 v1425 v1672 v1919 v2166 v2413 v2660 v2907 v3002 k0_hw297 => k0_hw297.2.2.2.1
theorem k0_idx327_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v1672, v3002] : Fin 3 → IVec S16 32) a x).toNat < S32x200x8.size a := fun v66 v684 v931 v1178 v1425 v1672 v1919 v2166 v2413 v2660 v2907 v3002 k0_hw297 => k0_hw297.2.2.2.2.1
theorem k0_idx328_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v1919, v3002] : Fin 3 → IVec S16 32) a x).toNat < S32x200x8.size a := fun v66 v684 v931 v1178 v1425 v1672 v1919 v2166 v2413 v2660 v2907 v3002 k0_hw297 => k0_hw297.2.2.2.2.2.1
theorem k0_idx329_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v2166, v3002] : Fin 3 → IVec S16 32) a x).toNat < S32x200x8.size a := fun v66 v684 v931 v1178 v1425 v1672 v1919 v2166 v2413 v2660 v2907 v3002 k0_hw297 => k0_hw297.2.2.2.2.2.2.1
theorem k0_idx330_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v2413, v3002] : Fin 3 → IVec S16 32) a x).toNat < S32x200x8.size a := fun v66 v684 v931 v1178 v1425 v1672 v1919 v2166 v2413 v2660 v2907 v3002 k0_hw297 => k0_hw297.2.2.2.2.2.2.2.1
theorem k0_idx331_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v2660, v3002] : Fin 3 → IVec S16 32) a x).toNat < S32x200x8.size a := fun v66 v684 v931 v1178 v1425 v1672 v1919 v2166 v2413 v2660 v2907 v3002 k0_hw297 => k0_hw297.2.2.2.2.2.2.2.2.1
theorem k0_idx332_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3002 : IVec S16 32) (k0_hw297 : k0_chk297 v66 v684 v931 v1178 v1425 v1672 v1919 v2166 v2413 v2660 v2907 v3002), ∀ a x, ((![v66, v2907, v3002] : Fin 3 → IVec S16 32) a x).toNat < S32x200x8.size a := fun v66 v684 v931 v1178 v1425 v1672 v1919 v2166 v2413 v2660 v2907 v3002 k0_hw297 => k0_hw297.2.2.2.2.2.2.2.2.2

def k0_chk298 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) : Prop :=
  (∀ a x, ((![v66, v684, v3033] : Fin 3 → IVec S16 32) a x).toNat < S32x200x8.size a) ∧
  (∀ a x, ((![v66, v931, v3033] : Fin 3 → IVec S16 32) a x).toNat < S32x200x8.size a) ∧
  (∀ a x, ((![v66, v1178, v3033] : Fin 3 → IVec S16 32) a x).toNat < S32x200x8.size a) ∧
  (∀ a x, ((![v66, v1425, v3033] : Fin 3 → IVec S16 32) a x).toNat < S32x200x8.size a) ∧
  (∀ a x, ((![v66, v1672, v3033] : Fin 3 → IVec S16 32) a x).toNat < S32x200x8.size a) ∧
  (∀ a x, ((![v66, v1919, v3033] : Fin 3 → IVec S16 32) a x).toNat < S32x200x8.size a) ∧
  (∀ a x, ((![v66, v2166, v3033] : Fin 3 → IVec S16 32) a x).toNat < S32x200x8.size a) ∧
  (∀ a x, ((![v66, v2413, v3033] : Fin 3 → IVec S16 32) a x).toNat < S32x200x8.size a) ∧
  (∀ a x, ((![v66, v2660, v3033] : Fin 3 → IVec S16 32) a x).toNat < S32x200x8.size a) ∧
  (∀ a x, ((![v66, v2907, v3033] : Fin 3 → IVec S16 32) a x).toNat < S32x200x8.size a)
theorem k0_idx333_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v684, v3033] : Fin 3 → IVec S16 32) a x).toNat < S32x200x8.size a := fun v66 v684 v931 v1178 v1425 v1672 v1919 v2166 v2413 v2660 v2907 v3033 k0_hw298 => k0_hw298.1
theorem k0_idx334_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v931, v3033] : Fin 3 → IVec S16 32) a x).toNat < S32x200x8.size a := fun v66 v684 v931 v1178 v1425 v1672 v1919 v2166 v2413 v2660 v2907 v3033 k0_hw298 => k0_hw298.2.1
theorem k0_idx335_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v1178, v3033] : Fin 3 → IVec S16 32) a x).toNat < S32x200x8.size a := fun v66 v684 v931 v1178 v1425 v1672 v1919 v2166 v2413 v2660 v2907 v3033 k0_hw298 => k0_hw298.2.2.1
theorem k0_idx336_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v1425, v3033] : Fin 3 → IVec S16 32) a x).toNat < S32x200x8.size a := fun v66 v684 v931 v1178 v1425 v1672 v1919 v2166 v2413 v2660 v2907 v3033 k0_hw298 => k0_hw298.2.2.2.1
theorem k0_idx337_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v1672, v3033] : Fin 3 → IVec S16 32) a x).toNat < S32x200x8.size a := fun v66 v684 v931 v1178 v1425 v1672 v1919 v2166 v2413 v2660 v2907 v3033 k0_hw298 => k0_hw298.2.2.2.2.1
theorem k0_idx338_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v1919, v3033] : Fin 3 → IVec S16 32) a x).toNat < S32x200x8.size a := fun v66 v684 v931 v1178 v1425 v1672 v1919 v2166 v2413 v2660 v2907 v3033 k0_hw298 => k0_hw298.2.2.2.2.2.1
theorem k0_idx339_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v2166, v3033] : Fin 3 → IVec S16 32) a x).toNat < S32x200x8.size a := fun v66 v684 v931 v1178 v1425 v1672 v1919 v2166 v2413 v2660 v2907 v3033 k0_hw298 => k0_hw298.2.2.2.2.2.2.1
theorem k0_idx340_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v2413, v3033] : Fin 3 → IVec S16 32) a x).toNat < S32x200x8.size a := fun v66 v684 v931 v1178 v1425 v1672 v1919 v2166 v2413 v2660 v2907 v3033 k0_hw298 => k0_hw298.2.2.2.2.2.2.2.1
theorem k0_idx341_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v2660, v3033] : Fin 3 → IVec S16 32) a x).toNat < S32x200x8.size a := fun v66 v684 v931 v1178 v1425 v1672 v1919 v2166 v2413 v2660 v2907 v3033 k0_hw298 => k0_hw298.2.2.2.2.2.2.2.2.1
theorem k0_idx342_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3033 : IVec S16 32) (k0_hw298 : k0_chk298 v66 v684 v931 v1178 v1425 v1672 v1919 v2166 v2413 v2660 v2907 v3033), ∀ a x, ((![v66, v2907, v3033] : Fin 3 → IVec S16 32) a x).toNat < S32x200x8.size a := fun v66 v684 v931 v1178 v1425 v1672 v1919 v2166 v2413 v2660 v2907 v3033 k0_hw298 => k0_hw298.2.2.2.2.2.2.2.2.2

def k0_chk299 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) : Prop :=
  (∀ a x, ((![v66, v684, v3064] : Fin 3 → IVec S16 32) a x).toNat < S32x200x8.size a) ∧
  (∀ a x, ((![v66, v931, v3064] : Fin 3 → IVec S16 32) a x).toNat < S32x200x8.size a) ∧
  (∀ a x, ((![v66, v1178, v3064] : Fin 3 → IVec S16 32) a x).toNat < S32x200x8.size a) ∧
  (∀ a x, ((![v66, v1425, v3064] : Fin 3 → IVec S16 32) a x).toNat < S32x200x8.size a) ∧
  (∀ a x, ((![v66, v1672, v3064] : Fin 3 → IVec S16 32) a x).toNat < S32x200x8.size a) ∧
  (∀ a x, ((![v66, v1919, v3064] : Fin 3 → IVec S16 32) a x).toNat < S32x200x8.size a) ∧
  (∀ a x, ((![v66, v2166, v3064] : Fin 3 → IVec S16 32) a x).toNat < S32x200x8.size a) ∧
  (∀ a x, ((![v66, v2413, v3064] : Fin 3 → IVec S16 32) a x).toNat < S32x200x8.size a) ∧
  (∀ a x, ((![v66, v2660, v3064] : Fin 3 → IVec S16 32) a x).toNat < S32x200x8.size a) ∧
  (∀ a x, ((![v66, v2907, v3064] : Fin 3 → IVec S16 32) a x).toNat < S32x200x8.size a)
theorem k0_idx343_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v684, v3064] : Fin 3 → IVec S16 32) a x).toNat < S32x200x8.size a := fun v66 v684 v931 v1178 v1425 v1672 v1919 v2166 v2413 v2660 v2907 v3064 k0_hw299 => k0_hw299.1
theorem k0_idx344_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v931, v3064] : Fin 3 → IVec S16 32) a x).toNat < S32x200x8.size a := fun v66 v684 v931 v1178 v1425 v1672 v1919 v2166 v2413 v2660 v2907 v3064 k0_hw299 => k0_hw299.2.1
theorem k0_idx345_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v1178, v3064] : Fin 3 → IVec S16 32) a x).toNat < S32x200x8.size a := fun v66 v684 v931 v1178 v1425 v1672 v1919 v2166 v2413 v2660 v2907 v3064 k0_hw299 => k0_hw299.2.2.1
theorem k0_idx346_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v1425, v3064] : Fin 3 → IVec S16 32) a x).toNat < S32x200x8.size a := fun v66 v684 v931 v1178 v1425 v1672 v1919 v2166 v2413 v2660 v2907 v3064 k0_hw299 => k0_hw299.2.2.2.1
theorem k0_idx347_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v1672, v3064] : Fin 3 → IVec S16 32) a x).toNat < S32x200x8.size a := fun v66 v684 v931 v1178 v1425 v1672 v1919 v2166 v2413 v2660 v2907 v3064 k0_hw299 => k0_hw299.2.2.2.2.1
theorem k0_idx348_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v1919, v3064] : Fin 3 → IVec S16 32) a x).toNat < S32x200x8.size a := fun v66 v684 v931 v1178 v1425 v1672 v1919 v2166 v2413 v2660 v2907 v3064 k0_hw299 => k0_hw299.2.2.2.2.2.1
theorem k0_idx349_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v2166, v3064] : Fin 3 → IVec S16 32) a x).toNat < S32x200x8.size a := fun v66 v684 v931 v1178 v1425 v1672 v1919 v2166 v2413 v2660 v2907 v3064 k0_hw299 => k0_hw299.2.2.2.2.2.2.1
theorem k0_idx350_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v2413, v3064] : Fin 3 → IVec S16 32) a x).toNat < S32x200x8.size a := fun v66 v684 v931 v1178 v1425 v1672 v1919 v2166 v2413 v2660 v2907 v3064 k0_hw299 => k0_hw299.2.2.2.2.2.2.2.1
theorem k0_idx351_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v2660, v3064] : Fin 3 → IVec S16 32) a x).toNat < S32x200x8.size a := fun v66 v684 v931 v1178 v1425 v1672 v1919 v2166 v2413 v2660 v2907 v3064 k0_hw299 => k0_hw299.2.2.2.2.2.2.2.2.1
theorem k0_idx352_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3064 : IVec S16 32) (k0_hw299 : k0_chk299 v66 v684 v931 v1178 v1425 v1672 v1919 v2166 v2413 v2660 v2907 v3064), ∀ a x, ((![v66, v2907, v3064] : Fin 3 → IVec S16 32) a x).toNat < S32x200x8.size a := fun v66 v684 v931 v1178 v1425 v1672 v1919 v2166 v2413 v2660 v2907 v3064 k0_hw299 => k0_hw299.2.2.2.2.2.2.2.2.2

def k0_chk300 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) : Prop :=
  (∀ a x, ((![v66, v684, v3095] : Fin 3 → IVec S16 32) a x).toNat < S32x200x8.size a) ∧
  (∀ a x, ((![v66, v931, v3095] : Fin 3 → IVec S16 32) a x).toNat < S32x200x8.size a) ∧
  (∀ a x, ((![v66, v1178, v3095] : Fin 3 → IVec S16 32) a x).toNat < S32x200x8.size a) ∧
  (∀ a x, ((![v66, v1425, v3095] : Fin 3 → IVec S16 32) a x).toNat < S32x200x8.size a) ∧
  (∀ a x, ((![v66, v1672, v3095] : Fin 3 → IVec S16 32) a x).toNat < S32x200x8.size a) ∧
  (∀ a x, ((![v66, v1919, v3095] : Fin 3 → IVec S16 32) a x).toNat < S32x200x8.size a) ∧
  (∀ a x, ((![v66, v2166, v3095] : Fin 3 → IVec S16 32) a x).toNat < S32x200x8.size a) ∧
  (∀ a x, ((![v66, v2413, v3095] : Fin 3 → IVec S16 32) a x).toNat < S32x200x8.size a) ∧
  (∀ a x, ((![v66, v2660, v3095] : Fin 3 → IVec S16 32) a x).toNat < S32x200x8.size a) ∧
  (∀ a x, ((![v66, v2907, v3095] : Fin 3 → IVec S16 32) a x).toNat < S32x200x8.size a)
theorem k0_idx353_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v684, v3095] : Fin 3 → IVec S16 32) a x).toNat < S32x200x8.size a := fun v66 v684 v931 v1178 v1425 v1672 v1919 v2166 v2413 v2660 v2907 v3095 k0_hw300 => k0_hw300.1
theorem k0_idx354_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v931, v3095] : Fin 3 → IVec S16 32) a x).toNat < S32x200x8.size a := fun v66 v684 v931 v1178 v1425 v1672 v1919 v2166 v2413 v2660 v2907 v3095 k0_hw300 => k0_hw300.2.1
theorem k0_idx355_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v1178, v3095] : Fin 3 → IVec S16 32) a x).toNat < S32x200x8.size a := fun v66 v684 v931 v1178 v1425 v1672 v1919 v2166 v2413 v2660 v2907 v3095 k0_hw300 => k0_hw300.2.2.1
theorem k0_idx356_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v1425, v3095] : Fin 3 → IVec S16 32) a x).toNat < S32x200x8.size a := fun v66 v684 v931 v1178 v1425 v1672 v1919 v2166 v2413 v2660 v2907 v3095 k0_hw300 => k0_hw300.2.2.2.1
theorem k0_idx357_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v1672, v3095] : Fin 3 → IVec S16 32) a x).toNat < S32x200x8.size a := fun v66 v684 v931 v1178 v1425 v1672 v1919 v2166 v2413 v2660 v2907 v3095 k0_hw300 => k0_hw300.2.2.2.2.1
theorem k0_idx358_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v1919, v3095] : Fin 3 → IVec S16 32) a x).toNat < S32x200x8.size a := fun v66 v684 v931 v1178 v1425 v1672 v1919 v2166 v2413 v2660 v2907 v3095 k0_hw300 => k0_hw300.2.2.2.2.2.1
theorem k0_idx359_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v2166, v3095] : Fin 3 → IVec S16 32) a x).toNat < S32x200x8.size a := fun v66 v684 v931 v1178 v1425 v1672 v1919 v2166 v2413 v2660 v2907 v3095 k0_hw300 => k0_hw300.2.2.2.2.2.2.1
theorem k0_idx360_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v2413, v3095] : Fin 3 → IVec S16 32) a x).toNat < S32x200x8.size a := fun v66 v684 v931 v1178 v1425 v1672 v1919 v2166 v2413 v2660 v2907 v3095 k0_hw300 => k0_hw300.2.2.2.2.2.2.2.1
theorem k0_idx361_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v2660, v3095] : Fin 3 → IVec S16 32) a x).toNat < S32x200x8.size a := fun v66 v684 v931 v1178 v1425 v1672 v1919 v2166 v2413 v2660 v2907 v3095 k0_hw300 => k0_hw300.2.2.2.2.2.2.2.2.1
theorem k0_idx362_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3095 : IVec S16 32) (k0_hw300 : k0_chk300 v66 v684 v931 v1178 v1425 v1672 v1919 v2166 v2413 v2660 v2907 v3095), ∀ a x, ((![v66, v2907, v3095] : Fin 3 → IVec S16 32) a x).toNat < S32x200x8.size a := fun v66 v684 v931 v1178 v1425 v1672 v1919 v2166 v2413 v2660 v2907 v3095 k0_hw300 => k0_hw300.2.2.2.2.2.2.2.2.2

def k0_chk301 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) : Prop :=
  (∀ a x, ((![v66, v684, v3126] : Fin 3 → IVec S16 32) a x).toNat < S32x200x8.size a) ∧
  (∀ a x, ((![v66, v931, v3126] : Fin 3 → IVec S16 32) a x).toNat < S32x200x8.size a) ∧
  (∀ a x, ((![v66, v1178, v3126] : Fin 3 → IVec S16 32) a x).toNat < S32x200x8.size a) ∧
  (∀ a x, ((![v66, v1425, v3126] : Fin 3 → IVec S16 32) a x).toNat < S32x200x8.size a) ∧
  (∀ a x, ((![v66, v1672, v3126] : Fin 3 → IVec S16 32) a x).toNat < S32x200x8.size a) ∧
  (∀ a x, ((![v66, v1919, v3126] : Fin 3 → IVec S16 32) a x).toNat < S32x200x8.size a) ∧
  (∀ a x, ((![v66, v2166, v3126] : Fin 3 → IVec S16 32) a x).toNat < S32x200x8.size a) ∧
  (∀ a x, ((![v66, v2413, v3126] : Fin 3 → IVec S16 32) a x).toNat < S32x200x8.size a) ∧
  (∀ a x, ((![v66, v2660, v3126] : Fin 3 → IVec S16 32) a x).toNat < S32x200x8.size a) ∧
  (∀ a x, ((![v66, v2907, v3126] : Fin 3 → IVec S16 32) a x).toNat < S32x200x8.size a)
theorem k0_idx363_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v684, v3126] : Fin 3 → IVec S16 32) a x).toNat < S32x200x8.size a := fun v66 v684 v931 v1178 v1425 v1672 v1919 v2166 v2413 v2660 v2907 v3126 k0_hw301 => k0_hw301.1
theorem k0_idx364_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v931, v3126] : Fin 3 → IVec S16 32) a x).toNat < S32x200x8.size a := fun v66 v684 v931 v1178 v1425 v1672 v1919 v2166 v2413 v2660 v2907 v3126 k0_hw301 => k0_hw301.2.1
theorem k0_idx365_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v1178, v3126] : Fin 3 → IVec S16 32) a x).toNat < S32x200x8.size a := fun v66 v684 v931 v1178 v1425 v1672 v1919 v2166 v2413 v2660 v2907 v3126 k0_hw301 => k0_hw301.2.2.1
theorem k0_idx366_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v1425, v3126] : Fin 3 → IVec S16 32) a x).toNat < S32x200x8.size a := fun v66 v684 v931 v1178 v1425 v1672 v1919 v2166 v2413 v2660 v2907 v3126 k0_hw301 => k0_hw301.2.2.2.1
theorem k0_idx367_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v1672, v3126] : Fin 3 → IVec S16 32) a x).toNat < S32x200x8.size a := fun v66 v684 v931 v1178 v1425 v1672 v1919 v2166 v2413 v2660 v2907 v3126 k0_hw301 => k0_hw301.2.2.2.2.1
theorem k0_idx368_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v1919, v3126] : Fin 3 → IVec S16 32) a x).toNat < S32x200x8.size a := fun v66 v684 v931 v1178 v1425 v1672 v1919 v2166 v2413 v2660 v2907 v3126 k0_hw301 => k0_hw301.2.2.2.2.2.1
theorem k0_idx369_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v2166, v3126] : Fin 3 → IVec S16 32) a x).toNat < S32x200x8.size a := fun v66 v684 v931 v1178 v1425 v1672 v1919 v2166 v2413 v2660 v2907 v3126 k0_hw301 => k0_hw301.2.2.2.2.2.2.1
theorem k0_idx370_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v2413, v3126] : Fin 3 → IVec S16 32) a x).toNat < S32x200x8.size a := fun v66 v684 v931 v1178 v1425 v1672 v1919 v2166 v2413 v2660 v2907 v3126 k0_hw301 => k0_hw301.2.2.2.2.2.2.2.1
theorem k0_idx371_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v2660, v3126] : Fin 3 → IVec S16 32) a x).toNat < S32x200x8.size a := fun v66 v684 v931 v1178 v1425 v1672 v1919 v2166 v2413 v2660 v2907 v3126 k0_hw301 => k0_hw301.2.2.2.2.2.2.2.2.1
theorem k0_idx372_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3126 : IVec S16 32) (k0_hw301 : k0_chk301 v66 v684 v931 v1178 v1425 v1672 v1919 v2166 v2413 v2660 v2907 v3126), ∀ a x, ((![v66, v2907, v3126] : Fin 3 → IVec S16 32) a x).toNat < S32x200x8.size a := fun v66 v684 v931 v1178 v1425 v1672 v1919 v2166 v2413 v2660 v2907 v3126 k0_hw301 => k0_hw301.2.2.2.2.2.2.2.2.2

def k0_chk302 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) : Prop :=
  (∀ a x, ((![v66, v684, v3157] : Fin 3 → IVec S16 32) a x).toNat < S32x200x8.size a) ∧
  (∀ a x, ((![v66, v931, v3157] : Fin 3 → IVec S16 32) a x).toNat < S32x200x8.size a) ∧
  (∀ a x, ((![v66, v1178, v3157] : Fin 3 → IVec S16 32) a x).toNat < S32x200x8.size a) ∧
  (∀ a x, ((![v66, v1425, v3157] : Fin 3 → IVec S16 32) a x).toNat < S32x200x8.size a) ∧
  (∀ a x, ((![v66, v1672, v3157] : Fin 3 → IVec S16 32) a x).toNat < S32x200x8.size a) ∧
  (∀ a x, ((![v66, v1919, v3157] : Fin 3 → IVec S16 32) a x).toNat < S32x200x8.size a) ∧
  (∀ a x, ((![v66, v2166, v3157] : Fin 3 → IVec S16 32) a x).toNat < S32x200x8.size a) ∧
  (∀ a x, ((![v66, v2413, v3157] : Fin 3 → IVec S16 32) a x).toNat < S32x200x8.size a) ∧
  (∀ a x, ((![v66, v2660, v3157] : Fin 3 → IVec S16 32) a x).toNat < S32x200x8.size a) ∧
  (∀ a x, ((![v66, v2907, v3157] : Fin 3 → IVec S16 32) a x).toNat < S32x200x8.size a)
theorem k0_idx373_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v684, v3157] : Fin 3 → IVec S16 32) a x).toNat < S32x200x8.size a := fun v66 v684 v931 v1178 v1425 v1672 v1919 v2166 v2413 v2660 v2907 v3157 k0_hw302 => k0_hw302.1
theorem k0_idx374_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v931, v3157] : Fin 3 → IVec S16 32) a x).toNat < S32x200x8.size a := fun v66 v684 v931 v1178 v1425 v1672 v1919 v2166 v2413 v2660 v2907 v3157 k0_hw302 => k0_hw302.2.1
theorem k0_idx375_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v1178, v3157] : Fin 3 → IVec S16 32) a x).toNat < S32x200x8.size a := fun v66 v684 v931 v1178 v1425 v1672 v1919 v2166 v2413 v2660 v2907 v3157 k0_hw302 => k0_hw302.2.2.1
theorem k0_idx376_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v1425, v3157] : Fin 3 → IVec S16 32) a x).toNat < S32x200x8.size a := fun v66 v684 v931 v1178 v1425 v1672 v1919 v2166 v2413 v2660 v2907 v3157 k0_hw302 => k0_hw302.2.2.2.1
theorem k0_idx377_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v1672, v3157] : Fin 3 → IVec S16 32) a x).toNat < S32x200x8.size a := fun v66 v684 v931 v1178 v1425 v1672 v1919 v2166 v2413 v2660 v2907 v3157 k0_hw302 => k0_hw302.2.2.2.2.1
theorem k0_idx378_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v1919, v3157] : Fin 3 → IVec S16 32) a x).toNat < S32x200x8.size a := fun v66 v684 v931 v1178 v1425 v1672 v1919 v2166 v2413 v2660 v2907 v3157 k0_hw302 => k0_hw302.2.2.2.2.2.1
theorem k0_idx379_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v2166, v3157] : Fin 3 → IVec S16 32) a x).toNat < S32x200x8.size a := fun v66 v684 v931 v1178 v1425 v1672 v1919 v2166 v2413 v2660 v2907 v3157 k0_hw302 => k0_hw302.2.2.2.2.2.2.1
theorem k0_idx380_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v2413, v3157] : Fin 3 → IVec S16 32) a x).toNat < S32x200x8.size a := fun v66 v684 v931 v1178 v1425 v1672 v1919 v2166 v2413 v2660 v2907 v3157 k0_hw302 => k0_hw302.2.2.2.2.2.2.2.1
theorem k0_idx381_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v2660, v3157] : Fin 3 → IVec S16 32) a x).toNat < S32x200x8.size a := fun v66 v684 v931 v1178 v1425 v1672 v1919 v2166 v2413 v2660 v2907 v3157 k0_hw302 => k0_hw302.2.2.2.2.2.2.2.2.1
theorem k0_idx382_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3157 : IVec S16 32) (k0_hw302 : k0_chk302 v66 v684 v931 v1178 v1425 v1672 v1919 v2166 v2413 v2660 v2907 v3157), ∀ a x, ((![v66, v2907, v3157] : Fin 3 → IVec S16 32) a x).toNat < S32x200x8.size a := fun v66 v684 v931 v1178 v1425 v1672 v1919 v2166 v2413 v2660 v2907 v3157 k0_hw302 => k0_hw302.2.2.2.2.2.2.2.2.2

def k0_chk303 (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) : Prop :=
  (∀ a x, ((![v66, v684, v3188] : Fin 3 → IVec S16 32) a x).toNat < S32x200x8.size a) ∧
  (∀ a x, ((![v66, v931, v3188] : Fin 3 → IVec S16 32) a x).toNat < S32x200x8.size a) ∧
  (∀ a x, ((![v66, v1178, v3188] : Fin 3 → IVec S16 32) a x).toNat < S32x200x8.size a) ∧
  (∀ a x, ((![v66, v1425, v3188] : Fin 3 → IVec S16 32) a x).toNat < S32x200x8.size a) ∧
  (∀ a x, ((![v66, v1672, v3188] : Fin 3 → IVec S16 32) a x).toNat < S32x200x8.size a) ∧
  (∀ a x, ((![v66, v1919, v3188] : Fin 3 → IVec S16 32) a x).toNat < S32x200x8.size a) ∧
  (∀ a x, ((![v66, v2166, v3188] : Fin 3 → IVec S16 32) a x).toNat < S32x200x8.size a) ∧
  (∀ a x, ((![v66, v2413, v3188] : Fin 3 → IVec S16 32) a x).toNat < S32x200x8.size a) ∧
  (∀ a x, ((![v66, v2660, v3188] : Fin 3 → IVec S16 32) a x).toNat < S32x200x8.size a) ∧
  (∀ a x, ((![v66, v2907, v3188] : Fin 3 → IVec S16 32) a x).toNat < S32x200x8.size a)
theorem k0_idx383_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v684, v3188] : Fin 3 → IVec S16 32) a x).toNat < S32x200x8.size a := fun v66 v684 v931 v1178 v1425 v1672 v1919 v2166 v2413 v2660 v2907 v3188 k0_hw303 => k0_hw303.1
theorem k0_idx384_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v931, v3188] : Fin 3 → IVec S16 32) a x).toNat < S32x200x8.size a := fun v66 v684 v931 v1178 v1425 v1672 v1919 v2166 v2413 v2660 v2907 v3188 k0_hw303 => k0_hw303.2.1
theorem k0_idx385_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v1178, v3188] : Fin 3 → IVec S16 32) a x).toNat < S32x200x8.size a := fun v66 v684 v931 v1178 v1425 v1672 v1919 v2166 v2413 v2660 v2907 v3188 k0_hw303 => k0_hw303.2.2.1
theorem k0_idx386_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v1425, v3188] : Fin 3 → IVec S16 32) a x).toNat < S32x200x8.size a := fun v66 v684 v931 v1178 v1425 v1672 v1919 v2166 v2413 v2660 v2907 v3188 k0_hw303 => k0_hw303.2.2.2.1
theorem k0_idx387_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v1672, v3188] : Fin 3 → IVec S16 32) a x).toNat < S32x200x8.size a := fun v66 v684 v931 v1178 v1425 v1672 v1919 v2166 v2413 v2660 v2907 v3188 k0_hw303 => k0_hw303.2.2.2.2.1
theorem k0_idx388_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v1919, v3188] : Fin 3 → IVec S16 32) a x).toNat < S32x200x8.size a := fun v66 v684 v931 v1178 v1425 v1672 v1919 v2166 v2413 v2660 v2907 v3188 k0_hw303 => k0_hw303.2.2.2.2.2.1
theorem k0_idx389_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v2166, v3188] : Fin 3 → IVec S16 32) a x).toNat < S32x200x8.size a := fun v66 v684 v931 v1178 v1425 v1672 v1919 v2166 v2413 v2660 v2907 v3188 k0_hw303 => k0_hw303.2.2.2.2.2.2.1
theorem k0_idx390_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v2413, v3188] : Fin 3 → IVec S16 32) a x).toNat < S32x200x8.size a := fun v66 v684 v931 v1178 v1425 v1672 v1919 v2166 v2413 v2660 v2907 v3188 k0_hw303 => k0_hw303.2.2.2.2.2.2.2.1
theorem k0_idx391_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v2660, v3188] : Fin 3 → IVec S16 32) a x).toNat < S32x200x8.size a := fun v66 v684 v931 v1178 v1425 v1672 v1919 v2166 v2413 v2660 v2907 v3188 k0_hw303 => k0_hw303.2.2.2.2.2.2.2.2.1
theorem k0_idx392_inb : ∀ (v66 : IVec S16 32) (v684 : IVec S16 32) (v931 : IVec S16 32) (v1178 : IVec S16 32) (v1425 : IVec S16 32) (v1672 : IVec S16 32) (v1919 : IVec S16 32) (v2166 : IVec S16 32) (v2413 : IVec S16 32) (v2660 : IVec S16 32) (v2907 : IVec S16 32) (v3188 : IVec S16 32) (k0_hw303 : k0_chk303 v66 v684 v931 v1178 v1425 v1672 v1919 v2166 v2413 v2660 v2907 v3188), ∀ a x, ((![v66, v2907, v3188] : Fin 3 → IVec S16 32) a x).toNat < S32x200x8.size a := fun v66 v684 v931 v1178 v1425 v1672 v1919 v2166 v2413 v2660 v2907 v3188 k0_hw303 => k0_hw303.2.2.2.2.2.2.2.2.2
def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_35_r5 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log_kfact" => some ((Real.log 3628800 : ℝ) : EReal)
  | _ => none
-- ==== ReferenceIdeal.lean ====
abbrev S1024x200 : Shape := ⟨2, ![1024, 200]⟩
abbrev S1024x200x8 : Shape := ⟨3, ![1024, 200, 8]⟩
abbrev S25600x200 : Shape := ⟨2, ![25600, 200]⟩
abbrev S25600x10 : Shape := ⟨2, ![25600, 10]⟩
abbrev S1024x25x200 : Shape := ⟨3, ![1024, 25, 200]⟩
abbrev S1024x25x10 : Shape := ⟨3, ![1024, 25, 10]⟩
abbrev S_ : Shape := ⟨0, ![]⟩
abbrev S1024 : Shape := ⟨1, ![1024]⟩
abbrev S1024x1 : Shape := ⟨2, ![1024, 1]⟩
abbrev S1024x1x200 : Shape := ⟨3, ![1024, 1, 200]⟩
abbrev S200 : Shape := ⟨1, ![200]⟩
abbrev S1024x25x10x1 : Shape := ⟨4, ![1024, 25, 10, 1]⟩
abbrev S1x1x1x200 : Shape := ⟨4, ![1, 1, 1, 200]⟩
abbrev S1024x25x10x200 : Shape := ⟨4, ![1024, 25, 10, 200]⟩
abbrev S1024x25x190 : Shape := ⟨3, ![1024, 25, 190]⟩
abbrev S1024x25x190x1 : Shape := ⟨4, ![1024, 25, 190, 1]⟩
abbrev S1024x25x190x200 : Shape := ⟨4, ![1024, 25, 190, 200]⟩
abbrev S1024x1x1x200 : Shape := ⟨4, ![1024, 1, 1, 200]⟩
abbrev S10 : Shape := ⟨1, ![10]⟩
abbrev S1x1x1x10 : Shape := ⟨4, ![1, 1, 1, 10]⟩
abbrev S1024x25x10x10 : Shape := ⟨4, ![1024, 25, 10, 10]⟩
abbrev S1024x25x1x10 : Shape := ⟨4, ![1024, 25, 1, 10]⟩
abbrev S1024x25 : Shape := ⟨2, ![1024, 25]⟩
abbrev S1024x25x1 : Shape := ⟨3, ![1024, 25, 1]⟩
abbrev S1024x25x9 : Shape := ⟨3, ![1024, 25, 9]⟩
abbrev S1024x25x8 : Shape := ⟨3, ![1024, 25, 8]⟩
abbrev S1024x25x7 : Shape := ⟨3, ![1024, 25, 7]⟩
abbrev S1024x25x6 : Shape := ⟨3, ![1024, 25, 6]⟩
abbrev S1024x25x5 : Shape := ⟨3, ![1024, 25, 5]⟩
abbrev S1024x25x4 : Shape := ⟨3, ![1024, 25, 4]⟩
abbrev S1024x25x3 : Shape := ⟨3, ![1024, 25, 3]⟩
abbrev S1024x25x2 : Shape := ⟨3, ![1024, 25, 2]⟩
abbrev S1024x25x200x1 : Shape := ⟨4, ![1024, 25, 200, 1]⟩
abbrev S1024x1x200x8 : Shape := ⟨4, ![1024, 1, 200, 8]⟩
abbrev S1024x25x200x8 : Shape := ⟨4, ![1024, 25, 200, 8]⟩

abbrev nBuf : Space → Nat
  | .hbm => 291
  | .vmem => 0
  | .smem => 0
  | _ => 0

abbrev hbmTy0_0 (i : Nat) : BufTy := match i % 128 with
  | 0 => ⟨S1024x200, .f32⟩
  | 1 => ⟨S1024x200, .f32⟩
  | 2 => ⟨S1024x200x8, .f32⟩
  | 3 => ⟨S25600x200, .f32⟩
  | 4 => ⟨S25600x10, .f32⟩
  | 5 => ⟨S1024x25x200, .f32⟩
  | 6 => ⟨S1024x25x10, .f32⟩
  | 7 => ⟨S_, .f32⟩
  | 8 => ⟨S1024, .f32⟩
  | 9 => ⟨S_, .f32⟩
  | 10 => ⟨S1024, .f32⟩
  | 11 => ⟨S1024, .f32⟩
  | 12 => ⟨S1024x1, .f32⟩
  | 13 => ⟨S1024x200, .f32⟩
  | 14 => ⟨S1024x200, .f32⟩
  | 15 => ⟨S1024x200, .f32⟩
  | 16 => ⟨S_, .f32⟩
  | 17 => ⟨S1024, .f32⟩
  | 18 => ⟨S1024x1, .f32⟩
  | 19 => ⟨S1024x200, .f32⟩
  | 20 => ⟨S1024x200, .f32⟩
  | 21 => ⟨S1024x200, .f32⟩
  | 22 => ⟨S1024x1x200, .f32⟩
  | 23 => ⟨S1024x25x200, .f32⟩
  | 24 => ⟨S1024x25x200, .f32⟩
  | 25 => ⟨S1024x25x200, .f32⟩
  | 26 => ⟨S1024x25x200, .i32⟩
  | 27 => ⟨S1024x25x200, .f32⟩
  | 28 => ⟨S1024x25x200, .i32⟩
  | 29 => ⟨S200, .i32⟩
  | 30 => ⟨S1024x25x10, .i32⟩
  | 31 => ⟨S1024x25x10x1, .i32⟩
  | 32 => ⟨S1x1x1x200, .i32⟩
  | 33 => ⟨S1024x25x10x200, .i32⟩
  | 34 => ⟨S1024x25x10x200, .i32⟩
  | 35 => ⟨S1024x25x10x200, .i1⟩
  | 36 => ⟨S1024x25x190, .i32⟩
  | 37 => ⟨S1024x25x190x1, .i32⟩
  | 38 => ⟨S1x1x1x200, .i32⟩
  | 39 => ⟨S1024x25x190x200, .i32⟩
  | 40 => ⟨S1024x25x190x200, .i32⟩
  | 41 => ⟨S1024x25x190x200, .i1⟩
  | 42 => ⟨S1024x1x1x200, .f32⟩
  | 43 => ⟨S_, .f32⟩
  | 44 => ⟨S_, .f32⟩
  | 45 => ⟨S1024x25x10x200, .f32⟩
  | 46 => ⟨S1024x25x10x200, .f32⟩
  | 47 => ⟨S1024x25x10x200, .f32⟩
  | 48 => ⟨S_, .f32⟩
  | 49 => ⟨S1024x25x10, .f32⟩
  | 50 => ⟨S1024x25x10, .i32⟩
  | 51 => ⟨S1024x25x10, .f32⟩
  | 52 => ⟨S1024x25x10, .i32⟩
  | 53 => ⟨S1024x25x10x1, .i32⟩
  | 54 => ⟨S10, .i32⟩
  | 55 => ⟨S1x1x1x10, .i32⟩
  | 56 => ⟨S1024x25x10x10, .i32⟩
  | 57 => ⟨S1024x25x10x10, .i32⟩
  | 58 => ⟨S1024x25x10x10, .i1⟩
  | 59 => ⟨S1024x25x1x10, .f32⟩
  | 60 => ⟨S_, .f32⟩
  | 61 => ⟨S_, .f32⟩
  | 62 => ⟨S1024x25x10x10, .f32⟩
  | 63 => ⟨S1024x25x10x10, .f32⟩
  | 64 => ⟨S1024x25x10x10, .f32⟩
  | 65 => ⟨S_, .f32⟩
  | 66 => ⟨S1024x25x10, .f32⟩
  | 67 => ⟨S1024x1x1x200, .f32⟩
  | 68 => ⟨S_, .f32⟩
  | 69 => ⟨S_, .f32⟩
  | 70 => ⟨S1024x25x190x200, .f32⟩
  | 71 => ⟨S1024x25x190x200, .f32⟩
  | 72 => ⟨S1024x25x190x200, .f32⟩
  | 73 => ⟨S_, .f32⟩
  | 74 => ⟨S1024x25x190, .f32⟩
  | 75 => ⟨S_, .f32⟩
  | 76 => ⟨S1024x25, .f32⟩
  | 77 => ⟨S_, .f32⟩
  | 78 => ⟨S1024x25, .f32⟩
  | 79 => ⟨S1024x25, .f32⟩
  | 80 => ⟨S1024x25x1, .f32⟩
  | 81 => ⟨S1024x25, .f32⟩
  | 82 => ⟨S1024x25, .f32⟩
  | 83 => ⟨S_, .f32⟩
  | 84 => ⟨S1024x25, .f32⟩
  | 85 => ⟨S1024x25, .f32⟩
  | 86 => ⟨S1024x25x9, .f32⟩
  | 87 => ⟨S_, .f32⟩
  | 88 => ⟨S1024x25, .f32⟩
  | 89 => ⟨S_, .f32⟩
  | 90 => ⟨S1024x25, .f32⟩
  | 91 => ⟨S1024x25, .f32⟩
  | 92 => ⟨S1024x25x1, .f32⟩
  | 93 => ⟨S1024x25, .f32⟩
  | 94 => ⟨S1024x25, .f32⟩
  | 95 => ⟨S1024x25, .f32⟩
  | 96 => ⟨S1024x25x8, .f32⟩
  | 97 => ⟨S_, .f32⟩
  | 98 => ⟨S1024x25, .f32⟩
  | 99 => ⟨S_, .f32⟩
  | 100 => ⟨S1024x25, .f32⟩
  | 101 => ⟨S1024x25, .f32⟩
  | 102 => ⟨S1024x25x1, .f32⟩
  | 103 => ⟨S1024x25, .f32⟩
  | 104 => ⟨S1024x25, .f32⟩
  | 105 => ⟨S1024x25, .f32⟩
  | 106 => ⟨S1024x25x7, .f32⟩
  | 107 => ⟨S_, .f32⟩
  | 108 => ⟨S1024x25, .f32⟩
  | 109 => ⟨S_, .f32⟩
  | 110 => ⟨S1024x25, .f32⟩
  | 111 => ⟨S1024x25, .f32⟩
  | 112 => ⟨S1024x25x1, .f32⟩
  | 113 => ⟨S1024x25, .f32⟩
  | 114 => ⟨S1024x25, .f32⟩
  | 115 => ⟨S1024x25, .f32⟩
  | 116 => ⟨S1024x25x6, .f32⟩
  | 117 => ⟨S_, .f32⟩
  | 118 => ⟨S1024x25, .f32⟩
  | 119 => ⟨S_, .f32⟩
  | 120 => ⟨S1024x25, .f32⟩
  | 121 => ⟨S1024x25, .f32⟩
  | 122 => ⟨S1024x25x1, .f32⟩
  | 123 => ⟨S1024x25, .f32⟩
  | 124 => ⟨S1024x25, .f32⟩
  | 125 => ⟨S1024x25, .f32⟩
  | 126 => ⟨S1024x25x5, .f32⟩
  | 127 => ⟨S_, .f32⟩
  | _ => ⟨S1024x200, .f32⟩

abbrev hbmTy0_1 (i : Nat) : BufTy := match i % 128 with
  | 0 => ⟨S1024x25, .f32⟩
  | 1 => ⟨S_, .f32⟩
  | 2 => ⟨S1024x25, .f32⟩
  | 3 => ⟨S1024x25, .f32⟩
  | 4 => ⟨S1024x25x1, .f32⟩
  | 5 => ⟨S1024x25, .f32⟩
  | 6 => ⟨S1024x25, .f32⟩
  | 7 => ⟨S1024x25, .f32⟩
  | 8 => ⟨S1024x25x4, .f32⟩
  | 9 => ⟨S_, .f32⟩
  | 10 => ⟨S1024x25, .f32⟩
  | 11 => ⟨S_, .f32⟩
  | 12 => ⟨S1024x25, .f32⟩
  | 13 => ⟨S1024x25, .f32⟩
  | 14 => ⟨S1024x25x1, .f32⟩
  | 15 => ⟨S1024x25, .f32⟩
  | 16 => ⟨S1024x25, .f32⟩
  | 17 => ⟨S1024x25, .f32⟩
  | 18 => ⟨S1024x25x3, .f32⟩
  | 19 => ⟨S_, .f32⟩
  | 20 => ⟨S1024x25, .f32⟩
  | 21 => ⟨S_, .f32⟩
  | 22 => ⟨S1024x25, .f32⟩
  | 23 => ⟨S1024x25, .f32⟩
  | 24 => ⟨S1024x25x1, .f32⟩
  | 25 => ⟨S1024x25, .f32⟩
  | 26 => ⟨S1024x25, .f32⟩
  | 27 => ⟨S1024x25, .f32⟩
  | 28 => ⟨S1024x25x2, .f32⟩
  | 29 => ⟨S_, .f32⟩
  | 30 => ⟨S1024x25, .f32⟩
  | 31 => ⟨S_, .f32⟩
  | 32 => ⟨S1024x25, .f32⟩
  | 33 => ⟨S1024x25, .f32⟩
  | 34 => ⟨S1024x25x1, .f32⟩
  | 35 => ⟨S1024x25, .f32⟩
  | 36 => ⟨S1024x25, .f32⟩
  | 37 => ⟨S1024x25, .f32⟩
  | 38 => ⟨S1024x25x1, .f32⟩
  | 39 => ⟨S_, .f32⟩
  | 40 => ⟨S1024x25, .f32⟩
  | 41 => ⟨S_, .f32⟩
  | 42 => ⟨S1024x25, .f32⟩
  | 43 => ⟨S1024x25, .f32⟩
  | 44 => ⟨S1024x25x1, .f32⟩
  | 45 => ⟨S1024x25, .f32⟩
  | 46 => ⟨S1024x25, .f32⟩
  | 47 => ⟨S1024x25, .f32⟩
  | 48 => ⟨S_, .f32⟩
  | 49 => ⟨S1024x25, .f32⟩
  | 50 => ⟨S1024x25, .f32⟩
  | 51 => ⟨S1024x25, .f32⟩
  | 52 => ⟨S_, .f32⟩
  | 53 => ⟨S1024, .f32⟩
  | 54 => ⟨S1024x1, .f32⟩
  | 55 => ⟨S_, .f32⟩
  | 56 => ⟨S1024x1, .f32⟩
  | 57 => ⟨S1024x1, .i1⟩
  | 58 => ⟨S1024x200, .f32⟩
  | 59 => ⟨S1024x200, .f32⟩
  | 60 => ⟨S_, .f32⟩
  | 61 => ⟨S_, .f32⟩
  | 62 => ⟨S1024x200, .i1⟩
  | 63 => ⟨S1024x200, .f32⟩
  | 64 => ⟨S1024x200, .f32⟩
  | 65 => ⟨S1024x1x1x200, .f32⟩
  | 66 => ⟨S_, .f32⟩
  | 67 => ⟨S_, .f32⟩
  | 68 => ⟨S1024x25x10x200, .f32⟩
  | 69 => ⟨S1024x25x10x200, .f32⟩
  | 70 => ⟨S1024x25x10x200, .f32⟩
  | 71 => ⟨S_, .f32⟩
  | 72 => ⟨S1024x25x10, .f32⟩
  | 73 => ⟨S_, .f32⟩
  | 74 => ⟨S1024x25, .f32⟩
  | 75 => ⟨S1024x1x1x200, .f32⟩
  | 76 => ⟨S_, .f32⟩
  | 77 => ⟨S_, .f32⟩
  | 78 => ⟨S1024x25x190x200, .f32⟩
  | 79 => ⟨S1024x25x190x200, .f32⟩
  | 80 => ⟨S1024x25x190x200, .f32⟩
  | 81 => ⟨S_, .f32⟩
  | 82 => ⟨S1024x25x190, .f32⟩
  | 83 => ⟨S_, .f32⟩
  | 84 => ⟨S1024x25, .f32⟩
  | 85 => ⟨S1024x25, .f32⟩
  | 86 => ⟨S1024x1x1x200, .f32⟩
  | 87 => ⟨S_, .f32⟩
  | 88 => ⟨S_, .f32⟩
  | 89 => ⟨S1024x25x10x200, .f32⟩
  | 90 => ⟨S1024x25x10x200, .f32⟩
  | 91 => ⟨S1024x25x10x200, .f32⟩
  | 92 => ⟨S_, .f32⟩
  | 93 => ⟨S1024x25x10, .f32⟩
  | 94 => ⟨S_, .f32⟩
  | 95 => ⟨S1024x25, .f32⟩
  | 96 => ⟨S1024x25x1, .f32⟩
  | 97 => ⟨S_, .f32⟩
  | 98 => ⟨S1024x25x1, .f32⟩
  | 99 => ⟨S1024x25x1, .i1⟩
  | 100 => ⟨S1024x25x10, .f32⟩
  | 101 => ⟨S1024x25x10, .f32⟩
  | 102 => ⟨S_, .f32⟩
  | 103 => ⟨S_, .f32⟩
  | 104 => ⟨S1024x25x10, .i1⟩
  | 105 => ⟨S1024x25x10, .f32⟩
  | 106 => ⟨S1024x25x10, .f32⟩
  | 107 => ⟨S1024x25x10x1, .f32⟩
  | 108 => ⟨S_, .f32⟩
  | 109 => ⟨S_, .f32⟩
  | 110 => ⟨S1024x25x10x200, .f32⟩
  | 111 => ⟨S1024x25x10x200, .f32⟩
  | 112 => ⟨S1024x25x10x200, .f32⟩
  | 113 => ⟨S_, .f32⟩
  | 114 => ⟨S1024x25x200, .f32⟩
  | 115 => ⟨S1024x25x200x1, .f32⟩
  | 116 => ⟨S1024x1x200x8, .f32⟩
  | 117 => ⟨S1024x25x200x8, .f32⟩
  | 118 => ⟨S1024x25x200x8, .f32⟩
  | 119 => ⟨S1024x25x200x8, .f32⟩
  | 120 => ⟨S_, .f32⟩
  | 121 => ⟨S1024x25x8, .f32⟩
  | 122 => ⟨S_, .f32⟩
  | 123 => ⟨S1024x25, .f32⟩
  | 124 => ⟨S1024x25x1, .f32⟩
  | 125 => ⟨S1024x25x8, .f32⟩
  | 126 => ⟨S1024x25x8, .f32⟩
  | 127 => ⟨S_, .f32⟩
  | _ => ⟨S1024x200, .f32⟩

abbrev hbmTy0_2 (i : Nat) : BufTy := match i % 128 with
  | 0 => ⟨S1024x25x8, .f32⟩
  | 1 => ⟨S1024x25x8, .i1⟩
  | 2 => ⟨S_, .f32⟩
  | 3 => ⟨S1024x25x8, .f32⟩
  | 4 => ⟨S1024x25x8, .i1⟩
  | 5 => ⟨S_, .f32⟩
  | 6 => ⟨S_, .f32⟩
  | 7 => ⟨S1024x25x8, .f32⟩
  | 8 => ⟨S1024x25x8, .f32⟩
  | 9 => ⟨S1024x25x8, .f32⟩
  | 10 => ⟨S_, .f32⟩
  | 11 => ⟨S_, .f32⟩
  | 12 => ⟨S1024x25x8, .f32⟩
  | 13 => ⟨S1024x25x8, .f32⟩
  | 14 => ⟨S1024x25x8, .f32⟩
  | 15 => ⟨S_, .f32⟩
  | 16 => ⟨S1024x25, .f32⟩
  | 17 => ⟨S1024x25, .f32⟩
  | 18 => ⟨S_, .f32⟩
  | 19 => ⟨S1024x25, .f32⟩
  | 20 => ⟨S1024x25, .f32⟩
  | 21 => ⟨S1024x25, .f32⟩
  | 22 => ⟨S1024x25, .f32⟩
  | 23 => ⟨S_, .f32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S_, .f32⟩
  | 32 => ⟨S_, .f32⟩
  | 33 => ⟨S_, .f32⟩
  | 34 => ⟨S_, .f32⟩
  | _ => ⟨S1024x200, .f32⟩

abbrev hbmTy (i : Nat) : BufTy := match i / 128 with
  | 0 => hbmTy0_0 i
  | 1 => hbmTy0_1 i
  | 2 => hbmTy0_2 i
  | _ => ⟨S1024x200, .f32⟩

abbrev bufTy : (tb : Table) → Fin (tcTables nBuf tb) → BufTy
  | .hbm, ⟨i, _⟩ => hbmTy i
  | _, _ => ⟨S1024x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_call2_v0 : Ref sig .tc := ⟨.hbm, 50, rfl⟩
abbrev main_call2_v1_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_15 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_17 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_25 : Ref sig .tc := ⟨.hbm, 157, rfl⟩
abbrev main_v113 : Ref sig .tc := ⟨.hbm, 158, rfl⟩
abbrev main_cst_26 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_27 : Ref sig .tc := ⟨.hbm, 167, rfl⟩
abbrev main_v121 : Ref sig .tc := ⟨.hbm, 168, rfl⟩
abbrev main_cst_28 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_29 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_30 : Ref sig .tc := ⟨.hbm, 180, rfl⟩
abbrev main_v131 : Ref sig .tc := ⟨.hbm, 181, rfl⟩
abbrev main_v132 : Ref sig .tc := ⟨.hbm, 182, rfl⟩
abbrev main_cst_31 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_32 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_v137 : Ref sig .tc := ⟨.hbm, 192, rfl⟩
abbrev main_v138 : Ref sig .tc := ⟨.hbm, 193, rfl⟩
abbrev main_cst_33 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v139 : Ref sig .tc := ⟨.hbm, 198, rfl⟩
abbrev main_cst_34 : Ref sig .tc := ⟨.hbm, 199, rfl⟩
abbrev main_v140 : Ref sig .tc := ⟨.hbm, 200, rfl⟩
abbrev main_cst_35 : Ref sig .tc := ⟨.hbm, 201, rfl⟩
abbrev main_v141 : Ref sig .tc := ⟨.hbm, 202, rfl⟩
abbrev main_v142 : Ref sig .tc := ⟨.hbm, 203, rfl⟩
abbrev main_cst_36 : Ref sig .tc := ⟨.hbm, 204, rfl⟩
abbrev main_call7_v0 : Ref sig .tc := ⟨.hbm, 205, rfl⟩
abbrev main_call7_v1 : Ref sig .tc := ⟨.hbm, 206, rfl⟩
abbrev main_call7_v2 : Ref sig .tc := ⟨.hbm, 207, rfl⟩
abbrev main_v143 : Ref sig .tc := ⟨.hbm, 208, rfl⟩
abbrev main_cst_37 : Ref sig .tc := ⟨.hbm, 209, rfl⟩
abbrev main_v144 : Ref sig .tc := ⟨.hbm, 210, rfl⟩
abbrev main_cst_38 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_cst_39 : Ref sig .tc := ⟨.hbm, 215, rfl⟩
abbrev main_call8_v0 : Ref sig .tc := ⟨.hbm, 216, rfl⟩
abbrev main_call8_v1 : Ref sig .tc := ⟨.hbm, 217, rfl⟩
abbrev main_call8_v2 : Ref sig .tc := ⟨.hbm, 218, rfl⟩
abbrev main_v148 : Ref sig .tc := ⟨.hbm, 219, rfl⟩
abbrev main_cst_40 : Ref sig .tc := ⟨.hbm, 220, rfl⟩
abbrev main_v149 : Ref sig .tc := ⟨.hbm, 221, rfl⟩
abbrev main_cst_41 : Ref sig .tc := ⟨.hbm, 222, rfl⟩
abbrev main_v150 : Ref sig .tc := ⟨.hbm, 223, rfl⟩
abbrev main_v151 : Ref sig .tc := ⟨.hbm, 224, rfl⟩
abbrev main_cst_42 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_43 : Ref sig .tc := ⟨.hbm, 230, rfl⟩
abbrev main_call9_v0 : Ref sig .tc := ⟨.hbm, 231, rfl⟩
abbrev main_call9_v1 : Ref sig .tc := ⟨.hbm, 232, rfl⟩
abbrev main_call9_v2 : Ref sig .tc := ⟨.hbm, 233, rfl⟩
abbrev main_v156 : Ref sig .tc := ⟨.hbm, 234, rfl⟩
abbrev main_v157 : Ref sig .tc := ⟨.hbm, 235, rfl⟩
abbrev main_cst_44 : Ref sig .tc := ⟨.hbm, 236, rfl⟩
abbrev main_call10_v0 : Ref sig .tc := ⟨.hbm, 237, rfl⟩
abbrev main_call10_v1 : Ref sig .tc := ⟨.hbm, 238, rfl⟩
abbrev main_call10_v2 : Ref sig .tc := ⟨.hbm, 239, rfl⟩
abbrev main_v158 : Ref sig .tc := ⟨.hbm, 240, rfl⟩
abbrev main_cst_45 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_46 : Ref sig .tc := ⟨.hbm, 248, rfl⟩
abbrev main_v165 : Ref sig .tc := ⟨.hbm, 249, rfl⟩
abbrev main_cst_47 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_cst_48 : Ref sig .tc := ⟨.hbm, 255, rfl⟩
abbrev main_v170 : Ref sig .tc := ⟨.hbm, 256, rfl⟩
abbrev main_v171 : Ref sig .tc := ⟨.hbm, 257, rfl⟩
abbrev main_cst_49 : Ref sig .tc := ⟨.hbm, 258, rfl⟩
abbrev main_v172 : Ref sig .tc := ⟨.hbm, 259, rfl⟩
abbrev main_v173 : Ref sig .tc := ⟨.hbm, 260, rfl⟩
abbrev main_cst_50 : Ref sig .tc := ⟨.hbm, 261, rfl⟩
abbrev main_call11_v0 : Ref sig .tc := ⟨.hbm, 262, rfl⟩
abbrev main_call11_v1 : Ref sig .tc := ⟨.hbm, 263, rfl⟩
abbrev main_v174 : Ref sig .tc := ⟨.hbm, 264, rfl⟩
abbrev main_v175 : Ref sig .tc := ⟨.hbm, 265, rfl⟩
abbrev main_cst_51 : Ref sig .tc := ⟨.hbm, 266, rfl⟩
abbrev main_call12_v0 : Ref sig .tc := ⟨.hbm, 267, rfl⟩
abbrev main_call12_v1 : Ref sig .tc := ⟨.hbm, 268, rfl⟩
abbrev main_v176 : Ref sig .tc := ⟨.hbm, 269, rfl⟩
abbrev main_v177 : Ref sig .tc := ⟨.hbm, 270, rfl⟩
abbrev main_cst_52 : Ref sig .tc := ⟨.hbm, 271, rfl⟩
abbrev main_v178 : Ref sig .tc := ⟨.hbm, 272, rfl⟩
abbrev main_v179 : Ref sig .tc := ⟨.hbm, 273, rfl⟩
abbrev main_cst_53 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_cst_54 : Ref sig .tc := ⟨.hbm, 279, rfl⟩
abbrev main_v184 : Ref sig .tc := ⟨.hbm, 280, rfl⟩
abbrev main_cst_55 : Ref sig .tc := ⟨.hbm, 281, rfl⟩
abbrev main_v185 : Ref sig .tc := ⟨.hbm, 282, rfl⟩
abbrev main_v186 : Ref sig .tc := ⟨.hbm, 283, rfl⟩
abbrev main_cst_56 : Ref sig .tc := ⟨.hbm, 284, rfl⟩
abbrev main_v187 : Ref sig .tc := ⟨.hbm, 285, rfl⟩
abbrev main_v188 : Ref sig .tc := ⟨.hbm, 286, rfl⟩
abbrev main_cst_57 : Ref sig .tc := ⟨.hbm, 287, rfl⟩
abbrev main_v189 : Ref sig .tc := ⟨.hbm, 288, rfl⟩
abbrev main_cst_58 : Ref sig .tc := ⟨.hbm, 289, rfl⟩
abbrev main_v190 : Ref sig .tc := ⟨.hbm, 290, rfl⟩

abbrev nD : Nat := 1
abbrev τ : Topo := Topo.v7x

variable {F : FTy → Type} [FloatOps F]
-- ==== Proof.Tile.lean ====
/- The tile's body written with folds. Each definition here is a stretch of the printed kernel's body,
   one step of each of its repetitions written once; `Same.lean` proves the printed body equal to it. -/
module

public import proofs.«01_k».proof.KernelIdeal

@[expose] public section

noncomputable section

namespace Cert.KernelIdeal.Tile

open Idealize.ShloMosaic Idealize.SL.Sem Cert.KernelIdeal
open Facts₀ Facts

variable {F : FTy → Type} [FloatOps F] [Named F] [Facts]

/-- A vector of sixteen floats, -/
abbrev V (F : FTy → Type) [FloatOps F] : Type := Vec F S16 .f32
/-- and of sixteen words. -/
abbrev W : Type := IVec S16 32

/-- Programs of one tile. -/
abbrev Pg (F : FTy → Type) [FloatOps F] [Named F] (i : grid0.Coords) (α : Type) : Type 1 :=
  Prog (TpuEff nD τ sig (Elt F) Λ₀ (.scVector ((i 0).castLE hcore0) ((i 1).castLE hsub0))) α

/-! ## Constants -/

abbrev zeroF : V F := broadcast S16 (Scalar.ofBits .f32 0x00000000#32)
abbrev oneF : V F := broadcast S16 (Scalar.ofBits .f32 0x3F800000#32)
abbrev negInf : V F := broadcast S16 (Scalar.ofBits .f32 0xFF800000#32)
abbrev word (n : Nat) : W := broadcast S16 (BitVec.ofNat 32 n)
abbrev lane : W := iota .scVector S16 32 [0] iota_S16_d0_w32_scVector

abbrev m8 : Memref sig .scVector .vmem S32x200 .f32 := Memref.whole cc0_scratch0
abbrev m9 : Memref sig .scVector .vmem S32x200 .f32 := Memref.whole cc0_scratch1
abbrev m10 : Memref sig .scVector .vmem S32x200x8 .f32 := Memref.whole cc0_scratch2
abbrev m11 : Memref sig .scVector .vmem S32x200 .f32 := Memref.whole cc0_scratch3
abbrev m12 : Memref sig .scVector .vmem S16x200 .f32 := Memref.whole cc0_scratch4
abbrev m13 : Memref sig .scVector .vmem S16x10 .f32 := Memref.whole cc0_scratch5
abbrev m14 : Memref sig .scVector .vmem S3200 .f32 := Memref.whole cc0_scratch6
abbrev m15 : Memref sig .scVector .vmem S160 .f32 := Memref.whole cc0_scratch7
abbrev m16 : Memref sig .scVector .vmem S160 .f32 := Memref.whole cc0_scratch8
abbrev m17 : Memref sig .scVector .vmem S32 .f32 := Memref.whole cc0_scratch9
abbrev m18 : Memref sig .scVector .vmem S32 .f32 := Memref.whole cc0_scratch10
abbrev m19 : Memref sig .scVector .vmem S16 .f32 := Memref.whole cc0_scratch11

variable (i : grid0.Coords)

/-! ## Repetition -/

/-- The steps `l` of `f` in turn, each on what the one before left. -/
def foldP {ι σ : Type} (f : ι → σ → Pg F i σ) : List ι → σ → Pg F i σ
  | [], s => pure s
  | k :: l, s => f k s >>= fun s => foldP f l s

/-- A value before a sequence of values. -/
def cons {α : Type} (a : α) (r : Nat → α) : Nat → α
  | 0 => a
  | n + 1 => r n

/-- The results of the steps `l`; `z` past them. -/
def seqP {ι α : Type} (z : α) (f : ι → Pg F i α) : List ι → Pg F i (Nat → α)
  | [] => pure fun _ => z
  | k :: l => f k >>= fun a => seqP z f l >>= fun r => pure (cons a r)

/-- The numbers of the eight groups and the ten places, -/
abbrev eight : List Nat := [0, 1, 2, 3, 4, 5, 6, 7]
abbrev ten : List Nat := [0, 1, 2, 3, 4, 5, 6, 7, 8, 9]
/-- and of the twenty places of a chunk, each with the word of a buffer it begins at. -/
abbrev twenty : List (Nat × Nat) := [(0, 0), (1, 16), (2, 32), (3, 48), (4, 64), (5, 80), (6, 96), (7, 112), (8, 128), (9, 144),
  (10, 160), (11, 176), (12, 192), (13, 208), (14, 224), (15, 240), (16, 256), (17, 272), (18, 288), (19, 304)]

/-! ## Accesses -/

/-- A gather of a 32 × 200 buffer. -/
def g200 (m : Memref sig .scVector .vmem S32x200 .f32) (r c : W) : Pg F i (V F) := do
  have h : k0_chk8 r c := (← Prog.lift (TpuEff.assume (k0_chk8 r c) (k0_chk8.dec r c))).down
  SparseCore.vectorLoadIdx m ![r, c] (k0_idx14_inb r c h) (View.loads_vmem h_S32x200)

def gNoise (r c : W) : Pg F i (V F) := do
  have h : k0_chk7 r c := (← Prog.lift (TpuEff.assume (k0_chk7 r c) (k0_chk7.dec r c))).down
  SparseCore.vectorLoadIdx m12 ![r, c] (k0_idx13_inb r c h) (View.loads_vmem h_S16x200)

def gU (r c : W) : Pg F i (V F) := do
  have h : k0_chk47 r c := (← Prog.lift (TpuEff.assume (k0_chk47 r c) (k0_chk47.dec r c))).down
  SparseCore.vectorLoadIdx m13 ![r, c] (k0_idx53_inb r c h) (View.loads_vmem h_S16x10)

def gZ (w : W) : Pg F i (V F) := do
  have h : k0_chk57 w := (← Prog.lift (TpuEff.assume (k0_chk57 w) (k0_chk57.dec w))).down
  SparseCore.vectorLoadIdx m14 ![w] (k0_idx63_inb w h) (View.loads_vmem h_S3200)

def sZ (w : W) (v : V F) : Pg F i PUnit := do
  have h : k0_chk57 w := (← Prog.lift (TpuEff.assume (k0_chk57 w) (k0_chk57.dec w))).down
  SparseCore.vectorStoreIdx m14 ![w] v (fun _ => 1#1) false (k0_idx63_inb w h) (View.stores_vmem_bits_univ h_S3200 rfl)

def s160 (m : Memref sig .scVector .vmem S160 .f32) (w : W) (v : V F) : Pg F i PUnit := do
  have h : k0_chk78 w := (← Prog.lift (TpuEff.assume (k0_chk78 w) (k0_chk78.dec w))).down
  SparseCore.vectorStoreIdx m ![w] v (fun _ => 1#1) false (k0_idx84_inb w h) (View.stores_vmem_bits_univ h_S160 rfl)

theorem inb160 (k : Nat) : ∀ a, (![16 * (k % 10)] : Fin 1 → Nat) a + S16.size a ≤ S160.size a := by
  intro a
  fin_cases a
  show 16 * (k % 10) + 16 ≤ 160
  omega

/-- Sixteen words of a buffer of 160, at `16 k`. -/
def l160 (m : Memref sig .scVector .vmem S160 .f32) (k : Nat) : Pg F i (V F) :=
  show Pg F i (Vec F S16 .f32) from
  Prog.lift (.load m (Rect.unit (s := S160) ![16 * (k % 10)] S16.size (inb160 k)).toLoadRect (View.loadsAt_vmem h_S16))

/-! ## One selection -/

/-- The best chunk so far: its maximum and its number. -/
def pickStep (k : Nat) : V F × W → Pg F i (V F × W)
  | (m, b) => do
    let v ← l160 i m16 k
    pure (select (cmpf .ogt v m) v m, select (cmpf .ogt v m) (word k) b)

/-- The largest, the second largest and the place of the largest within the chunk. -/
def scanStep (zb : W) (t : Nat × Nat) : V F × V F × W → Pg F i (V F × V F × W)
  | (m1, m2, t1) => do
    let v ← gZ i (addi zb (word t.2))
    pure (select (cmpf .ogt v m1) v m1, select (cmpf .ogt v m1) m1 (maximumf m2 v), select (cmpf .ogt v m1) (word t.1) t1)

/-- What is selected is taken out: its key goes and its chunk's maximum is the second largest. After the last
    selection nothing is. -/
def takeOut : Bool → W → W → V F → Pg F i PUnit
  | true, _, _, _ => pure ⟨⟩
  | false, wz, wm, m2 => do
    sZ i wz negInf
    s160 i m16 wm m2

/-- One selection: the index taken and the relevance there. -/
def pick (last : Bool) (bl rk : W) : Pg F i (W × V F) := do
  let s ← foldP i (pickStep i) ten (negInf, word 0)
  match s with
  | (_, b) => do
    let s ← foldP i (scanStep i (addi (muli b (word 320)) lane)) twenty (negInf, negInf, word 0)
    match s with
    | (_, m2, t1) => do
      have h : k0_chk79 bl (addi (muli b (word 20)) t1) := (← Prog.lift (TpuEff.assume (k0_chk79 bl (addi (muli b (word 20)) t1))
        (k0_chk79.dec bl (addi (muli b (word 20)) t1)))).down
      takeOut i last (addi (addi (muli b (word 320)) lane) (muli t1 (word 16))) (addi (muli b (word 16)) lane) m2
      let q ← SparseCore.vectorLoadIdx m11 ![bl, addi (muli b (word 20)) t1] (k0_idx85_inb bl (addi (muli b (word 20)) t1) h) (View.loads_vmem h_S32x200)
      s160 i m15 (addi (muli rk (word 16)) lane) q
      let r ← SparseCore.vectorLoadIdx m9 ![bl, addi (muli b (word 20)) t1] (k0_idx87_inb bl (addi (muli b (word 20)) t1) h) (View.loads_vmem h_S32x200)
      pure (addi (muli b (word 20)) t1, r)

/-- How many of the draws `l` come before `x`, upon `acc`: of those earlier in place the ones not above it, -/
def notAbove (u : Nat → V F) (x : V F) : List Nat → W → W
  | [], acc => acc
  | k :: l, acc => notAbove u x l (addi acc (select (ori (cmpf .olt (u k) x) (cmpf .oeq (u k) x)) (word 1) (word 0)))

/-- of those later the ones below it. -/
def below (u : Nat → V F) (x : V F) : List Nat → W → W
  | [], acc => acc
  | k :: l, acc => below u x l (addi acc (select (cmpf .olt (u k) x) (word 1) (word 0)))

/-- The rank of `u j` among the ten, equal ones in order of place. -/
def rank (u : Nat → V F) (j : Nat) : W := below u (u j) (ten.drop (j + 1)) (notAbove u (u j) (ten.take j) (word 0))

/-! ## The keys of a chunk -/

/-- Where a key of chunk `k`, place `t`, lies: sixteen words at `320 k + 16 t`. -/
def offZ (k : Fin k0_t8_loop.trips) (t : Nat) : Fin 1 → Nat :=
  ![(Scalar.addi (Scalar.muli (Scf.iv 0#32 1#32 k) 320#32) (BitVec.ofNat 32 (16 * (t % 20)))).toNat]

theorem offZ_inb (k : Fin k0_t8_loop.trips) (t : Nat) : ∀ a, offZ k t a + S16.size a ≤ S3200.size a := by
  intro a
  fin_cases a
  have hk : k.val < 10 := k.isLt
  have ht : t % 20 < 20 := Nat.mod_lt _ (by decide)
  have h : ∀ k : Fin 10, ∀ n : Fin 20,
      (Scalar.addi (Scalar.muli (Scf.iv 0#32 1#32 k.val) 320#32) (BitVec.ofNat 32 (16 * n.val))).toNat + 16 ≤ 3200 := by decide
  exact h ⟨k.val, hk⟩ ⟨t % 20, ht⟩

/-- A key: noise plus score, written to its place; the chunk's maximum so far goes on. -/
def zStep (bl jv : W) (k : Fin k0_t8_loop.trips) (t : Nat × Nat) (m : V F) : Pg F i (V F) := do
  let g ← gNoise i lane (addi jv (word t.1))
  let s ← g200 i m8 bl (addi jv (word t.1))
  let _old : Vec F S16 .f32 ← Prog.lift (.load m14 (Rect.unit (s := S3200) (offZ k t.1) S16.size (offZ_inb k t.1)).toLoadRect (View.loadsAt_vmem h_S16))
  Prog.lift (.store m14 (Rect.unit (s := S3200) (offZ k t.1) S16.size (offZ_inb k t.1)) (addf g s) Finset.univ (View.stores_vmem_bits_univ h_S16 rfl) (.inl rfl))
  pure (maximumf m (addf g s))

def zChunk (bl : W) (k : Fin k0_t8_loop.trips) (jv : W) : Pg F i W := do
  let m ← foldP i (zStep i bl jv k) twenty negInf
  let _old : Vec F S16 .f32 ← Prog.lift (.load m16 (Rect.unit (s := S160) (k0_off25 k) S16.size (k0_off25_inb k)).toLoadRect (View.loadsAt_vmem h_S16))
  Prog.lift (.store m16 (Rect.unit (s := S160) (k0_off25 k) S16.size (k0_off25_inb k)) m Finset.univ (View.stores_vmem_bits_univ h_S16 rfl) (.inl rfl))
  pure (addi jv (word 20))

/-! ## Exposure, entropy and the likelihood -/

theorem chk_at {bl w : W} {b : Nat → W} (h : k0_chk296 bl (b 0) (b 1) (b 2) (b 3) (b 4) (b 5) (b 6) (b 7) (b 8) (b 9) w) (k : Nat) :
    ∀ a x, ((![bl, b (k % 10), w] : Fin 3 → W) a x).toNat < S32x200x8.size a := by
  obtain ⟨h0, h1, h2, h3, h4, h5, h6, h7, h8, h9⟩ := h
  have hk : k % 10 < 10 := Nat.mod_lt _ (by decide)
  generalize k % 10 = n at hk
  interval_cases n <;> assumption

def expoStep (bl w : W) (b : Nat → W) (wt : Nat → V F)
    (h : k0_chk296 bl (b 0) (b 1) (b 2) (b 3) (b 4) (b 5) (b 6) (b 7) (b 8) (b 9) w) (k : Nat) (s : V F) : Pg F i (V F) := do
  let e ← SparseCore.vectorLoadIdx m10 ![bl, b (k % 10), w] (chk_at h k) (View.loads_vmem h_S32x200x8)
  pure (addf s (mulf (wt k) e))

def expo (bl : W) (b : Nat → W) (wt : Nat → V F) (g : Nat) : Pg F i (V F) := do
  have h : k0_chk296 bl (b 0) (b 1) (b 2) (b 3) (b 4) (b 5) (b 6) (b 7) (b 8) (b 9) (word g) :=
    (← Prog.lift (TpuEff.assume (k0_chk296 bl (b 0) (b 1) (b 2) (b 3) (b 4) (b 5) (b 6) (b 7) (b 8) (b 9) (word g))
      (k0_chk296.dec bl (b 0) (b 1) (b 2) (b 3) (b 4) (b 5) (b 6) (b 7) (b 8) (b 9) (word g)))).down
  foldP i (expoStep i bl (word g) b wt h) ten zeroF

def entStep (f : Nat → V F) (inv : V F) (k : Nat) (h : V F) : V F :=
  subf h (select (cmpf .ogt (mulf (f k) inv) zeroF) (mulf (mulf (f k) inv) (log (mulf (f k) inv))) zeroF)

/-- The sum of `f` over the numbers `l`, upon `s`; -/
def sumFrom (f : Nat → V F) : List Nat → V F → V F
  | [], s => s
  | k :: l, s => sumFrom f l (addf s (f k))

/-- the entropy of what is proportional to `f`. -/
def entFrom (f : Nat → V F) (inv : V F) : List Nat → V F → V F
  | [], s => s
  | k :: l, s => entFrom f inv l (entStep f inv k s)

def entropy (f : Nat → V F) : V F := entFrom f (divf oneF (sumFrom f [1, 2, 3, 4, 5, 6, 7] (f 0))) eight zeroF

/-- Logs of the probabilities, logs of what is left, and the sum so far. -/
def likeStep (tp : V F) (k : Nat) : V F × V F × V F → Pg F i (V F × V F × V F)
  | (a, b, c) => do
    let q ← l160 i m15 k
    pure (addf a (log q), addf b (log (subf tp c)), addf c q)

/-- The reciprocal where the argument is positive, zero elsewhere. -/
def recip (x : V F) : V F := select (cmpf .ogt x zeroF) (divf oneF x) zeroF

def total (r : Nat → V F) : V F := sumFrom r [1, 2, 3, 4, 5, 6, 7, 8, 9] (r 0)

def delta (r : Nat → V F) (srel : V F) : V F :=
  subf (mulf (broadcast S16 (Scalar.ofBits .f32 0x40000000#32)) (mulf (total r) (recip srel))) (mulf srel (recip srel))

def weight (r : Nat → V F) (k : Nat) : V F :=
  select (cmpf .ogt (total r) zeroF) (mulf (r k) (recip (total r))) (broadcast S16 (Scalar.ofBits .f32 0x3DCCCCCD#32))

/-- What one group adds. -/
def gain (r f : Nat → V F) (srel : V F) (sl sd : V F) : V F :=
  mulf (subf (addf (broadcast S16 (Named.named κ "log_kfact" 0x4171ABAD#32)) sl) sd)
    (addf (delta r srel) (mulf (broadcast S16 (Scalar.ofBits .f32 0x3F000000#32)) (entropy f)))

/-- One group of sixteen draws, its rows read. -/
def groupMain (bl : W) (acc : V F) : Pg F i (V F) := do
  have h : k0_chk295 bl := (← Prog.lift (TpuEff.assume (k0_chk295 bl) (k0_chk295.dec bl))).down
  let _jv : W ← Scf.Loop.for k0_t8_loop k0_t8_ok (word 0) (zChunk i bl)
  let u ← seqP i zeroF (fun k => gU i lane (word k)) ten
  let p ← seqP i ((word 0, zeroF) : W × V F) (fun k => pick i (Nat.beq k 9) bl (rank u k)) ten
  let tp : Vec F S16 .f32 ← SparseCore.vectorLoadIdx m17 ![bl] (k0_idx311_inb bl h) (View.loads_vmem h_S32)
  let srel : Vec F S16 .f32 ← SparseCore.vectorLoadIdx m18 ![bl] (k0_idx312_inb bl h) (View.loads_vmem h_S32)
  let f ← seqP i zeroF (expo i bl (fun k => (p k).1) (weight fun k => (p k).2)) eight
  let l ← foldP i (likeStep i tp) ten (zeroF, zeroF, zeroF)
  match l with
  | (sl, sd, _) => pure (addf acc (gain (fun k => (p k).2) f srel sl sd))

/-- The draw of each lane within the tile, -/
abbrev drawOf (k : Fin k0_t7_loop.trips) : W := addi (broadcast S16 (Scalar.muli (Scf.iv 0#32 1#32 k) 16#32)) lane

/-- and its list, of the thirty-two of the tile: the draw's number over twenty-five, rounded down. -/
abbrev rowOf (k : Fin k0_t7_loop.trips) : W :=
  select (andi (cmpi .ne (subi (extui 32 (cmpi .sgt (drawOf k) (word 0)) natLt_1_32) (extui 32 (cmpi .slt (drawOf k) (word 0)) natLt_1_32))
      (broadcast S16 (Scalar.subi (Scalar.extui (Scalar.cmpi .sgt 25#32 0#32)) (Scalar.extui (Scalar.cmpi .slt 25#32 0#32)))))
    (cmpi .ne (remsi (drawOf k) (word 25)) (word 0))) (subi (divsi (drawOf k) (word 25)) (word 1)) (divsi (drawOf k) (word 25))

/-! ## The body -/

abbrev row0 : Memref sig .scVector .hbm S32x200 .f32 :=
  (Memref.whole main_arg0_scv).slice (Rect.unit (s := S1024x200) (k0_off1 i) S32x200.size (k0_off1_inb i)) (fun _ => rfl)
abbrev row1 : Memref sig .scVector .hbm S32x200 .f32 :=
  (Memref.whole main_arg1_scv).slice (Rect.unit (s := S1024x200) (k0_off1 i) S32x200.size (k0_off1_inb i)) (fun _ => rfl)
abbrev row2 : Memref sig .scVector .hbm S32x200x8 .f32 :=
  (Memref.whole main_arg2_scv).slice (Rect.unit (s := S1024x200x8) (k0_off2 i) S32x200x8.size (k0_off2_inb i)) (fun _ => rfl)
abbrev row3 (k : Fin k0_t7_loop.trips) : Memref sig .scVector .hbm S16x200 .f32 :=
  (Memref.whole main_arg3_scv).slice (Rect.unit (s := S25600x200) (k0_off3 i k) S16x200.size (k0_off3_inb i k)) (fun _ => rfl)
abbrev row4 (k : Fin k0_t7_loop.trips) : Memref sig .scVector .hbm S16x10 .f32 :=
  (Memref.whole main_arg4_scv).slice (Rect.unit (s := S25600x10) (k0_off4 i k) S16x10.size (k0_off4_inb i k)) (fun _ => rfl)
abbrev rowOut : Memref sig .scVector .hbm S16 .f32 :=
  ((Memref.whole main_v0_scv).slice (Rect.unit (s := S32x16) (k0_off26 i) S1x16.size (k0_off26_inb i)) (fun _ => rfl)).squeeze S16 squeezes_S1x16_S16

/-- A group: its rows of noise and of the second draws in, then its work. -/
def group (k : Fin k0_t7_loop.trips) (acc : V F) : Pg F i (V F) := do
  Prog.lift (.enqueueDma (row3 i k) (.here m12) (.dma cc0_scoped3.sem) (View.wordExact_bits rfl) (Memref.isWhole_whole _).wordExact ⟨Or.inl rfl, trivial⟩)
  Prog.lift (.waitDma2 cc0_scoped3.sem (row3 i k) m12 (View.wordExact_bits rfl) (Memref.isWhole_whole _).wordExact)
  Prog.lift (.enqueueDma (row4 i k) (.here m13) (.dma cc0_scoped4.sem) (View.wordExact_bits rfl) (Memref.isWhole_whole _).wordExact ⟨Or.inl rfl, trivial⟩)
  Prog.lift (.waitDma2 cc0_scoped4.sem (row4 i k) m13 (View.wordExact_bits rfl) (Memref.isWhole_whole _).wordExact)
  groupMain i (rowOf k) acc

/-- The largest score of each lane's list. -/
def maxStep (r : W) (k : Nat) (m : V F) : Pg F i (V F) := do
  let s ← g200 i m8 r (broadcast S16 (Scf.iv 0#32 1#32 k))
  pure (maximumf m s)

/-- The exponentials, their sum and the sum of the relevances. -/
def expStep (r : W) (m : V F) (k : Nat) (s : V F × V F) : Pg F i (V F × V F) := do
  let c : W := broadcast S16 (Scf.iv 0#32 1#32 k)
  have h : k0_chk2 r c := (← Prog.lift (TpuEff.assume (k0_chk2 r c) (k0_chk2.dec r c))).down
  let x : Vec F S16 .f32 ← SparseCore.vectorLoadIdx m8 ![r, c] (k0_idx2_inb r c h) (View.loads_vmem h_S32x200)
  SparseCore.vectorStoreIdx m11 ![r, c] (exp (subf x m)) (fun _ => 1#1) false (k0_idx3_inb r c h) (View.stores_vmem_bits_univ h_S32x200 rfl)
  let y : Vec F S16 .f32 ← SparseCore.vectorLoadIdx m9 ![r, c] (k0_idx4_inb r c h) (View.loads_vmem h_S32x200)
  pure (addf s.1 (exp (subf x m)), addf s.2 y)

/-- The exponentials over their sum, and the sum of the quotients. -/
def normStep (r : W) (inv : V F) (k : Nat) (s : V F) : Pg F i (V F) := do
  let c : W := broadcast S16 (Scf.iv 0#32 1#32 k)
  have h : k0_chk3 r c := (← Prog.lift (TpuEff.assume (k0_chk3 r c) (k0_chk3.dec r c))).down
  let x : Vec F S16 .f32 ← SparseCore.vectorLoadIdx m11 ![r, c] (k0_idx5_inb r c h) (View.loads_vmem h_S32x200)
  SparseCore.vectorStoreIdx m11 ![r, c] (mulf x inv) (fun _ => 1#1) false (k0_idx6_inb r c h) (View.stores_vmem_bits_univ h_S32x200 rfl)
  pure (addf s (mulf x inv))

theorem inb32 (b : Nat) : ∀ a, (![16 * (b % 2)] : Fin 1 → Nat) a + S16.size a ≤ S32.size a := by
  intro a
  fin_cases a
  show 16 * (b % 2) + 16 ≤ 32
  omega

/-- Sixteen words of a buffer of thirty-two rewritten. -/
def s32 (m : Memref sig .scVector .vmem S32 .f32) (b : Nat) (v : V F) : Pg F i PUnit := do
  let _old : Vec F S16 .f32 ← Prog.lift (.load m (Rect.unit (s := S32) ![16 * (b % 2)] S16.size (inb32 b)).toLoadRect (View.loadsAt_vmem h_S16))
  Prog.lift (.store m (Rect.unit (s := S32) ![16 * (b % 2)] S16.size (inb32 b)) v Finset.univ (View.stores_vmem_bits_univ h_S16 rfl) (.inl rfl))

/-- The softmax of sixteen lists and its sums. -/
def batch (b : Nat) : Pg F i PUnit := do
  let r : W := addi (word (16 * b)) lane
  let m : V F ← Scf.Loop.for k0_t1_loop k0_t1_ok negInf (fun k m => maxStep i r k m)
  let s : V F × V F ← Scf.Loop.for k0_t2_loop k0_t2_ok (zeroF, zeroF) (fun k s => expStep i r m k s)
  let t : V F ← Scf.Loop.for k0_t3_loop k0_t3_ok zeroF (fun k t => normStep i r (divf oneF s.1) k t)
  s32 i m17 b t
  s32 i m18 b s.2

/-- The whole body of the tile at coordinates `i`. -/
def body : Pg F i PUnit := do
  Prog.lift (.enqueueDma (row0 i) (.here m8) (.dma cc0_scoped0.sem) (View.wordExact_bits rfl) (Memref.isWhole_whole _).wordExact ⟨Or.inl rfl, trivial⟩)
  Prog.lift (.waitDma2 cc0_scoped0.sem (row0 i) m8 (View.wordExact_bits rfl) (Memref.isWhole_whole _).wordExact)
  Prog.lift (.enqueueDma (row1 i) (.here m9) (.dma cc0_scoped1.sem) (View.wordExact_bits rfl) (Memref.isWhole_whole _).wordExact ⟨Or.inl rfl, trivial⟩)
  Prog.lift (.waitDma2 cc0_scoped1.sem (row1 i) m9 (View.wordExact_bits rfl) (Memref.isWhole_whole _).wordExact)
  Prog.lift (.enqueueDma (row2 i) (.here m10) (.dma cc0_scoped2.sem) (View.wordExact_bits rfl) (Memref.isWhole_whole _).wordExact ⟨Or.inl rfl, trivial⟩)
  Prog.lift (.waitDma2 cc0_scoped2.sem (row2 i) m10 (View.wordExact_bits rfl) (Memref.isWhole_whole _).wordExact)
  batch i 0
  batch i 1
  let acc : V F ← Scf.Loop.for k0_t7_loop k0_t7_ok zeroF (group i)
  let _old : Vec F S16 .f32 ← Prog.lift (.load m19 (Rect.unit (s := S16) ![0] S16.size inb_S16_S16_0).toLoadRect (View.loadsAt_vmem h_S16))
  Prog.lift (.store m19 (Rect.unit (s := S16) ![0] S16.size inb_S16_S16_0) acc Finset.univ (View.stores_vmem_bits_univ h_S16 rfl) (.inl rfl))
  Prog.lift (.enqueueDma m19 (.here (rowOut i)) (.dma cc0_scoped5.sem) (Memref.isWhole_whole _).wordExact ((View.wordExact_bits rfl).reshape _ _) ⟨Or.inl rfl, trivial⟩)
  Prog.lift (.waitDma2 cc0_scoped5.sem m19 (rowOut i) (Memref.isWhole_whole _).wordExact ((View.wordExact_bits rfl).reshape _ _))
  pure ⟨⟩

end Cert.KernelIdeal.Tile
-- ==== Proof.Tri.lean ====
/- A stretch of the tile's body from the contents of the tile's own buffers: the values it returns and the contents it
   leaves. One rule for each access, and one for each way of repeating. -/
module

public import proofs.«01_k».proof.Defs
public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.KernelIdeal.Tile

open Idealize.ShloMosaic Cert.KernelIdeal
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F] [Facts]

/-- The launch's rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none
abbrev cV (i : grid0.Coords) : Fin τ.nSC := (i 0).castLE hcore0
abbrev jV (i : grid0.Coords) : Fin τ.nSub := (i 1).castLE hsub0
/-- The tile at coordinates `i` of device `d`. -/
abbrev thr (d : Dev nD) (i : grid0.Coords) : Thread nD τ := SparseCore.V d (cV i) (jV i)

/-- What the buffers of a tile hold. -/
abbrev St (F : FTy → Type) [FloatOps F] : Type := (b : Ref sig .scVector) → b.ty.Contents (Elt F)

/-- The twelve buffers of a tile. -/
def bufs : Finset (Ref sig .scVector) :=
  {cc0_scratch0, cc0_scratch1, cc0_scratch2, cc0_scratch3, cc0_scratch4, cc0_scratch5, cc0_scratch6, cc0_scratch7, cc0_scratch8,
    cc0_scratch9, cc0_scratch10, cc0_scratch11}

variable (d : Dev nD) (i : grid0.Coords)

def at_ (s : St F) (b : Ref sig .scVector) : sProp 𝕄 := (thr d i).loc b ↦{fullShare} (s b : Buf (Elt F) ((thr d i).loc b))

/-- The twelve buffers held, at the contents `s`. -/
def own (s : St F) : sProp 𝕄 := bigSep bufs (at_ d i s)

theorem own_take {s : St F} {b : Ref sig .scVector} (hb : b ∈ bufs) :
    (own d i s : sProp 𝕄) = iprop(at_ d i s b ∗ bigSep (bufs.erase b) (at_ d i s)) :=
  SparseCore.bigSep_erase' hb

theorem own_put {s : St F} {b : Ref sig .scVector} (hb : b ∈ bufs) (f : b.ty.Contents (Elt F)) :
    (iprop(((thr d i).loc b ↦{fullShare} (f : Buf (Elt F) ((thr d i).loc b))) ∗ bigSep (bufs.erase b) (at_ d i s)) : sProp 𝕄)
      ⊢ own d i (Function.update s b f) := by
  rw [own_take d i hb]
  refine Entails.of_eq (congrArg₂ _ ?_ ?_)
  · simp only [at_, Function.update_self]
  · refine BI.bigSep_congr fun b' hb' => ?_
    simp only [at_, Function.update_of_ne (Finset.ne_of_mem_erase hb')]

/-- From the contents `s` the program `p` returns some `a` and leaves contents `s'`, as `Q` says. -/
def Tri {α : Type} (s : St F) (p : Pg F i α) (Q : α → St F → Prop) : Prop :=
  (own d i s : sProp 𝕄) ⊢ wp frame (wpE (defs₀ (F := F)) 𝒱₀ (thr d i) none) Set.univ p
    fun a => iprop(∃ s', ⌜Q a s'⌝ ∗ own d i s')

variable {d} {i} {α β : Type}

theorem Tri.run {s : St F} {p : Pg F i α} {Q : α → St F → Prop} (h : Tri d i s p Q) :
    (own d i s : sProp 𝕄) ⊢ wp frame (wpE (defs₀ (F := F)) 𝒱₀ (thr d i) none) Set.univ p fun a => iprop(∃ s', ⌜Q a s'⌝ ∗ own d i s') := h

theorem Tri.pure {s : St F} {a : α} {Q : α → St F → Prop} (h : Q a s) : Tri d i s (Pure.pure a) Q := by
  unfold Tri
  show _ ⊢ wp _ _ _ (Prog.ret a) _
  rw [wp_ret]
  iintro H
  imodintro
  iexists s
  isplitr
  · ipureintro; exact h
  iexact H

theorem Tri.conseq {s : St F} {p : Pg F i α} {Q R : α → St F → Prop} (h : Tri d i s p Q) (hQ : ∀ a s', Q a s' → R a s') :
    Tri d i s p R := by
  refine BIBase.Entails.trans h (wp_mono _ _ _ fun a => ?_)
  iintro ⟨%s', %hq, H⟩
  iexists s'
  isplitr
  · ipureintro; exact hQ a s' hq
  iexact H

theorem Tri.bind {s : St F} {p : Pg F i α} {f : α → Pg F i β} {Q : α → St F → Prop} {R : β → St F → Prop}
    (h : Tri d i s p Q) (hf : ∀ a s', Q a s' → Tri d i s' (f a) R) : Tri d i s (p >>= f) R := by
  unfold Tri
  rw [wp_bind]
  refine BIBase.Entails.trans h (wp_mono _ _ _ fun a => ?_)
  iintro ⟨%s', %hq, H⟩
  iapply (hf a s' hq).run
  iexact H

theorem Tri.assume {s : St F} {P : Prop} {dP : Decidable P} (h : P) :
    Tri d i s (Prog.lift (TpuEff.assume P dP)) fun _ s' => s' = s := by
  unfold Tri
  refine BIBase.Entails.trans ?_ (wp_assume 𝒱₀ (thr d i) none Set.univ h)
  exact Tri.pure (F := F) rfl

section
variable {j : Fin (sig.nNear .scVector .vmem)} {hκ : sig.names .scVector .vmem j = true}

theorem Tri.loadIdx {s : St F} {t : Shape}
    {idxs : Fin (sig.tyNear .scVector .vmem j).shape.rank → IVec t 32} {h : ∀ a x, (idxs a x).toNat < (sig.tyNear .scVector .vmem j).shape.size a}
    {hl : (Memref.whole ⟨.vmem, j, hκ⟩ : Memref sig .scVector .vmem _ _).view.Loads} (hb : (⟨.vmem, j, hκ⟩ : Ref sig .scVector) ∈ bufs) :
    Tri d i s (SparseCore.vectorLoadIdx (F := F) (Memref.whole ⟨.vmem, j, hκ⟩ : Memref sig .scVector .vmem _ _) idxs h hl)
      fun a s' => a = Idealize.ShloMosaic.loadIdx (F := F) (s ⟨.vmem, j, hκ⟩) idxs h ∧ s' = s := by
  unfold Tri
  rw [own_take d i hb]
  unfold at_
  iintro ⟨H, Hr⟩
  iapply (SparseCore.wp_vectorLoadIdx (F := F) (Ix := HIx 1) (Name := ℕ) (U := UU) (Lvl := ℕ) (defs := defs₀ (F := F)) 𝒱₀ (thr d i) none Set.univ
    (base := (Memref.whole ⟨.vmem, j, hκ⟩ : Memref sig .scVector .vmem _ _)) (idxs := idxs) (h := h) (hl := hl) (k := Prog.ret) (S := Finset.univ) (q := fullShare)
    (f := s ⟨.vmem, j, hκ⟩) (Finset.subset_univ _)) $$ H
  iintro H
  rw [Memref.read_access_whole]
  rw [wp_ret]
  imodintro
  iexists s
  isplitr
  · ipureintro; exact ⟨rfl, rfl⟩
  rw [own_take d i hb]
  unfold at_
  isplitl [H] <;> iassumption

theorem Tri.storeIdx {s : St F} {e : Fin 1 → Nat}
    {idxs : Fin (sig.tyNear .scVector .vmem j).shape.rank → IVec ⟨1, e⟩ 32} {v : Vec F ⟨1, e⟩ (sig.tyNear .scVector .vmem j).elt} {mask : IVec ⟨1, e⟩ 1} {add : Bool}
    {h : ∀ a x, (idxs a x).toNat < (sig.tyNear .scVector .vmem j).shape.size a}
    {hs : ((Memref.whole ⟨.vmem, j, hκ⟩ : Memref sig .scVector .vmem _ _).access (.whole _)).Stores Finset.univ} (hb : (⟨.vmem, j, hκ⟩ : Ref sig .scVector) ∈ bufs) :
    Tri d i s (SparseCore.vectorStoreIdx (F := F) (Memref.whole ⟨.vmem, j, hκ⟩ : Memref sig .scVector .vmem _ _) idxs v mask add h hs)
      fun _ s' => s' = Function.update s ⟨.vmem, j, hκ⟩ (Idealize.ShloMosaic.storeIdx (F := F) (s ⟨.vmem, j, hκ⟩) idxs v mask add h) := by
  unfold Tri
  rw [own_take d i hb]
  unfold at_
  iintro ⟨H, Hr⟩
  iapply (SparseCore.wp_vectorStoreIdx (F := F) (Ix := HIx 1) (Name := ℕ) (U := UU) (Lvl := ℕ) (defs := defs₀ (F := F)) 𝒱₀ (thr d i) none Set.univ
    (base := (Memref.whole ⟨.vmem, j, hκ⟩ : Memref sig .scVector .vmem _ _)) (idxs := idxs) (h := h) (hs := hs) (v := v) (mask := mask) (add := add) (k := Prog.ret)
    (f := s ⟨.vmem, j, hκ⟩)) $$ [H]
  · rw [Memref.set_access_whole]; iexact H
  iintro H
  rw [Memref.read_access_whole, Memref.write_access_whole_univ, Memref.set_access_whole]
  rw [wp_ret]
  imodintro
  iexists _
  isplitr
  · ipureintro; exact rfl
  iapply (own_put d i hb)
  isplitl [H]; · iexact H
  iexact Hr

theorem Tri.load {s : St F} {r : Rect (sig.tyNear .scVector .vmem j).shape}
    {hl : (Memref.whole ⟨.vmem, j, hκ⟩ : Memref sig .scVector .vmem _ _).view.LoadsAt r.toLoadRect} (hb : (⟨.vmem, j, hκ⟩ : Ref sig .scVector) ∈ bufs) :
    Tri d i s (Prog.lift (.load (Memref.whole ⟨.vmem, j, hκ⟩ : Memref sig .scVector .vmem _ _) r.toLoadRect hl))
      fun a s' => a = (fun x => s ⟨.vmem, j, hκ⟩ (r.emb x)) ∧ s' = s := by
  unfold Tri
  rw [own_take d i hb]
  unfold at_
  iintro ⟨H, Hr⟩
  iapply (wp_load_rect (Ix := HIx 1) (Name := ℕ) (U := UU) (Lvl := ℕ) (defs := defs₀ (F := F)) 𝒱₀ (thr d i) none Set.univ
    (m := (Memref.whole ⟨.vmem, j, hκ⟩ : Memref sig .scVector .vmem _ _)) (r := r) (hl := hl) (k := Prog.ret) (S := Finset.univ) (q := fullShare)
    (f := s ⟨.vmem, j, hκ⟩) (Finset.subset_univ _)) $$ H
  iintro H
  rw [wp_ret]
  imodintro
  iexists s
  isplitr
  · ipureintro; exact ⟨rfl, rfl⟩
  rw [own_take d i hb]
  unfold at_
  isplitl [H] <;> iassumption

theorem Tri.store {s : St F} {r : Rect (sig.tyNear .scVector .vmem j).shape} {w : r.shape.Idx → Elt F (sig.tyNear .scVector .vmem j).elt}
    {hx : ((Memref.whole ⟨.vmem, j, hκ⟩ : Memref sig .scVector .vmem _ _).access r).Stores Finset.univ} {hm : Finset.univ = Finset.univ ∨ ∀ a, r.stride a = 1}
    (hb : (⟨.vmem, j, hκ⟩ : Ref sig .scVector) ∈ bufs) :
    Tri d i s (Prog.lift (.store (Memref.whole ⟨.vmem, j, hκ⟩ : Memref sig .scVector .vmem _ _) r w Finset.univ hx hm))
      fun _ s' => s' = Function.update s ⟨.vmem, j, hκ⟩
        (((Memref.whole ⟨.vmem, j, hκ⟩ : Memref sig .scVector .vmem _ _).access r).write (Elt F) (s ⟨.vmem, j, hκ⟩) w Finset.univ) := by
  unfold Tri
  rw [own_take d i hb]
  unfold at_
  iintro ⟨H, Hr⟩
  iapply (wp_store (Ix := HIx 1) (Name := ℕ) (U := UU) (Lvl := ℕ) (defs := defs₀ (F := F)) 𝒱₀ (thr d i) none Set.univ
    (m := (Memref.whole ⟨.vmem, j, hκ⟩ : Memref sig .scVector .vmem _ _)) (r := r) (w := w) (Mk := Finset.univ) (hx := hx) (hm := hm) (k := Prog.ret) (S := Finset.univ)
    (f := s ⟨.vmem, j, hκ⟩) (Finset.subset_univ _)) $$ H
  iintro H
  rw [wp_ret]
  imodintro
  iexists _
  isplitr
  · ipureintro; exact rfl
  iapply (own_put d i hb)
  isplitl [H]; · iexact H
  iexact Hr

end

/-! ## Repetition -/

theorem Tri.foldP {ι σ : Type} {f : ι → σ → Pg F i σ} (l : List ι) (I : Nat → σ → St F → Prop)
    (h : ∀ n (hn : n < l.length) x s, I n x s → Tri d i s (f l[n] x) (I (n + 1))) {x : σ} {s : St F} (h0 : I 0 x s) :
    Tri d i s (Tile.foldP i f l x) (I l.length) := by
  induction l generalizing I x s with
  | nil => exact Tri.pure h0
  | cons k l ih =>
    refine Tri.bind (h 0 (Nat.zero_lt_succ _) x s h0) fun y s' hy => ?_
    exact ih (fun n => I (n + 1)) (fun n hn x s hx => h (n + 1) (Nat.succ_lt_succ hn) x s hx) hy

theorem Tri.seqP {ι : Type} {z : α} {f : ι → Pg F i α} (l : List ι) (I : Nat → St F → Prop) (Val : Nat → α → Prop)
    (h : ∀ n (hn : n < l.length) s, I n s → Tri d i s (f l[n]) fun a s' => Val n a ∧ I (n + 1) s') {s : St F} (h0 : I 0 s) :
    Tri d i s (Tile.seqP i z f l) fun r s' => (∀ n < l.length, Val n (r n)) ∧ I l.length s' := by
  induction l generalizing I Val s with
  | nil => exact Tri.pure ⟨fun n hn => absurd hn (Nat.not_lt_zero n), h0⟩
  | cons k l ih =>
    refine Tri.bind (h 0 (Nat.zero_lt_succ _) s h0) fun y s' hy => ?_
    refine Tri.bind (ih (fun n => I (n + 1)) (fun n => Val (n + 1)) (fun n hn s hx => h (n + 1) (Nat.succ_lt_succ hn) s hx) hy.2) fun r s'' hr => ?_
    refine Tri.pure ⟨fun n hn => ?_, hr.2⟩
    cases n with
    | zero => exact hy.1
    | succ n => exact hr.1 n (Nat.lt_of_succ_lt_succ hn)

theorem Tri.for {σ : Type} {lb ub st : BitVec 32} {hok : Scf.OK lb ub st} {f : Fin (Scf.trips lb ub st) → σ → Pg F i σ} (I : Nat → σ → St F → Prop)
    (h : ∀ (k : Fin (Scf.trips lb ub st)) x s, I k.val x s → Tri d i s (f k x) (I (k.val + 1))) {x : σ} {s : St F} (h0 : I 0 x s) :
    Tri d i s (Scf.for lb ub st hok x f) (I (Scf.trips lb ub st)) := by
  unfold Tri
  refine BIBase.Entails.trans ?_ (Scf.wp_for (M := 𝕄) frame (wpE (defs₀ (F := F)) 𝒱₀ (thr d i) none) Set.univ lb ub st hok x f
    (fun n x => iprop(∃ s, ⌜I n x s⌝ ∗ own d i s)) ?_)
  · iintro H
    isplitl [H]
    · iexists s
      isplitr
      · ipureintro; exact h0
      iexact H
    iintro %a H
    iexact H
  · intro k x
    iintro ⟨%s', %hs, H⟩
    iapply (h k x s' hs).run
    iexact H

end Cert.KernelIdeal.Tile
-- ==== Proof.Words.lean ====
/- The words the tile indexes with: how large each may be. -/
module

public import proofs.«01_k».proof.Proof.Tile

@[expose] public section

noncomputable section

namespace Cert.KernelIdeal.Tile

open Idealize.ShloMosaic Idealize.SL.Sem Cert.KernelIdeal
open Facts₀ Facts

variable {F : FTy → Type} [FloatOps F] [Named F] [Facts]

/-- Every lane of `w` is below `n`. -/
def Lt (n : Nat) (w : W) : Prop := ∀ x, (w x).toNat < n

theorem Lt.mono {n m : Nat} {w : W} (h : Lt n w) (hm : n ≤ m := by decide) : Lt m w := fun x => Nat.lt_of_lt_of_le (h x) hm

theorem Lt.word {n k : Nat} (h : k < n) : Lt n (word k) := fun _ =>
  Nat.lt_of_le_of_lt (show (BitVec.ofNat 32 k).toNat ≤ k from by rw [BitVec.toNat_ofNat]; exact Nat.mod_le _ _) h

theorem lane_val (x : S16.Idx) : (lane x).toNat = (x 0).val := by
  have : (x 0).val < 16 := (x 0).isLt
  show (BitVec.ofNat 32 (0 * 16 + (x 0).val)).toNat = _
  rw [BitVec.toNat_ofNat]
  omega

theorem Lt.lane : Lt 16 lane := fun x => by rw [lane_val]; exact (x 0).isLt

theorem Lt.select {n : Nat} {c : IVec S16 1} {a b : W} (ha : Lt n a) (hb : Lt n b) : Lt n (Idealize.ShloMosaic.select c a b) := fun x => by
  show (if c x = 1 then a x else b x).toNat < n
  split
  · exact ha x
  · exact hb x

theorem add_val (a b : W) (x : S16.Idx) : (addi a b x).toNat = ((a x).toNat + (b x).toNat) % 2 ^ 32 := BitVec.toNat_add _ _
theorem mul_val (a b : W) (x : S16.Idx) : (muli a b x).toNat = ((a x).toNat * (b x).toNat) % 2 ^ 32 := BitVec.toNat_mul _ _

theorem Lt.add {n m k : Nat} {a b : W} (ha : Lt n a) (hb : Lt m b) (hk : n + m ≤ k + 1 := by decide) : Lt k (addi a b) := fun x => by
  rw [add_val]
  have := ha x
  have := hb x
  exact Nat.lt_of_le_of_lt (Nat.mod_le _ _) (by omega)

theorem Lt.mul {n m k : Nat} {a : W} (ha : Lt n a) (hk : (n - 1) * m < k := by decide) : Lt k (muli a (Tile.word m)) := fun x => by
  rw [mul_val]
  have h := ha x
  refine Nat.lt_of_le_of_lt (Nat.mod_le _ _) (Nat.lt_of_le_of_lt (Nat.mul_le_mul (Nat.le_sub_one_of_lt h) ?_) hk)
  show (BitVec.ofNat 32 m).toNat ≤ m
  rw [BitVec.toNat_ofNat]
  exact Nat.mod_le _ _

/-- The induction variable of a loop from zero by ones. -/
theorem iv_val (k : Nat) : (Scf.iv 0#32 1#32 k).toNat = k % 2 ^ 32 := by
  simp [Scf.iv]

theorem Lt.iv {n k : Nat} (h : k < n) : Lt n (broadcast S16 (Scf.iv 0#32 1#32 k)) := fun _ => by
  show (Scf.iv 0#32 1#32 k).toNat < n
  rw [iv_val]
  exact Nat.lt_of_le_of_lt (Nat.mod_le _ _) h

/-! ## The rank is below ten -/

theorem Lt.flag {c : IVec S16 1} : Lt 2 (Idealize.ShloMosaic.select c (Tile.word 1) (Tile.word 0)) := .select (.word (by decide)) (.word (by decide))

theorem Lt.notAbove {n : Nat} {u : Nat → V F} {x : V F} (l : List Nat) {acc : W} (h : Lt n acc) : Lt (n + l.length) (Tile.notAbove u x l acc) := by
  induction l generalizing n acc with
  | nil => exact h
  | cons k l ih => exact (ih (h.add .flag (k := n + 1) (by omega))).mono (by simp only [List.length_cons]; omega)

theorem Lt.below {n : Nat} {u : Nat → V F} {x : V F} (l : List Nat) {acc : W} (h : Lt n acc) : Lt (n + l.length) (Tile.below u x l acc) := by
  induction l generalizing n acc with
  | nil => exact h
  | cons k l ih => exact (ih (h.add .flag (k := n + 1) (by omega))).mono (by simp only [List.length_cons]; omega)

theorem Lt.rank (u : Nat → V F) {j : Nat} (hj : j < 10) : Lt 10 (Tile.rank u j) := by
  refine Lt.mono (.below _ (.notAbove _ (.word (n := 1) (by decide)))) ?_
  simp only [List.length_drop, List.length_take, List.length_cons, List.length_nil]
  omega

/-! ## The list of a draw -/

theorem row_val (k : Fin k0_t7_loop.trips) (x : S16.Idx) : (rowOf k x).toNat = (16 * k.val + (x 0).val) / 25 := by
  have hk : k.val < 50 := k.isLt
  have hx : (x 0).val < 16 := (x 0).isLt
  have h : ∀ k : Fin 50, ∀ l : Fin 16,
      (let p := Scalar.addi (Scalar.muli (Scf.iv 0#32 1#32 k.val) 16#32) (BitVec.ofNat 32 (0 * 16 + l.val))
       let q := IntOp.divsi .vector p 25#32
       (if IntOp.andi (IntOp.cmpi .ne (IntOp.subi (BitVec.setWidth 32 (IntOp.cmpi .sgt p 0#32)) (BitVec.setWidth 32 (IntOp.cmpi .slt p 0#32)))
          (Scalar.subi (Scalar.extui (Scalar.cmpi .sgt 25#32 0#32)) (Scalar.extui (Scalar.cmpi .slt 25#32 0#32))))
          (IntOp.cmpi .ne (IntOp.remsi .vector p 25#32) 0#32) = 1 then IntOp.subi q 1#32 else q)).toNat = (16 * k.val + l.val) / 25 := by decide +kernel
  exact h ⟨k.val, hk⟩ ⟨(x 0).val, hx⟩

theorem Lt.row (k : Fin k0_t7_loop.trips) : Lt 32 (rowOf k) := fun x => by
  have hk : k.val < 50 := k.isLt
  have hx : (x 0).val < 16 := (x 0).isLt
  rw [row_val]
  omega

/-! ## The checks -/

theorem inb₁ {n : Nat} {w : W} (h : Lt n w) : ∀ a x, ((![w] : Fin 1 → W) a x).toNat < (⟨1, ![n]⟩ : Shape).size a := by
  intro a x
  match a with
  | 0 => exact h x

theorem inb₂ {n m : Nat} {r c : W} (hr : Lt n r) (hc : Lt m c) : ∀ a x, ((![r, c] : Fin 2 → W) a x).toNat < (⟨2, ![n, m]⟩ : Shape).size a := by
  intro a x
  match a with
  | 0 => exact hr x
  | 1 => exact hc x

theorem inb₃ {n m p : Nat} {r c w : W} (hr : Lt n r) (hc : Lt m c) (hw : Lt p w) :
    ∀ a x, ((![r, c, w] : Fin 3 → W) a x).toNat < (⟨3, ![n, m, p]⟩ : Shape).size a := by
  intro a x
  match a with
  | 0 => exact hr x
  | 1 => exact hc x
  | 2 => exact hw x

end Cert.KernelIdeal.Tile
-- ==== Proof.Safe.lean ====
/- Every index the tile's body forms is inside the buffer it is for, whatever the buffers hold. -/
module

public import proofs.«01_k».proof.Proof.Tri
public import proofs.«01_k».proof.Proof.Words

@[expose] public section

noncomputable section

namespace Cert.KernelIdeal.Tile

open Idealize.ShloMosaic Idealize.SL.Sem Cert.KernelIdeal
open Facts₀ Facts

variable {F : FTy → Type} [FloatOps F] [Named F] [Facts]
variable {d : Dev nD} {i : grid0.Coords} {α β : Type}

/-- From any contents `p` runs, and what it returns is as `Q` says. -/
def Ok (d : Dev nD) (i : grid0.Coords) (p : Pg F i α) (Q : α → Prop) : Prop := ∀ s, Tri d i s p fun a _ => Q a

theorem Ok.pure {a : α} {Q : α → Prop} (h : Q a) : Ok (F := F) d i (Pure.pure a) Q := fun _ => Tri.pure h
theorem Ok.bind {p : Pg F i α} {f : α → Pg F i β} {Q : α → Prop} {R : β → Prop} (h : Ok d i p Q) (hf : ∀ a, Q a → Ok d i (f a) R) :
    Ok d i (p >>= f) R := fun s => (h s).bind fun a s' ha => hf a ha s'
theorem Ok.conseq {p : Pg F i α} {Q R : α → Prop} (h : Ok d i p Q) (hQ : ∀ a, Q a → R a) : Ok d i p R := fun s => (h s).conseq fun a _ => hQ a
theorem Ok.true {p : Pg F i α} {Q : α → Prop} (h : Ok d i p Q) : Ok d i p fun _ => True := h.conseq fun _ _ => trivial
theorem Ok.of {p : Pg F i α} {Q : St F → α → St F → Prop} (h : ∀ s, Tri d i s p (Q s)) : Ok d i p fun _ => True := fun s => (h s).conseq fun _ _ _ => trivial
theorem Ok.foldP {ι σ : Type} {f : ι → σ → Pg F i σ} (l : List ι) (I : σ → Prop) (h : ∀ k ∈ l, ∀ x, I x → Ok d i (f k x) I) {x : σ} (h0 : I x) :
    Ok d i (Tile.foldP i f l x) I := fun _ => Tri.foldP l (fun _ x _ => I x) (fun n hn x s hx => h _ (List.getElem_mem hn) x hx s) h0
theorem Ok.seqP {ι : Type} {z : α} {f : ι → Pg F i α} (l : List ι) (Q : α → Prop) (h : ∀ k ∈ l, Ok d i (f k) Q) :
    Ok d i (Tile.seqP i z f l) fun r => ∀ n < l.length, Q (r n) := fun s =>
  (Tri.seqP l (fun _ _ => True) (fun _ => Q) (fun n hn s _ => (h _ (List.getElem_mem hn) s).conseq fun _ _ h => ⟨h, trivial⟩) (s := s) trivial).conseq
    fun _ _ h => h.1
theorem Ok.for {σ : Type} {lb ub st : BitVec 32} {hok : Scf.OK lb ub st} {f : Fin (Scf.trips lb ub st) → σ → Pg F i σ} (I : Nat → σ → Prop)
    (h : ∀ (k : Fin (Scf.trips lb ub st)) x, I k.val x → Ok d i (f k x) (I (k.val + 1))) {x : σ} (h0 : I 0 x) :
    Ok d i (Scf.for lb ub st hok x f) (I (Scf.trips lb ub st)) := fun _ => Tri.for (fun n x _ => I n x) (fun k x s hx => h k x hx s) h0
theorem Ok.assume {P : Prop} {dP : Decidable P} (h : P) : Ok (F := F) d i (Prog.lift (TpuEff.assume P dP)) fun _ => True := .of fun _ => Tri.assume h

/-! ## The accesses -/

theorem ok_g200 {r c : W} (hr : Lt 32 r) (hc : Lt 200 c) : Ok (F := F) d i (g200 i m8 r c) fun _ => True :=
  (Ok.assume (inb₂ hr hc)).bind fun _ _ => .of fun _ => Tri.loadIdx (by decide)
theorem ok_gNoise {r c : W} (hr : Lt 16 r) (hc : Lt 200 c) : Ok (F := F) d i (gNoise i r c) fun _ => True :=
  (Ok.assume (inb₂ hr hc)).bind fun _ _ => .of fun _ => Tri.loadIdx (by decide)
theorem ok_gU {r c : W} (hr : Lt 16 r) (hc : Lt 10 c) : Ok (F := F) d i (gU i r c) fun _ => True :=
  (Ok.assume (inb₂ hr hc)).bind fun _ _ => .of fun _ => Tri.loadIdx (by decide)
theorem ok_gZ {w : W} (h : Lt 3200 w) : Ok (F := F) d i (gZ i w) fun _ => True :=
  (Ok.assume (inb₁ h)).bind fun _ _ => .of fun _ => Tri.loadIdx (by decide)
theorem ok_sZ {w : W} (h : Lt 3200 w) {v : V F} : Ok (F := F) d i (sZ i w v) fun _ => True :=
  (Ok.assume (inb₁ h)).bind fun _ _ => .of fun _ => Tri.storeIdx (by decide)
theorem ok_s160q {w : W} (h : Lt 160 w) {v : V F} : Ok (F := F) d i (s160 i m15 w v) fun _ => True :=
  (Ok.assume (inb₁ h)).bind fun _ _ => .of fun _ => Tri.storeIdx (by decide)
theorem ok_s160c {w : W} (h : Lt 160 w) {v : V F} : Ok (F := F) d i (s160 i m16 w v) fun _ => True :=
  (Ok.assume (inb₁ h)).bind fun _ _ => .of fun _ => Tri.storeIdx (by decide)
theorem ok_l160q {k : Nat} : Ok (F := F) d i (l160 i m15 k) fun _ => True := .of fun _ => Tri.load (by decide)
theorem ok_l160c {k : Nat} : Ok (F := F) d i (l160 i m16 k) fun _ => True := .of fun _ => Tri.load (by decide)

/-! ## One selection -/

theorem ok_pick {last : Bool} {bl rk : W} (hbl : Lt 32 bl) (hrk : Lt 10 rk) : Ok (F := F) d i (pick i last bl rk) fun a => Lt 200 a.1 := by
  refine Ok.bind (Ok.foldP ten (fun x => Lt 10 x.2) ?_ (.word (by decide))) ?_
  · intro k hk x hx
    refine Ok.bind ok_l160c fun v _ => Ok.pure (Lt.select (.word ?_) hx)
    fin_cases hk <;> decide
  rintro ⟨m, b⟩ hb
  have hz : Lt 2896 (addi (muli b (word 320)) lane) := (Lt.mul (k := 2881) hb).add .lane
  refine Ok.bind (Ok.foldP twenty (fun x => Lt 20 x.2.2) ?_ (.word (by decide))) ?_
  · rintro ⟨t, w⟩ hk x hx
    have hw : w < 305 ∧ t < 20 := by fin_cases hk <;> decide
    exact Ok.bind (ok_gZ (hz.add (.word hw.1) (k := 3200))) fun v _ => Ok.pure (Lt.select (.word hw.2) hx)
  rintro ⟨m1, m2, t1⟩ ht
  have hi : Lt 200 (addi (muli b (word 20)) t1) := (Lt.mul (k := 181) hb).add ht
  refine Ok.bind (Ok.assume ⟨inb₂ hbl hi, inb₂ hbl hi⟩) fun _ _ => ?_
  refine Ok.bind (Q := fun _ => True) ?_ fun _ _ => ?_
  · cases last with
    | true => exact Ok.pure trivial
    | false => exact Ok.bind (ok_sZ (hz.add (Lt.mul (k := 305) ht) (k := 3200))) fun _ _ => ok_s160c ((Lt.mul (k := 145) hb).add .lane)
  refine Ok.bind (.of fun _ => Tri.loadIdx (by decide)) fun _ _ => ?_
  refine Ok.bind (ok_s160q ((Lt.mul (k := 145) hrk).add .lane)) fun _ _ => ?_
  exact Ok.bind (.of fun _ => Tri.loadIdx (by decide)) fun _ _ => Ok.pure hi

theorem ok_zChunk {bl : W} (hbl : Lt 32 bl) (k : Fin k0_t8_loop.trips) {jv : W} (hj : Lt (20 * k.val + 1) jv) :
    Ok (F := F) d i (zChunk i bl k jv) (Lt (20 * (k.val + 1) + 1)) := by
  have hk : k.val < 10 := k.isLt
  refine Ok.bind (Ok.foldP twenty (fun _ => True) ?_ trivial) fun m _ => ?_
  · rintro ⟨t, w⟩ ht m -
    have ht : t < 20 := by fin_cases ht <;> decide
    have h : Lt 200 (addi jv (word t)) := hj.add (.word ht) (by omega)
    refine Ok.bind (ok_gNoise .lane h) fun _ _ => Ok.bind (ok_g200 hbl h) fun _ _ => ?_
    exact Ok.bind (.of fun _ => Tri.load (by decide)) fun _ _ => Ok.bind (.of fun _ => Tri.store (by decide)) fun _ _ => Ok.pure trivial
  refine Ok.bind (.of fun _ => Tri.load (by decide)) fun _ _ => Ok.bind (.of fun _ => Tri.store (by decide)) fun _ _ => Ok.pure ?_
  exact hj.add (.word (n := 21) (by decide)) (by omega)

theorem ok_expo {bl : W} {b : Nat → W} {wt : Nat → V F} (hbl : Lt 32 bl) (hb : ∀ n < 10, Lt 200 (b n)) {g : Nat} (hg : g < 8) :
    Ok (F := F) d i (expo i bl b wt g) fun _ => True := by
  have h : ∀ n < 10, _ := fun n hn => inb₃ hbl (hb n hn) (Lt.word hg)
  refine Ok.bind (Ok.assume ⟨h 0 ?_, h 1 ?_, h 2 ?_, h 3 ?_, h 4 ?_, h 5 ?_, h 6 ?_, h 7 ?_, h 8 ?_, h 9 ?_⟩) fun _ _ => ?_
  iterate 10 decide
  exact Ok.foldP ten (fun _ => True) (fun k _ x _ => Ok.bind (.of fun _ => Tri.loadIdx (by decide)) fun _ _ => Ok.pure trivial) trivial

theorem ten_lt {k : Nat} (h : k ∈ ten) : k < 10 := by fin_cases h <;> decide
theorem eight_lt {k : Nat} (h : k ∈ eight) : k < 8 := by fin_cases h <;> decide

theorem ok_like {tp : V F} {k : Nat} {x : V F × V F × V F} : Ok (F := F) d i (likeStep i tp k x) fun _ => True :=
  Ok.bind ok_l160q fun _ _ => Ok.pure trivial

theorem ok_groupMain {bl : W} (hbl : Lt 32 bl) {acc : V F} : Ok (F := F) d i (groupMain i bl acc) fun _ => True := by
  unfold groupMain
  refine Ok.bind (Ok.assume ⟨inb₁ hbl, inb₁ hbl⟩) fun _ _ => ?_
  refine Ok.bind (Q := fun _ => True) ?_ fun _ _ => ?_
  · exact (Ok.for (fun n => Lt (20 * n + 1)) (fun k x hx => ok_zChunk hbl k hx) (.word (by decide))).true
  refine Ok.bind (Q := fun _ => True) ?_ fun u _ => ?_
  · exact (Ok.seqP ten (fun _ => True) fun k hk => ok_gU .lane (.word (ten_lt hk))).true
  refine Ok.bind (Q := fun p => ∀ n < 10, Lt 200 (p n).1) ?_ fun p hp => ?_
  · exact Ok.seqP ten (fun a : W × V F => Lt 200 a.1) fun k hk => ok_pick hbl (Lt.rank u (ten_lt hk))
  refine Ok.bind (Q := fun _ => True) (.of fun _ => Tri.loadIdx (by decide)) fun tp _ => ?_
  refine Ok.bind (Q := fun _ => True) (.of fun _ => Tri.loadIdx (by decide)) fun srel _ => ?_
  refine Ok.bind (Q := fun _ => True) ?_ fun f _ => ?_
  · exact (Ok.seqP eight (fun _ => True) fun k hk => ok_expo hbl hp (eight_lt hk)).true
  refine Ok.bind (Q := fun _ => True) ?_ fun x _ => ?_
  · exact Ok.foldP ten (fun _ => True) (fun k _ x _ => ok_like) trivial
  obtain ⟨sl, sd, ps⟩ := x
  exact Ok.pure trivial

theorem ok_batch {b : Nat} (hb : b < 2) : Ok (F := F) d i (batch i b) fun _ => True := by
  have hr : Lt 32 (addi (word (16 * b)) lane) := (Lt.word (n := 17) (by omega)).add .lane
  refine Ok.bind (Ok.for (fun _ _ => True) (fun k x _ => ?_) trivial) fun m _ => ?_
  · have hc : Lt 200 (broadcast S16 (Scf.iv 0#32 1#32 k.val)) := Lt.iv k.isLt
    exact Ok.bind (ok_g200 hr hc) fun _ _ => Ok.pure trivial
  refine Ok.bind (Ok.for (fun _ _ => True) (fun k x _ => ?_) trivial) fun m _ => ?_
  · have hc : Lt 200 (broadcast S16 (Scf.iv 0#32 1#32 k.val)) := Lt.iv k.isLt
    refine Ok.bind (Ok.assume ⟨inb₂ hr hc, inb₂ hr hc, inb₂ hr hc⟩) fun _ _ => Ok.bind (.of fun _ => Tri.loadIdx (by decide)) fun _ _ => ?_
    exact Ok.bind (.of fun _ => Tri.storeIdx (by decide)) fun _ _ => Ok.bind (.of fun _ => Tri.loadIdx (by decide)) fun _ _ => Ok.pure trivial
  refine Ok.bind (Ok.for (fun _ _ => True) (fun k x _ => ?_) trivial) fun m _ => ?_
  · have hc : Lt 200 (broadcast S16 (Scf.iv 0#32 1#32 k.val)) := Lt.iv k.isLt
    refine Ok.bind (Ok.assume ⟨inb₂ hr hc, inb₂ hr hc⟩) fun _ _ => Ok.bind (.of fun _ => Tri.loadIdx (by decide)) fun _ _ => ?_
    exact Ok.bind (.of fun _ => Tri.storeIdx (by decide)) fun _ _ => Ok.pure trivial
  refine Ok.bind (Q := fun _ => True) ?_ fun _ _ => ?_
  · exact Ok.bind (.of fun _ => Tri.load (by decide)) fun _ _ => .of fun _ => Tri.store (by decide)
  · exact Ok.bind (.of fun _ => Tri.load (by decide)) fun _ _ => .of fun _ => Tri.store (by decide)

end Cert.KernelIdeal.Tile
-- ==== Proof.Same.lean ====
/- The printed body is the body of `Tile.lean`. -/
module

public import proofs.«01_k».proof.Proof.Tile

@[expose] public section

noncomputable section

namespace Cert.KernelIdeal.Tile

open Idealize.ShloMosaic Idealize.SL.Sem Cert.KernelIdeal
open Facts₀ Facts

universe v
variable {F : FTy → Type} [FloatOps F] [Named F] [Facts]

section
variable {E : Type → Type v} {α β γ δ : Type} {lb ub st : BitVec 32} {hok hok' : Scf.OK lb ub st} {s : β}
  {b b' : Fin (Scf.trips lb ub st) → β → Prog E β}

theorem op_congr {e : E β} {k k' : β → Prog E α} (h : ∀ x, k x = k' x) : Prog.op e k = Prog.op e k' := by
  rw [funext h]

/-- A loop with its region replaced, under one more sequence on the left than on the right, -/
theorem for_congr₁ {k : β → Prog E γ} {l : γ → Prog E α} {k' : β → Prog E α}
    (h : ∀ x y, b x y = b' x y) (h' : ∀ x, (k x >>= l) = k' x) :
    ((Scf.for lb ub st hok s b >>= k) >>= l) = (Scf.for lb ub st hok' s b' >>= k') := by
  rw [show b = b' from funext fun x => funext (h x), ← (funext h' : _ = k'), Prog.bind_assoc]

/-- one on each side, -/
theorem for_congr₂ {k : β → Prog E γ} {l : γ → Prog E α} {k' : β → Prog E δ} {l' : δ → Prog E α}
    (h : ∀ x y, b x y = b' x y) (h' : ∀ x, (k x >>= l) = (k' x >>= l')) :
    ((Scf.for lb ub st hok s b >>= k) >>= l) = ((Scf.for lb ub st hok' s b' >>= k') >>= l') := by
  rw [Prog.bind_assoc, Prog.bind_assoc, show b = b' from funext fun x => funext (h x),
    show (fun x => k x >>= l) = fun x => k' x >>= l' from funext h']

/-- two on the left. -/
theorem for_congr₃ {k : β → Prog E γ} {l : γ → Prog E δ} {m : δ → Prog E α} {k' : β → Prog E α}
    (h : ∀ x y, b x y = b' x y) (h' : ∀ x, ((k x >>= l) >>= m) = k' x) :
    (((Scf.for lb ub st hok s b >>= k) >>= l) >>= m) = (Scf.for lb ub st hok' s b' >>= k') := by
  rw [show b = b' from funext fun x => funext (h x), ← (funext h' : _ = k'), Prog.bind_assoc, Prog.bind_assoc]
  simp only [Prog.bind_assoc]
end

/-! ## A group with its sequences as folds -/

/-- A sequence with its value at `n` replaced. -/
def put {α : Type} (r : Nat → α) (n : Nat) (a : α) (m : Nat) : α := bif Nat.beq m n then a else r m

/-- The results of the steps `l`, each put into the sequence so far. -/
abbrev putP {i : grid0.Coords} {α : Type} (z : α) (f : Nat → Pg F i α) (l : List Nat) : Pg F i (Nat → α) :=
  foldP i (fun n r => f n >>= fun a => pure (put r n a)) l fun _ => z

section
variable {i : grid0.Coords} {α β : Type} {z : α} {f : Nat → Pg F i α} {k : (Nat → α) → Pg F i β}

theorem seq_ten : (seqP i z f ten >>= k) = (putP z f ten >>= k) := by
  simp only [ten, seqP, putP, foldP, Prog.bind_assoc]
  refine congrArg _ (funext fun a => congrArg _ (funext fun b => congrArg _ (funext fun c => congrArg _ (funext fun d => congrArg _ (funext fun e =>
    congrArg _ (funext fun g => congrArg _ (funext fun h => congrArg _ (funext fun j => congrArg _ (funext fun l => congrArg _ (funext fun n => ?_))))))))))
  show k _ = k _
  refine congrArg k (funext fun m => ?_)
  match m with
  | 0 | 1 | 2 | 3 | 4 | 5 | 6 | 7 | 8 | 9 | _ + 10 => rfl

theorem seq_eight : (seqP i z f eight >>= k) = (putP z f eight >>= k) := by
  simp only [eight, seqP, putP, foldP, Prog.bind_assoc]
  refine congrArg _ (funext fun a => congrArg _ (funext fun b => congrArg _ (funext fun c => congrArg _ (funext fun d => congrArg _ (funext fun e =>
    congrArg _ (funext fun g => congrArg _ (funext fun h => congrArg _ (funext fun j => ?_))))))))
  show k _ = k _
  refine congrArg k (funext fun m => ?_)
  match m with
  | 0 | 1 | 2 | 3 | 4 | 5 | 6 | 7 | _ + 8 => rfl

/-- What a group adds, once its exposures are known; -/
def groupLast (i : grid0.Coords) (acc : V F) (p : Nat → W × V F) (tp srel : V F) (f : Nat → V F) : Pg F i (V F) :=
  foldP i (likeStep i tp) ten (zeroF, zeroF, zeroF) >>= fun l => match l with
  | (sl, sd, _) => pure (addf acc (gain (fun k => (p k).2) f srel sl sd))

/-- once its selections are made; -/
def groupEnd (i : grid0.Coords) (bl : W) (h : k0_chk295 bl) (acc : V F) (p : Nat → W × V F) : Pg F i (V F) := do
  let tp : Vec F S16 .f32 ← SparseCore.vectorLoadIdx m17 ![bl] (k0_idx311_inb bl h) (View.loads_vmem h_S32)
  let srel : Vec F S16 .f32 ← SparseCore.vectorLoadIdx m18 ![bl] (k0_idx312_inb bl h) (View.loads_vmem h_S32)
  putP zeroF (expo i bl (fun k => (p k).1) (weight fun k => (p k).2)) eight >>= groupLast i acc p tp srel

/-- once its second draws are read. -/
def groupPicks (i : grid0.Coords) (bl : W) (h : k0_chk295 bl) (acc : V F) (u : Nat → V F) : Pg F i (V F) :=
  putP ((word 0, zeroF) : W × V F) (fun k => pick i (Nat.beq k 9) bl (rank u k)) ten >>= groupEnd i bl h acc

theorem groupMain_eq (bl : W) (acc : V F) : groupMain i bl acc = (do
    have h : k0_chk295 bl := (← Prog.lift (TpuEff.assume (k0_chk295 bl) (k0_chk295.dec bl))).down
    let _jv : W ← Scf.Loop.for k0_t8_loop k0_t8_ok (word 0) (zChunk i bl)
    putP zeroF (fun k => gU i lane (word k)) ten >>= groupPicks i bl h acc) := by
  unfold groupMain groupPicks groupEnd groupLast
  simp only [seq_ten, seq_eight]
end

set_option maxRecDepth 100000 in
set_option maxHeartbeats 0 in
theorem same (i : grid0.Coords) :
    cc0__sc_body (F := F) i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_scv) (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) m19 (Memref.isWhole_whole _) cc0_scoped0 cc0_scoped1 cc0_scoped2 cc0_scoped3 cc0_scoped4 cc0_scoped5
     = body i := by

  iterate 6 refine op_congr (fun _ => ?_)
  iterate 3
    refine for_congr₂ ?_ ?_
    · intros; rfl
    intro
  iterate 4 refine op_congr (fun _ => ?_)
  iterate 3
    refine for_congr₂ ?_ ?_
    · intros; rfl
    intro
  iterate 4 refine op_congr (fun _ => ?_)
  refine for_congr₁ ?_ ?_
  · intro k acc
    iterate 4 refine op_congr (fun _ => ?_)
    refine Eq.trans ?_ (groupMain_eq (rowOf k) acc).symm
    refine op_congr (fun h => ?_)
    revert h
    unfold rowOf
    generalize select (andi _ _) _ _ = bl
    intro h
    refine for_congr₃ ?_ ?_
    · intros
      iterate 122 refine op_congr (fun _ => ?_)
      rfl
    intro
    iterate 20 refine op_congr (fun _ => ?_)
    as_aux_lemma =>
    iterate 118 refine op_congr (fun _ => ?_)
    as_aux_lemma =>
    iterate 118 refine op_congr (fun _ => ?_)
    as_aux_lemma =>
    iterate 118 refine op_congr (fun _ => ?_)
    as_aux_lemma =>
    iterate 118 refine op_congr (fun _ => ?_)
    as_aux_lemma =>
    iterate 114 refine op_congr (fun _ => ?_)
    as_aux_lemma =>
    iterate 90 refine op_congr (fun _ => ?_)
    as_aux_lemma =>
    iterate 10 refine op_congr (fun _ => ?_)
    rfl
  intro
  rfl

end Cert.KernelIdeal.Tile
-- ==== Proof.Carry.lean ====
/- One tile's body run through: its copies, the two batches of lists, the fifty groups, and the copy of its row of the
   result. What the body's values are is left to a `Spec`. -/
module

public import proofs.«01_k».proof.Defs
public import proofs.«01_k».proof.Proof.Tri
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.KernelIdeal.Tile

open Idealize.ShloMosaic Cert.KernelIdeal
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F] [Facts]

local notation "𝕄" => MT nD τ sig (HIx 1) (Elt F) ℕ UU ℕ

section
variable {d : Dev nD} {i : grid0.Coords} {α β : Type}

/-- A stretch of the body at the head of a program. -/
theorem Tri.use {s : St F} {p : Pg F i α} {Q : α → St F → Prop} (h : Tri d i s p Q) {f : α → Pg F i β} {R : β → sProp 𝕄} :
    (own d i s : sProp 𝕄) ⊢ iprop((∀ a s', ⌜Q a s'⌝ -∗ own d i s' -∗ wp frame (wpE (defs₀ (F := F)) 𝒱₀ (thr d i) none) Set.univ (f a) R)
      -∗ wp frame (wpE (defs₀ (F := F)) 𝒱₀ (thr d i) none) Set.univ (p >>= f) R) := by
  rw [wp_bind]
  iintro H Hk
  iapply (wp_wand frame (wpE (defs₀ (F := F)) 𝒱₀ (thr d i) none) Set.univ) $$ [H] [Hk]
  · iapply h.run; iexact H
  iintro %a ⟨%s', %hq, H⟩
  iapply Hk $$ [] [H]
  · ipureintro; exact hq
  iexact H

section
variable {j : Fin (sig.nNear .scVector .vmem)} {hκ : sig.names .scVector .vmem j = true}

/-- A copy into a buffer of the tile, and its wait. -/
theorem copyIn {s : St F} {src : Memref sig .scVector .hbm (sig.tyNear .scVector .vmem j).shape (sig.tyNear .scVector .vmem j).elt} {sm : DmaSem sig}
    {h₁ h₂ h₃ h₄ h₅} {q : PosShare TreeShare} {fs : Buf (Elt F) (src.view.loc (thr d i))} (hb : (⟨.vmem, j, hκ⟩ : Ref sig .scVector) ∈ bufs)
    (hn : 0 < (sig.tyNear .scVector .vmem j).shape.numel) {O : CellTallies nD τ sig (HIx 1)} {W : Waits sig (HIx 1)} {k : PUnit → Pg F i β} {R : β → sProp 𝕄} :
    (iprop(own d i s ∗ (src.view.loc (thr d i) ↦[src.view.set]{q} fs) ∗ semVal (thr d i, .dma sm) 0 ∗ owes (thr d i) O W
        ∗ Transfers.MayWaits (thr d i) (none : HIx 1) O) : sProp 𝕄)
      ⊢ iprop((iprop(own d i (Function.update s ⟨.vmem, j, hκ⟩ (src.view.read (Elt F) fs)) ∗ (src.view.loc (thr d i) ↦[src.view.set]{q} fs)
            ∗ semVal (thr d i, .dma sm) 0 ∗ owes (thr d i) O (insert (SemLoc.dma sm, none) W))
          -∗ wp frame (wpE (defs₀ (F := F)) 𝒱₀ (thr d i) none) Set.univ (k ⟨⟩) R)
        -∗ wp frame (wpE (defs₀ (F := F)) 𝒱₀ (thr d i) none) Set.univ
          (Prog.lift (.enqueueDma src (.here (Memref.whole ⟨.vmem, j, hκ⟩ : Memref sig .scVector .vmem _ _)) (.dma sm) h₁ h₂ h₃) >>= fun _ =>
            Prog.lift (.waitDma2 sm src (Memref.whole ⟨.vmem, j, hκ⟩ : Memref sig .scVector .vmem _ _) h₄ h₅) >>= k) R) := by
  rw [own_take d i hb]
  unfold at_
  iintro ⟨⟨Hb, Hr⟩, Hs, Hv, HO, Hmw⟩ Hk
  iapply (Transfers.wp_dmaLocal (countersEmb (U := UU)) (Name := ℕ) (Lvl := ℕ) (defs := defs₀ (F := F)) 𝒱₀ (thr d i) none
    (src := src) (dst := (Memref.whole ⟨.vmem, j, hκ⟩ : Memref sig .scVector .vmem _ _)) (sm := .dma sm) (via := .same)
    (Sd := Finset.univ) (fd := s ⟨.vmem, j, hκ⟩) (fs := fs) (none : HIx 1) _ rfl (View.amount_pos _ _ hn) (Finset.subset_univ _)) $$ [Hs Hb Hv]
  · isplitl [Hs]; · iexact Hs
    isplitl [Hb]; · iexact Hb
    iexact Hv
  iintro Hf
  ihave Hm := (Transfers.MayWaits.elim (SemLoc.dma sm)) $$ Hmw
  iapply (Transfers.wp_waitLocalO (countersEmb (U := UU)) (Name := ℕ) (Lvl := ℕ) (defs := defs₀ (F := F)) 𝒱₀ (thr d i) none
    (srcw := src) (dstw := (Memref.whole ⟨.vmem, j, hκ⟩ : Memref sig .scVector .vmem _ _)) (sem := sm) (none : HIx 1) rfl) $$ [Hf HO Hm]
  · isplitl [Hf]; · iexact Hf
    isplitl [HO] <;> iassumption
  iintro ⟨⟨Hb, Hs⟩, Hv, HO⟩
  iapply Hk
  isplitl [Hb Hr]
  · iapply (own_put d i hb)
    isplitl [Hb]
    · rw [show (Memref.whole ⟨.vmem, j, hκ⟩ : Memref sig .scVector .vmem _ _).view.write (Elt F) (s ⟨.vmem, j, hκ⟩)
        (ReadAs.same.apply (src.view.read (Elt F) fs)) Finset.univ = src.view.read (Elt F) fs from View.write_whole_univ _ _ _]
      iexact Hb
    iexact Hr
  isplitl [Hs]; · iexact Hs
  isplitl [Hv] <;> iassumption

/-- A copy out of a buffer of the tile, and its wait. -/
theorem copyOut {s : St F} {dst : Memref sig .scVector .hbm (sig.tyNear .scVector .vmem j).shape (sig.tyNear .scVector .vmem j).elt} {sm : DmaSem sig}
    {h₁ h₂ h₃ h₄ h₅} {fd : Buf (Elt F) (dst.view.loc (thr d i))} (hb : (⟨.vmem, j, hκ⟩ : Ref sig .scVector) ∈ bufs)
    (hn : 0 < (sig.tyNear .scVector .vmem j).shape.numel) {O : CellTallies nD τ sig (HIx 1)} {W : Waits sig (HIx 1)} {k : PUnit → Pg F i β} {R : β → sProp 𝕄} :
    (iprop(own d i s ∗ (dst.view.loc (thr d i) ↦[dst.view.set]{fullShare} fd) ∗ semVal (thr d i, .dma sm) 0 ∗ owes (thr d i) O W
        ∗ Transfers.MayWaits (thr d i) (none : HIx 1) O) : sProp 𝕄)
      ⊢ iprop((iprop(own d i s ∗ (dst.view.loc (thr d i) ↦[dst.view.set]{fullShare} (dst.view.write (Elt F) fd (s ⟨.vmem, j, hκ⟩) Finset.univ))
            ∗ semVal (thr d i, .dma sm) 0 ∗ owes (thr d i) O (insert (SemLoc.dma sm, none) W))
          -∗ wp frame (wpE (defs₀ (F := F)) 𝒱₀ (thr d i) none) Set.univ (k ⟨⟩) R)
        -∗ wp frame (wpE (defs₀ (F := F)) 𝒱₀ (thr d i) none) Set.univ
          (Prog.lift (.enqueueDma (Memref.whole ⟨.vmem, j, hκ⟩ : Memref sig .scVector .vmem _ _) (.here dst) (.dma sm) h₁ h₂ h₃) >>= fun _ =>
            Prog.lift (.waitDma2 sm (Memref.whole ⟨.vmem, j, hκ⟩ : Memref sig .scVector .vmem _ _) dst h₄ h₅) >>= k) R) := by
  rw [own_take d i hb]
  unfold at_
  iintro ⟨⟨Hb, Hr⟩, Hs, Hv, HO, Hmw⟩ Hk
  iapply (Transfers.wp_dmaLocal (countersEmb (U := UU)) (Name := ℕ) (Lvl := ℕ) (defs := defs₀ (F := F)) 𝒱₀ (thr d i) none
    (src := (Memref.whole ⟨.vmem, j, hκ⟩ : Memref sig .scVector .vmem _ _)) (dst := dst) (sm := .dma sm) (via := .same)
    (Sd := dst.view.set) (fd := fd) (fs := s ⟨.vmem, j, hκ⟩) (q := fullShare) (none : HIx 1) _ rfl (View.amount_pos _ _ hn) (Finset.Subset.refl _)) $$ [Hs Hb Hv]
  · isplitl [Hb]
    · rw [show (Memref.whole ⟨.vmem, j, hκ⟩ : Memref sig .scVector .vmem _ _).view.set = Finset.univ from View.set_whole _]; iexact Hb
    isplitl [Hs]; · iexact Hs
    iexact Hv
  iintro Hf
  ihave Hm := (Transfers.MayWaits.elim (SemLoc.dma sm)) $$ Hmw
  iapply (Transfers.wp_waitLocalO (countersEmb (U := UU)) (Name := ℕ) (Lvl := ℕ) (defs := defs₀ (F := F)) 𝒱₀ (thr d i) none
    (srcw := (Memref.whole ⟨.vmem, j, hκ⟩ : Memref sig .scVector .vmem _ _)) (dstw := dst) (sem := sm) (none : HIx 1) rfl) $$ [Hf HO Hm]
  · isplitl [Hf]; · iexact Hf
    isplitl [HO] <;> iassumption
  iintro ⟨⟨Hs, Hb⟩, Hv, HO⟩
  iapply Hk
  isplitl [Hb Hr]
  · rw [show (Memref.whole ⟨.vmem, j, hκ⟩ : Memref sig .scVector .vmem _ _).view.set = Finset.univ from View.set_whole _]
    isplitl [Hb] <;> iassumption
  isplitl [Hs]; · iexact Hs
  isplitl [Hv] <;> iassumption

end
end

variable (m : (ℓ : Loc nD τ sig) → Buf (Elt F) ℓ)

/-! ## What the tile is handed -/

section
variable (d : Dev nD) (i : grid0.Coords)

abbrev in0 : sProp 𝕄 := (row0 i).view.loc (thr d i) ↦[(row0 i).view.set]{fullShare} m ((row0 i).view.loc (thr d i))
abbrev in1 : sProp 𝕄 := (row1 i).view.loc (thr d i) ↦[(row1 i).view.set]{fullShare} m ((row1 i).view.loc (thr d i))
abbrev in2 : sProp 𝕄 := (row2 i).view.loc (thr d i) ↦[(row2 i).view.set]{fullShare} m ((row2 i).view.loc (thr d i))
abbrev in3 (k : Fin k0_t7_loop.trips) : sProp 𝕄 :=
  (row3 i k).view.loc (thr d i) ↦[(row3 i k).view.set]{fullShare} m ((row3 i k).view.loc (thr d i))
abbrev in4 (k : Fin k0_t7_loop.trips) : sProp 𝕄 :=
  (row4 i k).view.loc (thr d i) ↦[(row4 i k).view.set]{fullShare} m ((row4 i k).view.loc (thr d i))
/-- The tile's parts of the five arguments. -/
def ins : sProp 𝕄 := iprop(in0 m d i ∗ in1 m d i ∗ in2 m d i ∗ (bigSep Finset.univ fun k => in3 m d i k) ∗ bigSep Finset.univ fun k => in4 m d i k)
/-- Its row of the result. -/
abbrev out (f : Buf (Elt F) ((rowOut i).view.loc (thr d i))) : sProp 𝕄 := (rowOut i).view.loc (thr d i) ↦[(rowOut i).view.set]{fullShare} f

/-- The contents with group `k`'s rows copied in. -/
def fetched (k : Fin k0_t7_loop.trips) (s : St F) : St F :=
  Function.update (Function.update s cc0_scratch4 ((row3 i k).view.read (Elt F) (m ((row3 i k).view.loc (thr d i)))))
    cc0_scratch5 ((row4 i k).view.read (Elt F) (m ((row4 i k).view.loc (thr d i))))

/-- The contents with the tile's lists copied in. -/
def begun (s : St F) : St F :=
  Function.update (Function.update (Function.update s cc0_scratch0 ((row0 i).view.read (Elt F) (m ((row0 i).view.loc (thr d i)))))
    cc0_scratch1 ((row1 i).view.read (Elt F) (m ((row1 i).view.loc (thr d i)))))
    cc0_scratch2 ((row2 i).view.read (Elt F) (m ((row2 i).view.loc (thr d i))))
end

/-- What is known of the totals and of the buffers before each group. -/
structure Spec where
  Inv : Dev nD → grid0.Coords → Nat → V F → St F → Prop
  start : ∀ d i s, Tri d i (begun m d i s) (batch i 0 >>= fun _ => batch i 1) fun _ s' => Inv d i 0 zeroF s'
  step : ∀ d i (k : Fin k0_t7_loop.trips) acc s, Inv d i k.val acc s →
    Tri d i (fetched m d i k s) (groupMain i (rowOf k) acc) fun acc' s' => Inv d i (k.val + 1) acc' s'

variable {m} (sp : Spec m)

/-- What is known of the tile's totals in the end. -/
def Spec.Fin (d : Dev nD) (i : grid0.Coords) (acc : V F) : Prop := ∃ s, sp.Inv d i k0_t7_loop.trips acc s

section
variable (d : Dev nD) (i : grid0.Coords) (O : CellTallies nD τ sig (HIx 1))

/-- The cells of the tile's copies, at zero. -/
abbrev cell (sm : DmaSem sig) : sProp 𝕄 := semVal (thr d i, .dma sm) 0

/-- What is known before each group. -/
def before (n : Nat) (acc : V F) : sProp 𝕄 :=
  iprop((∃ s, ⌜sp.Inv d i n acc s⌝ ∗ own d i s) ∗ (bigSep Finset.univ fun k => in3 m d i k) ∗ (bigSep Finset.univ fun k => in4 m d i k)
    ∗ cell d i cc0_scoped3.sem ∗ cell d i cc0_scoped4.sem ∗ Transfers.MayWaits (thr d i) (none : HIx 1) O ∗ ∃ W, owes (thr d i) O W)

theorem group_step (k : Fin k0_t7_loop.trips) (acc : V F) :
    before sp d i O k.val acc ⊢ wp frame (wpE (defs₀ (F := F)) 𝒱₀ (thr d i) none) Set.univ (group i k acc) (before sp d i O (k.val + 1)) := by
  unfold group before
  iintro ⟨⟨%s, %hs, Hown⟩, H3, H4, Hv3, Hv4, #Hmw, ⟨%W, HO⟩⟩
  ihave H3' := (Entails.of_eq (SparseCore.bigSep_erase' (Finset.mem_univ k))) $$ H3
  ihave H4' := (Entails.of_eq (SparseCore.bigSep_erase' (Finset.mem_univ k))) $$ H4
  icases H3' with ⟨Hk3, H3⟩
  icases H4' with ⟨Hk4, H4⟩
  iapply (copyIn (j := 4) (src := row3 i k) (sm := cc0_scoped3.sem) (s := s) (show cc0_scratch4 ∈ bufs by decide) (by decide)) $$ [Hown Hk3 Hv3 HO]
  · isplitl [Hown]; · iexact Hown
    isplitl [Hk3]; · iexact Hk3
    isplitl [Hv3]; · iexact Hv3
    isplitl [HO]; · iexact HO
    iexact Hmw
  iintro ⟨Hown, Hk3, Hv3, HO⟩
  iapply (copyIn (j := 5) (src := row4 i k) (sm := cc0_scoped4.sem) (show cc0_scratch5 ∈ bufs by decide) (by decide)) $$ [Hown Hk4 Hv4 HO]
  · isplitl [Hown]; · iexact Hown
    isplitl [Hk4]; · iexact Hk4
    isplitl [Hv4]; · iexact Hv4
    isplitl [HO]; · iexact HO
    iexact Hmw
  iintro ⟨Hown, Hk4, Hv4, HO⟩
  iapply (wp_wand frame (wpE (defs₀ (F := F)) 𝒱₀ (thr d i) none) Set.univ) $$ [Hown]
  · iapply (sp.step d i k acc s hs).run; iexact Hown
  iintro %acc' ⟨%s', %hs', Hown⟩
  isplitl [Hown]
  · iexists s'
    isplitr
    · ipureintro; exact hs'
    iexact Hown
  isplitl [Hk3 H3]
  · iapply (Entails.of_eq (SparseCore.bigSep_erase' (Finset.mem_univ k)).symm)
    isplitl [Hk3] <;> iassumption
  isplitl [Hk4 H4]
  · iapply (Entails.of_eq (SparseCore.bigSep_erase' (Finset.mem_univ k)).symm)
    isplitl [Hk4] <;> iassumption
  isplitl [Hv3]; · iexact Hv3
  isplitl [Hv4]; · iexact Hv4
  isplitr; · iexact Hmw
  iexists _; iexact HO

/-- The cells of the six copies. -/
def cells : sProp 𝕄 :=
  iprop(cell d i cc0_scoped0.sem ∗ cell d i cc0_scoped1.sem ∗ cell d i cc0_scoped2.sem ∗ cell d i cc0_scoped3.sem ∗ cell d i cc0_scoped4.sem
    ∗ cell d i cc0_scoped5.sem)

/-- The row of the result the tile leaves: totals such as are known of. -/
def done : sProp 𝕄 := iprop(∃ f, ⌜sp.Fin d i ((rowOut i).view.read (Elt F) f)⌝ ∗ out d i f)

theorem body_run (W : Waits sig (HIx 1)) :
    iprop(ins m d i ∗ (∃ f, out d i f) ∗ (∃ s, own d i s) ∗ cells d i ∗ Transfers.MayWaits (thr d i) (none : HIx 1) O ∗ owes (thr d i) O W)
      ⊢ wp frame (wpE (defs₀ (F := F)) 𝒱₀ (thr d i) none) Set.univ (body i)
        fun _ => iprop(ins m d i ∗ done sp d i ∗ (∃ s, own d i s) ∗ cells d i ∗ ∃ W', owes (thr d i) O W') := by
  unfold body ins cells
  iintro ⟨⟨H0, H1, H2, H3, H4⟩, ⟨%f, Hout⟩, ⟨%s, Hown⟩, ⟨Hv0, Hv1, Hv2, Hv3, Hv4, Hv5⟩, #Hmw, HO⟩
  iapply (copyIn (j := 0) (src := row0 i) (sm := cc0_scoped0.sem) (s := s) (show cc0_scratch0 ∈ bufs by decide) (by decide)) $$ [Hown H0 Hv0 HO]
  · isplitl [Hown]; · iexact Hown
    isplitl [H0]; · iexact H0
    isplitl [Hv0]; · iexact Hv0
    isplitl [HO]; · iexact HO
    iexact Hmw
  iintro ⟨Hown, H0, Hv0, HO⟩
  iapply (copyIn (j := 1) (src := row1 i) (sm := cc0_scoped1.sem) (show cc0_scratch1 ∈ bufs by decide) (by decide)) $$ [Hown H1 Hv1 HO]
  · isplitl [Hown]; · iexact Hown
    isplitl [H1]; · iexact H1
    isplitl [Hv1]; · iexact Hv1
    isplitl [HO]; · iexact HO
    iexact Hmw
  iintro ⟨Hown, H1, Hv1, HO⟩
  iapply (copyIn (j := 2) (src := row2 i) (sm := cc0_scoped2.sem) (show cc0_scratch2 ∈ bufs by decide) (by decide)) $$ [Hown H2 Hv2 HO]
  · isplitl [Hown]; · iexact Hown
    isplitl [H2]; · iexact H2
    isplitl [Hv2]; · iexact Hv2
    isplitl [HO]; · iexact HO
    iexact Hmw
  iintro ⟨Hown, H2, Hv2, HO⟩
  rw [← Prog.bind_assoc]
  iapply (sp.start d i s).use $$ [Hown]
  · iexact Hown
  iintro %_ %s₁ %hs₁ Hown
  iapply (Scf.wp_for_bind frame (wpE (defs₀ (F := F)) 𝒱₀ (thr d i) none) Set.univ _ _ _ _ _ _ (before sp d i O) (group_step sp d i O)) $$ [Hown H3 H4 Hv3 Hv4 HO]
  · unfold before
    isplitl [Hown]
    · iexists s₁
      isplitr
      · ipureintro; exact hs₁
      iexact Hown
    isplitl [H3]; · iexact H3
    isplitl [H4]; · iexact H4
    isplitl [Hv3]; · iexact Hv3
    isplitl [Hv4]; · iexact Hv4
    isplitr; · iexact Hmw
    iexists _; iexact HO
  iintro %acc Hb
  unfold before
  icases Hb with ⟨⟨%s₂, %hs₂, Hown⟩, H3, H4, Hv3, Hv4, -, ⟨%W₂, HO⟩⟩
  iapply (Tri.use (Tri.load (s := s₂) (show cc0_scratch11 ∈ bufs by decide))) $$ [Hown]
  · iexact Hown
  iintro %old %s₃ %hs₃ Hown
  iapply (Tri.use (Tri.store (s := s₃) (show cc0_scratch11 ∈ bufs by decide))) $$ [Hown]
  · iexact Hown
  iintro %_ %s₄ %hs₄ Hown
  iapply (copyOut (j := 11) (dst := rowOut i) (sm := cc0_scoped5.sem) (s := s₄) (show cc0_scratch11 ∈ bufs by decide) (by decide)) $$ [Hown Hout Hv5 HO]
  · isplitl [Hown]; · iexact Hown
    isplitl [Hout]; · iexact Hout
    isplitl [Hv5]; · iexact Hv5
    isplitl [HO]; · iexact HO
    iexact Hmw
  iintro ⟨Hown, Hout, Hv5, HO⟩
  iapply (le_wp_ret frame (wpE (defs₀ (F := F)) 𝒱₀ (thr d i) none) Set.univ)
  isplitl [H0 H1 H2 H3 H4]
  · isplitl [H0]; · iexact H0
    isplitl [H1]; · iexact H1
    isplitl [H2]; · iexact H2
    isplitl [H3] <;> iassumption
  isplitl [Hout]
  · unfold done
    iexists _
    isplitr
    swap; · iexact Hout
    ipureintro
    rw [View.read_write_univ]
    refine ⟨s₂, ?_⟩
    rw [show s₄ cc0_scratch11 = acc from ?_]
    · exact hs₂
    rw [hs₄]
    refine (Function.update_self _ _ _).trans ?_
    exact Memref.write_access_unit_zero_univ _ _ (by funext a; match a with | 0 => rfl) _ _ _
  isplitl [Hown]; · iexists _; iexact Hown
  isplitr [HO]
  · isplitl [Hv0]; · iexact Hv0
    isplitl [Hv1]; · iexact Hv1
    isplitl [Hv2]; · iexact Hv2
    isplitl [Hv3]; · iexact Hv3
    isplitl [Hv4] <;> iassumption
  iexists _; iexact HO

end

end Cert.KernelIdeal.Tile
-- ==== Proof.Launch.lean ====
/- The arrays dealt to the thirty-two tiles, each tile's run, and its row of the result brought back. -/
module

public import proofs.«01_k».proof.Defs
public import proofs.«01_k».proof.Proof.Same
public import proofs.«01_k».proof.Proof.Carry
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.KernelIdeal.Tile

open Cert.KernelIdeal Cert.KernelIdeal.Gen
open Idealize.ShloMosaic
open Idealize.ShloMosaic.SparseCore (T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱 : Variants := 𝒱₀.lift
abbrev v₀ : 𝒱.V := Sum.inl none

theorem cfgFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The parts of the arrays -/

/-- The coordinates of a tile. -/
def co (c : Fin 2) (s : Fin 16) : grid0.Coords := fun | 0 => c | 1 => s | ⟨_ + 2, h⟩ => absurd h (Nat.not_lt.2 (Nat.le_add_left _ _))

/-- Its number, -/
def wid (t : Fin 2 × Fin 16) : Fin 32 := ⟨2 * t.2.val + t.1.val, by have := t.1.isLt; have := t.2.isLt; omega⟩
/-- and the number of a group. -/
def gid (t : (Fin 2 × Fin 16) × Fin 50) : Fin 1600 := ⟨50 * (wid t.1).val + t.2.val, by have := (wid t.1).isLt; have := t.2.isLt; omega⟩

theorem wid_inj : Function.Injective wid := fun ⟨⟨a, ha⟩, ⟨b, hb⟩⟩ ⟨⟨a', ha'⟩, ⟨b', hb'⟩⟩ h => by
  have : 2 * b + a = 2 * b' + a' := congrArg Fin.val h
  simp only [Prod.mk.injEq, Fin.mk.injEq]
  omega
theorem wid_surj : Function.Surjective wid := fun ⟨n, hn⟩ => ⟨(⟨n % 2, by omega⟩, ⟨n / 2, by omega⟩), Fin.ext (by show 2 * (n / 2) + n % 2 = n; omega)⟩
theorem gid_inj : Function.Injective gid := fun ⟨t, ⟨k, hk⟩⟩ ⟨t', ⟨k', hk'⟩⟩ h => by
  have h : 50 * (wid t).val + k = 50 * (wid t').val + k' := congrArg Fin.val h
  have ht : t = t' := wid_inj (Fin.ext (by omega))
  subst ht
  have : k = k' := by omega
  subst this
  rfl
theorem gid_surj : Function.Surjective gid := fun ⟨n, hn⟩ => by
  obtain ⟨t, ht⟩ := wid_surj ⟨n / 50, by omega⟩
  refine ⟨(t, ⟨n % 50, by omega⟩), Fin.ext ?_⟩
  show 50 * (wid t).val + n % 50 = n
  rw [ht]
  show 50 * (n / 50) + n % 50 = n
  omega

theorem parts_disjoint {s : Shape} {a₀ : Fin s.rank} {n : Nat} (hn : n ∣ s.size a₀) {T : Type} [Fintype T] {w : T → Fin n}
    (hw : Function.Injective w) {K : T → Finset s.Idx} (hK : ∀ t, K t = (Rect.part hn (w t)).set) :
    ∀ t ∈ (Finset.univ : Finset T), ∀ t' ∈ (Finset.univ : Finset T), t ≠ t' → Disjoint (K t) (K t') := fun t _ t' _ h => by
  rw [hK, hK]
  exact Rect.part_disjoint hn fun e => h (hw e)

theorem parts_cover {s : Shape} {a₀ : Fin s.rank} {n : Nat} (hn : n ∣ s.size a₀) {T : Type} [Fintype T] {w : T → Fin n}
    (hw : Function.Surjective w) {K : T → Finset s.Idx} (hK : ∀ t, K t = (Rect.part hn (w t)).set) :
    (Finset.univ : Finset T).biUnion K = Finset.univ := by
  ext x
  simp only [Finset.mem_biUnion, Finset.mem_univ, true_and, iff_true]
  obtain ⟨j, hj⟩ := Rect.exists_mem_part hn x
  obtain ⟨t, rfl⟩ := hw j
  exact ⟨t, hK t ▸ hj⟩

theorem div0 : 32 ∣ S1024x200.size 0 := ⟨32, rfl⟩
theorem div2 : 32 ∣ S1024x200x8.size 0 := ⟨32, rfl⟩
theorem div3 : 1600 ∣ S25600x200.size 0 := ⟨16, rfl⟩
theorem div4 : 1600 ∣ S25600x10.size 0 := ⟨16, rfl⟩
theorem divOut : 32 ∣ S32x16.size 0 := ⟨1, rfl⟩

section Sets
variable [Facts]
variable (t : Fin 2 × Fin 16) (k : Fin 50)

theorem set0 : (row0 (co t.1 t.2)).view.set = (Rect.part (s := S1024x200) (a₀ := 0) div0 (wid t)).set := by
  refine (View.set_slice_whole _ _).trans (congrArg (fun r : Rect S1024x200 => r.set) ?_)
  unfold Rect.part Rect.block
  congr 1 <;> funext a
  · rw [k0_off1_eq]
    match a with
    | 0 => simp [Shape.partIx, Shape.partSize, co, wid]; omega
    | 1 => simp [Shape.partIx, Shape.partSize]
  · match a with
    | 0 => simp [Shape.partSize]
    | 1 => simp [Shape.partSize]
theorem set1 : (row1 (co t.1 t.2)).view.set = (Rect.part (s := S1024x200) (a₀ := 0) div0 (wid t)).set := set0 t
theorem set2 : (row2 (co t.1 t.2)).view.set = (Rect.part (s := S1024x200x8) (a₀ := 0) div2 (wid t)).set := by
  refine (View.set_slice_whole _ _).trans (congrArg (fun r : Rect S1024x200x8 => r.set) ?_)
  unfold Rect.part Rect.block
  congr 1 <;> funext a
  · rw [k0_off2_eq]
    match a with
    | 0 => simp [Shape.partIx, Shape.partSize, co, wid]; omega
    | 1 => simp [Shape.partIx, Shape.partSize]
    | 2 => simp [Shape.partIx, Shape.partSize]
  · match a with
    | 0 => simp [Shape.partSize]
    | 1 => simp [Shape.partSize]
    | 2 => simp [Shape.partSize]
theorem set3 : (row3 (co t.1 t.2) k).view.set = (Rect.part (s := S25600x200) (a₀ := 0) div3 (gid (t, k))).set := by
  refine (View.set_slice_whole _ _).trans (congrArg (fun r : Rect S25600x200 => r.set) ?_)
  unfold Rect.part Rect.block
  congr 1 <;> funext a
  · refine (congrFun (k0_off3_eq (co t.1 t.2) k) a).trans ?_
    match a with
    | 0 => simp [Shape.partIx, Shape.partSize, co, wid, gid]; omega
    | 1 => simp [Shape.partIx, Shape.partSize]
  · match a with
    | 0 => simp [Shape.partSize]
    | 1 => simp [Shape.partSize]
theorem set4 : (row4 (co t.1 t.2) k).view.set = (Rect.part (s := S25600x10) (a₀ := 0) div4 (gid (t, k))).set := by
  refine (View.set_slice_whole _ _).trans (congrArg (fun r : Rect S25600x10 => r.set) ?_)
  unfold Rect.part Rect.block
  congr 1 <;> funext a
  · refine (congrFun (k0_off4_eq (co t.1 t.2) k) a).trans ?_
    match a with
    | 0 => simp [Shape.partIx, Shape.partSize, co, wid, gid]; omega
    | 1 => simp [Shape.partIx, Shape.partSize]
  · match a with
    | 0 => simp [Shape.partSize]
    | 1 => simp [Shape.partSize]
theorem setOut : (rowOut (co t.1 t.2)).view.set = (Rect.part (s := S32x16) (a₀ := 0) divOut (wid t)).set := by
  show (((View.whole (main_v0_scv : Ref sig .scVector)).slice (Rect.unit (s := S32x16) (k0_off26 (co t.1 t.2)) S1x16.size (k0_off26_inb (co t.1 t.2)))).reshape
    S16 squeezes_S1x16_S16.numel_eq).set = _
  rw [View.set_reshape]
  refine (View.set_slice_whole _ _).trans (congrArg (fun r : Rect S32x16 => r.set) ?_)
  unfold Rect.part Rect.block
  congr 1 <;> funext a
  · rw [k0_off26_eq]
    match a with
    | 0 => simp [Shape.partIx, Shape.partSize, co, wid]
    | 1 => simp [Shape.partIx, Shape.partSize]
  · match a with
    | 0 => simp [Shape.partSize]
    | 1 => simp [Shape.partSize]
end Sets

variable [FloatOps F] [Named F] [Facts]
variable (m : (ℓ : Loc nD τ sig) → Buf (Elt F) ℓ) (ρ : Dev nD → PrngReg)

/-- The arguments and the tiles' rows, as locations of device `d`. -/
abbrev loc (b : Ref sig .tc) (d : Dev nD) : Loc nD τ sig := (SparseCore.T d).loc b

section Whole
variable (d : Dev nD)

theorem whole0 : (loc main_arg0 d ↦{fullShare} m (loc main_arg0 d) : sProp 𝕄) = bigSep Finset.univ fun t : Fin 2 × Fin 16 => in0 m d (co t.1 t.2) := by
  refine Eq.trans ?_ (pointsTo_biUnion Finset.univ (ℓ := loc main_arg0 d) (q := fullShare) (f := m (loc main_arg0 d))
    (fun t : Fin 2 × Fin 16 => (row0 (co t.1 t.2)).view.set) (parts_disjoint div0 wid_inj set0))
  rw [parts_cover div0 wid_surj set0]
theorem whole1 : (loc main_arg1 d ↦{fullShare} m (loc main_arg1 d) : sProp 𝕄) = bigSep Finset.univ fun t : Fin 2 × Fin 16 => in1 m d (co t.1 t.2) := by
  refine Eq.trans ?_ (pointsTo_biUnion Finset.univ (ℓ := loc main_arg1 d) (q := fullShare) (f := m (loc main_arg1 d))
    (fun t : Fin 2 × Fin 16 => (row1 (co t.1 t.2)).view.set) (parts_disjoint div0 wid_inj set1))
  rw [parts_cover div0 wid_surj set1]
theorem whole2 : (loc main_arg2 d ↦{fullShare} m (loc main_arg2 d) : sProp 𝕄) = bigSep Finset.univ fun t : Fin 2 × Fin 16 => in2 m d (co t.1 t.2) := by
  refine Eq.trans ?_ (pointsTo_biUnion Finset.univ (ℓ := loc main_arg2 d) (q := fullShare) (f := m (loc main_arg2 d))
    (fun t : Fin 2 × Fin 16 => (row2 (co t.1 t.2)).view.set) (parts_disjoint div2 wid_inj set2))
  rw [parts_cover div2 wid_surj set2]
theorem whole3 : (loc main_arg3 d ↦{fullShare} m (loc main_arg3 d) : sProp 𝕄)
    = bigSep Finset.univ fun t : Fin 2 × Fin 16 => bigSep Finset.univ fun k => in3 m d (co t.1 t.2) k := by
  refine Eq.trans (Eq.trans ?_ (pointsTo_biUnion Finset.univ (ℓ := loc main_arg3 d) (q := fullShare) (f := m (loc main_arg3 d))
    (fun t : (Fin 2 × Fin 16) × Fin 50 => (row3 (co t.1.1 t.1.2) t.2).view.set) (parts_disjoint div3 gid_inj fun t => set3 t.1 t.2))) (bigSep_univ_prod _)
  rw [parts_cover div3 gid_surj fun t => set3 t.1 t.2]
theorem whole4 : (loc main_arg4 d ↦{fullShare} m (loc main_arg4 d) : sProp 𝕄)
    = bigSep Finset.univ fun t : Fin 2 × Fin 16 => bigSep Finset.univ fun k => in4 m d (co t.1 t.2) k := by
  refine Eq.trans (Eq.trans ?_ (pointsTo_biUnion Finset.univ (ℓ := loc main_arg4 d) (q := fullShare) (f := m (loc main_arg4 d))
    (fun t : (Fin 2 × Fin 16) × Fin 50 => (row4 (co t.1.1 t.1.2) t.2).view.set) (parts_disjoint div4 gid_inj fun t => set4 t.1 t.2))) (bigSep_univ_prod _)
  rw [parts_cover div4 gid_surj fun t => set4 t.1 t.2]
theorem wholeOut (f : Buf (Elt F) (loc main_v0 d)) :
    (loc main_v0 d ↦{fullShare} f : sProp 𝕄) = bigSep Finset.univ fun t : Fin 2 × Fin 16 => out d (co t.1 t.2) f := by
  refine Eq.trans ?_ (pointsTo_biUnion Finset.univ (ℓ := loc main_v0 d) (q := fullShare) (f := f)
    (fun t : Fin 2 × Fin 16 => (rowOut (co t.1 t.2)).view.set) (parts_disjoint divOut wid_inj setOut))
  rw [parts_cover divOut wid_surj setOut]

/-- The five arguments, whole. -/
def args : sProp 𝕄 := iprop((loc main_arg0 d ↦{fullShare} m (loc main_arg0 d)) ∗ (loc main_arg1 d ↦{fullShare} m (loc main_arg1 d))
  ∗ (loc main_arg2 d ↦{fullShare} m (loc main_arg2 d)) ∗ (loc main_arg3 d ↦{fullShare} m (loc main_arg3 d))
  ∗ (loc main_arg4 d ↦{fullShare} m (loc main_arg4 d)))

theorem args_eq : (args m d : sProp 𝕄) = bigSep Finset.univ fun t : Fin 2 × Fin 16 => ins m d (co t.1 t.2) := by
  unfold args ins
  rw [bigSep_sep', bigSep_sep', bigSep_sep', bigSep_sep', whole0, whole1, whole2, whole3, whole4]

variable {m} (sp : Spec m)

/-- The tiles' rows, as an array. -/
def Rows (g : Buf (Elt F) (loc main_v0 d)) : Prop :=
  ∀ t : Fin 2 × Fin 16, sp.Fin d (co t.1 t.2) ((rowOut (co t.1 t.2)).view.read (Elt F) g)

theorem rows_join : (bigSep Finset.univ fun t : Fin 2 × Fin 16 => done sp d (co t.1 t.2))
    ⊢ (iprop(∃ g, ⌜Rows d sp g⌝ ∗ loc main_v0 d ↦{fullShare} g) : sProp 𝕄) := by
  have : Nonempty (Buf (Elt F) (loc main_v0 d)) := ⟨m (loc main_v0 d)⟩
  unfold done
  refine (bigSep_exists_pi Finset.univ (fun (t : Fin 2 × Fin 16) (f : Buf (Elt F) (loc main_v0 d)) =>
    iprop(⌜sp.Fin d (co t.1 t.2) ((rowOut (co t.1 t.2)).view.read (Elt F) f)⌝ ∗ out d (co t.1 t.2) f))).trans ?_
  iintro ⟨%fs, H⟩
  ihave H' := (bigSep_pure_sep Finset.univ (fun t : Fin 2 × Fin 16 => sp.Fin d (co t.1 t.2) ((rowOut (co t.1 t.2)).view.read (Elt F) (fs t))) _) $$ H
  icases H' with ⟨%hf, H⟩
  ihave H' := (pointsTo_biUnion_join (ℓ := loc main_v0 d) (q := fullShare) (Val := Elt F) Finset.univ
    (fun t : Fin 2 × Fin 16 => (rowOut (co t.1 t.2)).view.set) fs (m (loc main_v0 d)) (parts_disjoint divOut wid_inj setOut)) $$ H
  icases H' with ⟨%g, %hg, Hg⟩
  rw [parts_cover divOut wid_surj setOut]
  iexists g
  isplitr
  · ipureintro
    intro t
    rw [show (rowOut (co t.1 t.2)).view.read (Elt F) g = (rowOut (co t.1 t.2)).view.read (Elt F) (fs t) from ?_]
    · exact hf t (Finset.mem_univ t)
    funext x
    rw [View.read_apply, View.read_apply]
    exact congrArg _ (hg t (Finset.mem_univ t) _ (Finset.mem_map_of_mem _ (Finset.mem_univ x)))
  iexact Hg

end Whole

/-! ## What the handshakes carry -/

variable {m} (sp : Spec m)

/-- A tile's parts of the arrays before its work, -/
def give (d : Dev nD) (i : grid0.Coords) : sProp 𝕄 := iprop(ins m d i ∗ ∃ f, out d i f)
/-- and after. -/
def back (d : Dev nD) (i : grid0.Coords) : sProp 𝕄 := iprop(ins m d i ∗ done sp d i)

section
variable (d : Dev nD) (i : grid0.Coords)
instance in0_storable : BI.Storable (upEmb : UEmb _ 𝕄) (in0 m d i) := inferInstance
instance in1_storable : BI.Storable (upEmb : UEmb _ 𝕄) (in1 m d i) := inferInstance
instance in2_storable : BI.Storable (upEmb : UEmb _ 𝕄) (in2 m d i) := inferInstance
instance in3_storable : BI.Storable (upEmb : UEmb _ 𝕄) (bigSep Finset.univ fun k => in3 m d i k) := inferInstance
instance in4_storable : BI.Storable (upEmb : UEmb _ 𝕄) (bigSep Finset.univ fun k => in4 m d i k) := inferInstance
instance ins_storable : BI.Storable (upEmb : UEmb _ 𝕄) (ins m d i) := by unfold ins; infer_instance
theorem out_storable (f : Buf (Elt F) ((rowOut i).view.loc (thr d i))) : BI.Storable (upEmb : UEmb _ 𝕄) (out d i f) := inferInstance
theorem outs_storable : BI.Storable (upEmb : UEmb _ 𝕄) iprop(∃ f, out d i f) :=
  haveI := out_storable (F := F) d i
  BI.Storable.exists _ _
instance done_storable : BI.Storable (upEmb : UEmb _ 𝕄) (done sp d i) := by unfold done; infer_instance
end

instance give_storable (d : Dev nD) (i : grid0.Coords) : BI.Storable (upEmb : UEmb _ 𝕄) (give (m := m) d i) := by
  haveI := outs_storable (F := F) d i
  exact BI.Storable.sep _ _ _
instance back_storable (d : Dev nD) (i : grid0.Coords) : BI.Storable (upEmb : UEmb _ 𝕄) (back sp d i) := by
  exact BI.Storable.sep _ _ _

def P : (K (F := F)).Pay (nD := nD) (Val := Elt F) (Name := ℕ) (U := UU) where
  st := fun q d c => match q with | 0 => bigSep Finset.univ fun s : Fin 16 => give (m := m) d (co c s)
  dn := fun q d c => match q with | 0 => bigSep Finset.univ fun s : Fin 16 => back sp d (co c s)
  go := fun q d c s => match q with | 0 => give (m := m) d (co c s)
  td := fun q d c s => match q with | 0 => back sp d (co c s)
  x := fun _ _ => iprop(emp)

theorem gives_storable (d : Dev nD) (c : Fin 2) : BI.Storable (upEmb : UEmb _ 𝕄) (bigSep Finset.univ fun s : Fin 16 => give (m := m) d (co c s)) := inferInstance
theorem backs_storable (d : Dev nD) (c : Fin 2) : BI.Storable (upEmb : UEmb _ 𝕄) (bigSep Finset.univ fun s : Fin 16 => back sp d (co c s)) := inferInstance

instance P_storable : (P sp).IsStorable where
  st q d c := match q with
    | 0 => gives_storable d c
  dn q d c := match q with
    | 0 => backs_storable sp d c
  go q d c s := match q with | 0 => give_storable (m := m) d (co c s)
  td q d c s := match q with | 0 => back_storable sp d (co c s)

theorem vecSplit : (K (F := F)).VecSplit' (P sp) 0 := by
  intro d c
  show (bigSep Finset.univ fun s : Fin 16 => give (m := m) d (co c s)) ⊢ |={Set.univ}=> iprop(
      (bigSep Finset.univ fun s : Fin 16 => give (m := m) d (co c s))
      ∗ ((bigSep Finset.univ fun s : Fin 16 => back sp d (co c s)) -∗ (bigSep Finset.univ fun s : Fin 16 => back sp d (co c s))))
  iintro H
  imodintro
  isplitl [H]; · iexact H
  iintro H
  iexact H

/-! ## The tile -/

section
variable (d : Dev nD) (i : grid0.Coords)

/-- The tile's cells apart from the copies'. -/
def restCells : Finset (GSem nD τ sig) :=
  ((((((ownCells (thr d i)).erase (thr d i, .dma cc0_scoped0.sem)).erase (thr d i, .dma cc0_scoped1.sem)).erase (thr d i, .dma cc0_scoped2.sem)).erase
    (thr d i, .dma cc0_scoped3.sem)).erase (thr d i, .dma cc0_scoped4.sem)).erase (thr d i, .dma cc0_scoped5.sem)

theorem mem_cell {sm : DmaSem sig} (h : (SemLoc.dma sm : SemLoc sig).isScoped .scVector = true := by decide) :
    ((thr d i, SemLoc.dma sm) : GSem nD τ sig) ∈ ownCells (thr d i) := mem_ownCells.mpr ⟨rfl, h⟩

theorem ne_cell {a b : DmaSem sig} (h : a ≠ b := by decide) : ((thr d i, SemLoc.dma a) : GSem nD τ sig) ≠ (thr d i, SemLoc.dma b) :=
  fun e => h (by injection e with _ e; injection e)

theorem cells_eq : (ownSems0 (thr d i) : sProp 𝕄) = iprop(cells d i ∗ bigSep (restCells d i) fun g => semVal g 0) := by
  unfold SparseCore.Cfg.ownSems0 cells restCells cell
  rw [SparseCore.bigSep_erase' (mem_cell d i (sm := cc0_scoped0.sem)),
    SparseCore.bigSep_erase' (Finset.mem_erase.mpr ⟨ne_cell d i, mem_cell d i (sm := cc0_scoped1.sem)⟩),
    SparseCore.bigSep_erase' (Finset.mem_erase.mpr ⟨ne_cell d i, Finset.mem_erase.mpr ⟨ne_cell d i, mem_cell d i (sm := cc0_scoped2.sem)⟩⟩),
    SparseCore.bigSep_erase' (Finset.mem_erase.mpr ⟨ne_cell d i, Finset.mem_erase.mpr ⟨ne_cell d i, Finset.mem_erase.mpr ⟨ne_cell d i,
      mem_cell d i (sm := cc0_scoped3.sem)⟩⟩⟩),
    SparseCore.bigSep_erase' (Finset.mem_erase.mpr ⟨ne_cell d i, Finset.mem_erase.mpr ⟨ne_cell d i, Finset.mem_erase.mpr ⟨ne_cell d i,
      Finset.mem_erase.mpr ⟨ne_cell d i, mem_cell d i (sm := cc0_scoped4.sem)⟩⟩⟩⟩),
    SparseCore.bigSep_erase' (Finset.mem_erase.mpr ⟨ne_cell d i, Finset.mem_erase.mpr ⟨ne_cell d i, Finset.mem_erase.mpr ⟨ne_cell d i,
      Finset.mem_erase.mpr ⟨ne_cell d i, Finset.mem_erase.mpr ⟨ne_cell d i, mem_cell d i (sm := cc0_scoped5.sem)⟩⟩⟩⟩⟩)]
  have h : ∀ X Y Z : sProp 𝕄, iprop((X ∗ Y) ∗ Z) = iprop(X ∗ Y ∗ Z) := fun _ _ _ => Idealize.SL.BI.equiv_iff.mp ⟨BI.sep_assoc, BI.sep_assoc'⟩
  simp only [h]

/-- The tile's buffers, as the device names them. -/
def mine : Finset (DevRef τ sig) := bufs.map ⟨(Proc.scVector (cV i) (jV i)).devRef, Proc.devRef_injective _⟩

theorem owner_eq (b : Ref sig .scVector) (hb : b ∈ bufs) :
    ((Proc.scVector (cV i) (jV i)).devRef b).owner = .proc (Proc.scVector (cV i) (jV i)) := by
  revert b
  unfold bufs
  simp only [Finset.mem_insert, Finset.mem_singleton, forall_eq_or_imp, forall_eq]
  exact ⟨rfl, rfl, rfl, rfl, rfl, rfl, rfl, rfl, rfl, rfl, rfl, rfl⟩

theorem mine_sub : mine i ⊆ ownRefs (τ := τ) (Proc.scVector (cV i) (jV i)) := by
  intro b hb
  obtain ⟨b, h, rfl⟩ := Finset.mem_map.mp hb
  exact SparseCore.Cfg.mem_ownRefs_of_owner (owner_eq i b h)

/-- The tile's buffers apart from the twelve. -/
def restBufs : sProp 𝕄 := bigSep (ownRefs (τ := τ) (Proc.scVector (cV i) (jV i)) \ mine i) fun b => iprop(∃ f, ((d, b) : Loc nD τ sig) ↦{fullShare} f)

theorem bufs_eq : (ownBufs (thr d i) : sProp 𝕄)
    = iprop((bigSep bufs fun b => iprop(∃ f : Buf (Elt F) ((thr d i).loc b), (thr d i).loc b ↦{fullShare} f)) ∗ restBufs d i) := by
  unfold SparseCore.Cfg.ownBufs restBufs
  rw [SparseCore.bigSep_sdiff_split' (mine_sub i), mine, bigSep_map]
  rfl

include m in
theorem bufs_take : (ownBufs (thr d i) : sProp 𝕄) ⊢ iprop((∃ s, own d i s) ∗ restBufs d i) := by
  rw [bufs_eq]
  have : ∀ b : Ref sig .scVector, Nonempty (Buf (Elt F) ((thr d i).loc b)) := fun b => ⟨m ((thr d i).loc b)⟩
  iintro ⟨H, Hr⟩
  isplitl [H]
  · iapply (bigSep_exists_pi bufs (fun (b : Ref sig .scVector) (f : Buf (Elt F) ((thr d i).loc b)) => iprop((thr d i).loc b ↦{fullShare} f)))
    iexact H
  iexact Hr

theorem at_any (s : St F) (b : Ref sig .scVector) :
    (at_ d i s b : sProp 𝕄) ⊢ iprop(∃ f : Buf (Elt F) ((thr d i).loc b), (thr d i).loc b ↦{fullShare} f) := by
  unfold at_
  iintro H
  iexists _
  iexact H

theorem own_any (s : St F) : (own d i s : sProp 𝕄) ⊢ bigSep bufs fun b => iprop(∃ f : Buf (Elt F) ((thr d i).loc b), (thr d i).loc b ↦{fullShare} f) :=
  bigSep_mono fun b _ => at_any d i s b

theorem bufs_give : (iprop((∃ s, own d i s) ∗ restBufs d i) : sProp 𝕄) ⊢ ownBufs (thr d i) := by
  rw [bufs_eq]
  iintro ⟨⟨%s, H⟩, Hr⟩
  isplitl [H]
  · iapply (own_any d i s)
    iexact H
  iexact Hr

theorem tile_body (O : CellTallies nD τ sig (HIx 1)) (W : Waits sig (HIx 1)) (hO : ∀ g, O g none = 0) :
    iprop(levAts (K (F := F)).L (K (F := F)).lev ∗ emp ∗ give (m := m) d i ∗ scopedBufs (thr d i) ∗ scopedSems0 (thr d i) ∗ owes (thr d i) O W)
      ⊢ wp frame (wpE (defs₀ (F := F)) 𝒱₀ (thr d i) none) Set.univ (body i)
          fun _ => iprop(back sp d i ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V cfgFacts d (cV i) (jV i), SparseCore.Cfg.scopedSems0_V (Val := Elt F) d (cV i) (jV i)]
  rw [cells_eq]
  unfold give back
  iintro ⟨#Hlv, -, ⟨Hin, Hout⟩, Hbufs, ⟨Hcells, Hsems⟩, HO⟩
  ihave Hmw := (show levAts (K (F := F)).L (K (F := F)).lev ⊢ Transfers.MayWaits (thr d i) (none : HIx 1) O from
    (K (F := F)).mayWaits_none (thr := thr d i) hO) $$ Hlv
  ihave Hb := (bufs_take (m := m) d i) $$ Hbufs
  icases Hb with ⟨Hown, Hrest⟩
  iapply (wp_wand frame (wpE (defs₀ (F := F)) 𝒱₀ (thr d i) none) Set.univ) $$ [Hin Hout Hown Hcells HO Hmw]
  · iapply (body_run sp d i O W)
    isplitl [Hin]; · iexact Hin
    isplitl [Hout]; · iexact Hout
    isplitl [Hown]; · iexact Hown
    isplitl [Hcells]; · iexact Hcells
    isplitl [Hmw]; · iexact Hmw
    iexact HO
  iintro %_ ⟨Hin, Hdone, Hown, Hcells, ⟨%W', HO⟩⟩
  isplitl [Hin Hdone]
  · isplitl [Hin]; · iexact Hin
    iexact Hdone
  isplitl [Hown Hrest]
  · iapply (bufs_give d i)
    isplitl [Hown]; · iexact Hown
    iexact Hrest
  isplitl [Hcells Hsems]
  · isplitl [Hcells]; · iexact Hcells
    iexact Hsems
  iexists _; isplitr
  swap; · iexact HO
  ipureintro; intro p _
  rcases p.2 with _ | q
  · exact .inr (.inl rfl)
  · exact .inr (.inr (congrArg some (Subsingleton.elim q 0)))
end

theorem defs₀_vector (c : Fin τ.nSC) (s : Fin τ.nSub) :
    defs₀ (F := F) (.scVector c s) 0 () = SparseCore.onTile hcore0 hsub0 (fun c s => body (co c s)) ⟨⟩ c s := by
  have h : ∀ c s, _ = body (F := F) (co c s) := fun c s => same (co c s)
  exact congrArg (fun b => SparseCore.onTile hcore0 hsub0 b ⟨⟩ c s) (funext fun c => funext fun s => h c s)

theorem tileObl : (K (F := F)).TileObl (D (F := F)) 𝒱 (P sp) v₀ 0 := by
  intro d c i O W hO _ _
  simp only [show (P sp).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body sp d (co ⟨_, hci.1⟩ ⟨_, hci.2⟩) O W hO

end Cert.KernelIdeal.Tile

end
-- ==== Proof.Host.lean ====
/- The host's part of the program: the call, and the result it makes of the tiles' rows. -/
module

public import proofs.«01_k».proof.Defs
public import proofs.«01_k».proof.Proof.Launch
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.KernelIdeal.Tile

open Cert.KernelIdeal Cert.KernelIdeal.Gen
open Idealize.ShloMosaic
open Idealize.ShloMosaic.SparseCore (T)
open Idealize.ShloMosaic.StableHlo (held held_split held_sdiff_result wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]
variable {m : (ℓ : Loc nD τ sig) → Buf (Elt F) ℓ} (ρ : Dev nD → PrngReg) (sp : Spec m)

local notation "𝕄" => MT nD τ sig (HIx 1) (Elt F) ℕ UU ℕ

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P sp).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P sp).x q thr) = bigSep Finset.univ fun _ => iprop(emp) from
    bigSep_congr fun _ _ => bigSep_univ_of_subsingleton (0 : Fin 1), bigSep_emp']
  iempintro

/-! ## The host -/

abbrev dr (b : Ref sig .tc) : DevRef τ sig := Proc.devRef .tc b

/-- The arrays of the host. -/
abbrev Hs : Finset (DevRef τ sig) := {dr main_arg0, dr main_arg1, dr main_arg2, dr main_arg3, dr main_arg4, dr main_v0, dr main_cst, dr main_v1,
  dr main_v2, dr main_cst_0, dr main_v3}

abbrev op1 : HloOp τ sig (Elt F) := StableHlo.nullary main_cst (constant S_ .f32 0x00000000#32)
abbrev op2 : HloOp τ sig (Elt F) := StableHlo.binary main_v0 main_cst main_v1 ((fun x v => Host.reduceAdd x v reducesTo_S32x16_S_d0_1 h_S_) :
  (⟨S32x16, .f32⟩ : BufTy).Contents (Elt F) → (⟨S_, .f32⟩ : BufTy).Contents (Elt F) → (⟨S_, .f32⟩ : BufTy).Contents (Elt F))
abbrev op3 : HloOp τ sig (Elt F) := StableHlo.unary main_v1 main_v2 (Host.negf : (⟨S_, .f32⟩ : BufTy).Contents (Elt F) → (⟨S_, .f32⟩ : BufTy).Contents (Elt F))
abbrev op4 : HloOp τ sig (Elt F) := StableHlo.nullary main_cst_0 (constant S_ .f32 0x46C80000#32)
abbrev op5 : HloOp τ sig (Elt F) := StableHlo.binary main_v2 main_cst_0 main_v3 (Host.divf :
  (⟨S_, .f32⟩ : BufTy).Contents (Elt F) → (⟨S_, .f32⟩ : BufTy).Contents (Elt F) → (⟨S_, .f32⟩ : BufTy).Contents (Elt F))

/-- The result the host makes of the tiles' rows. -/
def total_ (g : (⟨S32x16, .f32⟩ : BufTy).Contents (Elt F)) : (⟨S_, .f32⟩ : BufTy).Contents (Elt F) :=
  Host.divf (Host.negf (Host.reduceAdd g (constant S_ .f32 0x00000000#32) reducesTo_S32x16_S_d0_1 h_S_)) (constant S_ .f32 0x46C80000#32)

variable (m)

def V1 (d : Dev nD) (g : Buf (Elt F) (loc main_v0 d)) : Valuation τ sig (Elt F) := Function.update (fun b => m (d, b)) (dr main_v0) g
def V6 (d : Dev nD) (g : Buf (Elt F) (loc main_v0 d)) : Valuation τ sig (Elt F) :=
  op5.result (op4.result (op3.result (op2.result (op1.result (V1 m d g)))))

theorem V6_arg (d : Dev nD) (g : Buf (Elt F) (loc main_v0 d)) (b : Ref sig .tc) (h : b ∉ ({main_v0, main_cst, main_v1, main_v2, main_cst_0, main_v3} : Finset (Ref sig .tc))) :
    V6 m d g (dr b) = m (loc b d) := by
  simp only [Finset.mem_insert, Finset.mem_singleton, not_or] at h
  obtain ⟨h0, h1, h2, h3, h4, h5⟩ := h
  unfold V6 V1
  rw [StableHlo.binary_result_ne (h := h5), StableHlo.nullary_result_ne (h := h4), StableHlo.unary_result_ne (h := h3),
    StableHlo.binary_result_ne (h := h2), StableHlo.nullary_result_ne (h := h1)]
  exact Function.update_of_ne (StableHlo.devRef_ne_of_ne h0) _ _

theorem V6_v3 (d : Dev nD) (g : Buf (Elt F) (loc main_v0 d)) : V6 m d g (dr main_v3) = total_ g := by
  unfold V6 V1 total_
  rw [StableHlo.binary_result', StableHlo.nullary_result', StableHlo.nullary_result_ne (h := (by decide : main_v2 ≠ main_cst_0)),
    StableHlo.unary_result', StableHlo.binary_result', StableHlo.nullary_result',
    StableHlo.nullary_result_ne (h := (by decide : main_v0 ≠ main_cst)), Function.update_self]

theorem swap (X Y : sProp 𝕄) : iprop(X ∗ Y) = iprop(Y ∗ X) := Idealize.SL.BI.equiv_iff.mp ⟨Idealize.SL.BI.sep_comm, Idealize.SL.BI.sep_comm⟩

theorem held_Hs (d : Dev nD) (W : Valuation τ sig (Elt F)) :
    (held (T d) Hs W : sProp 𝕄) = iprop((loc main_arg0 d ↦{fullShare} W (dr main_arg0)) ∗ (loc main_arg1 d ↦{fullShare} W (dr main_arg1))
      ∗ (loc main_arg2 d ↦{fullShare} W (dr main_arg2)) ∗ (loc main_arg3 d ↦{fullShare} W (dr main_arg3)) ∗ (loc main_arg4 d ↦{fullShare} W (dr main_arg4))
      ∗ (loc main_v0 d ↦{fullShare} W (dr main_v0)) ∗ bigSep {dr main_cst, dr main_v1, dr main_v2, dr main_cst_0} (fun b => ((d, b) : Loc nD τ sig) ↦{fullShare} W b)
      ∗ (loc main_v3 d ↦{fullShare} W (dr main_v3))) := by
  unfold held
  rw [show Hs = insert (dr main_arg0) (insert (dr main_arg1) (insert (dr main_arg2) (insert (dr main_arg3) (insert (dr main_arg4) (insert (dr main_v0)
      (insert (dr main_v3) {dr main_cst, dr main_v1, dr main_v2, dr main_cst_0})))))) by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), swap (loc main_v3 d ↦{fullShare} W (dr main_v3))]

theorem unscoped_held (d : Dev nD) : (unscopedBufs d (fun b => m ((SparseCore.T d).loc b)) : sProp 𝕄) = held (T d) Hs fun b => m (d, b) := by
  unfold unscopedBufs held
  rw [show Hs = (Finset.univ.filter fun b : Ref sig .tc => ¬ b.isScoped).map ⟨Proc.devRef .tc, Proc.devRef_injective _⟩ by decide, bigSep_map]
  rfl

theorem st0 (d : Dev nD) (c : Fin 2) : (P sp).st 0 d c = bigSep (Finset.univ : Finset (Fin 16)) fun s => give (m := m) d (co c s) := rfl
theorem dn0 (d : Dev nD) (c : Fin 2) : (P sp).dn 0 d c = bigSep (Finset.univ : Finset (Fin 16)) fun s => back sp d (co c s) := rfl

theorem st0_eq (d : Dev nD) : (bigSep Finset.univ fun c : Fin ((K (F := F)).nCore 0) => (P sp).st 0 d c)
    = (bigSep Finset.univ fun t : Fin 2 × Fin 16 => give (m := m) d (co t.1 t.2) : sProp 𝕄) :=
  (bigSep_congr fun c _ => st0 m sp d c).trans (bigSep_univ_prod fun t : Fin 2 × Fin 16 => give (m := m) d (co t.1 t.2)).symm
theorem dn0_eq (d : Dev nD) : (bigSep Finset.univ fun c : Fin ((K (F := F)).nCore 0) => (P sp).dn 0 d c)
    = (bigSep Finset.univ fun t : Fin 2 × Fin 16 => back sp d (co t.1 t.2) : sProp 𝕄) :=
  (bigSep_congr fun c _ => dn0 m sp d c).trans (bigSep_univ_prod fun t : Fin 2 × Fin 16 => back sp d (co t.1 t.2)).symm

theorem give_of (d : Dev nD) (f : Buf (Elt F) (loc main_v0 d)) (i : grid0.Coords) :
    (iprop(ins m d i ∗ out d i f) : sProp 𝕄) ⊢ give (m := m) d i := by
  unfold give
  iintro ⟨H, Ho⟩
  isplitl [H]; · iexact H
  iexists _; iexact Ho

theorem give_all (d : Dev nD) (f : Buf (Elt F) (loc main_v0 d)) :
    (iprop(args m d ∗ loc main_v0 d ↦{fullShare} f) : sProp 𝕄) ⊢ bigSep Finset.univ fun t : Fin 2 × Fin 16 => give (m := m) d (co t.1 t.2) := by
  rw [args_eq, wholeOut, ← bigSep_sep']
  have h := give_of m d f
  exact bigSep_mono (Φ := fun t : Fin 2 × Fin 16 => iprop(ins m d (co t.1 t.2) ∗ out d (co t.1 t.2) f)) (Ψ := fun t => give (m := m) d (co t.1 t.2)) fun t _ => h (co t.1 t.2)

theorem back_all (d : Dev nD) : (bigSep Finset.univ fun t : Fin 2 × Fin 16 => back sp d (co t.1 t.2))
    ⊢ (iprop(args m d ∗ ∃ g, ⌜Rows d sp g⌝ ∗ loc main_v0 d ↦{fullShare} g) : sProp 𝕄) := by
  unfold back
  rw [bigSep_sep', args_eq]
  iintro ⟨H, Ho⟩
  isplitl [H]; · iexact H
  iapply (rows_join d sp); iexact Ho

/-- What the host leaves. -/
def FIN (d : Dev nD) : sProp 𝕄 := iprop(∃ g, ⌜Rows d sp g⌝ ∗ args m d ∗ loc main_v3 d ↦{fullShare} (total_ g : Buf (Elt F) (loc main_v3 d)))

theorem hs1 : (op1 (F := F)).bufs ⊆ Hs := show ({dr main_cst} : Finset _) ⊆ Hs by decide
theorem hs2 : (op2 (F := F)).bufs ⊆ Hs := show ({dr main_v0, dr main_cst, dr main_v1} : Finset _) ⊆ Hs by decide
theorem hs3 : (op3 (F := F)).bufs ⊆ Hs := show ({dr main_v1, dr main_v2} : Finset _) ⊆ Hs by decide
theorem hs4 : (op4 (F := F)).bufs ⊆ Hs := show ({dr main_cst_0} : Finset _) ⊆ Hs by decide
theorem hs5 : (op5 (F := F)).bufs ⊆ Hs := show ({dr main_v2, dr main_cst_0, dr main_v3} : Finset _) ⊆ Hs by decide

theorem V1_ne (d : Dev nD) (g : Buf (Elt F) (loc main_v0 d)) {b : DevRef τ sig} (h : b ≠ dr main_v0) : V1 m d g b = m (d, b) := Function.update_of_ne h _ _

/-- The host's arrays after the call. -/
theorem held_V1 (d : Dev nD) (g : Buf (Elt F) (loc main_v0 d)) : (iprop(args m d ∗ (loc main_v0 d ↦{fullShare} g)
      ∗ bigSep {dr main_cst, dr main_v1, dr main_v2, dr main_cst_0} (fun b => ((d, b) : Loc nD τ sig) ↦{fullShare} m (d, b))
      ∗ (loc main_v3 d ↦{fullShare} m (loc main_v3 d))) : sProp 𝕄) ⊢ held (T d) Hs (V1 m d g) := by
  rw [held_Hs, V1_ne m d g (by decide : dr main_arg0 ≠ dr main_v0), V1_ne m d g (by decide : dr main_arg1 ≠ dr main_v0), V1_ne m d g (by decide : dr main_arg2 ≠ dr main_v0),
    V1_ne m d g (by decide : dr main_arg3 ≠ dr main_v0), V1_ne m d g (by decide : dr main_arg4 ≠ dr main_v0), V1_ne m d g (by decide : dr main_v3 ≠ dr main_v0),
    show V1 m d g (dr main_v0) = g from Function.update_self _ _ _,
    show (bigSep {dr main_cst, dr main_v1, dr main_v2, dr main_cst_0} fun b => ((d, b) : Loc nD τ sig) ↦{fullShare} V1 m d g b : sProp 𝕄)
        = bigSep {dr main_cst, dr main_v1, dr main_v2, dr main_cst_0} fun b => ((d, b) : Loc nD τ sig) ↦{fullShare} m (d, b) from
      bigSep_congr fun b hb => by rw [V1_ne m d g (fun h => absurd (h ▸ hb) (by decide))]]
  unfold args
  iintro ⟨⟨H0, H1, H2, H3, H4⟩, Ho, Hr, Hv⟩
  isplitl [H0]; · iexact H0
  isplitl [H1]; · iexact H1
  isplitl [H2]; · iexact H2
  isplitl [H3]; · iexact H3
  isplitl [H4]; · iexact H4
  isplitl [Ho]; · iexact Ho
  isplitl [Hr]; · iexact Hr
  iexact Hv

/-- The host's arrays at the end. -/
theorem held_V6 (d : Dev nD) (g : Buf (Elt F) (loc main_v0 d)) (h : Rows d sp g) : (held (T d) Hs (V6 m d g) : sProp 𝕄) ⊢ FIN m sp d := by
  rw [held_Hs, V6_arg m d g main_arg0 (by decide), V6_arg m d g main_arg1 (by decide), V6_arg m d g main_arg2 (by decide),
    V6_arg m d g main_arg3 (by decide), V6_arg m d g main_arg4 (by decide), V6_v3]
  unfold FIN args
  iintro ⟨H0, H1, H2, H3, H4, -, -, H⟩
  iexists g
  isplitr; · ipureintro; exact h
  isplitr [H]
  · isplitl [H0]; · iexact H0
    isplitl [H1]; · iexact H1
    isplitl [H2]; · iexact H2
    isplitl [H3]; · iexact H3
    iexact H4
  iexact H

/-- The host's arrays at the launch. -/
theorem held_V0 (d : Dev nD) : (held (T d) Hs (fun b => m (d, b)) : sProp 𝕄) ⊢ iprop((bigSep Finset.univ fun t : Fin 2 × Fin 16 => give (m := m) d (co t.1 t.2))
      ∗ bigSep {dr main_cst, dr main_v1, dr main_v2, dr main_cst_0} (fun b => ((d, b) : Loc nD τ sig) ↦{fullShare} m (d, b))
      ∗ (loc main_v3 d ↦{fullShare} m (loc main_v3 d))) := by
  rw [held_Hs]
  iintro ⟨H0, H1, H2, H3, H4, Ho, Hr, Hv⟩
  isplitl [H0 H1 H2 H3 H4 Ho]
  · iapply (give_all m d _)
    unfold args
    isplitl [H0 H1 H2 H3 H4]
    · isplitl [H0]; · iexact H0
      isplitl [H1]; · iexact H1
      isplitl [H2]; · iexact H2
      isplitl [H3]; · iexact H3
      iexact H4
    iexact Ho
  isplitl [Hr]; · iexact Hr
  iexact Hv

theorem hmain (κ : GSem nD τ sig → ℕ) (d : Dev nD) :
    iprop((K (F := F)).ctx EH (P sp) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m sp d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (held_V0 m d) $$ Hheld
  icases Hh with ⟨Hg, Hr, Hv⟩
  iapply ((K (F := F)).wp_run (D (F := F)) 𝒱 (EH := EH) (P := P sp) κ d 0) $$ [Hst Hg Hr Hv Hb Hts]
  isplitr; · iexact Hctx
  isplitl [Hst]; · iexact Hst
  isplitl [Hg]
  · rw [st0_eq]; iexact Hg
  iintro ⟨Hst, Hdn⟩
  ihave Hdn' := ((Entails.of_eq (dn0_eq m sp d)).trans (back_all m sp d)) $$ Hdn
  icases Hdn' with ⟨Hargs, ⟨%g, %hg, Ho⟩⟩
  ihave Hheld := (held_V1 m d g) $$ [Hargs Ho Hr Hv]
  · isplitl [Hargs]; · iexact Hargs
    isplitl [Ho]; · iexact Ho
    isplitl [Hr]; · iexact Hr
    iexact Hv
  iapply (wp_hlo_within 𝒱 (SparseCore.T d) none Set.univ (op := op1) (S := Hs) hs1 (V := V1 m d g)) $$ [Hb Hheld]
  · isplitl [Hb] <;> iassumption
  iintro ⟨Hb, Hheld⟩
  rw [wp_ret]; imodintro
  iapply (wp_hlo_within 𝒱 (SparseCore.T d) none Set.univ (op := op2) (S := Hs) hs2) $$ [Hb Hheld]
  · isplitl [Hb] <;> iassumption
  iintro ⟨Hb, Hheld⟩
  rw [wp_ret]; imodintro
  iapply (wp_hlo_within 𝒱 (SparseCore.T d) none Set.univ (op := op3) (S := Hs) hs3) $$ [Hb Hheld]
  · isplitl [Hb] <;> iassumption
  iintro ⟨Hb, Hheld⟩
  rw [wp_ret]; imodintro
  iapply (wp_hlo_within 𝒱 (SparseCore.T d) none Set.univ (op := op4) (S := Hs) hs4) $$ [Hb Hheld]
  · isplitl [Hb] <;> iassumption
  iintro ⟨Hb, Hheld⟩
  rw [wp_ret]; imodintro
  iapply (wp_hlo_within 𝒱 (SparseCore.T d) none Set.univ (op := op5) (S := Hs) hs5) $$ [Hb Hheld]
  · isplitl [Hb] <;> iassumption
  iintro ⟨Hb, Hheld⟩
  ihave HF := (show (held (T d) Hs (op5.result (op4.result (op3.result (op2.result (op1.result (V1 m d g)))))) : sProp 𝕄) ⊢ FIN m sp d from held_V6 m sp d g hg) $$ Hheld
  rw [wp_ret]; imodintro; imodintro
  isplitl [Hst]; · iexact Hst
  isplitl [HF]; · iexact HF
  isplitl [Hb] <;> iassumption

def fq (d : Dev nD) (s' : Phys nD τ sig (Elt F)) : Prop :=
  (s'.mem.mem (loc main_arg0 d) = m (loc main_arg0 d) ∧ s'.mem.mem (loc main_arg1 d) = m (loc main_arg1 d) ∧ s'.mem.mem (loc main_arg2 d) = m (loc main_arg2 d)
    ∧ s'.mem.mem (loc main_arg3 d) = m (loc main_arg3 d) ∧ s'.mem.mem (loc main_arg4 d) = m (loc main_arg4 d))
  ∧ ∃ g, Rows d sp g ∧ s'.mem.mem (loc main_v3 d) = total_ g

/-- An array held is what the memory reads there. -/
theorem reads {s' : Phys nD τ sig (Elt F)} {ℓ : Loc nD τ sig} {f : Buf (Elt F) ℓ} :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m sp d ∗ SI s') ⊢ (⌜fq m sp d s'⌝ : sProp 𝕄) := by
  unfold FIN args
  iintro ⟨⟨%g, %hg, ⟨H0, H1, H2, H3, H4⟩, H⟩, HS⟩
  ihave J := reads $$ [HS H0]
  · isplitl [HS] <;> iassumption
  icases J with ⟨%h0, HS⟩
  ihave J := reads $$ [HS H1]
  · isplitl [HS] <;> iassumption
  icases J with ⟨%h1, HS⟩
  ihave J := reads $$ [HS H2]
  · isplitl [HS] <;> iassumption
  icases J with ⟨%h2, HS⟩
  ihave J := reads $$ [HS H3]
  · isplitl [HS] <;> iassumption
  icases J with ⟨%h3, HS⟩
  ihave J := reads $$ [HS H4]
  · isplitl [HS] <;> iassumption
  icases J with ⟨%h4, HS⟩
  ihave J := reads $$ [HS H]
  · isplitl [HS] <;> iassumption
  icases J with ⟨%h, -⟩
  ipureintro; exact ⟨⟨h0, h1, h2, h3, h4⟩, g, hg, h⟩

/-! ## The program's run -/

def QC : PUnit × MemSt nD τ sig (Elt F) → Prop := fun r =>
  (∀ d : Dev nD, (r.2.mem (loc main_arg0 d) = m (loc main_arg0 d) ∧ r.2.mem (loc main_arg1 d) = m (loc main_arg1 d) ∧ r.2.mem (loc main_arg2 d) = m (loc main_arg2 d)
    ∧ r.2.mem (loc main_arg3 d) = m (loc main_arg3 d) ∧ r.2.mem (loc main_arg4 d) = m (loc main_arg4 d))
    ∧ ∃ g, Rows d sp g ∧ r.2.mem (loc main_v3 d) = total_ g)
  ∧ r.2.sem = fun _ => 0

theorem run_main [∀ e, Nonempty (Elt F e)] : θ_run (Cert.KernelIdeal.defs (F := F)) (Cert.KernelIdeal.threads (F := F)) ⟨m, fun _ => 0, ρ⟩ (QC m sp) :=
  SparseCore.Cfg.θ_run_sc_quiescent (K := K (F := F)) (D := D (F := F)) (𝒱 := 𝒱) (EH := EH) (P := P sp) (A := ∅) cfgFacts v₀
    (fun q hq => match q with | 0 => nomatch hq)
    (fun q _ => match q with | 0 => tileObl sp)
    (fun q _ => match q with | 0 => SparseCore.Cfg.VecSplit.of_plain (vecSplit sp))
    m ρ main (fun _ => iprop(emp)) (FIN m sp) (u₀ (F := F)) (sep_elim_left.trans (hu₀ sp)) (hmain m ρ sp) (fq m sp) (hfin m sp) (QC m sp) (fun _ h hz => ⟨h, hz⟩)

end Cert.KernelIdeal.Tile

end
-- ==== Proof.Frame.lean ====
/- The frames: both programs end without fault, their arguments unchanged and their counters at zero. -/
module

public import proofs.«01_k».proof.Defs
public import proofs.«01_k».proof.Proof.Safe
public import proofs.«01_k».proof.Proof.Host
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.KernelIdeal.Tile

open Cert.KernelIdeal Cert.KernelIdeal.Gen
open Idealize.ShloMosaic Idealize.SL.Sem

variable {F : FTy → Type} [FloatOps F] [Named F] [Facts]

/-- The tile's work ends without fault, whatever the buffers hold. -/
def plain (m : (ℓ : Loc nD τ sig) → Buf (Elt F) ℓ) : Spec m where
  Inv := fun _ _ _ _ _ => True
  start := fun d i s =>
    have h₀ : Ok d i (batch (F := F) i 0) fun _ => True := ok_batch (by decide)
    have h₁ : Ok d i (batch (F := F) i 1) fun _ => True := ok_batch (by decide)
    Ok.bind h₀ (fun _ _ => h₁) _
  step := fun d i k acc s _ =>
    have h : Ok d i (groupMain (F := F) i (rowOf k) acc) fun _ => True := ok_groupMain (Lt.row k)
    h _

end Cert.KernelIdeal.Tile

namespace Cert.Proof

open Idealize.ShloMosaic Idealize.SL.Sem Cert.KernelIdeal.Tile

/-- The idealized program's frame. -/
theorem frame_ideal [Cert.KernelIdeal.Facts] : Cert.quiescent_KernelIdeal := fun m ρ _ =>
  (θ_run Cert.KernelIdeal.defs _ _).mono (fun _ h => ⟨fun c => (h.1 c).1, h.2⟩) (run_main (F := Ideal) m ρ (plain m))

/-- Over the words, a named constant is its own word. -/
local instance : Named Bits where
  named _ _ _ b := b

/-- The program's frame. -/
theorem frame_kernel [Cert.Kernel.Facts] [Cert.KernelIdeal.Facts] : Cert.quiescent_Kernel := fun m ρ _ =>
  (θ_run Cert.KernelIdeal.defs _ _).mono (fun _ h => ⟨fun c => (h.1 c).1, h.2⟩) (run_main (F := Bits) m ρ (plain m))

/-- The reference's frame. -/
theorem frame_reference [Cert.ReferenceIdeal.Facts] : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The one named constant is the logarithm of ten factorial. -/
theorem preserves : Cert.preserves_Kernel_KernelIdeal :=
  IdealRules.named_const.statement Cert.KernelIdeal.κ "log_kfact" .f32 0x4171ABAD#32 ((Real.log 3628800 : ℝ) : EReal) rfl

end Cert.Proof

end
-- ==== Proof.Lanes.lean ====
/- What the tile reads and writes, over the extended reals, element by element: a buffer read at its coordinates, and a
   buffer of lanes read lane by lane. -/
module

public import proofs.«01_k».proof.Proof.Tri
public import proofs.«01_k».proof.Proof.Words
public import Idealize.ShloMosaic.Lib.ValueIdx
public import Idealize.ShloMosaic.PureOps.Ideal

@[expose] public section

noncomputable section

namespace Cert.KernelIdeal.Tile

open Idealize.ShloMosaic Idealize.SL.Sem Cert.KernelIdeal
open Facts₀ Facts Idealize.ShloMosaic.ValueIdx

abbrev B1 (n : ℕ) : Type := (⟨1, ![n]⟩ : Shape).Idx → EReal
abbrev B2 (n m : ℕ) : Type := (⟨2, ![n, m]⟩ : Shape).Idx → EReal
abbrev B3 (n m p : ℕ) : Type := (⟨3, ![n, m, p]⟩ : Shape).Idx → EReal

/-- A buffer at its coordinates, zero outside. -/
def rd1 {n : ℕ} (f : B1 n) (k : ℕ) : EReal := if h : k < n then f (ix1 ⟨k, h⟩) else 0
def rd2 {n m : ℕ} (f : B2 n m) (r c : ℕ) : EReal := if h : r < n ∧ c < m then f (ix2 ⟨r, h.1⟩ ⟨c, h.2⟩) else 0
def rd3 {n m p : ℕ} (f : B3 n m p) (r c g : ℕ) : EReal := if h : r < n ∧ c < m ∧ g < p then f (ix3 ⟨r, h.1⟩ ⟨c, h.2.1⟩ ⟨g, h.2.2⟩) else 0

/-- The `q`-th word of lane `x`. -/
def ln {n : ℕ} (f : B1 n) (x : S16.Idx) (q : ℕ) : EReal := rd1 f (16 * q + (x 0).val)

theorem rd1_pos {n : ℕ} (f : B1 n) {k : ℕ} (h : k < n) : rd1 f k = f (ix1 ⟨k, h⟩) := dif_pos h
theorem rd2_pos {n m : ℕ} (f : B2 n m) {r c : ℕ} (h : r < n) (h' : c < m) : rd2 f r c = f (ix2 ⟨r, h⟩ ⟨c, h'⟩) :=
  dif_pos (c := r < n ∧ c < m) ⟨h, h'⟩
theorem rd3_pos {n m p : ℕ} (f : B3 n m p) {r c g : ℕ} (h : r < n) (h' : c < m) (h'' : g < p) : rd3 f r c g = f (ix3 ⟨r, h⟩ ⟨c, h'⟩ ⟨g, h''⟩) :=
  dif_pos (c := r < n ∧ c < m ∧ g < p) ⟨h, h', h''⟩

theorem rd1_at {n : ℕ} (f : B1 n) (j : (⟨1, ![n]⟩ : Shape).Idx) : rd1 f (j 0).val = f j :=
  (rd1_pos f (j 0).isLt).trans (congrArg f (eq_ix1 j).symm)
theorem rd2_at {n m : ℕ} (f : B2 n m) (j : (⟨2, ![n, m]⟩ : Shape).Idx) : rd2 f (j 0).val (j 1).val = f j :=
  (rd2_pos f (j 0).isLt (j 1).isLt).trans (congrArg f (eq_ix2 j).symm)
theorem rd3_at {n m p : ℕ} (f : B3 n m p) (j : (⟨3, ![n, m, p]⟩ : Shape).Idx) : rd3 f (j 0).val (j 1).val (j 2).val = f j :=
  (rd3_pos f (j 0).isLt (j 1).isLt (j 2).isLt).trans (congrArg f (eq_ix3 j).symm)

/-! ## A scatter -/

section
variable {s : Shape} {κ : Type}

theorem fold_miss (j : s.Idx) (hit : κ → Prop) (st : (s.Idx → EReal) → κ → s.Idx → EReal) (hs : ∀ g k, ¬hit k → st g k j = g j)
    (l : List κ) (f : s.Idx → EReal) (hm : ∀ k ∈ l, ¬hit k) : l.foldl st f j = f j := by
  induction l generalizing f with
  | nil => rfl
  | cons k l ih =>
    rw [List.foldl_cons, ih _ fun k' hk => hm k' (List.mem_cons_of_mem _ hk)]
    exact hs _ _ (hm k List.mem_cons_self)

theorem fold_hit (j : s.Idx) (hit : κ → Prop) (v : κ → EReal) (st : (s.Idx → EReal) → κ → s.Idx → EReal) (hs : ∀ g k, ¬hit k → st g k j = g j)
    (hv : ∀ g k, hit k → st g k j = v k) (l : List κ) (f : s.Idx → EReal) {k : κ} (hk : k ∈ l) (hj : hit k) (hu : ∀ k' ∈ l, hit k' → k' = k) :
    l.foldl st f j = v k := by
  induction l generalizing f with
  | nil => cases hk
  | cons k₀ l ih =>
    rw [List.foldl_cons]
    by_cases hl : k ∈ l
    · exact ih _ hl fun k' hk' => hu k' (List.mem_cons_of_mem _ hk')
    · have hk₀ : k₀ = k := by
        rcases List.mem_cons.mp hk with h | h
        · exact h.symm
        · exact absurd h hl
      subst hk₀
      rw [fold_miss j hit st hs]
      · exact hv _ _ hj
      · intro k' hk' hj'
        exact hl (hu k' (List.mem_cons_of_mem _ hk') hj' ▸ hk')

theorem ofLane_eq (x : S16.Idx) : (Shape.ofLane (d := ![16]) (x 0) : S16.Idx) = x := ((eq_ix1 _).trans rfl).trans (eq_ix1 x).symm

theorem storeIdx_miss (f : s.Idx → EReal) (idxs : Fin s.rank → IVec S16 32) (v : S16.Idx → EReal) (h : ∀ a x, (idxs a x).toNat < s.size a) (j : s.Idx)
    (hm : ∀ x, ¬∀ a, (j a).val = (idxs a x).toNat) : storeIdx (F := Ideal) (e := .f32) f idxs v (fun _ => 1#1) false h j = f j := by
  unfold storeIdx
  refine fold_miss j (fun k : Fin (![16] 0) => ∀ a, (j a).val = (idxs a (Shape.ofLane k)).toNat) _ (fun g k hk => ?_) _ f fun k _ => hm _
  exact if_neg hk

theorem storeIdx_hit (f : s.Idx → EReal) (idxs : Fin s.rank → IVec S16 32) (v : S16.Idx → EReal) (h : ∀ a x, (idxs a x).toNat < s.size a) (j : s.Idx)
    (x : S16.Idx) (hj : ∀ a, (j a).val = (idxs a x).toNat) (hu : ∀ y : S16.Idx, (∀ a, (j a).val = (idxs a y).toNat) → (y 0).val = (x 0).val) :
    storeIdx (F := Ideal) (e := .f32) f idxs v (fun _ => 1#1) false h j = v x := by
  unfold storeIdx
  refine (fold_hit j (fun k : Fin (![16] 0) => ∀ a, (j a).val = (idxs a (Shape.ofLane k)).toNat) (fun k => v (Shape.ofLane k)) _ (fun g k hk => ?_)
    (fun g k hk => ?_) _ f (k := x 0) (List.mem_finRange _) ?_ fun k' _ hk' => Fin.ext (hu _ hk')).trans ?_
  · exact if_neg hk
  · exact if_pos hk
  · show ∀ a, (j a).val = (idxs a (Shape.ofLane (d := ![16]) (x 0))).toNat
    rw [ofLane_eq]; exact hj
  · exact congrArg v (ofLane_eq x)

end

/-- A buffer of lanes after one word of each lane is written. -/
theorem ln_write {n : ℕ} {f f' : B1 n} {v : S16.Idx → EReal} (a : S16.Idx → ℕ) (ha : ∀ x, 16 * a x + 16 ≤ n)
    (h1 : ∀ x j, (j 0).val = 16 * a x + (x 0).val → f' j = v x) (h2 : ∀ j, (∀ x, (j 0).val ≠ 16 * a x + (x 0).val) → f' j = f j) (x : S16.Idx) (q : ℕ) :
    ln f' x q = if q = a x then v x else ln f x q := by
  have hx : (x 0).val < 16 := (x 0).isLt
  by_cases hn : 16 * q + (x 0).val < n
  · unfold ln
    rw [rd1_pos f' hn, rd1_pos f hn]
    split
    · next h => exact h1 x _ (by subst h; rfl)
    · next h =>
      refine h2 _ fun y hy => h ?_
      have hy' : 16 * q + (x 0).val = 16 * a y + (y 0).val := hy
      have : (y 0).val < 16 := (y 0).isLt
      have hxy : x = y := by
        rw [eq_ix1 x, eq_ix1 y]
        exact congrArg ix1 (Fin.ext (by omega))
      subst hxy
      omega
  · have : q ≠ a x := fun h => hn (by have := ha x; omega)
    rw [if_neg this]
    unfold ln rd1
    rw [dif_neg hn, dif_neg hn]

theorem ln_scatter {n : ℕ} (f : B1 n) (w : W) (v : S16.Idx → EReal) (h : ∀ a x, ((![w] : Fin 1 → W) a x).toNat < (⟨1, ![n]⟩ : Shape).size a)
    (a : S16.Idx → ℕ) (ha : ∀ x, 16 * a x + 16 ≤ n) (hw : ∀ x, (w x).toNat = 16 * a x + (x 0).val) (x : S16.Idx) (q : ℕ) :
    ln (storeIdx (F := Ideal) (s := ⟨1, ![n]⟩) (e := .f32) f ![w] v (fun _ => 1#1) false h) x q = if q = a x then v x else ln f x q := by
  refine ln_write a ha (fun x j hj => ?_) (fun j hj => ?_) x q
  · refine storeIdx_hit _ _ _ _ _ x (fun b => ?_) fun y hy => ?_
    · have hb : b = 0 := Subsingleton.elim _ _
      subst hb
      exact hj.trans (hw x).symm
    · have h1 : (j 0).val = (w y).toNat := hy 0
      rw [hw y] at h1
      have : (x 0).val < 16 := (x 0).isLt
      have : (y 0).val < 16 := (y 0).isLt
      omega
  · refine storeIdx_miss _ _ _ _ _ fun y hy => hj y ?_
    have h1 : (j 0).val = (w y).toNat := hy 0
    rw [h1, hw y]

theorem rd2_scatter {n m : ℕ} (f : B2 n m) (r c : W) (v : S16.Idx → EReal)
    (h : ∀ a x, ((![r, c] : Fin 2 → W) a x).toNat < (⟨2, ![n, m]⟩ : Shape).size a) (b k : ℕ) (hr : ∀ x, (r x).toNat = b + (x 0).val)
    (hc : ∀ x, (c x).toNat = k) :
    (∀ (x : S16.Idx) q, rd2 (storeIdx (F := Ideal) (s := ⟨2, ![n, m]⟩) (e := .f32) f ![r, c] v (fun _ => 1#1) false h) (b + (x 0).val) q =
      if q = k then v x else rd2 f (b + (x 0).val) q) ∧
    ∀ p q, (∀ x : S16.Idx, p ≠ b + (x 0).val) →
      rd2 (storeIdx (F := Ideal) (s := ⟨2, ![n, m]⟩) (e := .f32) f ![r, c] v (fun _ => 1#1) false h) p q = rd2 f p q := by
  have hb : ∀ x : S16.Idx, b + (x 0).val < n := fun x => hr x ▸ h 0 x
  have hk : k < m := hc (ix1 (0 : Fin 16)) ▸ h 1 (ix1 (0 : Fin 16))
  constructor
  · intro x q
    by_cases hq : q < m
    · rw [rd2_pos _ (hb x) hq, rd2_pos f (hb x) hq]
      split
      · next hqk =>
        subst hqk
        refine storeIdx_hit _ _ _ _ _ x (fun a => ?_) fun y hy => ?_
        · match a with
          | 0 => exact (hr x).symm
          | 1 => exact (hc x).symm
        · have h1 : b + (x 0).val = (r y).toNat := hy 0
          rw [hr y] at h1
          omega
      · next hqk =>
        refine storeIdx_miss _ _ _ _ _ fun y hy => hqk ?_
        have h1 : q = (c y).toNat := hy 1
        exact h1.trans (hc y)
    · have : q ≠ k := fun h => hq (h ▸ hk)
      rw [if_neg this]
      unfold rd2
      rw [dif_neg (fun h => hq h.2), dif_neg (fun h => hq h.2)]
  · intro p q hp
    by_cases hq : p < n ∧ q < m
    · rw [rd2_pos _ hq.1 hq.2, rd2_pos f hq.1 hq.2]
      refine storeIdx_miss _ _ _ _ _ fun y hy => hp y ?_
      have h1 : p = (r y).toNat := hy 0
      exact h1.trans (hr y)
    · unfold rd2
      rw [dif_neg hq, dif_neg hq]

/-! ## A store of sixteen words -/

section
variable {j : Fin (sig.nNear .scVector .vmem)} {hκ : sig.names .scVector .vmem j = true}

theorem put_at (f : (sig.tyNear .scVector .vmem j).shape.Idx → Elt Ideal (sig.tyNear .scVector .vmem j).elt) (r : Rect (sig.tyNear .scVector .vmem j).shape)
    (w : r.shape.Idx → Elt Ideal (sig.tyNear .scVector .vmem j).elt) (x : r.shape.Idx) :
    ((Memref.whole ⟨.vmem, j, hκ⟩ : Memref sig .scVector .vmem _ _).access r).write (Elt Ideal) f w Finset.univ (r.emb x) = w x :=
  View.write_emb_of_mem (v := (Memref.whole ⟨.vmem, j, hκ⟩ : Memref sig .scVector .vmem _ _).access r) f w (Finset.mem_univ x)

theorem put_off (f : (sig.tyNear .scVector .vmem j).shape.Idx → Elt Ideal (sig.tyNear .scVector .vmem j).elt) (r : Rect (sig.tyNear .scVector .vmem j).shape)
    (w : r.shape.Idx → Elt Ideal (sig.tyNear .scVector .vmem j).elt) (k : (sig.tyNear .scVector .vmem j).shape.Idx) (hk : ∀ x, r.emb x ≠ k) :
    ((Memref.whole ⟨.vmem, j, hκ⟩ : Memref sig .scVector .vmem _ _).access r).write (Elt Ideal) f w Finset.univ k = f k := by
  refine View.write_of_not_mem (v := (Memref.whole ⟨.vmem, j, hκ⟩ : Memref sig .scVector .vmem _ _).access r) f w Finset.univ fun hm => ?_
  obtain ⟨x, -, hx⟩ := Finset.mem_map.mp hm
  exact hk x hx

end

end Cert.KernelIdeal.Tile
-- ==== Proof.Access.lean ====
/- Each access of the tile's body over the extended reals: what it returns and what it leaves. -/
module

public import proofs.«01_k».proof.Proof.Lanes

@[expose] public section

noncomputable section

namespace Cert.KernelIdeal.Tile

open Idealize.ShloMosaic Idealize.SL.Sem Cert.KernelIdeal
open Facts₀ Facts Idealize.ShloMosaic.ValueIdx

variable [Facts] {d : Dev nD} {i : grid0.Coords}

/-! ## The buffers -/

def c8 (s : St Ideal) : B2 32 200 := s cc0_scratch0
def c9 (s : St Ideal) : B2 32 200 := s cc0_scratch1
def c10 (s : St Ideal) : B3 32 200 8 := s cc0_scratch2
def c11 (s : St Ideal) : B2 32 200 := s cc0_scratch3
def c12 (s : St Ideal) : B2 16 200 := s cc0_scratch4
def c13 (s : St Ideal) : B2 16 10 := s cc0_scratch5
def c14 (s : St Ideal) : B1 3200 := s cc0_scratch6
def c15 (s : St Ideal) : B1 160 := s cc0_scratch7
def c16 (s : St Ideal) : B1 160 := s cc0_scratch8
def c17 (s : St Ideal) : B1 32 := s cc0_scratch9
def c18 (s : St Ideal) : B1 32 := s cc0_scratch10

/-- Only the buffers `l` may differ. -/
def Keep (l : List (Ref sig .scVector)) (s s' : St Ideal) : Prop := ∀ b, b ∉ l → s' b = s b

theorem Keep.refl {l : List (Ref sig .scVector)} {s : St Ideal} : Keep l s s := fun _ _ => rfl
theorem Keep.trans {l : List (Ref sig .scVector)} {s s' s'' : St Ideal} (h : Keep l s s') (h' : Keep l s' s'') : Keep l s s'' :=
  fun b hb => (h' b hb).trans (h b hb)
theorem Keep.mono {l l' : List (Ref sig .scVector)} {s s' : St Ideal} (h : Keep l s s') (hl : ∀ b ∈ l, b ∈ l' := by decide) : Keep l' s s' :=
  fun b hb => h b fun hb' => hb (hl b hb')
theorem Keep.update {b : Ref sig .scVector} {s : St Ideal} {f : b.ty.Contents (Elt Ideal)} : Keep [b] s (Function.update s b f) :=
  fun b' hb => Function.update_of_ne (fun h => hb (by rw [h]; exact List.mem_singleton_self _)) _ _

section
variable {l : List (Ref sig .scVector)} {s s' : St Ideal} (h : Keep l s s')
include h
theorem Keep.c8 (hl : cc0_scratch0 ∉ l := by decide) : Tile.c8 s' = Tile.c8 s := h _ hl
theorem Keep.c9 (hl : cc0_scratch1 ∉ l := by decide) : Tile.c9 s' = Tile.c9 s := h _ hl
theorem Keep.c10 (hl : cc0_scratch2 ∉ l := by decide) : Tile.c10 s' = Tile.c10 s := h _ hl
theorem Keep.c11 (hl : cc0_scratch3 ∉ l := by decide) : Tile.c11 s' = Tile.c11 s := h _ hl
theorem Keep.c12 (hl : cc0_scratch4 ∉ l := by decide) : Tile.c12 s' = Tile.c12 s := h _ hl
theorem Keep.c13 (hl : cc0_scratch5 ∉ l := by decide) : Tile.c13 s' = Tile.c13 s := h _ hl
theorem Keep.c14 (hl : cc0_scratch6 ∉ l := by decide) : Tile.c14 s' = Tile.c14 s := h _ hl
theorem Keep.c15 (hl : cc0_scratch7 ∉ l := by decide) : Tile.c15 s' = Tile.c15 s := h _ hl
theorem Keep.c16 (hl : cc0_scratch8 ∉ l := by decide) : Tile.c16 s' = Tile.c16 s := h _ hl
theorem Keep.c17 (hl : cc0_scratch9 ∉ l := by decide) : Tile.c17 s' = Tile.c17 s := h _ hl
theorem Keep.c18 (hl : cc0_scratch10 ∉ l := by decide) : Tile.c18 s' = Tile.c18 s := h _ hl
end

/-! ## Gathers -/

variable {s : St Ideal}

theorem gather₁ {n : ℕ} (f : B1 n) {w : W} (h : ∀ a x, ((![w] : Fin 1 → W) a x).toNat < (⟨1, ![n]⟩ : Shape).size a) (x : S16.Idx) :
    loadIdx (F := Ideal) (s := ⟨1, ![n]⟩) (e := .f32) f ![w] h x = rd1 f (w x).toNat := (rd1_at f (idxAt _ h x)).symm
theorem gather₂ {n m : ℕ} (f : B2 n m) {r c : W} (h : ∀ a x, ((![r, c] : Fin 2 → W) a x).toNat < (⟨2, ![n, m]⟩ : Shape).size a) (x : S16.Idx) :
    loadIdx (F := Ideal) (s := ⟨2, ![n, m]⟩) (e := .f32) f ![r, c] h x = rd2 f (r x).toNat (c x).toNat := (rd2_at f (idxAt _ h x)).symm
theorem gather₃ {n m p : ℕ} (f : B3 n m p) {r c g : W} (h : ∀ a x, ((![r, c, g] : Fin 3 → W) a x).toNat < (⟨3, ![n, m, p]⟩ : Shape).size a) (x : S16.Idx) :
    loadIdx (F := Ideal) (s := ⟨3, ![n, m, p]⟩) (e := .f32) f ![r, c, g] h x = rd3 f (r x).toNat (c x).toNat (g x).toNat := (rd3_at f (idxAt _ h x)).symm

theorem v_g200 {r c : W} (hr : Lt 32 r) (hc : Lt 200 c) : Tri d i s (g200 (F := Ideal) i m8 r c) fun a s' =>
    (∀ x, a x = rd2 (c8 s) (r x).toNat (c x).toNat) ∧ s' = s :=
  (Tri.assume (inb₂ hr hc)).bind fun _ _ h => by
    subst h
    exact (Tri.loadIdx (by decide)).conseq fun a s' ha => ⟨fun x => by rw [ha.1]; exact gather₂ _ _ x, ha.2⟩
theorem v_gNoise {r c : W} (hr : Lt 16 r) (hc : Lt 200 c) : Tri d i s (gNoise (F := Ideal) i r c) fun a s' =>
    (∀ x, a x = rd2 (c12 s) (r x).toNat (c x).toNat) ∧ s' = s :=
  (Tri.assume (inb₂ hr hc)).bind fun _ _ h => by
    subst h
    exact (Tri.loadIdx (by decide)).conseq fun a s' ha => ⟨fun x => by rw [ha.1]; exact gather₂ _ _ x, ha.2⟩
theorem v_gU {r c : W} (hr : Lt 16 r) (hc : Lt 10 c) : Tri d i s (gU (F := Ideal) i r c) fun a s' =>
    (∀ x, a x = rd2 (c13 s) (r x).toNat (c x).toNat) ∧ s' = s :=
  (Tri.assume (inb₂ hr hc)).bind fun _ _ h => by
    subst h
    exact (Tri.loadIdx (by decide)).conseq fun a s' ha => ⟨fun x => by rw [ha.1]; exact gather₂ _ _ x, ha.2⟩
theorem v_gZ {w : W} {a : S16.Idx → ℕ} (hw : ∀ x, (w x).toNat = 16 * a x + (x 0).val) (hl : Lt 3200 w) : Tri d i s (gZ (F := Ideal) i w) fun v s' =>
    (∀ x, v x = ln (c14 s) x (a x)) ∧ s' = s :=
  (Tri.assume (inb₁ hl)).bind fun _ _ h => by
    subst h
    exact (Tri.loadIdx (by decide)).conseq fun v s' ha => ⟨fun x => by rw [ha.1, ln, ← hw x]; exact gather₁ _ _ x, ha.2⟩

/-! ## Scatters -/

theorem v_sZ {w : W} {a : S16.Idx → ℕ} {v : V Ideal} (hw : ∀ x, (w x).toNat = 16 * a x + (x 0).val) (ha : ∀ x, a x < 200) :
    Tri d i s (sZ (F := Ideal) i w v) fun _ s' => Keep [cc0_scratch6] s s' ∧ ∀ x q, ln (c14 s') x q = if q = a x then v x else ln (c14 s) x q := by
  have hl : Lt 3200 w := fun x => by have := ha x; have : (x 0).val < 16 := (x 0).isLt; rw [hw x]; omega
  refine (Tri.assume (inb₁ hl)).bind fun _ _ h => ?_
  subst h
  refine (Tri.storeIdx (by decide)).conseq fun _ s' hs => ?_
  subst hs
  refine ⟨.update, fun x q => ?_⟩
  refine (congrArg (fun f : B1 3200 => ln f x q) (Function.update_self (β := fun b : Ref sig .scVector => b.ty.Contents (Elt Ideal)) _ _ _)).trans ?_
  exact ln_scatter _ w v _ a (fun x => by have := ha x; omega) hw x q

theorem v_s160q {w : W} {a : S16.Idx → ℕ} {v : V Ideal} (hw : ∀ x, (w x).toNat = 16 * a x + (x 0).val) (ha : ∀ x, a x < 10) :
    Tri d i s (s160 (F := Ideal) i m15 w v) fun _ s' => Keep [cc0_scratch7] s s' ∧ ∀ x q, ln (c15 s') x q = if q = a x then v x else ln (c15 s) x q := by
  have hl : Lt 160 w := fun x => by have := ha x; have : (x 0).val < 16 := (x 0).isLt; rw [hw x]; omega
  refine (Tri.assume (inb₁ hl)).bind fun _ _ h => ?_
  subst h
  refine (Tri.storeIdx (by decide)).conseq fun _ s' hs => ?_
  subst hs
  refine ⟨.update, fun x q => ?_⟩
  refine (congrArg (fun f : B1 160 => ln f x q) (Function.update_self (β := fun b : Ref sig .scVector => b.ty.Contents (Elt Ideal)) _ _ _)).trans ?_
  exact ln_scatter _ w v _ a (fun x => by have := ha x; omega) hw x q

theorem v_s160c {w : W} {a : S16.Idx → ℕ} {v : V Ideal} (hw : ∀ x, (w x).toNat = 16 * a x + (x 0).val) (ha : ∀ x, a x < 10) :
    Tri d i s (s160 (F := Ideal) i m16 w v) fun _ s' => Keep [cc0_scratch8] s s' ∧ ∀ x q, ln (c16 s') x q = if q = a x then v x else ln (c16 s) x q := by
  have hl : Lt 160 w := fun x => by have := ha x; have : (x 0).val < 16 := (x 0).isLt; rw [hw x]; omega
  refine (Tri.assume (inb₁ hl)).bind fun _ _ h => ?_
  subst h
  refine (Tri.storeIdx (by decide)).conseq fun _ s' hs => ?_
  subst hs
  refine ⟨.update, fun x q => ?_⟩
  refine (congrArg (fun f : B1 160 => ln f x q) (Function.update_self (β := fun b : Ref sig .scVector => b.ty.Contents (Elt Ideal)) _ _ _)).trans ?_
  exact ln_scatter _ w v _ a (fun x => by have := ha x; omega) hw x q

/-! ## Sixteen words at once -/

theorem v_l160q {k : ℕ} (hk : k < 10) : Tri d i s (l160 (F := Ideal) i m15 k) fun v s' => (∀ x, v x = ln (c15 s) x k) ∧ s' = s :=
  (Tri.load (by decide)).conseq fun v s' ha => ⟨fun x => by
    rw [ha.1, ln]
    refine ((rd1_at (c15 s) _).symm.trans (congrArg (rd1 (c15 s)) ?_))
    show 16 * (k % 10) + 1 * (x 0).val = _
    rw [Nat.mod_eq_of_lt hk, Nat.one_mul], ha.2⟩

theorem v_l160c {k : ℕ} (hk : k < 10) : Tri d i s (l160 (F := Ideal) i m16 k) fun v s' => (∀ x, v x = ln (c16 s) x k) ∧ s' = s :=
  (Tri.load (by decide)).conseq fun v s' ha => ⟨fun x => by
    rw [ha.1, ln]
    refine ((rd1_at (c16 s) _).symm.trans (congrArg (rd1 (c16 s)) ?_))
    show 16 * (k % 10) + 1 * (x 0).val = _
    rw [Nat.mod_eq_of_lt hk, Nat.one_mul], ha.2⟩

/-- A buffer of lanes after a store of sixteen words at `16 k`. -/
theorem ln_put {n : ℕ} (f : B1 n) (o : Fin 1 → ℕ) (ho : ∀ a, o a + S16.size a ≤ (⟨1, ![n]⟩ : Shape).size a)
    (k : ℕ) (hk : o 0 = 16 * k) (v : S16.Idx → EReal) (g : B1 n)
    (h1 : ∀ x : S16.Idx, g ((Rect.unit (s := ⟨1, ![n]⟩) o S16.size ho).emb x) = v x)
    (h2 : ∀ p, (∀ x : S16.Idx, (Rect.unit (s := ⟨1, ![n]⟩) o S16.size ho).emb x ≠ p) → g p = f p) (x : S16.Idx) (q : ℕ) :
    ln g x q = if q = k then v x else ln f x q := by
  have hn : o 0 + 16 ≤ n := ho 0
  have hv : ∀ y : S16.Idx, (((Rect.unit (s := ⟨1, ![n]⟩) o S16.size ho).emb y) 0).val = 16 * k + (y 0).val := fun y => by
    show o 0 + 1 * (y 0).val = _
    rw [hk, Nat.one_mul]
  refine ln_write (fun _ => k) (fun _ => by omega) (fun y p hp => ?_) (fun p hp => h2 p fun y hy => hp y ?_) x q
  · rw [← h1 y]
    refine congrArg g ?_
    rw [eq_ix1 p, eq_ix1 ((Rect.unit (s := ⟨1, ![n]⟩) o S16.size ho).emb y)]
    exact congrArg ix1 (Fin.ext (hp.trans (hv y).symm))
  · rw [← hy]; exact hv y

theorem v_s32p {b : ℕ} (hb : b < 2) {v : V Ideal} : Tri d i s (s32 (F := Ideal) i m17 b v) fun _ s' =>
    Keep [cc0_scratch9] s s' ∧ ∀ x q, ln (c17 s') x q = if q = b then v x else ln (c17 s) x q := by
  refine (Tri.load (by decide)).bind fun _ s₁ h => ?_
  have h := h.2
  subst h
  refine (Tri.store (by decide)).conseq fun _ s' hs => ?_
  subst hs
  refine ⟨.update, fun x q => ?_⟩
  refine (congrArg (fun f : B1 32 => ln f x q) (Function.update_self (β := fun b : Ref sig .scVector => b.ty.Contents (Elt Ideal)) _ _ _)).trans ?_
  exact ln_put (c17 _) ![16 * (b % 2)] (inb32 b) b (by show 16 * (b % 2) = _; rw [Nat.mod_eq_of_lt hb]) v _
    (fun y => put_at (j := cc0_scratch9.idx) _ (Rect.unit (s := S32) ![16 * (b % 2)] S16.size (inb32 b)) v y)
    (fun p hp => put_off (j := cc0_scratch9.idx) _ (Rect.unit (s := S32) ![16 * (b % 2)] S16.size (inb32 b)) v p hp) x q

theorem v_s32r {b : ℕ} (hb : b < 2) {v : V Ideal} : Tri d i s (s32 (F := Ideal) i m18 b v) fun _ s' =>
    Keep [cc0_scratch10] s s' ∧ ∀ x q, ln (c18 s') x q = if q = b then v x else ln (c18 s) x q := by
  refine (Tri.load (by decide)).bind fun _ s₁ h => ?_
  have h := h.2
  subst h
  refine (Tri.store (by decide)).conseq fun _ s' hs => ?_
  subst hs
  refine ⟨.update, fun x q => ?_⟩
  refine (congrArg (fun f : B1 32 => ln f x q) (Function.update_self (β := fun b : Ref sig .scVector => b.ty.Contents (Elt Ideal)) _ _ _)).trans ?_
  exact ln_put (c18 _) ![16 * (b % 2)] (inb32 b) b (by show 16 * (b % 2) = _; rw [Nat.mod_eq_of_lt hb]) v _
    (fun y => put_at (j := cc0_scratch10.idx) _ (Rect.unit (s := S32) ![16 * (b % 2)] S16.size (inb32 b)) v y)
    (fun p hp => put_off (j := cc0_scratch10.idx) _ (Rect.unit (s := S32) ![16 * (b % 2)] S16.size (inb32 b)) v p hp) x q

/-- A key's store, -/
theorem v_putZ {k : Fin k0_t8_loop.trips} {t : ℕ} (ht : t < 20) {v : V Ideal} {hx hm} :
    Tri d i s (Prog.lift (.store m14 (Rect.unit (s := S3200) (offZ k t) S16.size (offZ_inb k t)) v Finset.univ hx hm) : Pg Ideal i PUnit) fun _ s' =>
      Keep [cc0_scratch6] s s' ∧ ∀ x q, ln (c14 s') x q = if q = 20 * k.val + t then v x else ln (c14 s) x q := by
  have hk : k.val < 10 := k.isLt
  have ho : offZ k t 0 = 16 * (20 * k.val + t) := by
    have h : ∀ k : Fin 10, ∀ n : Fin 20,
      (Scalar.addi (Scalar.muli (Scf.iv 0#32 1#32 k.val) 320#32) (BitVec.ofNat 32 (16 * n.val))).toNat = 16 * (20 * k.val + n.val) := by decide
    have := h ⟨k.val, hk⟩ ⟨t, ht⟩
    show (Scalar.addi (Scalar.muli (Scf.iv 0#32 1#32 k.val) 320#32) (BitVec.ofNat 32 (16 * (t % 20)))).toNat = _
    rw [Nat.mod_eq_of_lt ht]
    exact this
  refine (Tri.store (by decide)).conseq fun _ s' hs => ?_
  subst hs
  refine ⟨.update, fun x q => ?_⟩
  refine (congrArg (fun f : B1 3200 => ln f x q) (Function.update_self (β := fun b : Ref sig .scVector => b.ty.Contents (Elt Ideal)) _ _ _)).trans ?_
  exact ln_put (c14 _) (offZ k t) (offZ_inb k t) (20 * k.val + t) ho v _
    (fun y => put_at (j := cc0_scratch6.idx) _ (Rect.unit (s := S3200) (offZ k t) S16.size (offZ_inb k t)) v y)
    (fun p hp => put_off (j := cc0_scratch6.idx) _ (Rect.unit (s := S3200) (offZ k t) S16.size (offZ_inb k t)) v p hp) x q

/-- and a chunk's maximum's. -/
theorem v_putC {k : Fin k0_t8_loop.trips} {v : V Ideal} {hx hm} :
    Tri d i s (Prog.lift (.store m16 (Rect.unit (s := S160) (k0_off25 k) S16.size (k0_off25_inb k)) v Finset.univ hx hm) : Pg Ideal i PUnit) fun _ s' =>
      Keep [cc0_scratch8] s s' ∧ ∀ x q, ln (c16 s') x q = if q = k.val then v x else ln (c16 s) x q := by
  have hk : k.val < 10 := k.isLt
  have ho : k0_off25 k 0 = 16 * k.val := by
    have h : ∀ k : Fin 10, (Scalar.muli (Scf.iv 0#32 1#32 k.val) 16#32).toNat = 16 * k.val := by decide
    exact h ⟨k.val, hk⟩
  refine (Tri.store (by decide)).conseq fun _ s' hs => ?_
  subst hs
  refine ⟨.update, fun x q => ?_⟩
  refine (congrArg (fun f : B1 160 => ln f x q) (Function.update_self (β := fun b : Ref sig .scVector => b.ty.Contents (Elt Ideal)) _ _ _)).trans ?_
  exact ln_put (c16 _) (k0_off25 k) (k0_off25_inb k) k.val ho v _
    (fun y => put_at (j := cc0_scratch8.idx) _ (Rect.unit (s := S160) (k0_off25 k) S16.size (k0_off25_inb k)) v y)
    (fun p hp => put_off (j := cc0_scratch8.idx) _ (Rect.unit (s := S160) (k0_off25 k) S16.size (k0_off25_inb k)) v p hp) x q

end Cert.KernelIdeal.Tile
-- ==== Proof.Batch.lean ====
/- The softmax of the tile's lists, over the extended reals. -/
module

public import proofs.«01_k».proof.Proof.Access
public import Idealize.ShloMosaic.PureOps.Ideal.Laws
public import Idealize.ShloMosaic.Lib.IdealHost

@[expose] public section

noncomputable section

namespace Cert.KernelIdeal.Tile

open Idealize.ShloMosaic Idealize.SL.Sem Cert.KernelIdeal
open Facts₀ Facts Idealize.ShloMosaic.ValueIdx

variable [Facts] {d : Dev nD} {i : grid0.Coords}

/-! ## Constants -/

theorem ofBits_negInf : Ideal.ofBits .f32 0xFF800000#32 = ⊥ := by simp [Ideal.ofBits, Ideal.ieee]
theorem zeroF_at (x : S16.Idx) : (zeroF : V Ideal) x = (0 : EReal) := Ideal.ofBits_zero_f32
theorem oneF_at (x : S16.Idx) : (oneF : V Ideal) x = (1 : EReal) := Ideal.ofBits_one_f32
theorem negInf_at (x : S16.Idx) : (negInf : V Ideal) x = (⊥ : EReal) := ofBits_negInf

/-! ## One list -/

/-- The largest of the scores `f`, -/
def top (f : ℕ → EReal) : EReal := (Finset.range 200).sup f
/-- the exponentials of their differences from it, -/
def ex (f : ℕ → EReal) (q : ℕ) : EReal := Ideal.exp (f q - top f)
/-- and the softmax. -/
def pr (f : ℕ → EReal) (q : ℕ) : EReal := ex f q * Ideal.div 1 (∑ k ∈ Finset.range 200, ex f k)

/-- What the tile holds of its lists once both batches are done. -/
def Ready (s : St Ideal) : Prop := ∀ p < 32, (∀ q < 200, rd2 (c11 s) p q = pr (rd2 (c8 s) p) q) ∧
  rd1 (c17 s) p = ∑ q ∈ Finset.range 200, pr (rd2 (c8 s) p) q ∧ rd1 (c18 s) p = ∑ q ∈ Finset.range 200, rd2 (c9 s) p q

theorem rowb_val {b : ℕ} (hb : b < 2) (x : S16.Idx) : ((addi (word (16 * b)) lane : W) x).toNat = 16 * b + (x 0).val := by
  have : (x 0).val < 16 := (x 0).isLt
  rw [add_val, lane_val]
  show ((BitVec.ofNat 32 (16 * b)).toNat + _) % _ = _
  rw [BitVec.toNat_ofNat]
  omega

theorem iv_at {k : ℕ} (hk : k < 200) (x : S16.Idx) : ((broadcast S16 (Scf.iv 0#32 1#32 k) : W) x).toNat = k := by
  show (Scf.iv 0#32 1#32 k).toNat = k
  rw [iv_val]
  omega

theorem v_max {b : ℕ} (hb : b < 2) {s : St Ideal} :
    Tri d i s (Scf.Loop.for k0_t1_loop k0_t1_ok negInf (fun k m => maxStep (F := Ideal) i (addi (word (16 * b)) lane) k m)) fun (m : V Ideal) s' =>
      (∀ x, m x = top (rd2 (c8 s) (16 * b + (x 0).val))) ∧ s' = s := by
  have hr : Lt 32 (addi (word (16 * b)) lane) := (Lt.word (n := 17) (by omega)).add .lane
  refine (Tri.for (fun n (m : V Ideal) s' => (∀ x, m x = (Finset.range n).sup (rd2 (c8 s) (16 * b + (x 0).val))) ∧ s' = s) (fun k m s' h => ?_)
    ⟨fun x => negInf_at x, rfl⟩)
  obtain ⟨hm, hs⟩ := h
  subst hs
  have hk : k.val < 200 := k.isLt
  refine (v_g200 hr (Lt.iv hk)).bind fun a s₁ ha => Tri.pure ⟨fun x => ?_, ha.2⟩
  show max (m x) (a x) = _
  rw [hm x, ha.1 x, rowb_val hb, iv_at hk, Finset.range_add_one, Finset.sup_insert, sup_comm]

theorem v_exp {b : ℕ} (hb : b < 2) {s : St Ideal} {m : V Ideal} :
    Tri d i s (Scf.Loop.for k0_t2_loop k0_t2_ok ((zeroF, zeroF) : V Ideal × V Ideal) (fun k t => expStep (F := Ideal) i (addi (word (16 * b)) lane) m k t))
      fun (t : V Ideal × V Ideal) s' => Keep [cc0_scratch3] s s' ∧
        (∀ x, (∀ q < 200, rd2 (c11 s') (16 * b + (x 0).val) q = Ideal.exp (rd2 (c8 s) (16 * b + (x 0).val) q - m x)) ∧
          t.1 x = ∑ q ∈ Finset.range 200, Ideal.exp (rd2 (c8 s) (16 * b + (x 0).val) q - m x) ∧
          t.2 x = ∑ q ∈ Finset.range 200, rd2 (c9 s) (16 * b + (x 0).val) q) ∧
        ∀ p q, (∀ x : S16.Idx, p ≠ 16 * b + (x 0).val) → rd2 (c11 s') p q = rd2 (c11 s) p q := by
  have hr : Lt 32 (addi (word (16 * b)) lane) := (Lt.word (n := 17) (by omega)).add .lane
  refine (Tri.for (fun n (t : V Ideal × V Ideal) s' => Keep [cc0_scratch3] s s' ∧
        (∀ x, (∀ q < n, rd2 (c11 s') (16 * b + (x 0).val) q = Ideal.exp (rd2 (c8 s) (16 * b + (x 0).val) q - m x)) ∧
          t.1 x = ∑ q ∈ Finset.range n, Ideal.exp (rd2 (c8 s) (16 * b + (x 0).val) q - m x) ∧
          t.2 x = ∑ q ∈ Finset.range n, rd2 (c9 s) (16 * b + (x 0).val) q) ∧
        ∀ p q, (∀ x : S16.Idx, p ≠ 16 * b + (x 0).val) → rd2 (c11 s') p q = rd2 (c11 s) p q) (fun k t s' h => ?_)
    ⟨Keep.refl, fun x => ⟨fun q hq => absurd hq (Nat.not_lt_zero q), zeroF_at x, zeroF_at x⟩, fun p q _ => rfl⟩)
  obtain ⟨hK, hv, ho⟩ := h
  have hk : k.val < 200 := k.isLt
  have hc : Lt 200 (broadcast S16 (Scf.iv 0#32 1#32 k.val)) := Lt.iv hk
  refine (Tri.assume ⟨inb₂ hr hc, inb₂ hr hc, inb₂ hr hc⟩).bind fun _ _ h => ?_
  subst h
  refine (Tri.loadIdx (by decide)).bind fun (y : V Ideal) s₁ hy => ?_
  obtain ⟨hy, hs⟩ := hy
  subst hs
  have hyx : ∀ x, y x = rd2 (c8 s) (16 * b + (x 0).val) k.val := fun x => by
    rw [hy]
    exact (gather₂ _ _ x).trans (by rw [rowb_val hb x, iv_at hk x, ← hK.c8]; rfl)
  refine (Tri.storeIdx (by decide)).bind fun _ s₂ hs => ?_
  have hK₂ : Keep [cc0_scratch3] s₁ s₂ := hs ▸ Keep.update
  have h11 : c11 s₂ = _ := (congrFun hs cc0_scratch3).trans (Function.update_self (β := fun b : Ref sig .scVector => b.ty.Contents (Elt Ideal)) _ _ _)
  have hsc := rd2_scatter (c11 s₁) _ _ (exp (F := Ideal) (φ := .f32) (subf (F := Ideal) (φ := .f32) y m)) (inb₂ hr hc) (16 * b) k.val (rowb_val hb) (iv_at hk)
  refine (Tri.loadIdx (by decide)).bind fun (z : V Ideal) s₃ hz => ?_
  obtain ⟨hz, hs₃⟩ := hz
  subst hs₃
  have hzx : ∀ x, z x = rd2 (c9 s) (16 * b + (x 0).val) k.val := fun x => by
    rw [hz]
    exact (gather₂ _ _ x).trans (by rw [rowb_val hb x, iv_at hk x, ← hK.c9, ← hK₂.c9]; rfl)
  refine Tri.pure ⟨hK.trans hK₂, fun x => ⟨fun q hq => ?_, ?_, ?_⟩, fun p q hp => ?_⟩
  · rw [h11]
    refine (hsc.1 x q).trans ?_
    split
    · next e =>
      subst e
      show Ideal.exp (y x - m x) = _
      rw [hyx]
    · next e => exact (hv x).1 q (by omega)
  · show t.1 x + Ideal.exp (y x - m x) = _
    rw [(hv x).2.1, hyx, Finset.sum_range_succ]
  · show t.2 x + z x = _
    rw [(hv x).2.2, hzx, Finset.sum_range_succ]
  · rw [h11]
    exact (hsc.2 p q hp).trans (ho p q hp)

theorem v_norm {b : ℕ} (hb : b < 2) {s : St Ideal} {inv : V Ideal} :
    Tri d i s (Scf.Loop.for k0_t3_loop k0_t3_ok (zeroF : V Ideal) (fun k t => normStep (F := Ideal) i (addi (word (16 * b)) lane) inv k t))
      fun (t : V Ideal) s' => Keep [cc0_scratch3] s s' ∧
        (∀ x, (∀ q < 200, rd2 (c11 s') (16 * b + (x 0).val) q = rd2 (c11 s) (16 * b + (x 0).val) q * inv x) ∧
          t x = ∑ q ∈ Finset.range 200, rd2 (c11 s) (16 * b + (x 0).val) q * inv x) ∧
        ∀ p q, (∀ x : S16.Idx, p ≠ 16 * b + (x 0).val) → rd2 (c11 s') p q = rd2 (c11 s) p q := by
  have hr : Lt 32 (addi (word (16 * b)) lane) := (Lt.word (n := 17) (by omega)).add .lane
  refine (Tri.for (fun n (t : V Ideal) s' => Keep [cc0_scratch3] s s' ∧
        (∀ x, (∀ q, rd2 (c11 s') (16 * b + (x 0).val) q = if q < n then rd2 (c11 s) (16 * b + (x 0).val) q * inv x else rd2 (c11 s) (16 * b + (x 0).val) q) ∧
          t x = ∑ q ∈ Finset.range n, rd2 (c11 s) (16 * b + (x 0).val) q * inv x) ∧
        ∀ p q, (∀ x : S16.Idx, p ≠ 16 * b + (x 0).val) → rd2 (c11 s') p q = rd2 (c11 s) p q) (fun k t s' h => ?_)
    ⟨Keep.refl, fun x => ⟨fun q => (if_neg (Nat.not_lt_zero q)).symm, zeroF_at x⟩, fun p q _ => rfl⟩).conseq
    fun t s' h => ⟨h.1, fun x => ⟨fun q hq => ((h.2.1 x).1 q).trans (if_pos hq), (h.2.1 x).2⟩, h.2.2⟩
  obtain ⟨hK, hv, ho⟩ := h
  have hk : k.val < 200 := k.isLt
  have hc : Lt 200 (broadcast S16 (Scf.iv 0#32 1#32 k.val)) := Lt.iv hk
  refine (Tri.assume ⟨inb₂ hr hc, inb₂ hr hc⟩).bind fun _ _ h => ?_
  subst h
  refine (Tri.loadIdx (by decide)).bind fun (y : V Ideal) s₁ hy => ?_
  obtain ⟨hy, hs⟩ := hy
  subst hs
  have hyx : ∀ x, y x = rd2 (c11 s) (16 * b + (x 0).val) k.val := fun x => by
    have e := (hv x).1 k.val
    rw [if_neg (Nat.lt_irrefl _)] at e
    rw [← e, hy]
    exact (gather₂ _ _ x).trans (by rw [rowb_val hb x, iv_at hk x]; rfl)
  refine (Tri.storeIdx (by decide)).bind fun _ s₂ hs => ?_
  have hK₂ : Keep [cc0_scratch3] s₁ s₂ := hs ▸ Keep.update
  have h11 : c11 s₂ = _ := (congrFun hs cc0_scratch3).trans (Function.update_self (β := fun b : Ref sig .scVector => b.ty.Contents (Elt Ideal)) _ _ _)
  have hsc := rd2_scatter (c11 s₁) _ _ (mulf (F := Ideal) (φ := .f32) y inv) (inb₂ hr hc) (16 * b) k.val (rowb_val hb) (iv_at hk)
  refine Tri.pure ⟨hK.trans hK₂, fun x => ⟨fun q => ?_, ?_⟩, fun p q hp => ?_⟩
  · rw [h11]
    refine (hsc.1 x q).trans ?_
    by_cases e : q = k.val
    · subst e
      rw [if_pos rfl, if_pos (Nat.lt_succ_self _)]
      show y x * inv x = _
      rw [hyx]
    · rw [if_neg e, (hv x).1 q]
      by_cases h : q < k.val
      · rw [if_pos h, if_pos (by omega)]
      · rw [if_neg h, if_neg (by omega)]
  · show t x + y x * inv x = _
    rw [(hv x).2, hyx, Finset.sum_range_succ]
  · rw [h11]
    exact (hsc.2 p q hp).trans (ho p q hp)

theorem v_batch {b : ℕ} (hb : b < 2) {s : St Ideal} : Tri d i s (batch (F := Ideal) i b) fun _ s' =>
    Keep [cc0_scratch3, cc0_scratch9, cc0_scratch10] s s' ∧
      (∀ x : S16.Idx, (∀ q < 200, rd2 (c11 s') (16 * b + (x 0).val) q = pr (rd2 (c8 s) (16 * b + (x 0).val)) q) ∧
        ln (c17 s') x b = ∑ q ∈ Finset.range 200, pr (rd2 (c8 s) (16 * b + (x 0).val)) q ∧
        ln (c18 s') x b = ∑ q ∈ Finset.range 200, rd2 (c9 s) (16 * b + (x 0).val) q) ∧
      (∀ p q, (∀ x : S16.Idx, p ≠ 16 * b + (x 0).val) → rd2 (c11 s') p q = rd2 (c11 s) p q) ∧
      ∀ (x : S16.Idx) q, q ≠ b → ln (c17 s') x q = ln (c17 s) x q ∧ ln (c18 s') x q = ln (c18 s) x q := by
  unfold batch
  refine (v_max hb).bind fun m s₁ h₁ => ?_
  obtain ⟨hm, hs⟩ := h₁
  subst hs
  refine (v_exp hb).bind fun t s₂ h₂ => ?_
  obtain ⟨hK₂, hv₂, ho₂⟩ := h₂
  refine (v_norm hb).bind fun tp s₃ h₃ => ?_
  obtain ⟨hK₃, hv₃, ho₃⟩ := h₃
  refine (v_s32p hb).bind fun _ s₄ h₄ => ?_
  obtain ⟨hK₄, hv₄⟩ := h₄
  refine (v_s32r hb).conseq fun _ s₅ h₅ => ?_
  obtain ⟨hK₅, hv₅⟩ := h₅
  have e11 : c11 s₅ = c11 s₃ := hK₅.c11.trans hK₄.c11
  have e17 : c17 s₅ = c17 s₄ := hK₅.c17
  have e18 : c18 s₄ = c18 s₁ := hK₄.c18.trans (hK₃.c18.trans hK₂.c18)
  have e17' : c17 s₃ = c17 s₁ := hK₃.c17.trans hK₂.c17
  have hp : ∀ (x : S16.Idx), ∀ q < 200, rd2 (c11 s₂) (16 * b + (x 0).val) q * divf (F := Ideal) (φ := .f32) (oneF : V Ideal) t.1 x = pr (rd2 (c8 s₁) (16 * b + (x 0).val)) q := by
    intro x q hq
    rw [(hv₂ x).1 q hq, hm x]
    show _ * Ideal.div ((oneF : V Ideal) x) (t.1 x) = _
    rw [oneF_at, (hv₂ x).2.1, hm x]
    rfl
  refine ⟨?_, fun x => ⟨fun q hq => ?_, ?_, ?_⟩, fun p q hpq => ?_, fun x q hq => ⟨?_, ?_⟩⟩
  · exact hK₂.mono.trans (hK₃.mono.trans (hK₄.mono.trans hK₅.mono))
  · rw [e11, (hv₃ x).1 q hq, hp x q hq]
  · rw [e17, hv₄, if_pos rfl, (hv₃ x).2]
    exact Finset.sum_congr rfl fun q hq => hp x q (Finset.mem_range.mp hq)
  · rw [hv₅, if_pos rfl, (hv₂ x).2.2]
  · rw [e11, ho₃ p q hpq, ho₂ p q hpq]
  · rw [e17, hv₄, if_neg hq, e17']
  · rw [hv₅, if_neg hq, e18]

theorem v_batches {s : St Ideal} : Tri d i s (batch (F := Ideal) i 0 >>= fun _ => batch i 1) fun _ s' =>
    Keep [cc0_scratch3, cc0_scratch9, cc0_scratch10] s s' ∧ Ready s' := by
  refine (v_batch (b := 0) (by decide)).bind fun _ s₁ h₁ => ?_
  obtain ⟨hK₁, hv₁, ho₁, hl₁⟩ := h₁
  refine (v_batch (b := 1) (by decide)).conseq fun _ s₂ h₂ => ?_
  obtain ⟨hK₂, hv₂, ho₂, hl₂⟩ := h₂
  have e8 : c8 s₂ = c8 s := hK₂.c8.trans hK₁.c8
  have e9 : c9 s₂ = c9 s := hK₂.c9.trans hK₁.c9
  refine ⟨hK₁.trans hK₂, fun p hp => ?_⟩
  rw [e8, e9]
  by_cases h : p < 16
  · have hx : ∃ x : S16.Idx, (x 0).val = p := ⟨ix1 ⟨p, h⟩, rfl⟩
    obtain ⟨x, hx⟩ := hx
    have e : 16 * 0 + (x 0).val = p := by omega
    have hn : ∀ y : S16.Idx, p ≠ 16 * 1 + (y 0).val := fun y => by omega
    have h1 := hv₁ x
    rw [e] at h1
    refine ⟨fun q hq => (ho₂ p q hn).trans (h1.1 q hq), ?_, ?_⟩
    · rw [← h1.2.1, ← (hl₂ x 0 (by decide)).1, ln, e]
    · rw [← h1.2.2, ← (hl₂ x 0 (by decide)).2, ln, e]
  · have hx : ∃ x : S16.Idx, (x 0).val = p - 16 := ⟨ix1 ⟨p - 16, by omega⟩, rfl⟩
    obtain ⟨x, hx⟩ := hx
    have e : 16 * 1 + (x 0).val = p := by omega
    have h1 := hv₂ x
    rw [e, hK₁.c8, hK₁.c9] at h1
    refine ⟨h1.1, ?_, ?_⟩
    · rw [← h1.2.1, ln, e]
    · rw [← h1.2.2, ln, e]

end Cert.KernelIdeal.Tile
-- ==== Proof.Select.lean ====
/- The places of the largest keys, in order: how two scans find the next, and what the sequence of them is. -/
module

public import Mathlib.Data.EReal.Basic
public import Mathlib.Data.Finset.Lattice.Fold
public import Mathlib.Data.Finset.Max
public import Mathlib.Tactic.IntervalCases

@[expose] public section

noncomputable section

namespace Cert.Pick

/-- Place `i` comes before place `j`: its key is larger, or as large and it is the earlier. -/
def Before (z : ℕ → EReal) (i j : ℕ) : Prop := z j < z i ∨ (z i = z j ∧ i < j)

theorem Before.asymm {z : ℕ → EReal} {i j : ℕ} (h : Before z i j) : ¬Before z j i := by
  rintro (h' | h') <;> rcases h with h | h
  · exact lt_asymm h h'
  · exact absurd h' (by rw [h.1]; exact lt_irrefl _)
  · exact absurd h (by rw [h'.1]; exact lt_irrefl _)
  · exact Nat.lt_asymm h.2 h'.2

theorem Before.trans {z : ℕ → EReal} {i j k : ℕ} (h : Before z i j) (h' : Before z j k) : Before z i k := by
  rcases h with h | h <;> rcases h' with h' | h'
  · exact .inl (h'.trans h)
  · exact .inl (h'.1 ▸ h)
  · exact .inl (h.1 ▸ h')
  · exact .inr ⟨h.1.trans h'.1, h.2.trans h'.2⟩

theorem Before.total {z : ℕ → EReal} {i j : ℕ} (h : i ≠ j) : Before z i j ∨ Before z j i := by
  rcases lt_trichotomy (z i) (z j) with h' | h' | h'
  · exact .inr (.inl h')
  · rcases Nat.lt_or_gt_of_ne h with h'' | h''
    · exact .inl (.inr ⟨h', h''⟩)
    · exact .inr (.inr ⟨h'.symm, h''⟩)
  · exact .inl (.inl h')

/-- `q` comes before every other place outside `T`. -/
def Best (z : ℕ → EReal) (T : Finset ℕ) (q : ℕ) : Prop := q < 200 ∧ q ∉ T ∧ ∀ p < 200, p ∉ T → p ≠ q → Before z q p

theorem Best.unique {z : ℕ → EReal} {T : Finset ℕ} {p q : ℕ} (hp : Best z T p) (hq : Best z T q) : p = q := by
  by_contra h
  exact (hp.2.2 q hq.1 hq.2.1 (Ne.symm h)).asymm (hq.2.2 p hp.1 hp.2.1 h)

theorem exists_free {T : Finset ℕ} (hT : T.card < 200) : ∃ q < 200, q ∉ T := by
  by_contra h
  push Not at h
  have : (Finset.range 200).card ≤ T.card := Finset.card_le_card fun q hq => h q (Finset.mem_range.mp hq)
  rw [Finset.card_range] at this
  omega

theorem exists_best (z : ℕ → EReal) {T : Finset ℕ} (hT : T.card < 200) : ∃ q, Best z T q := by
  obtain ⟨q₀, hq₀, hq₀T⟩ := exists_free hT
  have hne : ((Finset.range 200).filter (· ∉ T)).Nonempty := ⟨q₀, Finset.mem_filter.mpr ⟨Finset.mem_range.mpr hq₀, hq₀T⟩⟩
  obtain ⟨q, hq, hmax⟩ := Finset.exists_max_image _ z hne
  have hne' : (((Finset.range 200).filter (· ∉ T)).filter (z · = z q)).Nonempty := ⟨q, Finset.mem_filter.mpr ⟨hq, rfl⟩⟩
  obtain ⟨r, hr, hmin⟩ := Finset.exists_min_image _ id hne'
  obtain ⟨hr, hrz⟩ := Finset.mem_filter.mp hr
  obtain ⟨hr, hrT⟩ := Finset.mem_filter.mp hr
  refine ⟨r, Finset.mem_range.mp hr, hrT, fun p hp hpT hne => ?_⟩
  have hp' : p ∈ (Finset.range 200).filter (· ∉ T) := Finset.mem_filter.mpr ⟨Finset.mem_range.mpr hp, hpT⟩
  rcases (hmax p hp').lt_or_eq with h | h
  · exact .inl (hrz ▸ h)
  · have := hmin p (Finset.mem_filter.mpr ⟨hp', h⟩)
    exact .inr ⟨hrz.trans h.symm, Nat.lt_of_le_of_ne this (Ne.symm hne)⟩

/-- The places taken by the first `n` selections, -/
def taken (z : ℕ → EReal) : ℕ → Finset ℕ
  | 0 => ∅
  | n + 1 => insert (Classical.epsilon (Best z (taken z n))) (taken z n)
/-- and the place the next takes. -/
def nth (z : ℕ → EReal) (n : ℕ) : ℕ := Classical.epsilon (Best z (taken z n))

theorem taken_succ (z : ℕ → EReal) (n : ℕ) : taken z (n + 1) = insert (nth z n) (taken z n) := rfl

theorem card_taken (z : ℕ → EReal) (n : ℕ) : (taken z n).card ≤ n := by
  induction n with
  | zero => exact Nat.le_refl 0
  | succ n ih => exact (Finset.card_insert_le _ _).trans (Nat.succ_le_succ ih)

theorem nth_best (z : ℕ → EReal) {n : ℕ} (hn : n < 200) : Best z (taken z n) (nth z n) :=
  Classical.epsilon_spec (exists_best z ((card_taken z n).trans_lt hn))

theorem nth_eq {z : ℕ → EReal} {n : ℕ} (hn : n < 200) {q : ℕ} (h : Best z (taken z n) q) : q = nth z n := h.unique (nth_best z hn)

theorem nth_mem {z : ℕ → EReal} {n m : ℕ} (h : n < m) : nth z n ∈ taken z m := by
  induction m with
  | zero => exact absurd h (Nat.not_lt_zero n)
  | succ m ih =>
    rw [taken_succ]
    rcases Nat.lt_succ_iff_lt_or_eq.mp h with h | h
    · exact Finset.mem_insert_of_mem (ih h)
    · exact h ▸ Finset.mem_insert_self _ _

theorem mem_taken {z : ℕ → EReal} {m q : ℕ} (h : q ∈ taken z m) : ∃ n < m, q = nth z n := by
  induction m with
  | zero => exact absurd h (Finset.notMem_empty q)
  | succ m ih =>
    rw [taken_succ] at h
    rcases Finset.mem_insert.mp h with h | h
    · exact ⟨m, Nat.lt_succ_self m, h⟩
    · obtain ⟨n, hn, e⟩ := ih h
      exact ⟨n, Nat.lt_succ_of_lt hn, e⟩

theorem nth_lt (z : ℕ → EReal) {n : ℕ} (hn : n < 200) : nth z n < 200 := (nth_best z hn).1

theorem nth_before {z : ℕ → EReal} {n m : ℕ} (h : n < m) (hm : m < 200) : Before z (nth z n) (nth z m) := by
  have hm' := nth_best z hm
  have hn : n < 200 := h.trans hm
  refine (nth_best z hn).2.2 _ hm'.1 (fun hmem => hm'.2.1 ?_) fun e => hm'.2.1 (e ▸ nth_mem h)
  obtain ⟨k, hk, e⟩ := mem_taken hmem
  exact e ▸ nth_mem (hk.trans h)

theorem nth_ne {z : ℕ → EReal} {n m : ℕ} (h : n ≠ m) (hn : n < 200) (hm : m < 200) : nth z n ≠ nth z m := by
  intro e
  rcases Nat.lt_or_gt_of_ne h with h | h
  · have := nth_before (z := z) h hm
    rw [e] at this
    exact this.asymm this
  · have := nth_before (z := z) h hn
    rw [e] at this
    exact this.asymm this

/-- Any place not among the first `n` comes after them. -/
theorem nth_first {z : ℕ → EReal} {n k q : ℕ} (hk : k < n) (hn : n ≤ 200) (hq : q < 200) (h : ∀ j < n, q ≠ nth z j) : Before z (nth z k) q := by
  refine (nth_best z (hk.trans_le hn)).2.2 q hq (fun hmem => ?_) (h k hk)
  obtain ⟨j, hj, e⟩ := mem_taken hmem
  exact h j (hj.trans hk) e

/-! ## Scans -/

/-- After the first `n` of `f`: the largest, the second largest and the place of the first largest. -/
structure Scan (f : ℕ → EReal) (n : ℕ) (m₁ m₂ : EReal) (t : ℕ) : Prop where
  max : m₁ = (Finset.range n).sup f
  arg : m₁ = ⊥ ∨ (t < n ∧ f t = m₁ ∧ ∀ k < t, f k < m₁)
  snd : m₂ = ((Finset.range n).erase t).sup f
  lt : t < n ∨ t = 0

theorem Scan.start (f : ℕ → EReal) : Scan f 0 ⊥ ⊥ 0 := ⟨rfl, .inl rfl, rfl, .inr rfl⟩

theorem Scan.step {f : ℕ → EReal} {n : ℕ} {m₁ m₂ : EReal} {t : ℕ} (h : Scan f n m₁ m₂ t) :
    Scan f (n + 1) (if m₁ < f n then f n else m₁) (if m₁ < f n then m₁ else Max.max m₂ (f n)) (if m₁ < f n then n else t) := by
  have hle : ∀ k < n, f k ≤ m₁ := fun k hk => h.max ▸ Finset.le_sup (Finset.mem_range.mpr hk)
  by_cases hv : m₁ < f n
  · rw [if_pos hv, if_pos hv, if_pos hv]
    refine ⟨?_, .inr ⟨Nat.lt_succ_self n, rfl, fun k hk => (hle k hk).trans_lt hv⟩, ?_, .inl (Nat.lt_succ_self n)⟩
    · rw [Finset.range_add_one, Finset.sup_insert, ← h.max, sup_eq_left.mpr hv.le]
    · rw [Finset.range_add_one, Finset.erase_insert Finset.notMem_range_self, ← h.max]
  · rw [if_neg hv, if_neg hv, if_neg hv]
    have hv' : f n ≤ m₁ := not_lt.mp hv
    refine ⟨?_, ?_, ?_, ?_⟩
    · rw [Finset.range_add_one, Finset.sup_insert, ← h.max, sup_eq_right.mpr hv']
    · rcases h.arg with e | e
      · exact .inl e
      · exact .inr ⟨Nat.lt_succ_of_lt e.1, e.2⟩
    · rcases Nat.eq_or_lt_of_le (Nat.zero_le n) with hn | hn
      · subst hn
        have ht : t = 0 := h.lt.elim (fun h => absurd h (Nat.not_lt_zero t)) id
        subst ht
        have hb : m₁ = ⊥ := h.max
        rw [hb, le_bot_iff] at hv'
        rw [h.snd, hv']
        rfl
      · have ht : n ≠ t := by
          rcases h.lt with h | h <;> omega
        rw [Finset.range_add_one, Finset.erase_insert_of_ne ht, Finset.sup_insert, ← h.snd, sup_comm]
    · rcases h.lt with e | e
      · exact .inl (Nat.lt_succ_of_lt e)
      · exact .inr e

/-- The keys with those of `T` gone. -/
def masked (z : ℕ → EReal) (T : Finset ℕ) (q : ℕ) : EReal := if q ∈ T then ⊥ else z q

/-- The largest chunk maximum and the largest within its chunk are at the best place. -/
theorem choose {z zt cm : ℕ → EReal} {T : Finset ℕ} (hz : ∀ q < 200, ⊥ < z q) (hT : T.card < 200) (hzt : ∀ q < 200, zt q = masked z T q)
    (hcm : ∀ c < 10, cm c = (Finset.range 20).sup fun t => zt (20 * c + t)) {m m' : EReal} {b : ℕ} (hb : Scan cm 10 m m' b)
    {m₁ m₂ : EReal} {t : ℕ} (ht : Scan (fun t => zt (20 * b + t)) 20 m₁ m₂ t) :
    b < 10 ∧ t < 20 ∧ Best z T (20 * b + t) ∧ m₂ = (Finset.range 20).sup fun k => masked z (insert (20 * b + t) T) (20 * b + k) := by
  have hb10 : b < 10 := by rcases hb.lt with h | h <;> omega
  have ht20 : t < 20 := by rcases ht.lt with h | h <;> omega
  have hle : ∀ q < 200, zt q ≤ cm (q / 20) := fun q hq => by
    rw [hcm _ (by omega)]
    have := Finset.le_sup (f := fun t => zt (20 * (q / 20) + t)) (Finset.mem_range.mpr (Nat.mod_lt q (by decide : 0 < 20)))
    rwa [Nat.div_add_mod] at this
  have hcle : ∀ c < 10, cm c ≤ m := fun c hc => hb.max ▸ Finset.le_sup (Finset.mem_range.mpr hc)
  obtain ⟨q₀, hq₀, hq₀T⟩ := exists_free hT
  have hm : ⊥ < m := by
    refine (hz q₀ hq₀).trans_le ?_
    have := hle q₀ hq₀
    rw [hzt q₀ hq₀, masked, if_neg hq₀T] at this
    exact this.trans (hcle _ (by omega))
  have hB := hb.arg.resolve_left hm.ne'
  have hm₁ : m₁ = m := by rw [ht.max, ← hcm b hb10, hB.2.1]
  have hA := ht.arg.resolve_left (hm₁ ▸ hm.ne')
  have hq : zt (20 * b + t) = m := hA.2.1.trans hm₁
  have hqT : 20 * b + t ∉ T := fun h => by
    rw [hzt _ (by omega), masked, if_pos h] at hq
    exact hm.ne hq
  have hzq : z (20 * b + t) = m := by
    rw [hzt _ (by omega), masked, if_neg hqT] at hq
    exact hq
  refine ⟨hb10, ht20, ⟨by omega, hqT, fun p hp hpT hne => ?_⟩, ?_⟩
  · have hzp : z p = zt p := by rw [hzt p hp, masked, if_neg hpT]
    have hpm : z p ≤ m := hzp ▸ (hle p hp).trans (hcle _ (by omega))
    rcases hpm.lt_or_eq with h | h
    · exact .inl (hzq ▸ h)
    · refine .inr ⟨hzq.trans h.symm, ?_⟩
      by_contra hlt
      rcases Nat.lt_or_eq_of_le (show p / 20 ≤ b by omega) with hc | hc
      · have := hB.2.2 _ hc
        exact absurd ((hzp ▸ h : zt p = m) ▸ hle p hp) (not_le.mpr this)
      · have h1 : p % 20 < t := by omega
        have := hA.2.2 _ h1
        have e : 20 * b + p % 20 = p := by omega
        rw [e, ← hzp, h, hm₁] at this
        exact lt_irrefl _ this
  · have hI : Finset.range 20 = insert t ((Finset.range 20).erase t) := (Finset.insert_erase (Finset.mem_range.mpr ht20)).symm
    rw [ht.snd, hI, Finset.sup_insert, ← hI]
    rw [show masked z (insert (20 * b + t) T) (20 * b + t) = ⊥ from if_pos (Finset.mem_insert_self _ _), bot_sup_eq]
    refine Finset.sup_congr rfl fun k hk => ?_
    have hk' := Finset.mem_erase.mp hk
    have hk20 := Finset.mem_range.mp hk'.2
    rw [hzt _ (by omega)]
    unfold masked
    have : 20 * b + k ≠ 20 * b + t := fun h => hk'.1 (by omega)
    simp only [Finset.mem_insert, this, false_or]

end Cert.Pick
-- ==== Proof.Ranks.lean ====
/- The places of the largest keys and the rank of each draw, as the tile computes them over the extended reals. -/
module

public import proofs.«01_k».proof.Proof.Batch
public import proofs.«01_k».proof.Proof.Select

@[expose] public section

noncomputable section

namespace Cert.Pick

/-- Of the draws `u`, the `k`-th comes before the `j`-th: it is smaller, or as large and the earlier. -/
def Under (u : ℕ → EReal) (k j : ℕ) : Prop := u k < u j ∨ (u k = u j ∧ k < j)

open Classical in
/-- How many of the ten come before the `j`-th. -/
def rk (u : ℕ → EReal) (j : ℕ) : ℕ := ((Finset.range 10).filter (Under u · j)).card

theorem Under.irrefl {u : ℕ → EReal} {k : ℕ} : ¬Under u k k := by
  rintro (h | h)
  · exact lt_irrefl _ h
  · exact Nat.lt_irrefl _ h.2

theorem Under.trans {u : ℕ → EReal} {i j k : ℕ} (h : Under u i j) (h' : Under u j k) : Under u i k := by
  rcases h with h | h <;> rcases h' with h' | h'
  · exact .inl (h.trans h')
  · exact .inl (h'.1 ▸ h)
  · exact .inl (h.1 ▸ h')
  · exact .inr ⟨h.1.trans h'.1, h.2.trans h'.2⟩

theorem Under.total {u : ℕ → EReal} {i j : ℕ} (h : i ≠ j) : Under u i j ∨ Under u j i := by
  rcases lt_trichotomy (u i) (u j) with h' | h' | h'
  · exact .inl (.inl h')
  · rcases Nat.lt_or_gt_of_ne h with h'' | h''
    · exact .inl (.inr ⟨h', h''⟩)
    · exact .inr (.inr ⟨h'.symm, h''⟩)
  · exact .inr (.inl h')

theorem rk_mono {u : ℕ → EReal} {i j : ℕ} (hi : i < 10) (h : Under u i j) : rk u i < rk u j := by
  classical
  refine Finset.card_lt_card ⟨fun k hk => ?_, fun hs => ?_⟩
  · obtain ⟨hk, hu⟩ := Finset.mem_filter.mp hk
    exact Finset.mem_filter.mpr ⟨hk, hu.trans h⟩
  · have := hs (Finset.mem_filter.mpr ⟨Finset.mem_range.mpr hi, h⟩)
    exact Under.irrefl (Finset.mem_filter.mp this).2

theorem rk_lt {u : ℕ → EReal} {j : ℕ} (hj : j < 10) : rk u j < 10 := by
  classical
  have : ((Finset.range 10).filter (Under u · j)).card < (Finset.range 10).card := by
    refine Finset.card_lt_card ⟨Finset.filter_subset _ _, fun hs => ?_⟩
    exact Under.irrefl (Finset.mem_filter.mp (hs (Finset.mem_range.mpr hj))).2
  rwa [Finset.card_range] at this

theorem rk_inj {u : ℕ → EReal} {i j : ℕ} (hi : i < 10) (hj : j < 10) (h : rk u i = rk u j) : i = j := by
  by_contra hne
  rcases Under.total (u := u) hne with h' | h'
  · have := rk_mono hi h'; omega
  · have := rk_mono hj h'; omega

/-- The ranks of the ten are the ten numbers, each once. -/
def rkEquiv (u : ℕ → EReal) : Fin 10 ≃ Fin 10 :=
  Equiv.ofBijective (fun k => ⟨rk u k.val, rk_lt k.isLt⟩)
    (Finite.injective_iff_bijective.mp fun a b h => Fin.ext (rk_inj a.isLt b.isLt (congrArg Fin.val h)))

theorem rkEquiv_val (u : ℕ → EReal) (k : Fin 10) : (rkEquiv u k).val = rk u k.val := rfl

end Cert.Pick

namespace Cert.KernelIdeal.Tile

open Idealize.ShloMosaic Idealize.SL.Sem Cert.KernelIdeal Cert.Pick
open Facts₀ Facts Idealize.ShloMosaic.ValueIdx

variable [Facts] {d : Dev nD} {i : grid0.Coords}

/-! ## Comparisons -/

theorem bool_one (p : Prop) [Decidable p] : (BitVec.ofBool (decide p) = 1) ↔ p := by
  by_cases h : p <;> simp [h]

theorem sel_ogt {α : Type} (a b : V Ideal) (t f : S16.Idx → α) (x : S16.Idx) :
    (if cmpf (F := Ideal) (φ := .f32) .ogt a b x = 1 then t x else f x) = if (b x : EReal) < a x then t x else f x := by
  refine if_congr ?_ rfl rfl
  exact bool_one ((b x : EReal) < a x)

theorem flag_val (c : IVec S16 1) (x : S16.Idx) : (select c (word 1) (word 0) x).toNat = if c x = 1 then 1 else 0 := by
  show (if c x = 1 then (1#32 : BitVec 32) else 0#32).toNat = _
  split <;> rfl

open Classical in
theorem below_val (u : ℕ → V Ideal) (v : V Ideal) (x : S16.Idx) (l : List ℕ) (acc : W) (h : (acc x).toNat + l.length < 2 ^ 32) :
    (below u v l acc x).toNat = (acc x).toNat + (l.map fun k => if (u k x : EReal) < v x then 1 else 0).sum := by
  induction l generalizing acc with
  | nil => rfl
  | cons k l ih =>
    have e : (addi acc (select (cmpf (F := Ideal) (φ := .f32) .olt (u k) v) (word 1) (word 0)) x).toNat = (acc x).toNat + if (u k x : EReal) < v x then 1 else 0 := by
      have hc : (cmpf (F := Ideal) (φ := .f32) .olt (u k) v x = 1) ↔ (u k x : EReal) < v x := bool_one ((u k x : EReal) < v x)
      rw [add_val, flag_val, if_congr hc rfl rfl]
      refine Nat.mod_eq_of_lt ?_
      simp only [List.length_cons] at h
      split <;> omega
    show (below u v l _ x).toNat = _
    rw [ih _ (by rw [e]; simp only [List.length_cons] at h; split <;> omega), e, List.map_cons, List.sum_cons, Nat.add_assoc]

open Classical in
theorem notAbove_val (u : ℕ → V Ideal) (v : V Ideal) (x : S16.Idx) (l : List ℕ) (acc : W) (h : (acc x).toNat + l.length < 2 ^ 32) :
    (notAbove u v l acc x).toNat = (acc x).toNat + (l.map fun k => if (u k x : EReal) ≤ v x then 1 else 0).sum := by
  induction l generalizing acc with
  | nil => rfl
  | cons k l ih =>
    have e : (addi acc (select (ori (cmpf (F := Ideal) (φ := .f32) .olt (u k) v) (cmpf (F := Ideal) (φ := .f32) .oeq (u k) v)) (word 1) (word 0)) x).toNat =
        (acc x).toNat + if (u k x : EReal) ≤ v x then 1 else 0 := by
      have hc : (ori (cmpf (F := Ideal) (φ := .f32) .olt (u k) v) (cmpf (F := Ideal) (φ := .f32) .oeq (u k) v) x = 1) ↔ (u k x : EReal) ≤ v x := by
        show (BitVec.ofBool (decide ((u k x : EReal) < v x)) ||| BitVec.ofBool (decide ((u k x : EReal) = v x)) = 1) ↔ _
        rw [le_iff_lt_or_eq]
        by_cases h1 : (u k x : EReal) < v x <;> by_cases h2 : (u k x : EReal) = v x <;> simp [h1, h2]
      rw [add_val, flag_val, if_congr hc rfl rfl]
      refine Nat.mod_eq_of_lt ?_
      simp only [List.length_cons] at h
      split <;> omega
    show (notAbove u v l _ x).toNat = _
    rw [ih _ (by rw [e]; simp only [List.length_cons] at h; split <;> omega), e, List.map_cons, List.sum_cons, Nat.add_assoc]

theorem rank_val (u : ℕ → V Ideal) {j : ℕ} (hj : j < 10) (x : S16.Idx) : (rank u j x).toNat = rk (fun k => u k x) j := by
  classical
  unfold rank
  have hn := notAbove_val u (u j) x (ten.take j) (word 0) (by
    show 0 + (ten.take j).length < _
    rw [List.length_take]; have : ten.length = 10 := rfl; omega)
  have h0 : ((word 0 : W) x).toNat = 0 := rfl
  have hs : ∀ l : List ℕ, (l.map fun k => if (u k x : EReal) ≤ u j x then 1 else 0).sum ≤ l.length := fun l => by
    induction l with
    | nil => exact Nat.le_refl 0
    | cons k l ih => rw [List.map_cons, List.sum_cons, List.length_cons]; split <;> omega
  rw [below_val _ _ _ _ _ (by
    rw [hn, h0]
    have := hs (ten.take j)
    rw [List.length_take] at this
    rw [List.length_drop]
    have : ten.length = 10 := rfl
    omega), hn, h0]
  rw [rk, Finset.card_filter]
  have hle : ∀ k < j, Under (fun k => (u k x : EReal)) k j ↔ (u k x : EReal) ≤ u j x := fun k hk => by
    rw [le_iff_lt_or_eq]
    exact or_congr Iff.rfl (and_iff_left hk)
  have hgt : ∀ k, j ≤ k → (Under (fun k => (u k x : EReal)) k j ↔ (u k x : EReal) < u j x) := fun k hk => by
    refine ⟨fun h => h.elim id fun h => absurd h.2 (by omega), .inl⟩
  have hR : (∑ k ∈ Finset.range 10, if Under (fun k => (u k x : EReal)) k j then 1 else 0) =
      ∑ k ∈ Finset.range 10, if k < j then (if (u k x : EReal) ≤ u j x then 1 else 0) else if (u k x : EReal) < u j x then 1 else 0 :=
    Finset.sum_congr rfl fun k _ => by
      by_cases hk : k < j
      · rw [if_pos hk]; exact if_congr (hle k hk) rfl rfl
      · rw [if_neg hk]; exact if_congr (hgt k (Nat.not_lt.mp hk)) rfl rfl
  refine Eq.trans ?_ hR.symm
  interval_cases j <;>
    simp only [ten, List.take_succ_cons, List.take_zero, List.drop_succ_cons, List.drop_zero, List.drop_nil, List.map_cons, List.map_nil, List.sum_cons,
      List.sum_nil, Finset.sum_range_succ, Finset.sum_range_zero, Nat.reduceLT, Nat.reduceAdd, if_true, if_false, lt_irrefl, Nat.not_lt_zero] <;> omega

end Cert.KernelIdeal.Tile
-- ==== Proof.Draw.lean ====
/- What one draw adds to a lane, over the extended reals. -/
module

public import proofs.«01_k».proof.Proof.Ranks
public import Idealize.ShloMosaic.PureOps.IdealRules

@[expose] public section

noncomputable section

namespace Cert.Pick

/-- `P` at the ten in the order of the draws `u`. -/
def ordered (u P : ℕ → EReal) (m : ℕ) : EReal := if h : m < 10 then P ((rkEquiv u).symm ⟨m, h⟩).val else 0

theorem ordered_rk (u P : ℕ → EReal) {k : ℕ} (hk : k < 10) : ordered u P (rk u k) = P k := by
  unfold ordered
  rw [dif_pos (rk_lt hk)]
  have : (rkEquiv u).symm ⟨rk u k, rk_lt hk⟩ = ⟨k, hk⟩ := (Equiv.symm_apply_eq _).mpr rfl
  rw [this]

theorem eq_ordered {u P Q : ℕ → EReal} (h : ∀ k < 10, Q (rk u k) = P k) {m : ℕ} (hm : m < 10) : Q m = ordered u P m := by
  unfold ordered
  rw [dif_pos hm]
  have := h ((rkEquiv u).symm ⟨m, hm⟩).val ((rkEquiv u).symm ⟨m, hm⟩).isLt
  rw [← this, ← rkEquiv_val, Equiv.apply_symm_apply]

end Cert.Pick

namespace Cert.KernelIdeal.Tile

open Idealize.ShloMosaic Idealize.SL.Sem Cert.KernelIdeal Cert.Pick
open Facts₀ Facts Idealize.ShloMosaic.ValueIdx

def tenth : EReal := Ideal.ofBits .f32 0x3DCCCCCD#32
def half : EReal := Ideal.ofBits .f32 0x3F000000#32
def two : EReal := Ideal.ofBits .f32 0x40000000#32
def lgk : EReal := Named.named (F := Ideal) κ "log_kfact" (φ := .f32) 0x4171ABAD#32

/-- The reciprocal of a positive number, zero of another. -/
def recipE (a : EReal) : EReal := if 0 < a then Ideal.div 1 a else 0
def totalE (r : ℕ → EReal) : EReal := ∑ k ∈ Finset.range 10, r k
def deltaE (r : ℕ → EReal) (srel : EReal) : EReal := two * (totalE r * recipE srel) - srel * recipE srel
def weightE (r : ℕ → EReal) (k : ℕ) : EReal := if 0 < totalE r then r k * recipE (totalE r) else tenth
/-- The entropy, term by term. -/
def entL (f : ℕ → EReal) (inv : EReal) : List ℕ → EReal → EReal
  | [], s => s
  | k :: l, s => entL f inv l (s - if 0 < f k * inv then f k * inv * Ideal.log (f k * inv) else 0)
def entE (f : ℕ → EReal) : EReal := entL f (Ideal.div 1 (∑ g ∈ Finset.range 8, f g)) eight 0
def expoE (r : ℕ → EReal) (eth : ℕ → ℕ → EReal) (g : ℕ) : EReal := ∑ k ∈ Finset.range 10, weightE r k * eth k g
def logsE (q : ℕ → EReal) : EReal := ∑ m ∈ Finset.range 10, Ideal.log (q m)
def leftE (q : ℕ → EReal) (tp : EReal) : EReal := ∑ m ∈ Finset.range 10, Ideal.log (tp - ∑ l ∈ Finset.range m, q l)
def gainE (r f : ℕ → EReal) (srel sl sd : EReal) : EReal := (lgk + sl - sd) * (deltaE r srel + half * entE f)

/-- What a draw adds: the list's scores `sc`, relevances `rl` and exposures `eth`, the noise `g` and the second draws `u`. -/
def drawGain (sc rl : ℕ → EReal) (eth : ℕ → ℕ → EReal) (g u : ℕ → EReal) : EReal :=
  let a : ℕ → ℕ := nth fun q => g q + sc q
  let q := ordered u fun k => pr sc (a k)
  gainE (fun k => rl (a k)) (expoE (fun k => rl (a k)) fun k => eth (a k)) (∑ q ∈ Finset.range 200, rl q) (logsE q)
    (leftE q (∑ q ∈ Finset.range 200, pr sc q))

/-! ## The tile's expressions at a lane -/

variable [Facts]

theorem recip_at (v : V Ideal) (x : S16.Idx) : recip v x = recipE (v x) := by
  refine (sel_ogt v zeroF _ _ x).trans ?_
  rw [zeroF_at]
  show (if (0 : EReal) < v x then Ideal.div ((oneF : V Ideal) x) (v x) else 0) = _
  rw [oneF_at]
  rfl

theorem total_at (r : ℕ → V Ideal) (x : S16.Idx) : total r x = totalE fun k => r k x := by
  simp only [totalE, Finset.sum_range_succ, Finset.sum_range_zero, zero_add]
  rfl

theorem delta_at (r : ℕ → V Ideal) (srel : V Ideal) (x : S16.Idx) : delta r srel x = deltaE (fun k => r k x) (srel x) := by
  show two * (total r x * recip srel x) - srel x * recip srel x = _
  rw [total_at, recip_at]
  rfl

theorem weight_at (r : ℕ → V Ideal) (k : ℕ) (x : S16.Idx) : weight r k x = weightE (fun k => r k x) k := by
  refine (sel_ogt (total r) zeroF _ _ x).trans ?_
  rw [zeroF_at, total_at]
  show (if 0 < totalE _ then r k x * recip (total r) x else tenth) = _
  rw [recip_at, total_at]
  rfl

theorem entFrom_at (f : ℕ → V Ideal) (inv : V Ideal) (l : List ℕ) (s : V Ideal) (x : S16.Idx) :
    entFrom f inv l s x = entL (fun k => f k x) (inv x) l (s x) := by
  induction l generalizing s with
  | nil => rfl
  | cons k l ih =>
    refine (ih _).trans (congrArg (entL _ _ l) ?_)
    refine congrArg (fun t : EReal => (s x : EReal) - t) ?_
    refine (sel_ogt (mulf (F := Ideal) (φ := .f32) (f k) inv) zeroF _ _ x).trans ?_
    rw [zeroF_at]
    rfl

theorem entropy_at (f : ℕ → V Ideal) (x : S16.Idx) : entropy f x = entE fun k => f k x := by
  refine (entFrom_at f _ _ _ x).trans ?_
  rw [zeroF_at]
  refine congrArg (fun t => entL _ t eight 0) ?_
  show Ideal.div ((oneF : V Ideal) x) (sumFrom f [1, 2, 3, 4, 5, 6, 7] (f 0) x) = _
  rw [oneF_at]
  refine congrArg (Ideal.div 1) ?_
  simp only [Finset.sum_range_succ, Finset.sum_range_zero, zero_add]
  rfl

theorem gain_at (r f : ℕ → V Ideal) (srel sl sd : V Ideal) (x : S16.Idx) :
    gain r f srel sl sd x = gainE (fun k => r k x) (fun k => f k x) (srel x) (sl x) (sd x) := by
  show (lgk + sl x - sd x) * (delta r srel x + half * entropy f x) = _
  rw [delta_at, entropy_at]
  rfl

end Cert.KernelIdeal.Tile
-- ==== Proof.Keys.lean ====
/- The keys of a group and the ten selections, over the extended reals. -/
module

public import proofs.«01_k».proof.Proof.Draw

@[expose] public section

noncomputable section

namespace Cert.KernelIdeal.Tile

open Idealize.ShloMosaic Idealize.SL.Sem Cert.KernelIdeal Cert.Pick
open Facts₀ Facts Idealize.ShloMosaic.ValueIdx

variable [Facts] {d : Dev nD} {i : grid0.Coords}

/-- The keys of lane `x`. -/
def zAt (s : St Ideal) (bl : W) (x : S16.Idx) (q : ℕ) : EReal := rd2 (c12 s) (x 0).val q + rd2 (c8 s) (bl x).toNat q
/-- Its second draws. -/
def uAt (s : St Ideal) (x : S16.Idx) (k : ℕ) : EReal := rd2 (c13 s) (x 0).val k

theorem Keep.zAt {l : List (Ref sig .scVector)} {s s' : St Ideal} (h : Keep l s s') (bl : W) (h0 : cc0_scratch0 ∉ l := by decide)
    (h4 : cc0_scratch4 ∉ l := by decide) : Tile.zAt s' bl = Tile.zAt s bl := by
  unfold Tile.zAt
  rw [h.c12 h4, h.c8 h0]

theorem twenty_get {n : ℕ} (hn : n < twenty.length) : twenty[n] = (n, 16 * n) := by
  have h : ∀ n : Fin 20, twenty[n.val]'(n.isLt) = (n.val, 16 * n.val) := by decide
  exact h ⟨n, hn⟩
theorem ten_get {n : ℕ} (hn : n < ten.length) : ten[n] = n := by
  have h : ∀ n : Fin 10, ten[n.val]'(n.isLt) = n.val := by decide
  exact h ⟨n, hn⟩
theorem eight_get {n : ℕ} (hn : n < eight.length) : eight[n] = n := by
  have h : ∀ n : Fin 8, eight[n.val]'(n.isLt) = n.val := by decide
  exact h ⟨n, hn⟩

theorem word_val {n : ℕ} (h : n < 2 ^ 32) (x : S16.Idx) : ((word n : W) x).toNat = n := by
  show (BitVec.ofNat 32 n).toNat = n
  rw [BitVec.toNat_ofNat]
  exact Nat.mod_eq_of_lt h

/-! ## The keys -/

theorem v_zStep {bl jv : W} (hbl : Lt 32 bl) {k : Fin k0_t8_loop.trips} (hj : ∀ x, (jv x).toNat = 20 * k.val) {t : ℕ} (ht : t < 20) {s : St Ideal} {m : V Ideal} :
    Tri d i s (zStep (F := Ideal) i bl jv k (t, 16 * t) m) fun m' s' => Keep [cc0_scratch6] s s' ∧
      ∀ x, (m' x : EReal) = max (m x) (zAt s bl x (20 * k.val + t)) ∧
        ∀ q, ln (c14 s') x q = if q = 20 * k.val + t then zAt s bl x q else ln (c14 s) x q := by
  have hk : k.val < 10 := k.isLt
  have hv : ∀ x, ((addi jv (word t) : W) x).toNat = 20 * k.val + t := fun x => by
    rw [add_val, hj, word_val (by omega)]
    omega
  have hl : Lt 200 (addi jv (word t)) := fun x => by rw [hv]; omega
  refine (v_gNoise .lane hl).bind fun (g : V Ideal) s₁ h₁ => ?_
  obtain ⟨hg, hs⟩ := h₁
  subst hs
  refine (v_g200 hbl hl).bind fun (a : V Ideal) s₂ h₂ => ?_
  obtain ⟨ha, hs⟩ := h₂
  subst hs
  have hz : ∀ x, (addf (F := Ideal) (φ := .f32) g a x : EReal) = zAt s₂ bl x (20 * k.val + t) := fun x => by
    show (g x : EReal) + a x = _
    rw [hg, ha, hv, lane_val]
    rfl
  refine (Tri.load (by decide)).bind fun _ s₃ h₃ => ?_
  have h₃ := h₃.2
  subst h₃
  refine (v_putZ ht).bind fun _ s₄ h₄ => Tri.pure ⟨h₄.1, fun x => ⟨?_, fun q => ?_⟩⟩
  · show max (m x : EReal) (addf (F := Ideal) (φ := .f32) g a x) = _
    rw [hz]
  · rw [h₄.2]
    by_cases e : q = 20 * k.val + t
    · rw [if_pos e, if_pos e, e]
      exact hz x
    · rw [if_neg e, if_neg e]

theorem v_zChunk {bl jv : W} (hbl : Lt 32 bl) {k : Fin k0_t8_loop.trips} (hj : ∀ x, (jv x).toNat = 20 * k.val) {s : St Ideal} :
    Tri d i s (zChunk (F := Ideal) i bl k jv) fun jv' s' => Keep [cc0_scratch6, cc0_scratch8] s s' ∧
      ∀ x, (jv' x).toNat = 20 * (k.val + 1) ∧
        (∀ q, ln (c14 s') x q = if 20 * k.val ≤ q ∧ q < 20 * (k.val + 1) then zAt s bl x q else ln (c14 s) x q) ∧
        ∀ c, ln (c16 s') x c = if c = k.val then (Finset.range 20).sup (fun t => zAt s bl x (20 * k.val + t)) else ln (c16 s) x c := by
  have hk : k.val < 10 := k.isLt
  unfold zChunk
  refine (Tri.foldP twenty (fun n (m : V Ideal) s' => Keep [cc0_scratch6] s s' ∧
      ∀ x, (m x : EReal) = (Finset.range n).sup (fun t => zAt s bl x (20 * k.val + t)) ∧
        ∀ q, ln (c14 s') x q = if 20 * k.val ≤ q ∧ q < 20 * k.val + n then zAt s bl x q else ln (c14 s) x q) ?_
    ⟨Keep.refl, fun x => ⟨negInf_at x, fun q => (if_neg (by omega)).symm⟩⟩).bind fun (m : V Ideal) s₁ h₁ => ?_
  · intro n hn m s₁ h
    obtain ⟨hK, hm⟩ := h
    rw [twenty_get hn]
    refine (v_zStep hbl hj hn).conseq fun m' s₂ h₂ => ⟨hK.trans h₂.1, fun x => ⟨?_, fun q => ?_⟩⟩
    · rw [(h₂.2 x).1, (hm x).1, hK.zAt, Finset.range_add_one, Finset.sup_insert, sup_comm]
    · rw [(h₂.2 x).2 q, (hm x).2 q, hK.zAt]
      by_cases e : q = 20 * k.val + n
      · rw [if_pos e, if_pos (by omega)]
      · rw [if_neg e]
        by_cases e' : 20 * k.val ≤ q ∧ q < 20 * k.val + n
        · rw [if_pos e', if_pos (by omega)]
        · rw [if_neg e', if_neg (by omega)]
  obtain ⟨hK, hm⟩ := h₁
  refine (Tri.load (by decide)).bind fun _ s₃ h₃ => ?_
  have h₃ := h₃.2
  subst h₃
  refine v_putC.bind fun _ s₄ h₄ => Tri.pure ⟨hK.mono.trans h₄.1.mono, fun x => ⟨?_, fun q => ?_, fun c => ?_⟩⟩
  · rw [add_val, hj, word_val (by decide)]
    omega
  · rw [h₄.1.c14]
    exact (hm x).2 q
  · rw [h₄.2, hK.c16, (hm x).1]
    rfl

theorem v_zLoop {bl : W} (hbl : Lt 32 bl) {s : St Ideal} :
    Tri d i s (Scf.Loop.for k0_t8_loop k0_t8_ok (word 0) (zChunk (F := Ideal) i bl)) fun _ s' => Keep [cc0_scratch6, cc0_scratch8] s s' ∧
      ∀ x, (∀ q < 200, ln (c14 s') x q = zAt s bl x q) ∧ ∀ c < 10, ln (c16 s') x c = (Finset.range 20).sup fun t => zAt s bl x (20 * c + t) := by
  refine (Tri.for (fun n (jv : W) s' => Keep [cc0_scratch6, cc0_scratch8] s s' ∧ ∀ x, (jv x).toNat = 20 * n ∧
    (∀ q < 20 * n, ln (c14 s') x q = zAt s bl x q) ∧ ∀ c < n, ln (c16 s') x c = (Finset.range 20).sup fun t => zAt s bl x (20 * c + t)) (fun k jv s₁ h => ?_)
    ⟨Keep.refl, fun x => ⟨rfl, fun q hq => absurd hq (Nat.not_lt_zero q), fun c hc => absurd hc (Nat.not_lt_zero c)⟩⟩).conseq
    fun _ s' h => ⟨h.1, fun x => ⟨(h.2 x).2.1, (h.2 x).2.2⟩⟩
  obtain ⟨hK, hv⟩ := h
  refine (v_zChunk hbl fun x => (hv x).1).conseq fun jv' s₂ h₂ => ⟨hK.trans h₂.1, fun x => ⟨(h₂.2 x).1, fun q hq => ?_, fun c hc => ?_⟩⟩
  · rw [(h₂.2 x).2.1 q, hK.zAt]
    split
    · rfl
    · exact (hv x).2.1 q (by omega)
  · rw [(h₂.2 x).2.2 c, hK.zAt]
    split
    · next e => rw [e]
    · exact (hv x).2.2 c (by omega)

/-! ## One selection -/

/-- The buffers before the `n`-th selection. -/
structure Picked (s₀ : St Ideal) (bl : W) (n : ℕ) (s : St Ideal) : Prop where
  keep : Keep [cc0_scratch6, cc0_scratch7, cc0_scratch8] s₀ s
  keys : n < 10 → ∀ x, (∀ q < 200, ln (c14 s) x q = masked (zAt s₀ bl x) (taken (zAt s₀ bl x) n) q) ∧
    ∀ c < 10, ln (c16 s) x c = (Finset.range 20).sup fun t => masked (zAt s₀ bl x) (taken (zAt s₀ bl x) n) (20 * c + t)
  probs : ∀ x, ∀ k < n, ln (c15 s) x (rk (uAt s₀ x) k) = rd2 (c11 s₀) (bl x).toNat (nth (zAt s₀ bl x) k)

theorem sel_val (a b : V Ideal) (n : ℕ) (hn : n < 2 ^ 32) (w : W) (x : S16.Idx) :
    (select (cmpf (F := Ideal) (φ := .f32) .ogt a b) (word n) w x).toNat = if (b x : EReal) < a x then n else (w x).toNat := by
  have e : select (cmpf (F := Ideal) (φ := .f32) .ogt a b) (word n) w x = if (b x : EReal) < a x then word n x else w x := sel_ogt a b _ _ x
  rw [e]
  split
  · exact word_val hn x
  · rfl

theorem v_chunk {s : St Ideal} :
    Tri d i s (foldP i (pickStep (F := Ideal) i) ten (negInf, word 0)) fun (r : V Ideal × W) s' => s' = s ∧
      ∀ x, ∃ m', Scan (ln (c16 s) x) 10 (r.1 x) m' (r.2 x).toNat := by
  refine Tri.foldP ten (fun n (r : V Ideal × W) s' => s' = s ∧ ∀ x, ∃ m', Scan (ln (c16 s) x) n (r.1 x) m' (r.2 x).toNat) ?_
    ⟨rfl, fun x => ⟨⊥, by show Scan _ 0 ((negInf : V Ideal) x) ⊥ 0; rw [negInf_at]; exact Scan.start _⟩⟩
  rintro n hn ⟨m, b⟩ s₁ ⟨hs, h⟩
  subst hs
  rw [ten_get hn]
  have hn10 : n < 10 := hn
  refine (v_l160c hn10).bind fun (v : V Ideal) s₂ h₂ => Tri.pure ⟨h₂.2, fun x => ?_⟩
  obtain ⟨m', hx⟩ := h x
  have hs := hx.step
  rw [← h₂.1 x] at hs
  refine ⟨if (m x : EReal) < v x then m x else max m' (v x), ?_⟩
  show Scan _ _ (select (cmpf (F := Ideal) (φ := .f32) .ogt v m) v m x : EReal) _ (select (cmpf (F := Ideal) (φ := .f32) .ogt v m) (word n) b x).toNat
  rw [sel_val v m n (by omega) b x]
  have e : (select (cmpf (F := Ideal) (φ := .f32) .ogt v m) v m x : EReal) = if (m x : EReal) < v x then v x else m x := sel_ogt v m _ _ x
  rw [e]
  exact hs

theorem zb_val {b : W} (hb : ∀ x, (b x).toNat < 10) (x : S16.Idx) : ((addi (muli b (word 320)) lane : W) x).toNat = 320 * (b x).toNat + (x 0).val := by
  have := hb x
  have : (x 0).val < 16 := (x 0).isLt
  rw [add_val, mul_val, lane_val, word_val (by decide)]
  omega

theorem v_scan {b : W} (hb : ∀ x, (b x).toNat < 10) {s : St Ideal} :
    Tri d i s (foldP i (scanStep (F := Ideal) i (addi (muli b (word 320)) lane)) twenty (negInf, negInf, word 0)) fun (r : V Ideal × V Ideal × W) s' => s' = s ∧
      ∀ x, Scan (fun t => ln (c14 s) x (20 * (b x).toNat + t)) 20 (r.1 x) (r.2.1 x) (r.2.2 x).toNat := by
  refine Tri.foldP twenty (fun n (r : V Ideal × V Ideal × W) s' => s' = s ∧
      ∀ x, Scan (fun t => ln (c14 s) x (20 * (b x).toNat + t)) n (r.1 x) (r.2.1 x) (r.2.2 x).toNat) ?_
    ⟨rfl, fun x => by show Scan _ 0 ((negInf : V Ideal) x) ((negInf : V Ideal) x) 0; rw [negInf_at]; exact Scan.start _⟩
  rintro n hn ⟨m₁, m₂, t⟩ s₁ ⟨hs, h⟩
  subst hs
  rw [twenty_get hn]
  have hn20 : n < 20 := hn
  have hw : ∀ x, ((addi (addi (muli b (word 320)) lane) (word (16 * n)) : W) x).toNat = 16 * (20 * (b x).toNat + n) + (x 0).val := fun x => by
    have := hb x
    have : (x 0).val < 16 := (x 0).isLt
    rw [add_val, zb_val hb, word_val (by omega)]
    omega
  refine (v_gZ hw fun x => ?_).bind fun (v : V Ideal) s₂ h₂ => Tri.pure ⟨h₂.2, fun x => ?_⟩
  · have := hb x
    have : (x 0).val < 16 := (x 0).isLt
    rw [hw]
    omega
  have hs := (h x).step
  rw [← h₂.1 x] at hs
  have e : (select (cmpf (F := Ideal) (φ := .f32) .ogt v m₁) v m₁ x : EReal) = if (m₁ x : EReal) < v x then v x else m₁ x := sel_ogt v m₁ _ _ x
  have e' : (select (cmpf (F := Ideal) (φ := .f32) .ogt v m₁) m₁ (maximumf (F := Ideal) (φ := .f32) m₂ v) x : EReal) =
    if (m₁ x : EReal) < v x then m₁ x else max (m₂ x) (v x) := sel_ogt v m₁ _ _ x
  show Scan _ _ (select (cmpf (F := Ideal) (φ := .f32) .ogt v m₁) v m₁ x : EReal)
    (select (cmpf (F := Ideal) (φ := .f32) .ogt v m₁) m₁ (maximumf (F := Ideal) (φ := .f32) m₂ v) x : EReal)
    (select (cmpf (F := Ideal) (φ := .f32) .ogt v m₁) (word n) t x).toNat
  rw [sel_val v m₁ n (by omega) t x, e, e']
  exact hs

theorem v_pick {bl rkw : W} (hbl : Lt 32 bl) {n : ℕ} (hn : n < 10) {s₀ s : St Ideal} (hz : ∀ x, ∀ q < 200, ⊥ < zAt s₀ bl x q)
    (hrk : ∀ x, (rkw x).toNat = rk (uAt s₀ x) n) (h : Picked s₀ bl n s) :
    Tri d i s (pick (F := Ideal) i (Nat.beq n 9) bl rkw) fun (a : W × V Ideal) s' =>
      (∀ x, (a.1 x).toNat = nth (zAt s₀ bl x) n ∧ (a.2 x : EReal) = rd2 (c9 s₀) (bl x).toNat (nth (zAt s₀ bl x) n)) ∧ Picked s₀ bl (n + 1) s' := by
  unfold pick
  refine v_chunk.bind fun r s₁ h₁ => ?_
  obtain ⟨m, b⟩ := r
  obtain ⟨hs, hb⟩ := h₁
  subst hs
  have hb10 : ∀ x, (b x).toNat < 10 := fun x => by
    obtain ⟨m', hx⟩ := hb x
    have hl : (b x).toNat < 10 ∨ (b x).toNat = 0 := hx.lt
    rcases hl with h | h <;> omega
  refine (v_scan hb10).bind fun r s₂ h₂ => ?_
  obtain ⟨m₁, m₂, t⟩ := r
  obtain ⟨hs, ht⟩ := h₂
  subst hs
  have hch : ∀ x, (t x).toNat < 20 ∧ 20 * (b x).toNat + (t x).toNat = nth (zAt s₀ bl x) n ∧
      (m₂ x : EReal) = (Finset.range 20).sup fun k => masked (zAt s₀ bl x) (taken (zAt s₀ bl x) (n + 1)) (20 * (b x).toNat + k) := fun x => by
    obtain ⟨m', hx⟩ := hb x
    have hk := h.keys hn x
    have hc := choose (zt := ln (c14 s₂) x) (cm := ln (c16 s₂) x) (hz x) ((card_taken (zAt s₀ bl x) n).trans_lt (by omega)) hk.1 (fun c hc => by
      rw [hk.2 c hc]
      exact Finset.sup_congr rfl fun t ht => (hk.1 _ (by have := Finset.mem_range.mp ht; omega)).symm) hx (ht x)
    have e := nth_eq (by omega) hc.2.2.1
    refine ⟨hc.2.1, e, ?_⟩
    rw [taken_succ, ← e]
    exact hc.2.2.2
  have hi : ∀ x, ((addi (muli b (word 20)) t : W) x).toNat = nth (zAt s₀ bl x) n := fun x => by
    have := hb10 x
    have := (hch x).1
    rw [← (hch x).2.1, add_val, mul_val, word_val (by decide)]
    omega
  have hi200 : Lt 200 (addi (muli b (word 20)) t) := fun x => by rw [hi]; exact nth_lt _ (by omega)
  refine (Tri.assume ⟨inb₂ hbl hi200, inb₂ hbl hi200⟩).bind fun _ _ hs => ?_
  subst hs
  rename_i s₁
  refine Tri.bind (Q := fun _ s' => Keep [cc0_scratch6, cc0_scratch8] s₁ s' ∧ (n + 1 < 10 → ∀ x,
      (∀ q < 200, ln (c14 s') x q = masked (zAt s₀ bl x) (taken (zAt s₀ bl x) (n + 1)) q) ∧
      ∀ c < 10, ln (c16 s') x c = (Finset.range 20).sup fun t => masked (zAt s₀ bl x) (taken (zAt s₀ bl x) (n + 1)) (20 * c + t))) ?_ fun _ s₃ h₃ => ?_
  · by_cases hl : n = 9
    · rw [show Nat.beq n 9 = true by rw [hl]; rfl]
      exact Tri.pure ⟨Keep.refl, fun h => by omega⟩
    · rw [show Nat.beq n 9 = false from Bool.eq_false_iff.mpr fun h => hl (Nat.eq_of_beq_eq_true h)]
      have hw : ∀ x, ((addi (addi (muli b (word 320)) lane) (muli t (word 16)) : W) x).toNat = 16 * nth (zAt s₀ bl x) n + (x 0).val := fun x => by
        have := hb10 x
        have := (hch x).1
        have : (x 0).val < 16 := (x 0).isLt
        rw [← (hch x).2.1, add_val, zb_val hb10, mul_val, word_val (by decide)]
        omega
      have hw' : ∀ x, ((addi (muli b (word 16)) lane : W) x).toNat = 16 * (b x).toNat + (x 0).val := fun x => by
        have := hb10 x
        have : (x 0).val < 16 := (x 0).isLt
        rw [add_val, mul_val, lane_val, word_val (by decide)]
        omega
      refine (v_sZ hw fun x => nth_lt _ (by omega)).bind fun _ s₃ h₃ => ?_
      refine (v_s160c hw' hb10).conseq fun _ s₄ h₄ => ⟨h₃.1.mono.trans h₄.1.mono, fun _ x => ⟨fun q hq => ?_, fun c hc => ?_⟩⟩
      · rw [h₄.1.c14, h₃.2 x q, negInf_at, (h.keys hn x).1 q hq, taken_succ]
        unfold masked
        by_cases e : q = nth (zAt s₀ bl x) n
        · rw [if_pos e, if_pos (e ▸ Finset.mem_insert_self _ _)]
        · rw [if_neg e]
          refine if_congr ?_ rfl rfl
          rw [Finset.mem_insert]
          exact (or_iff_right e).symm
      · rw [h₄.2 x c, h₃.1.c16]
        by_cases e : c = (b x).toNat
        · rw [if_pos e, (hch x).2.2, e]
        · rw [if_neg e, (h.keys hn x).2 c hc]
          refine Finset.sup_congr rfl fun k hk => ?_
          have hk := Finset.mem_range.mp hk
          have := (hch x).1
          have hne : 20 * c + k ≠ nth (zAt s₀ bl x) n := by rw [← (hch x).2.1]; omega
          rw [taken_succ]
          unfold masked
          refine if_congr ?_ rfl rfl
          rw [Finset.mem_insert]
          exact (or_iff_right hne).symm
  obtain ⟨hK₃, hk₃⟩ := h₃
  refine (Tri.loadIdx (by decide)).bind fun (q : V Ideal) s₄ h₄ => ?_
  obtain ⟨hq, hs⟩ := h₄
  subst hs
  have hqx : ∀ x, (q x : EReal) = rd2 (c11 s₀) (bl x).toNat (nth (zAt s₀ bl x) n) := fun x => by
    rw [hq]
    exact (gather₂ _ _ x).trans (by rw [hi, ← h.keep.c11, ← hK₃.c11]; rfl)
  have hw : ∀ x, ((addi (muli rkw (word 16)) lane : W) x).toNat = 16 * rk (uAt s₀ x) n + (x 0).val := fun x => by
    have := rk_lt (u := uAt s₀ x) hn
    have : (x 0).val < 16 := (x 0).isLt
    rw [add_val, mul_val, lane_val, word_val (by decide), hrk]
    omega
  refine (v_s160q hw fun x => rk_lt hn).bind fun _ s₅ h₅ => ?_
  refine (Tri.loadIdx (by decide)).bind fun (r : V Ideal) s₆ h₆ => ?_
  obtain ⟨hr, hs⟩ := h₆
  subst hs
  refine Tri.pure ⟨fun x => ⟨hi x, ?_⟩, h.keep.trans (hK₃.mono.trans h₅.1.mono), fun hlt x => ?_, fun x k hk => ?_⟩
  · show (r x : EReal) = _
    rw [hr]
    exact (gather₂ _ _ x).trans (by rw [hi, ← h.keep.c9, ← hK₃.c9, ← h₅.1.c9]; rfl)
  · rw [h₅.1.c14, h₅.1.c16]
    exact hk₃ hlt x
  · rw [h₅.2 x]
    by_cases e : k = n
    · subst e
      rw [if_pos rfl, hqx]
    · rw [if_neg fun he => e (rk_inj (by omega) hn he), hK₃.c15]
      exact h.probs x k (by omega)

end Cert.KernelIdeal.Tile
-- ==== Proof.Group.lean ====
/- A group of sixteen draws, over the extended reals: what it adds to each lane. -/
module

public import proofs.«01_k».proof.Proof.Keys

@[expose] public section

noncomputable section

namespace Cert.KernelIdeal.Tile

open Idealize.ShloMosaic Idealize.SL.Sem Cert.KernelIdeal Cert.Pick
open Facts₀ Facts Idealize.ShloMosaic.ValueIdx

variable [Facts] {d : Dev nD} {i : grid0.Coords}

theorem v_draws {s : St Ideal} : Tri d i s (seqP i zeroF (fun k => gU (F := Ideal) i lane (word k)) ten) fun (u : ℕ → V Ideal) s' =>
    (∀ k < 10, ∀ x, (u k x : EReal) = uAt s x k) ∧ s' = s := by
  refine Tri.seqP ten (fun _ s' => s' = s) (fun k (a : V Ideal) => ∀ x, (a x : EReal) = uAt s x k) (fun n hn s₁ hs => ?_) rfl
  subst hs
  rw [ten_get hn]
  have hn10 : n < 10 := hn
  refine (v_gU .lane (.word hn10)).conseq fun a s' h => ⟨fun x => ?_, h.2⟩
  rw [h.1, lane_val, word_val (by omega)]
  rfl

theorem rk_congr {u v : ℕ → EReal} (h : ∀ k < 10, u k = v k) {j : ℕ} (hj : j < 10) : rk u j = rk v j := by
  classical
  unfold rk
  refine congrArg Finset.card (Finset.filter_congr fun k hk => ?_)
  unfold Under
  rw [h k (Finset.mem_range.mp hk), h j hj]

theorem v_picks {bl : W} (hbl : Lt 32 bl) {s₀ s : St Ideal} (hz : ∀ x, ∀ q < 200, ⊥ < zAt s₀ bl x q) {u : ℕ → V Ideal}
    (hu : ∀ k < 10, ∀ x, (u k x : EReal) = uAt s₀ x k) (h : Picked s₀ bl 0 s) :
    Tri d i s (seqP i ((word 0, zeroF) : W × V Ideal) (fun k => pick (F := Ideal) i (Nat.beq k 9) bl (rank u k)) ten) fun (p : ℕ → W × V Ideal) s' =>
      (∀ k < 10, ∀ x, ((p k).1 x).toNat = nth (zAt s₀ bl x) k ∧ ((p k).2 x : EReal) = rd2 (c9 s₀) (bl x).toNat (nth (zAt s₀ bl x) k)) ∧ Picked s₀ bl 10 s' := by
  refine Tri.seqP ten (fun n s' => Picked s₀ bl n s') (fun k (a : W × V Ideal) => ∀ x, (a.1 x).toNat = nth (zAt s₀ bl x) k ∧
    (a.2 x : EReal) = rd2 (c9 s₀) (bl x).toNat (nth (zAt s₀ bl x) k)) (fun n hn s₁ hs => ?_) h
  rw [ten_get hn]
  have hn10 : n < 10 := hn
  exact v_pick hbl hn10 hz (fun x => (rank_val u hn10 x).trans (rk_congr (fun k hk => hu k hk x) hn10)) hs

theorem v_expo {bl : W} {b : ℕ → W} {wt : ℕ → V Ideal} (hbl : Lt 32 bl) (hb : ∀ n < 10, Lt 200 (b n)) {g : ℕ} (hg : g < 8) {s : St Ideal} :
    Tri d i s (expo (F := Ideal) i bl b wt g) fun (a : V Ideal) s' =>
      (∀ x, (a x : EReal) = ∑ k ∈ Finset.range 10, wt k x * rd3 (c10 s) (bl x).toNat (b k x).toNat g) ∧ s' = s := by
  have h : ∀ n < 10, _ := fun n hn => inb₃ hbl (hb n hn) (Lt.word hg)
  refine (Tri.assume ⟨h 0 (by omega), h 1 (by omega), h 2 (by omega), h 3 (by omega), h 4 (by omega), h 5 (by omega), h 6 (by omega), h 7 (by omega),
    h 8 (by omega), h 9 (by omega)⟩).bind fun _ _ hs => ?_
  subst hs
  rename_i s
  refine Tri.foldP ten (fun n (a : V Ideal) s' => (∀ x, (a x : EReal) = ∑ k ∈ Finset.range n, wt k x * rd3 (c10 s) (bl x).toNat (b k x).toNat g) ∧ s' = s)
    (fun n hn a s₁ ha => ?_) ⟨fun x => zeroF_at x, rfl⟩
  obtain ⟨ha, hs⟩ := ha
  subst hs
  rw [ten_get hn]
  have hn10 : n % 10 = n := Nat.mod_eq_of_lt hn
  refine (Tri.loadIdx (by decide)).bind fun (e : V Ideal) s₂ h₂ => Tri.pure ⟨fun x => ?_, h₂.2⟩
  show (a x : EReal) + wt n x * e x = _
  rw [ha, Finset.sum_range_succ]
  refine congrArg (fun t : EReal => _ + wt n x * t) ?_
  rw [h₂.1]
  refine (gather₃ _ _ x).trans ?_
  rw [hn10, word_val (by omega)]
  rfl

theorem v_expos {bl : W} {b : ℕ → W} {wt : ℕ → V Ideal} (hbl : Lt 32 bl) (hb : ∀ n < 10, Lt 200 (b n)) {s : St Ideal} :
    Tri d i s (seqP i zeroF (expo (F := Ideal) i bl b wt) eight) fun (f : ℕ → V Ideal) s' =>
      (∀ g < 8, ∀ x, (f g x : EReal) = ∑ k ∈ Finset.range 10, wt k x * rd3 (c10 s) (bl x).toNat (b k x).toNat g) ∧ s' = s := by
  refine Tri.seqP eight (fun _ s' => s' = s) (fun g (a : V Ideal) => ∀ x, (a x : EReal) =
    ∑ k ∈ Finset.range 10, wt k x * rd3 (c10 s) (bl x).toNat (b k x).toNat g) (fun n hn s₁ hs => ?_) rfl
  subst hs
  rw [eight_get hn]
  exact v_expo hbl hb hn

theorem v_likes {tp : V Ideal} {s : St Ideal} :
    Tri d i s (foldP i (likeStep (F := Ideal) i tp) ten (zeroF, zeroF, zeroF)) fun (r : V Ideal × V Ideal × V Ideal) s' =>
      (∀ x, (r.1 x : EReal) = logsE (ln (c15 s) x) ∧ (r.2.1 x : EReal) = leftE (ln (c15 s) x) (tp x)) ∧ s' = s := by
  refine (Tri.foldP ten (fun n (r : V Ideal × V Ideal × V Ideal) s' => (∀ x, (r.1 x : EReal) = ∑ m ∈ Finset.range n, Ideal.log (ln (c15 s) x m) ∧
      (r.2.1 x : EReal) = ∑ m ∈ Finset.range n, Ideal.log (tp x - ∑ l ∈ Finset.range m, ln (c15 s) x l) ∧
      (r.2.2 x : EReal) = ∑ m ∈ Finset.range n, ln (c15 s) x m) ∧ s' = s) (fun n hn r s₁ h => ?_)
    ⟨fun x => ⟨zeroF_at x, zeroF_at x, zeroF_at x⟩, rfl⟩).conseq fun r s' h => ⟨fun x => ⟨(h.1 x).1, (h.1 x).2.1⟩, h.2⟩
  obtain ⟨a, b, c⟩ := r
  obtain ⟨h, hs⟩ := h
  subst hs
  rw [ten_get hn]
  refine (v_l160q hn).bind fun (q : V Ideal) s₂ h₂ => Tri.pure ⟨fun x => ⟨?_, ?_, ?_⟩, h₂.2⟩
  · show (a x : EReal) + Ideal.log (q x) = _
    have := (h x).1
    rw [Finset.sum_range_succ, ← this, h₂.1]
  · show (b x : EReal) + Ideal.log (tp x - c x) = _
    have h1 := (h x).2.1
    have h2 : (c x : EReal) = _ := (h x).2.2
    rw [Finset.sum_range_succ, ← h1, h2]
  · show (c x : EReal) + q x = _
    have := (h x).2.2
    rw [Finset.sum_range_succ, ← this, h₂.1]

theorem totalE_congr {r r' : ℕ → EReal} (h : ∀ k < 10, r k = r' k) : totalE r = totalE r' := Finset.sum_congr rfl fun k hk => h k (Finset.mem_range.mp hk)
theorem weightE_congr {r r' : ℕ → EReal} (h : ∀ k < 10, r k = r' k) {k : ℕ} (hk : k < 10) : weightE r k = weightE r' k := by
  unfold weightE
  rw [totalE_congr h, h k hk]
theorem entL_congr {f f' : ℕ → EReal} {n : ℕ} (h : ∀ g < n, f g = f' g) (inv : EReal) (l : List ℕ) (hl : ∀ g ∈ l, g < n) (s : EReal) : entL f inv l s = entL f' inv l s := by
  induction l generalizing s with
  | nil => rfl
  | cons k l ih =>
    unfold entL
    rw [h k (hl k List.mem_cons_self), ih fun g hg => hl g (List.mem_cons_of_mem _ hg)]
theorem gainE_congr {r r' f f' : ℕ → EReal} (hr : ∀ k < 10, r k = r' k) (hf : ∀ g < 8, f g = f' g) (srel sl sd : EReal) : gainE r f srel sl sd = gainE r' f' srel sl sd := by
  unfold gainE deltaE entE
  rw [totalE_congr hr, Finset.sum_congr rfl fun g hg => hf g (Finset.mem_range.mp hg), entL_congr hf _ _ (by decide)]
theorem logsE_congr {q q' : ℕ → EReal} (h : ∀ m < 10, q m = q' m) : logsE q = logsE q' :=
  Finset.sum_congr rfl fun m hm => by rw [h m (Finset.mem_range.mp hm)]
theorem leftE_congr {q q' : ℕ → EReal} (h : ∀ m < 10, q m = q' m) (tp : EReal) : leftE q tp = leftE q' tp :=
  Finset.sum_congr rfl fun m hm => by
    have hm := Finset.mem_range.mp hm
    rw [Finset.sum_congr rfl fun l hl => h l (by have := Finset.mem_range.mp hl; omega)]

theorem v_groupMain {bl : W} (hbl : Lt 32 bl) {acc : V Ideal} {s : St Ideal} (hR : Ready s) (hz : ∀ x, ∀ q < 200, ⊥ < zAt s bl x q) :
    Tri d i s (groupMain (F := Ideal) i bl acc) fun (acc' : V Ideal) s' => Keep [cc0_scratch6, cc0_scratch7, cc0_scratch8] s s' ∧
      ∀ x, (acc' x : EReal) = acc x + drawGain (rd2 (c8 s) (bl x).toNat) (rd2 (c9 s) (bl x).toNat) (rd3 (c10 s) (bl x).toNat)
        (rd2 (c12 s) (x 0).val) (rd2 (c13 s) (x 0).val) := by
  unfold groupMain
  refine (Tri.assume ⟨inb₁ hbl, inb₁ hbl⟩).bind fun _ _ hs => ?_
  subst hs
  rename_i s
  refine (v_zLoop hbl).bind fun _ s₁ h₁ => ?_
  obtain ⟨hK₁, hz₁⟩ := h₁
  refine v_draws.bind fun u s₂ h₂ => ?_
  obtain ⟨hu, hs⟩ := h₂
  subst hs
  have hu : ∀ k < 10, ∀ x, (u k x : EReal) = uAt s x k := fun k hk x => (hu k hk x).trans (by unfold uAt; rw [hK₁.c13])
  have hP : Picked s bl 0 s₂ := ⟨hK₁.mono, fun _ x => ⟨fun q hq => ((hz₁ x).1 q hq).trans rfl, fun c hc => ((hz₁ x).2 c hc).trans rfl⟩, fun x k hk => absurd hk (Nat.not_lt_zero k)⟩
  refine (v_picks hbl hz hu hP).bind fun p s₃ h₃ => ?_
  obtain ⟨hp, hP⟩ := h₃
  have hK := hP.keep
  refine (Tri.loadIdx (by decide)).bind fun (tp : V Ideal) s₄ h₄ => ?_
  obtain ⟨htp, hs⟩ := h₄
  subst hs
  refine (Tri.loadIdx (by decide)).bind fun (srel : V Ideal) s₅ h₅ => ?_
  obtain ⟨hsr, hs⟩ := h₅
  subst hs
  have hp200 : ∀ n < 10, Lt 200 (p n).1 := fun n hn x => by rw [(hp n hn x).1]; exact nth_lt _ (by omega)
  refine (v_expos hbl hp200).bind fun f s₆ h₆ => ?_
  obtain ⟨hf, hs⟩ := h₆
  subst hs
  refine v_likes.bind fun r s₇ h₇ => ?_
  obtain ⟨hl, hs⟩ := h₇
  subst hs
  obtain ⟨sl, sd, c⟩ := r
  refine Tri.pure ⟨hK, fun x => ?_⟩
  show (acc x : EReal) + gain (fun k => (p k).2) f srel sl sd x = _
  rw [gain_at]
  refine congrArg (fun t : EReal => acc x + t) ?_
  have e8 := hK.c8
  have htpx : (tp x : EReal) = ∑ q ∈ Finset.range 200, pr (rd2 (c8 s) (bl x).toNat) q := by
    rw [htp, ← (hR _ (hbl x)).2.1, ← hK.c17]
    exact gather₁ _ _ x
  have hsrx : (srel x : EReal) = ∑ q ∈ Finset.range 200, rd2 (c9 s) (bl x).toNat q := by
    rw [hsr, ← (hR _ (hbl x)).2.2, ← hK.c18]
    exact gather₁ _ _ x
  have hq : ∀ m < 10, ln (c15 s₇) x m = ordered (rd2 (c13 s) (x 0).val) (fun k => pr (rd2 (c8 s) (bl x).toNat) (nth (zAt s bl x) k)) m := fun m hm =>
    eq_ordered (fun k hk => (hP.probs x k hk).trans ((hR _ (hbl x)).1 _ (nth_lt _ (by omega)))) hm
  have hr : ∀ k < 10, ((p k).2 x : EReal) = rd2 (c9 s) (bl x).toNat (nth (zAt s bl x) k) := fun k hk => (hp k hk x).2
  have hfx : ∀ g < 8, (f g x : EReal) = expoE (fun k => rd2 (c9 s) (bl x).toNat (nth (zAt s bl x) k)) (fun k => rd3 (c10 s) (bl x).toNat (nth (zAt s bl x) k)) g := by
    intro g hg
    rw [hf g hg x]
    refine Finset.sum_congr rfl fun k hk => ?_
    have hk := Finset.mem_range.mp hk
    rw [weight_at, weightE_congr hr hk, (hp k hk x).1, hK.c10]
  rw [show (sl x : EReal) = _ from (hl x).1, show (sd x : EReal) = _ from (hl x).2, htpx, hsrx, logsE_congr hq, leftE_congr hq]
  exact gainE_congr hr hfx _ _ _

end Cert.KernelIdeal.Tile
-- ==== Proof.Value.lean ====
/- What a tile leaves, over the extended reals: each lane's total of the gains of its draws. -/
module

public import proofs.«01_k».proof.Proof.Group
public import proofs.«01_k».proof.Proof.Host

@[expose] public section

noncomputable section

namespace Cert.KernelIdeal.Tile

open Idealize.ShloMosaic Idealize.SL.Sem Cert.KernelIdeal Cert.KernelIdeal.Gen Cert.Pick
open Facts₀ Facts Idealize.ShloMosaic.ValueIdx

variable [Facts] (m : (ℓ : Loc nD τ sig) → Buf (Elt Ideal) ℓ) (d : Dev nD)

/-! ## The arguments -/

def A0 : B2 1024 200 := m (loc main_arg0 d)
def A1 : B2 1024 200 := m (loc main_arg1 d)
def A2 : B3 1024 200 8 := m (loc main_arg2 d)
def A3 : B2 25600 200 := m (loc main_arg3 d)
def A4 : B2 25600 10 := m (loc main_arg4 d)

/-- What draw `D` adds, of list `L`. -/
def listGain (L D : ℕ) : EReal :=
  drawGain (rd2 (A0 m d) L) (rd2 (A1 m d) L) (rd3 (A2 m d) L) (rd2 (A3 m d) D) (rd2 (A4 m d) D)

def wn (i : grid0.Coords) : ℕ := 2 * (i 1).val + (i 0).val

theorem rd2_rows {N n M : ℕ} {f : B2 N M} {g : B2 n M} {o : ℕ} (ho : o + n ≤ N) (h : ∀ (r : Fin n) (c : Fin M), g (ix2 r c) = f (ix2 ⟨o + r.val, by omega⟩ c))
    {r : ℕ} (hr : r < n) : rd2 g r = rd2 f (o + r) := by
  funext c
  by_cases hc : c < M
  · rw [rd2_pos g hr hc, rd2_pos f (by omega : o + r < N) hc]
    exact h ⟨r, hr⟩ ⟨c, hc⟩
  · unfold rd2
    rw [dif_neg fun h => hc h.2, dif_neg fun h => hc h.2]
theorem rd3_rows {N n M G : ℕ} {f : B3 N M G} {g : B3 n M G} {o : ℕ} (ho : o + n ≤ N)
    (h : ∀ (r : Fin n) (c : Fin M) (e : Fin G), g (ix3 r c e) = f (ix3 ⟨o + r.val, by omega⟩ c e)) {r : ℕ} (hr : r < n) : rd3 g r = rd3 f (o + r) := by
  funext c e
  by_cases hc : c < M ∧ e < G
  · rw [rd3_pos g hr hc.1 hc.2, rd3_pos f (by omega : o + r < N) hc.1 hc.2]
    exact h ⟨r, hr⟩ ⟨c, hc.1⟩ ⟨e, hc.2⟩
  · unfold rd3
    rw [dif_neg fun h => hc h.2, dif_neg fun h => hc h.2]

variable (i : grid0.Coords)

theorem wn_lt : wn i < 32 := by
  have h1 : (i 1).val < 16 := (i 1).isLt
  have h0 : (i 0).val < 2 := (i 0).isLt
  unfold wn
  omega

theorem begun_8 (s : St Ideal) {r : ℕ} (hr : r < 32) : rd2 (c8 (begun m d i s)) r = rd2 (A0 m d) (32 * wn i + r) := by
  refine rd2_rows (by have := wn_lt i; omega) (fun r c => ?_) hr
  show A0 m d _ = _
  refine congrArg (A0 m d) (funext fun a => Fin.ext ?_)
  match a with
  | 0 => show k0_off1 i 0 + 1 * r.val = 32 * wn i + r.val
         rw [k0_off1_eq]; simp [wn]; omega
  | 1 => show k0_off1 i 1 + 1 * c.val = c.val
         rw [k0_off1_eq]; simp
theorem begun_9 (s : St Ideal) {r : ℕ} (hr : r < 32) : rd2 (c9 (begun m d i s)) r = rd2 (A1 m d) (32 * wn i + r) := by
  refine rd2_rows (by have := wn_lt i; omega) (fun r c => ?_) hr
  show A1 m d _ = _
  refine congrArg (A1 m d) (funext fun a => Fin.ext ?_)
  match a with
  | 0 => show k0_off1 i 0 + 1 * r.val = 32 * wn i + r.val
         rw [k0_off1_eq]; simp [wn]; omega
  | 1 => show k0_off1 i 1 + 1 * c.val = c.val
         rw [k0_off1_eq]; simp
theorem begun_10 (s : St Ideal) {r : ℕ} (hr : r < 32) : rd3 (c10 (begun m d i s)) r = rd3 (A2 m d) (32 * wn i + r) := by
  refine rd3_rows (by have := wn_lt i; omega) (fun r c e => ?_) hr
  show A2 m d _ = _
  refine congrArg (A2 m d) (funext fun a => Fin.ext ?_)
  match a with
  | 0 => show k0_off2 i 0 + 1 * r.val = 32 * wn i + r.val
         rw [k0_off2_eq]; simp [wn]; omega
  | 1 => show k0_off2 i 1 + 1 * c.val = c.val
         rw [k0_off2_eq]; simp
  | 2 => show k0_off2 i 2 + 1 * e.val = e.val
         rw [k0_off2_eq]; simp

variable (k : Fin k0_t7_loop.trips)

theorem trip_lt : k.val < 50 := k.isLt

theorem fetched_12 (s : St Ideal) {r : ℕ} (hr : r < 16) : rd2 (c12 (fetched m d i k s)) r = rd2 (A3 m d) (800 * wn i + 16 * k.val + r) := by
  refine rd2_rows (by have := wn_lt i; have := trip_lt k; omega) (fun r c => ?_) hr
  show A3 m d _ = _
  refine congrArg (A3 m d) (funext fun a => Fin.ext ?_)
  match a with
  | 0 => show k0_off3 i k 0 + 1 * r.val = 800 * wn i + 16 * k.val + r.val
         rw [k0_off3_eq]; simp [wn]; omega
  | 1 => show k0_off3 i k 1 + 1 * c.val = c.val
         rw [k0_off3_eq]; simp
theorem fetched_13 (s : St Ideal) {r : ℕ} (hr : r < 16) : rd2 (c13 (fetched m d i k s)) r = rd2 (A4 m d) (800 * wn i + 16 * k.val + r) := by
  refine rd2_rows (by have := wn_lt i; have := trip_lt k; omega) (fun r c => ?_) hr
  show A4 m d _ = _
  refine congrArg (A4 m d) (funext fun a => Fin.ext ?_)
  match a with
  | 0 => show k0_off4 i k 0 + 1 * r.val = 800 * wn i + 16 * k.val + r.val
         rw [k0_off4_eq]; simp [wn]; omega
  | 1 => show k0_off4 i k 1 + 1 * c.val = c.val
         rw [k0_off4_eq]; simp

theorem fetched_keep (s : St Ideal) : Keep [cc0_scratch4, cc0_scratch5] s (fetched m d i k s) := by
  unfold fetched
  exact (Keep.update (b := cc0_scratch4)).mono.trans (Keep.update (b := cc0_scratch5)).mono

/-! ## The tile's total -/

/-- The draw's noise plus its list's scores, above minus infinity. -/
def Fine : Prop := ∀ d, ∀ L < 1024, ∀ D < 25600, ∀ q < 200, ⊥ < rd2 (A3 m d) D q + rd2 (A0 m d) L q

/-- The tile's rows in the buffers, and the batches' work done. -/
def Held (s : St Ideal) : Prop := Ready s ∧ ∀ r < 32, rd2 (c8 s) r = rd2 (A0 m d) (32 * wn i + r) ∧ rd2 (c9 s) r = rd2 (A1 m d) (32 * wn i + r) ∧
  rd3 (c10 s) r = rd3 (A2 m d) (32 * wn i + r)

theorem Ready.keep {l : List (Ref sig .scVector)} {s s' : St Ideal} (hR : Ready s) (h : Keep l s s') (h8 : cc0_scratch0 ∉ l := by decide) (h9 : cc0_scratch1 ∉ l := by decide)
    (h11 : cc0_scratch3 ∉ l := by decide) (h17 : cc0_scratch9 ∉ l := by decide) (h18 : cc0_scratch10 ∉ l := by decide) : Ready s' := by
  unfold Ready
  rw [h.c8 h8, h.c9 h9, h.c11 h11, h.c17 h17, h.c18 h18]
  exact hR
theorem Held.keep {m d i} {l : List (Ref sig .scVector)} {s s' : St Ideal} (hH : Held m d i s) (h : Keep l s s') (h8 : cc0_scratch0 ∉ l := by decide)
    (h9 : cc0_scratch1 ∉ l := by decide) (h10 : cc0_scratch2 ∉ l := by decide)
    (h11 : cc0_scratch3 ∉ l := by decide) (h17 : cc0_scratch9 ∉ l := by decide) (h18 : cc0_scratch10 ∉ l := by decide) : Held m d i s' := by
  refine ⟨hH.1.keep h h8 h9 h11 h17 h18, ?_⟩
  rw [h.c8 h8, h.c9 h9, h.c10 h10]
  exact hH.2

/-- Lane `x`'s total after `n` groups. -/
def laneSum (i : grid0.Coords) (n x : ℕ) : EReal := ∑ k ∈ Finset.range n, listGain m d (32 * wn i + (16 * k + x) / 25) (800 * wn i + 16 * k + x)

def value (hm : Fine m) : Spec m where
  Inv := fun d i n acc s => Held m d i s ∧ ∀ x, (acc x : EReal) = laneSum m d i n (x 0).val
  start := fun d i s => v_batches.conseq fun _ s' h => by
    refine ⟨⟨h.2, fun r hr => ?_⟩, fun x => zeroF_at x⟩
    rw [h.1.c8, h.1.c9, h.1.c10]
    exact ⟨begun_8 m d i s hr, begun_9 m d i s hr, begun_10 m d i s hr⟩
  step := fun d i k acc s h => by
    obtain ⟨hH, ha⟩ := h
    have hH := hH.keep (fetched_keep m d i k s)
    have hk := trip_lt k
    have hw := wn_lt i
    have hx : ∀ x : S16.Idx, (x 0).val < 16 := fun x => (x 0).isLt
    refine (v_groupMain (Lt.row k) hH.1 fun x q hq => ?_).conseq fun acc' s' h' => ⟨hH.keep h'.1, fun x => ?_⟩
    · have := hx x
      unfold zAt
      rw [(hH.2 _ (Lt.row k x)).1, fetched_12 m d i k s (hx x), row_val]
      exact hm d _ (by omega) _ (by omega) q hq
    · rw [h'.2 x, ha x, (hH.2 _ (Lt.row k x)).1, (hH.2 _ (Lt.row k x)).2.1, (hH.2 _ (Lt.row k x)).2.2, fetched_12 m d i k s (hx x), fetched_13 m d i k s (hx x), row_val]
      exact (Finset.sum_range_succ _ _).symm

/-! ## The result -/

theorem rows_at {m d} (hm : Fine m) {g : Buf (Elt Ideal) (loc main_v0 d)} (h : Rows d (value m hm) g) (w : Fin 32) (x : Fin 16) :
    (g : B2 32 16) (ix2 w x) = ∑ k ∈ Finset.range 50, listGain m d (32 * w.val + (16 * k + x.val) / 25) (800 * w.val + 16 * k + x.val) := by
  have h0 : w.val % 2 < 2 := by omega
  have h1 : w.val / 2 < 16 := by omega
  obtain ⟨s, -, hs⟩ := h ((⟨w.val % 2, h0⟩ : Fin 2), (⟨w.val / 2, h1⟩ : Fin 16))
  have e := hs (ix1 x)
  have hw : wn (co ⟨w.val % 2, h0⟩ ⟨w.val / 2, h1⟩) = w.val := by
    show 2 * (w.val / 2) + w.val % 2 = w.val
    omega
  unfold laneSum at e
  rw [hw] at e
  refine Eq.trans ?_ e
  rw [View.read_apply]
  have hr : Shape.reshapeEquiv (s := S1x16) (s' := S16) Facts₀.squeezes_S1x16_S16.numel_eq (ix1 x) = ix2 (0 : Fin 1) x := by
    refine Shape.reshapeEquiv_eq_of_rowMajor _ ?_
    rw [Shape.rowMajor_val_two, Shape.rowMajor_val_one]
    show 0 * 16 + x.val = x.val
    omega
  refine congrArg (g : B2 32 16) (funext fun a => Fin.ext ?_)
  show _ = ((Rect.unit (s := S32x16) (k0_off26 (co ⟨w.val % 2, h0⟩ ⟨w.val / 2, h1⟩)) S1x16.size (Facts₀.k0_off26_inb _)).emb
    (Shape.reshapeEquiv (s := S1x16) (s' := S16) Facts₀.squeezes_S1x16_S16.numel_eq (ix1 x)) a).val
  rw [hr]
  match a with
  | 0 => show w.val = k0_off26 (co ⟨w.val % 2, h0⟩ ⟨w.val / 2, h1⟩) 0 + 1 * 0
         rw [k0_off26_eq]; simp [co]; omega
  | 1 => show x.val = k0_off26 (co ⟨w.val % 2, h0⟩ ⟨w.val / 2, h1⟩) 1 + 1 * x.val
         rw [k0_off26_eq]; simp

end Cert.KernelIdeal.Tile
-- ==== Proof.Sorted.lean ====
/- A stable sort by a key: the positions in the order of the key, equal keys in the order of the positions. -/
module

public import proofs.«01_k».proof.Proof.Ranks
public import proofs.«01_k».proof.ReferenceIdeal
public import Idealize.ShloMosaic.Lib.SortPrefix
public import Idealize.ShloMosaic.Lib.ValueIdx

@[expose] public section

noncomputable section

namespace Cert.Pick

open Idealize.ShloMosaic

/-- Position `a` comes before `b`: its key is smaller, or as large and the position earlier. -/
def Ahead {n : ℕ} (key : Fin n → EReal) (a b : Fin n) : Prop := key a < key b ∨ (key a = key b ∧ a < b)

/-- Relations that agree on a later element against an earlier one sort a list alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The first positions of a sort by a key. -/
theorem sortedFrom_first {n k : ℕ} (hk : k ≤ n) (B : Fin n → Fin n → Bool) (key : Fin n → EReal)
    (hB : ∀ a b, B a b = decide (key a < key b)) (σ : Fin k → Fin n) (hord : ∀ i j, i < j → Ahead key (σ i) (σ j))
    (hdom : ∀ i p, (∀ j, σ j ≠ p) → Ahead key (σ i) p) (i : Fin k) : sortedFrom B (i.castLE hk) = σ i := by
  classical
  let R : Fin n → Fin n → Bool := fun a b => decide (key a < key b) || (decide (key a = key b) && decide (a < b))
  have hR : StrictTotalBefore R := by
    refine StrictTotalBefore.of_key_then_position (fun x y : EReal => decide (x < y)) key ?_ ?_ ?_
    · intro a; simp
    · intro a b c h h'
      simp only [decide_eq_true_eq] at h h' ⊢
      exact h.trans h'
    · intro a b
      simp only [decide_eq_true_eq]
      exact lt_trichotomy a b
  have hRA : ∀ a b, Ahead key a b → R a b = true := by
    intro a b h
    show (decide (key a < key b) || (decide (key a = key b) && decide (a < b))) = true
    simp only [Bool.or_eq_true, Bool.and_eq_true, decide_eq_true_eq]
    exact h
  have hs : sortPositions n B = sortPositions n R := by
    refine stableSort_later B R (List.finRange n) ((List.pairwise_lt_finRange n).imp fun {a b} hab => ?_)
    rw [hB b a]
    show decide (key b < key a) = (decide (key b < key a) || (decide (key b = key a) && decide (b < a)))
    rw [decide_eq_false (asymm hab : ¬b < a), Bool.and_false, Bool.or_false]
  have he : sortedFrom B (i.castLE hk) = sortedFrom R (i.castLE hk) := by
    unfold sortedFrom
    rw [List.get_eq_getElem, List.get_eq_getElem]
    simp only [hs]
    rfl
  rw [he]
  refine hR.sortedFrom_eq_of_prefix hk σ ?_ (fun i j hij => hR.asymm _ _ (hRA _ _ (hord i j hij)))
    (fun i p hp => hR.asymm _ _ (hRA _ _ (hdom i p hp))) i
  intro i j hij
  by_contra hne
  rcases lt_or_gt_of_ne hne with h | h
  · have := hRA _ _ (hord i j h)
    rw [hij, hR.irrefl] at this
    exact absurd this (by decide)
  · have := hRA _ _ (hord j i h)
    rw [hij, hR.irrefl] at this
    exact absurd this (by decide)

/-- The two hundred positions in order, where a smaller key is a larger `z`. -/
theorem sortedFrom_nth (B : Fin 200 → Fin 200 → Bool) (key : Fin 200 → EReal) (hB : ∀ a b, B a b = decide (key a < key b))
    (z : ℕ → EReal) (hz : ∀ a b : Fin 200, key a < key b ↔ z b < z a) (k : Fin 200) :
    (sortedFrom B k).val = nth z k := by
  have hA : ∀ a b : Fin 200, Before z a.val b.val → Ahead key a b := by
    rintro a b (h | ⟨h, h'⟩)
    · exact .inl ((hz a b).mpr h)
    · refine .inr ⟨le_antisymm (le_of_not_gt fun hlt => ?_) (le_of_not_gt fun hlt => ?_), h'⟩
      · exact absurd h (ne_of_gt ((hz b a).mp hlt)).symm
      · exact absurd h (ne_of_gt ((hz a b).mp hlt))
  refine congrArg Fin.val (sortedFrom_first (k := 200) le_rfl B key hB
    (fun k : Fin 200 => (⟨nth z k.val, nth_lt z (by omega)⟩ : Fin 200)) (fun i j hij => hA _ _ ?_) (fun i p hp => hA _ _ ?_) k)
  · exact nth_before hij (by omega)
  · refine nth_first i.isLt le_rfl p.isLt fun j hj he => hp ⟨j, hj⟩ (Fin.ext he.symm)

/-- The ten positions by the size of the draws. -/
theorem sortedFrom_rank (B : Fin 10 → Fin 10 → Bool) (u : ℕ → EReal) (hB : ∀ a b : Fin 10, B a b = decide (u a < u b)) (k : Fin 10) :
    sortedFrom B k = (rkEquiv u).symm k := by
  refine sortedFrom_first (k := 10) le_rfl B (fun a => u a) hB (fun k => (rkEquiv u).symm k) (fun i j hij => ?_) (fun i p hp => ?_) k
  · have hne : (rkEquiv u).symm i ≠ (rkEquiv u).symm j := fun h => absurd ((rkEquiv u).symm.injective h) (ne_of_lt hij)
    rcases Under.total (u := u) (fun h => hne (Fin.ext h)) with h | h
    · exact h
    · exfalso
      have := rk_mono ((rkEquiv u).symm j).isLt h
      rw [← rkEquiv_val, ← rkEquiv_val, Equiv.apply_symm_apply, Equiv.apply_symm_apply] at this
      exact absurd hij (asymm this)
  · exact absurd ((rkEquiv u).symm_apply_apply p) (hp _)

/-- The comparison the sorts make, of two numbers: which is smaller. -/
theorem comparator_lt (l r : EReal × BitVec 32) :
    (Cert.ReferenceIdeal.comparator_f32_i32_d2 (F := Ideal) l r == 1#1) = decide (l.1 < r.1) := by
  obtain ⟨x, i⟩ := l
  obtain ⟨y, j⟩ := r
  have hc : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h0 : FloatOps.ofBits (F := Ideal) .f32 0x00000000#32 = (0 : EReal) := Ideal.ofBits_zero_f32
    rw [h0]
    simp only [Scalar.select]
    have h1 : FloatOps.cmpf (F := Ideal) (φ := .f32) .une x x = 0#1 := by
      show BitVec.ofBool (decide (x ≠ x)) = 0#1
      simp
    have h2 : FloatOps.cmpf (F := Ideal) (φ := .f32) .oeq x 0 = BitVec.ofBool (decide (x = 0)) := rfl
    rw [h1, h2]
    by_cases hx : x = 0
    · subst hx; simp
    · simp [hx]
  unfold Cert.ReferenceIdeal.comparator_f32_i32_d2
  show (FloatOps.cmpfTotal (F := Ideal) (φ := .f32) .lt _ _ == 1#1) = decide (x < y)
  rw [hc x, hc y]
  show (BitVec.ofBool (decide (x < y)) == 1#1) = decide (x < y)
  by_cases h : x < y <;> simp [h]

end Cert.Pick
-- ==== Proof.Reference.lean ====
/- The reference's values at an index: the shares of the scores, the chosen places and their order. -/
module

public import proofs.«01_k».proof.Proof.Sorted
public import proofs.«01_k».proof.Proof.Draw
public import proofs.«01_k».proof.Proof.Gen.ReferenceIdeal.Run
public import Idealize.ShloMosaic.Lib.Pointwise

@[expose] public section

noncomputable section

namespace Cert.ReferenceIdeal.Value

open Idealize.ShloMosaic Idealize.SL.Sem Cert.ReferenceIdeal Cert.Pick Cert.KernelIdeal.Tile

variable [Cert.ReferenceIdeal.Facts]

abbrev Vals : Type := Valuation τ sig (Elt Ideal)

variable (V0 : Vals)

def X0 : B2 1024 200 := V0 (Proc.devRef .tc main_arg0)
def X1 : B2 1024 200 := V0 (Proc.devRef .tc main_arg1)
def X2 : B3 1024 200 8 := V0 (Proc.devRef .tc main_arg2)
def X3 : B2 25600 200 := V0 (Proc.devRef .tc main_arg3)
def X4 : B2 25600 10 := V0 (Proc.devRef .tc main_arg4)

def Y1 : B3 1024 25 10 := res_main_v1 V0
def Y12 : B2 1024 200 := res_main_v12 V0
def Y17 : B3 1024 25 200 := res_main_v17 V0

theorem rd2_ix {n m : ℕ} (f : B2 n m) (r : Fin n) (c : Fin m) : f (ix2 r c) = rd2 f r c := (rd2_at f (ix2 r c)).symm
theorem rd3_ix {n m p : ℕ} (f : B3 n m p) (r : Fin n) (c : Fin m) (g : Fin p) : f (ix3 r c g) = rd3 f r c g := (rd3_at f (ix3 r c g)).symm

/-- A sum over a mask that holds at one place. -/
theorem mask_sum {n : ℕ} (c : Fin n → BitVec 1) (t : ℕ) (ht : t < n) (hc : ∀ q : Fin n, c q = BitVec.ofBool (decide (t = q.val)))
    (f : Fin n → EReal) : ∑ q, Scalar.select (c q) (f q) 0 = f ⟨t, ht⟩ := by
  rw [Finset.sum_eq_single ⟨t, ht⟩]
  · rw [hc]; simp [Scalar.select]
  · intro q _ hq
    rw [hc, decide_eq_false (fun h => hq (Fin.ext h.symm))]
    simp [Scalar.select]
  · intro h; exact absurd (Finset.mem_univ _) h

theorem word_eq {a q : ℕ} (ha : a < 200) (hq : q < 200) :
    IntOp.cmpi .eq (BitVec.ofNat 32 a) (BitVec.ofNat 32 q) = BitVec.ofBool (decide (a = q)) := by
  show BitVec.ofBool (BitVec.ofNat 32 a == BitVec.ofNat 32 q) = _
  congr 1
  rw [Bool.eq_iff_iff, beq_iff_eq, decide_eq_true_eq]
  constructor
  · intro h
    have := congrArg BitVec.toNat h
    simp only [BitVec.toNat_ofNat] at this
    omega
  · rintro rfl; rfl

theorem zero_const (j : S_.Idx) : (id (constant (F := Ideal) S_ FTy.f32 0#32) j : EReal) = 0 := Ideal.ofBits_zero_f32

/-- A sort of the rows of a rank 3 array carrying the positions. -/
theorem sort_at {n : ℕ} (hn : n < 2 ^ 32) (x : B3 1024 25 n) (y : (⟨3, ![1024, 25, n]⟩ : Shape).Idx → BitVec 32)
    (hy : ∀ b s k, y (ix3 b s k) = BitVec.ofNat 32 k.val) (b : Fin 1024) (s : Fin 25) (k : Fin n) :
    (Host.sort2 (⟨3, ![1024, 25, n]⟩ : Shape) 2 (comparator_f32_i32_d2 (F := Ideal)) x y).2 (ix3 b s k)
      = BitVec.ofNat 32 (sortedFrom (fun p p' : Fin n => decide (x (ix3 b s p) < x (ix3 b s p'))) k).val := by
  have h2 : 2 < (⟨3, ![1024, 25, n]⟩ : Shape).rank := Nat.lt_succ_self 2
  have hal : ∀ p : Fin n, Shape.Idx.along (s := (⟨3, ![1024, 25, n]⟩ : Shape)) (ix3 b s k) ⟨2, h2⟩ p = ix3 b s p := by
    intro p
    funext a
    fin_cases a <;> rfl
  unfold Host.sort2
  rw [dif_pos h2]
  show y (Shape.Idx.along (s := (⟨3, ![1024, 25, n]⟩ : Shape)) (ix3 b s k) ⟨2, h2⟩ (sortedFrom _ _)) = _
  refine (congrArg y (hal _)).trans ((hy _ _ _).trans ?_)
  refine congrArg (fun t : Fin n => BitVec.ofNat 32 t.val) (congrFun (congrArg (sortedFrom (n := n)) ?_) k)
  funext p p'
  refine (congrArg₂ (fun a b => comparator_f32_i32_d2 (F := Ideal) (x a, y a) (x b, y b) == 1#1) (hal p) (hal p')).trans ?_
  exact comparator_lt (x (ix3 b s p), y (ix3 b s p)) (x (ix3 b s p'), y (ix3 b s p'))

open Cert.ReferenceIdeal.Facts Cert.ReferenceIdeal.Gen in
theorem exp_at (x : FVec Ideal S1024x200 .f32) (b : Fin 1024) (q : Fin 200) :
    (Host.exp (subf x (broadcastInDim S1024x200 ![0, 1] bcast_S1024x1_S1024x200_0_1 (broadcastInDim S1024x1 ![0] bcast_S1024_S1024x1_0
      (maximumf (broadcastInDim S1024 ![] bcast_S_S1024 (constant S_ .f32 0xFF800000#32))
        (Host.reduce FloatOps.maximumf x (constant S_ .f32 0xFF800000#32) reducesTo_S1024x200_S1024_d1 h_S_))))) : FVec Ideal S1024x200 .f32) (ix2 b q)
      = ex (fun q => rd2 (n := 1024) (m := 200) x b q) q := by
  pointwise []
  rw [show Ideal.ofBits .f32 0xFF800000#32 = ⊥ by simp [Ideal.ofBits, Ideal.ieee], max_eq_right bot_le]
  unfold ex top
  have h : Finset.univ.fold max (⊥ : EReal) (fun k : Fin 200 => x (ix2 b k)) = (Finset.range 200).sup fun q => rd2 (n := 1024) (m := 200) x b q := by
    refine le_antisymm (Finset.sup_le (f := fun k : Fin 200 => (x (ix2 b k) : EReal)) fun k _ => ?_) (Finset.sup_le fun q hq => ?_)
    · rw [rd2_ix (n := 1024) (m := 200) x b k]
      exact Finset.le_sup (f := fun q => rd2 (n := 1024) (m := 200) x b q) (Finset.mem_range.mpr k.isLt)
    · rw [rd2_pos (n := 1024) (m := 200) x b.isLt (Finset.mem_range.mp hq)]
      exact Finset.le_sup (f := fun k : Fin 200 => (x (ix2 b k) : EReal)) (Finset.mem_univ (⟨q, Finset.mem_range.mp hq⟩ : Fin 200))
  rw [h, rd2_ix (n := 1024) (m := 200) x b q]

theorem v8_at (b : Fin 1024) (q : Fin 200) : res_main_v8 V0 (ix2 b q) = ex (fun q => rd2 (X0 V0) b q) q := exp_at (X0 V0) b q

theorem v12_at (b : Fin 1024) (q : Fin 200) : res_main_v12 V0 (ix2 b q)
    = Ideal.div (ex (fun q => rd2 (X0 V0) b q) q) (∑ q ∈ Finset.range 200, ex (fun q => rd2 (X0 V0) b q) q) := by
  pointwise [res_main_v12]
  simp only [v8_at]
  rw [Finset.sum_range]

theorem v17_at (b : Fin 1024) (s : Fin 25) (q : Fin 200) : res_main_v17 V0 (ix3 b s q)
    = -(Ideal.log (Y12 V0 (ix2 b q)) + rd2 (X3 V0) (25 * b + s) q : EReal) := by
  pointwise [res_main_v17]
  refine congrArg (fun t : EReal => -(Ideal.log (Y12 V0 (ix2 b q)) + t)) ?_
  refine (rd2_ix (X3 V0) _ _).trans ?_
  rw [Nat.mul_comm 25]

/-- Row `(b, s)` of the sort by the reference's keys, where `z` is larger where the key is smaller. -/
theorem v18_at (b : Fin 1024) (s : Fin 25) (z : ℕ → EReal)
    (hz : ∀ p p' : Fin 200, Y17 V0 (ix3 b s p) < Y17 V0 (ix3 b s p') ↔ z p' < z p) (k : Fin 200) :
    res_main_v18 V0 (ix3 b s k) = BitVec.ofNat 32 (nth z k) := by
  refine (sort_at (n := 200) (by norm_num) (Y17 V0) (res_main_call0_v0 V0) (fun b s k => by pointwise [res_main_call0_v0]) b s k).trans ?_
  rw [sortedFrom_nth _ _ (fun _ _ => rfl) z hz k]

/-- The first ten places. -/
theorem v25_at (b : Fin 1024) (s : Fin 25) (z : ℕ → EReal)
    (hz : ∀ p p' : Fin 200, Y17 V0 (ix3 b s p) < Y17 V0 (ix3 b s p') ↔ z p' < z p) (k : Fin 10) (q : Fin 200) :
    res_main_v25 V0 (ix4 b s k q) = BitVec.ofBool (decide (nth z k = q)) := by
  pointwise [res_main_v25, res_main_v19]
  refine (congrArg (fun t => IntOp.cmpi .eq t (BitVec.ofNat 32 q.val)) (v18_at V0 b s z hz ⟨k, by omega⟩)).trans ?_
  exact word_eq (nth_lt z (by omega)) q.isLt

/-- The places after them. -/
theorem v31_at (b : Fin 1024) (s : Fin 25) (z : ℕ → EReal)
    (hz : ∀ p p' : Fin 200, Y17 V0 (ix3 b s p) < Y17 V0 (ix3 b s p') ↔ z p' < z p) (k : Fin 190) (q : Fin 200) :
    res_main_v31 V0 (ix4 b s k q) = BitVec.ofBool (decide (nth z (10 + k) = q)) := by
  pointwise [res_main_v31, res_main_v19]
  refine (congrArg (fun t => IntOp.cmpi .eq t (BitVec.ofNat 32 q.val)) (v18_at V0 b s z hz ⟨10 + k, by omega⟩)).trans ?_
  exact word_eq (nth_lt z (by omega)) q.isLt

theorem v47_at (b : Fin 1024) (s : Fin 25) (z : ℕ → EReal)
    (hz : ∀ p p' : Fin 200, Y17 V0 (ix3 b s p) < Y17 V0 (ix3 b s p') ↔ z p' < z p) (k : Fin 190) :
    res_main_v47 V0 (ix3 b s k) = rd2 (Y12 V0) b (nth z (10 + k)) := by
  pointwise [res_main_v47]
  simp only [zero_const]
  exact (mask_sum _ (nth z (10 + k)) (nth_lt z (by omega)) (fun q => v31_at V0 b s z hz _ q) _).trans (rd2_ix (Y12 V0) _ _)

theorem v44_at (b : Fin 1024) (s : Fin 25) (z : ℕ → EReal)
    (hz : ∀ p p' : Fin 200, Y17 V0 (ix3 b s p) < Y17 V0 (ix3 b s p') ↔ z p' < z p) (k : Fin 10) :
    res_main_v44 V0 (ix3 b s k) = ordered (fun k => rd2 (X4 V0) (25 * b + s) k) (fun k => rd2 (Y12 V0) b (nth z k)) k := by
  pointwise [res_main_v44]
  have h := sort_at (n := 10) (by norm_num) (Y1 V0) (res_main_call2_v0 V0) (fun b s k => by pointwise [res_main_call2_v0]) b s k
  simp only [zero_const]
  have h' := sortedFrom_rank (fun p p' : Fin 10 => decide (Y1 V0 (ix3 b s p) < Y1 V0 (ix3 b s p')))
    (fun k => rd2 (X4 V0) (25 * b + s) k) (fun p p' => by
      have : ∀ p : Fin 10, Y1 V0 (ix3 b s p) = rd2 (X4 V0) (25 * b + s) p := by
        intro p
        pointwise [Y1, res_main_v1]
        refine (rd2_ix (X4 V0) _ _).trans ?_
        rw [Nat.mul_comm 25]
      rw [this, this]) k
  rw [h'] at h
  refine (mask_sum _ ((rkEquiv fun k => rd2 (X4 V0) (25 * b + s) k).symm k).val (Fin.isLt _) (fun q => ?_) _).trans ?_
  · refine (congrArg (fun t => IntOp.cmpi .eq t (BitVec.ofNat 32 q.val)) h).trans ?_
    exact word_eq (by omega) (by omega)
  · refine (mask_sum _ (nth z ((rkEquiv fun k => rd2 (X4 V0) (25 * b + s) k).symm k).val) (nth_lt z (by omega)) (fun q => v25_at V0 b s z hz _ q) _).trans ?_
    unfold ordered
    rw [dif_pos k.isLt]
    exact rd2_ix (Y12 V0) _ _

end Cert.ReferenceIdeal.Value
-- ==== Proof.Loss.lean ====
/- The reference's loss, as sums of real expressions of its arguments. -/
module

public import proofs.«01_k».proof.Proof.Reference

@[expose] public section

noncomputable section

namespace Cert.ReferenceIdeal.Value

open Idealize.ShloMosaic Idealize.SL.Sem Cert.ReferenceIdeal Cert.Pick Cert.KernelIdeal.Tile

variable [Cert.ReferenceIdeal.Facts]

variable (V0 : Vals)

def Y44 : B3 1024 25 10 := res_main_v44 V0
def Y47 : B3 1024 25 190 := res_main_v47 V0
def Y137 : B2 1024 200 := res_main_v137 V0
def Y165 : B3 1024 25 8 := res_main_v165 V0

/-- The choice of the places of row `(b, s)`: `z` is larger where the reference's key is smaller. -/
def Picks (b : Fin 1024) (s : Fin 25) (z : ℕ → EReal) : Prop :=
  ∀ p p' : Fin 200, Y17 V0 (ix3 b s p) < Y17 V0 (ix3 b s p') ↔ z p' < z p

/-- A list's relevances as shares of their sum. -/
def shareR (r : ℕ → EReal) (q : ℕ) : EReal :=
  if ∑ q ∈ Finset.range 200, r q = 0 then 0 else Ideal.div (r q) (∑ q ∈ Finset.range 200, r q)
/-- The weights of the ten chosen. -/
def weightR (r : ℕ → EReal) (k : ℕ) : EReal := if ∑ k ∈ Finset.range 10, r k = 0 then tenth else Ideal.div (r k) (∑ k ∈ Finset.range 10, r k)

/-- One share's term of the entropy. -/
def entR (p : ℕ → EReal) (g : ℕ) : EReal := p g * if 0 < p g then Ideal.log (p g) else 0

/-- What the places from `i` on and the places after the tenth have together. -/
def denR (b : Fin 1024) (s : Fin 25) (i : ℕ) : EReal :=
  (∑ x : Fin (10 - i), rd3 (Y44 V0) b s (i + x)) + ∑ x : Fin 190, rd3 (Y47 V0) b s x
/-- The probability of the first `m` places. -/
def probR (b : Fin 1024) (s : Fin 25) : ℕ → EReal
  | 0 => 1
  | m + 1 => probR b s m * Ideal.div (rd3 (Y44 V0) b s m) (denR V0 b s m)

theorem denR_zero (b : Fin 1024) (s : Fin 25) : denR V0 b s 0 = (∑ x : Fin 10, rd3 (Y44 V0) b s x) + ∑ x : Fin 190, rd3 (Y47 V0) b s x := by
  unfold denR
  simp only [Nat.zero_add]

theorem v44_rd (b : Fin 1024) (s : Fin 25) (k : Fin 10) : res_main_v44 V0 (ix3 b s k) = rd3 (Y44 V0) b s k := rd3_ix (Y44 V0) b s k
theorem v47_rd (b : Fin 1024) (s : Fin 25) (k : Fin 190) : res_main_v47 V0 (ix3 b s k) = rd3 (Y47 V0) b s k := rd3_ix (Y47 V0) b s k

theorem v119_at (b : Fin 1024) (s : Fin 25) : @Eq EReal (res_main_v119 V0 (ix2 b s)) (probR V0 b s 9) := by
  pointwise [res_main_v119]
  show _ = 1 * Ideal.div (rd3 (Y44 V0) b s 0) (denR V0 b s 0) * Ideal.div (rd3 (Y44 V0) b s 1) (denR V0 b s 1)
    * Ideal.div (rd3 (Y44 V0) b s 2) (denR V0 b s 2) * Ideal.div (rd3 (Y44 V0) b s 3) (denR V0 b s 3)
    * Ideal.div (rd3 (Y44 V0) b s 4) (denR V0 b s 4) * Ideal.div (rd3 (Y44 V0) b s 5) (denR V0 b s 5)
    * Ideal.div (rd3 (Y44 V0) b s 6) (denR V0 b s 6) * Ideal.div (rd3 (Y44 V0) b s 7) (denR V0 b s 7)
    * Ideal.div (rd3 (Y44 V0) b s 8) (denR V0 b s 8)
  rw [one_mul, denR_zero]
  simp only [v44_rd, v47_rd]
  rfl

theorem v132_at (b : Fin 1024) : @Eq EReal (res_main_v132 V0 (ix2 b 0)) (∑ q ∈ Finset.range 200, rd2 (X1 V0) b q) := by
  pointwise [res_main_v132]
  rw [Finset.sum_range]
  exact Finset.sum_congr rfl fun q _ => rd2_ix (X1 V0) b q

theorem v137_at (b : Fin 1024) (q : Fin 200) : res_main_v137 V0 (ix2 b q) = shareR (fun q => rd2 (X1 V0) b q) q := by
  pointwise [res_main_v137]
  rw [v132_at, zero_const]
  exact congrArg (fun t : EReal => if ∑ q ∈ Finset.range 200, rd2 (X1 V0) b q = 0 then (0 : EReal) else Ideal.div t (∑ q ∈ Finset.range 200, rd2 (X1 V0) b q))
    (rd2_ix (X1 V0) b q)

/-- The shares of the first ten places. -/
def insideR (b : Fin 1024) (s : Fin 25) : EReal := ∑ k : Fin 10, ∑ q : Fin 200, Scalar.select (res_main_v25 V0 (ix4 b s k q)) (Y137 V0 (ix2 b q)) 0
/-- The shares of the places after them. -/
def outsideR (b : Fin 1024) (s : Fin 25) : EReal := ∑ k : Fin 190, ∑ q : Fin 200, Scalar.select (res_main_v31 V0 (ix4 b s k q)) (Y137 V0 (ix2 b q)) 0

theorem inside_at (b : Fin 1024) (s : Fin 25) (z : ℕ → EReal) (hz : Picks V0 b s z) :
    insideR V0 b s = ∑ k ∈ Finset.range 10, shareR (fun q => rd2 (X1 V0) b q) (nth z k) := by
  rw [Finset.sum_range]
  refine Finset.sum_congr rfl fun k _ => ?_
  exact (mask_sum _ (nth z k) (nth_lt z (by omega)) (fun q => v25_at V0 b s z hz _ q) _).trans (v137_at V0 b _)

theorem outside_at (b : Fin 1024) (s : Fin 25) (z : ℕ → EReal) (hz : Picks V0 b s z) :
    outsideR V0 b s = ∑ k ∈ Finset.range 190, shareR (fun q => rd2 (X1 V0) b q) (nth z (10 + k)) := by
  rw [Finset.sum_range]
  refine Finset.sum_congr rfl fun k _ => ?_
  exact (mask_sum _ (nth z (10 + k)) (nth_lt z (by omega)) (fun q => v31_at V0 b s z hz _ q) _).trans (v137_at V0 b _)

theorem v149_at (b : Fin 1024) (s : Fin 25) (z : ℕ → EReal) (hz : Picks V0 b s z) (k : Fin 10) :
    res_main_v149 V0 (ix3 b s k) = rd2 (X1 V0) b (nth z k) := by
  pointwise [res_main_v149]
  simp only [zero_const]
  refine (mask_sum _ (nth z k) (nth_lt z (by omega)) (fun q => v25_at V0 b s z hz _ q) _).trans ?_
  exact rd2_ix (X1 V0) _ _

theorem v151_at (b : Fin 1024) (s : Fin 25) (z : ℕ → EReal) (hz : Picks V0 b s z) :
    @Eq EReal (res_main_v151 V0 (ix3 b s 0)) (∑ k ∈ Finset.range 10, rd2 (X1 V0) b (nth z k)) := by
  pointwise [res_main_v151]
  rw [Finset.sum_range]
  exact Finset.sum_congr rfl fun k _ => v149_at V0 b s z hz k

/-- The weights put at their places and summed against `e`. -/
theorem masked_weights (z w : ℕ → EReal) (e : ℕ → EReal) :
    ∑ q : Fin 200, (∑ k : Fin 10, Scalar.select (BitVec.ofBool (decide (nth z k = q))) (w k) 0) * e q
      = ∑ k ∈ Finset.range 10, w k * e (nth z k) := by
  have h : ∀ q : Fin 200, (∑ k : Fin 10, Scalar.select (BitVec.ofBool (decide (nth z k = q))) (w k) 0) * e q
      = ∑ k : Fin 10, Scalar.select (BitVec.ofBool (decide (nth z k = q))) (w k * e q) 0 := by
    intro q
    by_cases hq : ∃ k : Fin 10, nth z k = q
    · obtain ⟨k, hk⟩ := hq
      have hne : ∀ k' : Fin 10, k' ≠ k → decide (nth z k' = q) = false := fun k' hk' =>
        decide_eq_false fun h => nth_ne (z := z) (fun h' => hk' (Fin.ext h')) (by omega) (by omega) (h.trans hk.symm)
      rw [Finset.sum_eq_single k (fun k' _ hk' => by rw [hne k' hk']; simp [Scalar.select]) (fun h => absurd (Finset.mem_univ _) h),
        Finset.sum_eq_single k (fun k' _ hk' => by rw [hne k' hk']; simp [Scalar.select]) (fun h => absurd (Finset.mem_univ _) h), hk]
      simp [Scalar.select]
    · have hne : ∀ k : Fin 10, decide (nth z k = q) = false := fun k => decide_eq_false fun h => hq ⟨k, h⟩
      rw [Finset.sum_eq_zero (fun k _ => by rw [hne k]; simp [Scalar.select]), Finset.sum_eq_zero (fun k _ => by rw [hne k]; simp [Scalar.select]), zero_mul]
  rw [Finset.sum_congr rfl fun q _ => h q, Finset.sum_comm, Finset.sum_range]
  exact Finset.sum_congr rfl fun k _ => mask_sum _ (nth z k) (nth_lt z (by omega)) (fun q => rfl) fun q => w k * e q

theorem v165_at (b : Fin 1024) (s : Fin 25) (z : ℕ → EReal) (hz : Picks V0 b s z) (g : Fin 8) :
    @Eq EReal (res_main_v165 V0 (ix3 b s g)) (∑ k ∈ Finset.range 10, weightR (fun k => rd2 (X1 V0) b (nth z k)) k * rd3 (X2 V0) b (nth z k) g) := by
  pointwise [res_main_v165]
  simp only [zero_const, v151_at V0 b s z hz, v149_at V0 b s z hz, v25_at V0 b s z hz]
  refine Eq.trans ?_ (masked_weights z (weightR fun k => rd2 (X1 V0) b (nth z k)) fun q => rd3 (X2 V0) b q g)
  exact Finset.sum_congr rfl fun q _ => congrArg (fun t : EReal => _ * t) (rd3_ix (X2 V0) b q g)

theorem v169_at (b : Fin 1024) (s : Fin 25) (g : Fin 8) :
    res_main_v169 V0 (ix3 b s g) = Ideal.div (rd3 (Y165 V0) b s g) (∑ g ∈ Finset.range 8, rd3 (Y165 V0) b s g) := by
  pointwise [res_main_v169]
  rw [Finset.sum_range]
  refine congrArg₂ Ideal.div (rd3_ix (Y165 V0) b s g) (Finset.sum_congr rfl fun g _ => rd3_ix (Y165 V0) b s g)

/-- What one sampled ranking adds. -/
def gainR (V0 : Vals) (b : Fin 1024) (s : Fin 25) : EReal :=
  Ideal.log (Ideal.ofBits .f32 0x4A5D7C00#32 * probR V0 b s 10)
    * (insideR V0 b s - outsideR V0 b s
      + half * -∑ g ∈ Finset.range 8, entR (fun g => Ideal.div (rd3 (Y165 V0) b s g) (∑ g ∈ Finset.range 8, rd3 (Y165 V0) b s g)) g)

/-- The reference's loss: the mean over the lists of the mean over the rankings, negated. -/
def lossR : EReal :=
  Ideal.div (∑ b : Fin 1024, Ideal.div (Ideal.ofBits .f32 0xBF800000#32 * ∑ s : Fin 25, gainR V0 b s) (Ideal.ofBits .f32 0x41C80000#32))
    (Ideal.ofBits .f32 0x44800000#32)

theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v190) = (fun _ => lossR (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨((h c).1).trans ?_, (h c).2⟩) (run m ρ)
  clear h
  generalize StableHlo.launchContents m c = V0
  funext j
  pointwise []
  refine congrArg (fun t : EReal => Ideal.div t (Ideal.ofBits .f32 0x44800000#32)) (Finset.sum_congr rfl fun b _ => ?_)
  refine congrArg (fun t : EReal => Ideal.div (Ideal.ofBits .f32 0xBF800000#32 * t) (Ideal.ofBits .f32 0x41C80000#32)) (Finset.sum_congr rfl fun s _ => ?_)
  rw [v119_at]
  simp only [v169_at, zero_const]
  unfold gainR
  refine congrArg₂ (fun x y : EReal => x * y) ?_ ?_
  · refine congrArg (fun t : EReal => Ideal.log (Ideal.ofBits .f32 0x4A5D7C00#32 * t)) ?_
    show _ = probR V0 b s 9 * Ideal.div (rd3 (Y44 V0) b s 9) (denR V0 b s 9)
    simp only [v44_rd, v47_rd]
    rfl
  · refine congrArg (fun y : EReal => insideR V0 b s - outsideR V0 b s + half * -y) ?_
    refine Eq.trans ?_ (Finset.sum_range _).symm
    refine Finset.sum_congr rfl fun g _ => ?_
    unfold entR
    split <;> rfl

end Cert.ReferenceIdeal.Value
-- ==== Proof.Equation.lean ====
/- Over real numbers, what a draw adds in the kernel is what a ranking adds in the reference. -/
module

public import proofs.«01_k».proof.Proof.Loss

@[expose] public section

noncomputable section

namespace Cert.Agree

open Idealize.ShloMosaic Cert.Pick Cert.KernelIdeal.Tile Cert.ReferenceIdeal.Value

theorem coe_sum (s : Finset ℕ) (f : ℕ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sum_real {n : ℕ} {f : ℕ → EReal} {F : ℕ → ℝ} (h : ∀ k < n, f k = F k) :
    ∑ k ∈ Finset.range n, f k = ((∑ k ∈ Finset.range n, F k : ℝ) : EReal) := by
  rw [coe_sum]
  exact Finset.sum_congr rfl fun k hk => h k (Finset.mem_range.mp hk)

theorem div_real (x : ℝ) {y : ℝ} (hy : y ≠ 0) : Ideal.div (x : EReal) (y : EReal) = ((x / y : ℝ) : EReal) := by
  unfold Ideal.div
  rw [if_neg (by simpa using hy), div_eq_mul_inv, EReal.coe_mul, EReal.coe_inv]

theorem log_real {x : ℝ} (hx : 0 < x) : Ideal.log (x : EReal) = ((Real.log x : ℝ) : EReal) := by
  rw [Ideal.log_coe, if_neg (not_le.mpr hx)]

theorem two_real : two = ((2 : ℝ) : EReal) := by
  unfold two
  simp [Ideal.ofBits, Ideal.ieee, -EReal.coe_mul]; norm_num
theorem half_real : half = ((1 / 2 : ℝ) : EReal) := by
  unfold half
  simp [Ideal.ofBits, Ideal.ieee, -EReal.coe_mul]; norm_num
theorem tenth_real : ∃ x : ℝ, 0 ≤ x ∧ tenth = (x : EReal) := by
  refine ⟨13421773 / 134217728, by norm_num, ?_⟩
  unfold tenth
  simp [Ideal.ofBits, Ideal.ieee, -EReal.coe_mul]; norm_num
theorem fact_real : Ideal.ofBits .f32 0x4A5D7C00#32 = ((3628800 : ℝ) : EReal) := by
  simp [Ideal.ofBits, Ideal.ieee, -EReal.coe_mul]; norm_num

theorem div_top (x : EReal) : Ideal.div x ⊤ = 0 := by
  unfold Ideal.div
  rw [if_neg EReal.top_ne_zero, EReal.inv_top, mul_zero]

/-- The terms of a finite sum of non-negative numbers are real. -/
theorem real_of_sum {n : ℕ} {f : ℕ → EReal} (h0 : ∀ k < n, 0 ≤ f k) (h : ∑ k ∈ Finset.range n, f k ≠ ⊤) :
    ∃ F : ℕ → ℝ, (∀ k < n, f k = F k) ∧ ∀ k < n, 0 ≤ F k := by
  refine ⟨fun k => (f k).toReal, fun k hk => (EReal.coe_toReal (fun e => h ?_) fun e => ?_).symm, fun k hk => EReal.toReal_nonneg (h0 k hk)⟩
  · exact top_le_iff.mp (e ▸ Finset.single_le_sum (f := f) (fun i hi => h0 i (Finset.mem_range.mp hi)) (Finset.mem_range.mpr hk))
  · have := h0 k hk
    rw [e] at this
    simp at this

/-- A sum over the two hundred, in the order of `z`: the first ten, and those after them. -/
theorem nth_sum {M : Type} [AddCommMonoid M] (z : ℕ → EReal) (h : ℕ → M) :
    (∑ k ∈ Finset.range 10, h (nth z k)) + ∑ k ∈ Finset.range 190, h (nth z (10 + k)) = ∑ q ∈ Finset.range 200, h q := by
  rw [← Finset.sum_range_add (fun k => h (nth z k)) 10 190]
  have hinj : Set.InjOn (nth z) (Finset.range 200 : Set ℕ) := fun i hi j hj e => by
    by_contra hne
    have hi' := Finset.mem_range.mp hi
    have hj' := Finset.mem_range.mp hj
    exact nth_ne (z := z) hne hi' hj' e
  have himg : (Finset.range 200).image (nth z) = Finset.range 200 := by
    refine Finset.eq_of_subset_of_card_le (fun q hq => ?_) (Finset.card_image_of_injOn hinj).ge
    obtain ⟨k, hk, rfl⟩ := Finset.mem_image.mp hq
    exact Finset.mem_range.mpr (nth_lt z (Finset.mem_range.mp hk))
  exact (Finset.sum_image hinj).symm.trans (by rw [himg])

/-- The logarithm of the probability of the ten places, times the number of orders. -/
theorem logs_agree (q L Pr : ℕ → EReal) (Q : ℕ → ℝ) (t : ℝ) (h1 : ∀ m < 10, L m = ((t - ∑ l ∈ Finset.range m, Q l : ℝ) : EReal)) (hP0 : Pr 0 = 1)
    (hP : ∀ m, Pr (m + 1) = Pr m * Ideal.div (q m) (L m)) (hq : ∀ m < 10, q m = Q m) (hQ : ∀ m < 10, 0 < Q m)
    (ht : ∀ m < 10, ∑ l ∈ Finset.range m, Q l < t) :
    ∃ x : ℝ, Ideal.log (Ideal.ofBits .f32 0x4A5D7C00#32 * Pr 10) = x ∧ lgk + logsE q - leftE q t = x := by
  have h2 : ∀ m ≤ 10, ∃ x : ℝ, 0 < x ∧ Pr m = x ∧ Real.log x = ∑ l ∈ Finset.range m, Real.log (Q l) - ∑ l ∈ Finset.range m, Real.log (t - ∑ i ∈ Finset.range l, Q i) := by
    intro m
    induction m with
    | zero => intro _; exact ⟨1, one_pos, by rw [hP0]; rfl, by simp⟩
    | succ m ih =>
      intro hm
      obtain ⟨x, hx, hp, hl⟩ := ih (by omega)
      have hQm := hQ m (by omega)
      have hlt : 0 < t - ∑ l ∈ Finset.range m, Q l := sub_pos.mpr (ht m (by omega))
      refine ⟨x * (Q m / (t - ∑ l ∈ Finset.range m, Q l)), by positivity, ?_, ?_⟩
      · rw [hP, hp, hq m (by omega), h1 m (by omega), div_real _ hlt.ne', ← EReal.coe_mul]
      · rw [Real.log_mul hx.ne' (by positivity), Real.log_div hQm.ne' hlt.ne', hl, Finset.sum_range_succ, Finset.sum_range_succ]
        ring
  obtain ⟨x, hx, hp, hl⟩ := h2 10 le_rfl
  refine ⟨Real.log 3628800 + ∑ l ∈ Finset.range 10, Real.log (Q l) - ∑ l ∈ Finset.range 10, Real.log (t - ∑ i ∈ Finset.range l, Q i), ?_, ?_⟩
  · rw [hp, fact_real, ← EReal.coe_mul, log_real (by positivity), Real.log_mul (by norm_num) hx.ne', hl]
    congr 1
    ring
  · have ha : logsE q = ((∑ l ∈ Finset.range 10, Real.log (Q l) : ℝ) : EReal) :=
      sum_real fun m hm => by rw [hq m hm, log_real (hQ m hm)]
    have hb : leftE q t = ((∑ l ∈ Finset.range 10, Real.log (t - ∑ i ∈ Finset.range l, Q i) : ℝ) : EReal) := by
      refine sum_real (f := fun m => Ideal.log (t - ∑ l ∈ Finset.range m, q l)) fun m hm => ?_
      rw [sum_real fun l hl => hq l (by omega), ← EReal.coe_sub, log_real (sub_pos.mpr (ht m hm))]
    have hc : lgk = ((Real.log 3628800 : ℝ) : EReal) := rfl
    rw [ha, hb, hc, ← EReal.coe_add, ← EReal.coe_sub]

/-- The share of the relevance inside less the share outside. -/
theorem delta_agree (rl z : ℕ → EReal) (h0' : ∀ q < 200, 0 ≤ rl q) :
    ∃ x : ℝ, deltaE (fun k => rl (nth z k)) (∑ q ∈ Finset.range 200, rl q) = x
      ∧ (∑ k ∈ Finset.range 10, shareR rl (nth z k)) - ∑ k ∈ Finset.range 190, shareR rl (nth z (10 + k)) = x := by
  by_cases htop : ∑ q ∈ Finset.range 200, rl q = ⊤
  · have hz : ∀ q, shareR rl q = 0 := fun q => by unfold shareR; rw [htop, if_neg EReal.top_ne_zero, div_top]
    refine ⟨0, ?_, ?_⟩
    · unfold deltaE recipE
      rw [htop, if_pos EReal.zero_lt_top, div_top]
      simp
    · simp [hz]
  obtain ⟨R, hR, h0⟩ := real_of_sum h0' htop
  have ha : ∀ k < 10, nth z k < 200 := fun k hk => nth_lt z (by omega)
  have hb : ∀ k < 190, nth z (10 + k) < 200 := fun k hk => nth_lt z (by omega)
  have hab := nth_sum z R
  have hS : ∑ q ∈ Finset.range 200, rl q = ((∑ q ∈ Finset.range 200, R q : ℝ) : EReal) := sum_real hR
  have hT : totalE (fun k => rl (nth z k)) = ((∑ k ∈ Finset.range 10, R (nth z k) : ℝ) : EReal) := sum_real fun k hk => hR _ (ha k hk)
  have hn : 0 ≤ ∑ q ∈ Finset.range 200, R q := Finset.sum_nonneg fun q hq => h0 q (Finset.mem_range.mp hq)
  generalize hs : ∑ q ∈ Finset.range 200, R q = S at *
  rcases hn.eq_or_lt with h | h
  · subst h
    have hz : ∀ q, shareR rl q = 0 := fun q => by unfold shareR; rw [hS, if_pos EReal.coe_zero]
    refine ⟨0, ?_, ?_⟩
    · unfold deltaE recipE
      rw [hS, if_neg (by simp)]
      simp
    · simp [hz]
  · have hq : ∀ q < 200, shareR rl q = ((R q / S : ℝ) : EReal) := fun q hq => by
      unfold shareR
      rw [hS, if_neg (by simpa using h.ne'), hR q hq, div_real _ h.ne']
    have hr : recipE (S : EReal) = ((1 / S : ℝ) : EReal) := by
      unfold recipE
      rw [if_pos (by simpa using h)]
      exact div_real 1 h.ne'
    refine ⟨2 * ((∑ k ∈ Finset.range 10, R (nth z k)) * (1 / S)) - S * (1 / S), ?_, ?_⟩
    · unfold deltaE
      rw [hS, hr, hT, two_real]
      simp only [← EReal.coe_mul, ← EReal.coe_sub]
    · rw [sum_real fun k hk => hq _ (ha k hk), sum_real fun k hk => hq _ (hb k hk), ← EReal.coe_sub, ← Finset.sum_div, ← Finset.sum_div, ← hab]
      congr 1
      ring

theorem weight_agree (w : ℕ → EReal) (h0' : ∀ k < 10, 0 ≤ w k) {k : ℕ} (hk : k < 10) :
    weightE w k = weightR w k ∧ ∃ x : ℝ, 0 ≤ x ∧ weightR w k = x := by
  by_cases htop : ∑ k ∈ Finset.range 10, w k = ⊤
  · unfold weightE weightR totalE recipE
    rw [htop, if_pos EReal.zero_lt_top, if_neg EReal.top_ne_zero, if_pos EReal.zero_lt_top, div_top, div_top, mul_zero]
    exact ⟨rfl, 0, le_rfl, rfl⟩
  obtain ⟨W, hw, h0⟩ := real_of_sum h0' htop
  have hT : ∑ k ∈ Finset.range 10, w k = ((∑ k ∈ Finset.range 10, W k : ℝ) : EReal) := sum_real hw
  have hn : 0 ≤ ∑ k ∈ Finset.range 10, W k := Finset.sum_nonneg fun q hq => h0 q (Finset.mem_range.mp hq)
  unfold weightE weightR totalE recipE
  rw [hT, hw k hk]
  generalize ∑ k ∈ Finset.range 10, W k = T at *
  rcases hn.eq_or_lt with h | h
  · subst h
    rw [if_neg (by simp), if_pos EReal.coe_zero]
    exact ⟨rfl, tenth_real⟩
  · have hpos : (0 : EReal) < (T : EReal) := by simpa using h
    rw [if_pos hpos, if_neg hpos.ne', if_pos hpos, div_real _ h.ne']
    refine ⟨?_, _, div_nonneg (h0 k hk) h.le, rfl⟩
    rw [show (1 : EReal) = ((1 : ℝ) : EReal) from rfl, div_real _ h.ne', ← EReal.coe_mul]
    congr 1
    ring

theorem entL_real (f : ℕ → EReal) (inv : EReal) (τ : ℕ → ℝ)
    (l : List ℕ) (hτ : ∀ k ∈ l, (if 0 < f k * inv then f k * inv * Ideal.log (f k * inv) else 0) = (τ k : EReal)) (s : ℝ) :
    entL f inv l s = ((s - (l.map τ).sum : ℝ) : EReal) := by
  induction l generalizing s with
  | nil => simp [entL]
  | cons k l ih =>
    unfold entL
    rw [hτ k List.mem_cons_self, ← EReal.coe_sub, ih fun k hk => hτ k (List.mem_cons_of_mem _ hk)]
    congr 1
    rw [List.map_cons, List.sum_cons]
    ring

/-- The entropy of the shares. -/
theorem ent_agree (f : ℕ → EReal) (h0' : ∀ g < 8, 0 ≤ f g) :
    ∃ x : ℝ, entE f = x ∧ -∑ g ∈ Finset.range 8, entR (fun g => Ideal.div (f g) (∑ g ∈ Finset.range 8, f g)) g = x := by
  have h8 : ∀ k ∈ eight, k < 8 := by decide
  have hsum : ∀ τ : ℕ → ℝ, (eight.map τ).sum = ∑ g ∈ Finset.range 8, τ g := fun τ => by
    simp only [eight, List.map_cons, List.map_nil, List.sum_cons, List.sum_nil, Finset.sum_range_succ, Finset.sum_range_zero]
    ring
  by_cases htop : ∑ g ∈ Finset.range 8, f g = ⊤
  · refine ⟨0, ?_, ?_⟩
    · refine (entL_real f _ (fun _ => 0) eight (fun k hk => ?_) 0).trans (by simp)
      have h : f k * Ideal.div 1 (∑ g ∈ Finset.range 8, f g) = 0 := by rw [htop, div_top, mul_zero]
      refine (if_neg ?_).trans EReal.coe_zero.symm
      exact not_lt.mpr h.le
    · rw [Finset.sum_eq_zero fun g hg => ?_]
      · simp
      · unfold entR
        simp only [htop, div_top, zero_mul]
  obtain ⟨E, hf, h0⟩ := real_of_sum h0' htop
  have hS : ∑ g ∈ Finset.range 8, f g = ((∑ g ∈ Finset.range 8, E g : ℝ) : EReal) := sum_real hf
  have hn : 0 ≤ ∑ g ∈ Finset.range 8, E g := Finset.sum_nonneg fun q hq => h0 q (Finset.mem_range.mp hq)
  rcases hn.eq_or_lt with h | h
  · have hz : ∀ g < 8, f g = 0 := fun g hg => by
      rw [hf g hg, (Finset.sum_eq_zero_iff_of_nonneg (fun q hq => h0 q (Finset.mem_range.mp hq))).mp h.symm g (Finset.mem_range.mpr hg)]
      rfl
    refine ⟨0, ?_, ?_⟩
    · refine (entL_real f _ (fun _ => 0) eight (fun k hk => ?_) 0).trans (by simp)
      rw [hz k (h8 k hk), zero_mul, if_neg (lt_irrefl _)]
      rfl
    · rw [Finset.sum_eq_zero fun g hg => ?_]
      · simp
      · unfold entR
        have : Ideal.div (f g) (∑ g ∈ Finset.range 8, f g) = ⊥ := by
          rw [hz g (Finset.mem_range.mp hg), hS, ← h]
          unfold Ideal.div
          simp
        simp only [this]
        rw [if_neg (by simp), mul_zero]
  · generalize ∑ g ∈ Finset.range 8, E g = S at *
    have hp : ∀ g < 8, Ideal.div (f g) (∑ g ∈ Finset.range 8, f g) = ((E g / S : ℝ) : EReal) := fun g hg => by
      rw [hS, hf g hg, div_real _ h.ne']
    have hi : ∀ g < 8, f g * Ideal.div 1 (∑ g ∈ Finset.range 8, f g) = ((E g / S : ℝ) : EReal) := fun g hg => by
      rw [hS, hf g hg, show (1 : EReal) = ((1 : ℝ) : EReal) from rfl, div_real _ h.ne', ← EReal.coe_mul]
      congr 1
      ring
    have ht : ∀ x : ℝ, (if (0 : EReal) < (x : EReal) then (x : EReal) * Ideal.log x else 0) = ((if 0 < x then x * Real.log x else 0 : ℝ) : EReal) := fun x => by
      by_cases hx : 0 < x
      · rw [if_pos (by simpa using hx), if_pos hx, log_real hx, EReal.coe_mul]
      · rw [if_neg (by simpa using hx), if_neg hx]; rfl
    have ht' : ∀ x : ℝ, (x : EReal) * (if (0 : EReal) < (x : EReal) then Ideal.log x else 0) = ((if 0 < x then x * Real.log x else 0 : ℝ) : EReal) := fun x => by
      rw [← ht x]
      split
      · rfl
      · rw [mul_zero]
    refine ⟨0 - ∑ g ∈ Finset.range 8, (if 0 < E g / S then E g / S * Real.log (E g / S) else 0), ?_, ?_⟩
    · refine (entL_real f _ (fun g => if 0 < E g / S then E g / S * Real.log (E g / S) else 0) eight (fun k hk => ?_) 0).trans (by rw [hsum])
      rw [hi k (h8 k hk), ht]
    · rw [sum_real (F := fun g => if 0 < E g / S then E g / S * Real.log (E g / S) else 0) fun g hg => ?_, ← EReal.coe_neg, zero_sub]
      unfold entR
      simp only [hp g hg]
      exact ht' _

/-- The reference's keys, the negated sums, are in the other order of the kernel's. -/
theorem keys_agree {g g' : EReal} (f f' c : ℝ) (h : ⊥ < g) (h' : ⊥ < g') :
    -(((f - c : ℝ) : EReal) + g) < -(((f' - c : ℝ) : EReal) + g') ↔ g' + (f' : EReal) < g + (f : EReal) := by
  rw [EReal.neg_lt_neg_iff]
  induction g with
  | bot => exact absurd h (lt_irrefl _)
  | top =>
    induction g' with
    | bot => exact absurd h' (lt_irrefl _)
    | top => simp only [EReal.coe_add_top, EReal.top_add_coe, lt_self_iff_false]
    | coe y => simp only [EReal.coe_add_top, EReal.top_add_coe, ← EReal.coe_add, EReal.coe_lt_top]
  | coe x =>
    induction g' with
    | bot => exact absurd h' (lt_irrefl _)
    | top => simp only [EReal.coe_add_top, EReal.top_add_coe, not_top_lt]
    | coe y =>
      simp only [← EReal.coe_add, EReal.coe_lt_coe_iff]
      constructor <;> intro h <;> linarith

/-- The shares of real scores, their logarithms the scores less a constant. -/
theorem soft_real (f : ℕ → EReal) (F : ℕ → ℝ) (hF : ∀ q < 200, f q = F q) : ∃ (P : ℕ → ℝ) (c : ℝ), ∀ q < 200, 0 < P q ∧ pr f q = P q
    ∧ Ideal.div (ex f q) (∑ q ∈ Finset.range 200, ex f q) = P q ∧ Real.log (P q) = F q - c := by
  obtain ⟨i, hi, ht⟩ := Finset.exists_mem_eq_sup (Finset.range 200) ⟨0, by simp⟩ f
  have htop : top f = (F i : EReal) := ht.trans (hF i (Finset.mem_range.mp hi))
  have hex : ∀ q < 200, ex f q = ((Real.exp (F q - F i) : ℝ) : EReal) := fun q hq => by
    unfold ex
    rw [htop, hF q hq, ← EReal.coe_sub, Ideal.exp_coe]
  have hS : ∑ q ∈ Finset.range 200, ex f q = ((∑ q ∈ Finset.range 200, Real.exp (F q - F i) : ℝ) : EReal) := sum_real hex
  have hpos : 0 < ∑ q ∈ Finset.range 200, Real.exp (F q - F i) := Finset.sum_pos (fun q _ => Real.exp_pos _) ⟨0, by simp⟩
  generalize ∑ q ∈ Finset.range 200, Real.exp (F q - F i) = S at *
  refine ⟨fun q => Real.exp (F q - F i) / S, F i + Real.log S, fun q hq => ⟨div_pos (Real.exp_pos _) hpos, ?_, ?_, ?_⟩⟩
  · unfold pr
    rw [hS, hex q hq, show (1 : EReal) = ((1 : ℝ) : EReal) from rfl, div_real _ hpos.ne', ← EReal.coe_mul]
    congr 1
    ring
  · rw [hS, hex q hq, div_real _ hpos.ne']
  · rw [Real.log_div (Real.exp_ne_zero _) hpos.ne', Real.log_exp]
    ring

variable [Cert.ReferenceIdeal.Facts]

/-- Of one list and one draw, both programs' terms are the same real number. -/
theorem draw_agree (V0 : Vals) (b : Fin 1024) (s : Fin 25) (F : ℕ → ℝ)
    (hF : ∀ q < 200, rd2 (X0 V0) b q = F q) (hR0 : ∀ q < 200, 0 ≤ rd2 (X1 V0) b q) (hE0 : ∀ q < 200, ∀ g < 8, 0 ≤ rd3 (X2 V0) b q g)
    (hG : ∀ q < 200, ⊥ < rd2 (X3 V0) (25 * b + s) q) :
    ∃ x : ℝ, drawGain (rd2 (X0 V0) b) (rd2 (X1 V0) b) (rd3 (X2 V0) b) (rd2 (X3 V0) (25 * b + s)) (rd2 (X4 V0) (25 * b + s)) = x
      ∧ gainR V0 b s = x := by
  obtain ⟨P, c, hP⟩ := soft_real (rd2 (X0 V0) b) F hF
  have h12 : ∀ q < 200, rd2 (Y12 V0) b q = P q := fun q hq => by
    rw [rd2_pos _ b.isLt hq]
    exact (v12_at V0 b ⟨q, hq⟩).trans (hP q hq).2.2.1
  generalize hz : (fun q => rd2 (X3 V0) (25 * b + s) q + rd2 (X0 V0) b q) = z
  have hzr : ∀ q < 200, z q = rd2 (X3 V0) (25 * b + s) q + (F q : EReal) := fun q hq => by
    rw [← hz, ← hF q hq]
  have hpick : Picks V0 b s z := by
    have hy : ∀ p : Fin 200, Y17 V0 (ix3 b s p) = -(((F p - c : ℝ) : EReal) + rd2 (X3 V0) (25 * b + s) p) := fun p => by
      refine (v17_at V0 b s p).trans ?_
      rw [rd2_ix (Y12 V0), h12 p p.isLt, log_real (hP p p.isLt).1, (hP p p.isLt).2.2.2]
    intro p p'
    rw [hy, hy, hzr p p.isLt, hzr p' p'.isLt]
    exact keys_agree _ _ c (hG p p.isLt) (hG p' p'.isLt)
  have ha : ∀ k < 10, nth z k < 200 := fun k hk => nth_lt z (by omega)
  -- the shares at the ten, in the order of the second draws
  let Q : ℕ → ℝ := fun m => if h : m < 10 then P (nth z ((rkEquiv (rd2 (X4 V0) (25 * b + s))).symm ⟨m, h⟩).val) else 0
  have hQe : ∀ m (h : m < 10), Q m = P (nth z ((rkEquiv (rd2 (X4 V0) (25 * b + s))).symm ⟨m, h⟩).val) := fun m h => dif_pos h
  have hQk : ∀ m < 10, ordered (rd2 (X4 V0) (25 * b + s)) (fun k => pr (rd2 (X0 V0) b) (nth z k)) m = Q m := fun m hm => by
    unfold ordered
    rw [dif_pos hm, hQe m hm]
    exact (hP _ (ha _ (Fin.isLt _))).2.1
  have hQr : ∀ m < 10, rd3 (Y44 V0) b s m = Q m := fun m hm => by
    rw [rd3_pos _ b.isLt s.isLt hm, hQe m hm]
    refine (v44_at V0 b s z hpick ⟨m, hm⟩).trans ?_
    unfold ordered
    rw [dif_pos hm]
    exact h12 _ (ha _ (Fin.isLt _))
  have hQ0 : ∀ m < 10, 0 < Q m := fun m hm => by
    rw [hQe m hm]
    exact (hP _ (ha _ (Fin.isLt _))).1
  have hsum : ∑ m ∈ Finset.range 10, Q m = ∑ k ∈ Finset.range 10, P (nth z k) := by
    rw [Finset.sum_range, Finset.sum_range, ← Equiv.sum_comp (rkEquiv (rd2 (X4 V0) (25 * b + s))).symm fun k : Fin 10 => P (nth z k)]
    exact Finset.sum_congr rfl fun m _ => hQe m m.isLt
  have hall : (∑ m ∈ Finset.range 10, Q m) + ∑ k ∈ Finset.range 190, P (nth z (10 + k)) = ∑ q ∈ Finset.range 200, P q := by
    rw [hsum]
    exact nth_sum z P
  have hle : ∑ m ∈ Finset.range 10, Q m ≤ ∑ q ∈ Finset.range 200, P q := by
    rw [← hall]
    exact le_add_of_nonneg_right (Finset.sum_nonneg fun k hk => (hP _ (nth_lt z (by have := Finset.mem_range.mp hk; omega))).1.le)
  have hlt : ∀ m < 10, ∑ l ∈ Finset.range m, Q l < ∑ q ∈ Finset.range 200, P q := fun m hm => by
    refine lt_of_lt_of_le (Finset.sum_lt_sum_of_subset (i := m) (fun l hl => ?_) (Finset.mem_range.mpr hm) (by simp) (hQ0 m hm)
      fun l hl _ => (hQ0 l (Finset.mem_range.mp hl)).le) hle
    exact Finset.mem_range.mpr ((Finset.mem_range.mp hl).trans hm)
  have h47 : ∀ k : Fin 190, rd3 (Y47 V0) b s k = P (nth z (10 + k)) := fun k => by
    rw [rd3_pos _ b.isLt s.isLt k.isLt]
    exact (v47_at V0 b s z hpick k).trans (h12 _ (nth_lt z (by omega)))
  have hden : ∀ m < 10, denR V0 b s m = ((∑ q ∈ Finset.range 200, P q - ∑ l ∈ Finset.range m, Q l : ℝ) : EReal) := fun m hm => by
    unfold denR
    rw [← Finset.sum_range (n := 10 - m) fun k => rd3 (Y44 V0) b s (m + k), ← Finset.sum_range (n := 190) fun k => rd3 (Y47 V0) b s k,
      sum_real (F := fun k => Q (m + k)) fun k hk => hQr _ (by omega), sum_real (F := fun k => P (nth z (10 + k))) fun k hk => h47 ⟨k, hk⟩, ← EReal.coe_add]
    congr 1
    have := Finset.sum_range_add Q m (10 - m)
    rw [show m + (10 - m) = 10 by omega] at this
    rw [← hall, this]
    ring
  obtain ⟨x, hx, hx'⟩ := logs_agree (rd3 (Y44 V0) b s) (denR V0 b s) (probR V0 b s) Q (∑ q ∈ Finset.range 200, P q)
    hden rfl (fun _ => rfl) hQr hQ0 hlt
  obtain ⟨y, hy, hy'⟩ := delta_agree (rd2 (X1 V0) b) z hR0
  -- the exposure of the groups
  have hw := fun k hk => weight_agree (fun k => rd2 (X1 V0) b (nth z k)) (fun k hk => hR0 _ (ha k hk)) (k := k) hk
  have h165 : ∀ g < 8, rd3 (Y165 V0) b s g = expoE (fun k => rd2 (X1 V0) b (nth z k)) (fun k => rd3 (X2 V0) b (nth z k)) g := fun g hg => by
    rw [rd3_pos _ b.isLt s.isLt hg]
    refine (v165_at V0 b s z hpick ⟨g, hg⟩).trans (Finset.sum_congr rfl fun k hk => ?_)
    rw [(hw k (Finset.mem_range.mp hk)).1]
  obtain ⟨e, he, he'⟩ := ent_agree (expoE (fun k => rd2 (X1 V0) b (nth z k)) (fun k => rd3 (X2 V0) b (nth z k)))
    (fun g hg => Finset.sum_nonneg fun k hk => by
      obtain ⟨hwk, x, hx, he⟩ := hw k (Finset.mem_range.mp hk)
      rw [hwk, he]
      exact mul_nonneg (EReal.coe_nonneg.mpr hx) (hE0 _ (ha k (Finset.mem_range.mp hk)) g hg))
  refine ⟨x * (y + 1 / 2 * e), ?_, ?_⟩
  · unfold drawGain gainE
    simp only [hz]
    have hl : logsE (ordered (rd2 (X4 V0) (25 * b + s)) fun k => pr (rd2 (X0 V0) b) (nth z k)) = logsE (rd3 (Y44 V0) b s) :=
      Finset.sum_congr rfl fun m hm => by rw [hQk m (Finset.mem_range.mp hm), hQr m (Finset.mem_range.mp hm)]
    have ht : ∑ q ∈ Finset.range 200, pr (rd2 (X0 V0) b) q = ((∑ q ∈ Finset.range 200, P q : ℝ) : EReal) := sum_real fun q hq => (hP q hq).2.1
    have hd : leftE (ordered (rd2 (X4 V0) (25 * b + s)) fun k => pr (rd2 (X0 V0) b) (nth z k)) (∑ q ∈ Finset.range 200, pr (rd2 (X0 V0) b) q)
        = leftE (rd3 (Y44 V0) b s) ((∑ q ∈ Finset.range 200, P q : ℝ) : EReal) := by
      rw [ht]
      refine Finset.sum_congr rfl fun m hm => ?_
      rw [Finset.sum_congr rfl fun l hl => (hQk l ((Finset.mem_range.mp hl).trans (Finset.mem_range.mp hm))).trans (hQr l ((Finset.mem_range.mp hl).trans (Finset.mem_range.mp hm))).symm]
    rw [hl, hd, hx', hy, he, half_real]
    simp only [← EReal.coe_mul, ← EReal.coe_add]
  · unfold gainR
    have hs : ∑ g ∈ Finset.range 8, rd3 (Y165 V0) b s g = ∑ g ∈ Finset.range 8, expoE (fun k => rd2 (X1 V0) b (nth z k)) (fun k => rd3 (X2 V0) b (nth z k)) g :=
      Finset.sum_congr rfl fun g hg => h165 g (Finset.mem_range.mp hg)
    have hg : ∑ g ∈ Finset.range 8, entR (fun g => Ideal.div (rd3 (Y165 V0) b s g) (∑ g ∈ Finset.range 8, rd3 (Y165 V0) b s g)) g
        = ∑ g ∈ Finset.range 8, entR (fun g => Ideal.div (expoE (fun k => rd2 (X1 V0) b (nth z k)) (fun k => rd3 (X2 V0) b (nth z k)) g)
            (∑ g ∈ Finset.range 8, expoE (fun k => rd2 (X1 V0) b (nth z k)) (fun k => rd3 (X2 V0) b (nth z k)) g)) g :=
      Finset.sum_congr rfl fun g hg => by
        unfold entR
        simp only [hs, h165 g (Finset.mem_range.mp hg)]
    rw [hx, inside_at V0 b s z hpick, outside_at V0 b s z hpick]
    refine (congrArg₂ (fun u v : EReal => (x : EReal) * (u + half * -v)) hy' hg).trans ?_
    rw [he', half_real]
    simp only [← EReal.coe_mul, ← EReal.coe_add]

end Cert.Agree
-- ==== Proof.Algebraic.lean ====
/- The kernel's result is the reference's, over the extended reals, of finite arguments. -/
module

public import proofs.«01_k».proof.Defs
public import proofs.«01_k».proof.Proof.Value
public import proofs.«01_k».proof.Proof.Equation
public import Idealize.ShloMosaic.Lib.ReduceAll

@[expose] public section

noncomputable section

namespace Cert.Agree

open Idealize.ShloMosaic Idealize.SL.Sem Cert.Pick Cert.KernelIdeal.Tile Cert.ReferenceIdeal.Value

/-! ## The sums -/

theorem blocks (a b : ℕ) (t : ℕ → ℝ) : ∑ D ∈ Finset.range (a * b), t D = ∑ i ∈ Finset.range a, ∑ j ∈ Finset.range b, t (b * i + j) := by
  induction a with
  | zero => simp
  | succ a ih => rw [Nat.succ_mul, Finset.sum_range_add, ih, Finset.sum_range_succ, Nat.mul_comm a b]

theorem lanes_sum (t : ℕ → ℝ) : ∑ w ∈ Finset.range 32, ∑ x ∈ Finset.range 16, ∑ k ∈ Finset.range 50, t (800 * w + 16 * k + x) = ∑ D ∈ Finset.range 25600, t D := by
  rw [show 25600 = 32 * 800 from rfl, blocks]
  refine Finset.sum_congr rfl fun w _ => ?_
  rw [show 800 = 50 * 16 from rfl, blocks 50 16 fun j => t (50 * 16 * w + j), Finset.sum_comm]
  exact Finset.sum_congr rfl fun k _ => Finset.sum_congr rfl fun x _ => by rw [← Nat.add_assoc]

theorem negone_real : Ideal.ofBits .f32 0xBF800000#32 = ((-1 : ℝ) : EReal) := by
  simp [Ideal.ofBits, Ideal.ieee, -EReal.coe_mul]; norm_num
theorem c25_real : Ideal.ofBits .f32 0x41C80000#32 = ((25 : ℝ) : EReal) := by
  simp [Ideal.ofBits, Ideal.ieee, -EReal.coe_mul]; norm_num
theorem c1024_real : Ideal.ofBits .f32 0x44800000#32 = ((1024 : ℝ) : EReal) := by
  simp [Ideal.ofBits, Ideal.ieee, -EReal.coe_mul]; norm_num
theorem c25600_real : Ideal.ofBits .f32 0x46C80000#32 = ((25600 : ℝ) : EReal) := by
  simp [Ideal.ofBits, Ideal.ieee, -EReal.coe_mul]; norm_num

theorem sum_fin_real {n : ℕ} {f : Fin n → EReal} {F : ℕ → ℝ} (h : ∀ k : Fin n, f k = F k) :
    ∑ k, f k = ((∑ k ∈ Finset.range n, F k : ℝ) : EReal) := by
  rw [coe_sum, Finset.sum_range]
  exact Finset.sum_congr rfl fun k _ => h k

/-- The kernel's mean of its lanes' totals. -/
theorem total_real [Cert.KernelIdeal.Facts] (g : B2 32 16) (t : ℕ → ℝ)
    (h : ∀ (w : Fin 32) (x : Fin 16), g (ix2 w x) = ((∑ k ∈ Finset.range 50, t (800 * w + 16 * k + x) : ℝ) : EReal)) :
    total_ (F := Ideal) g = fun _ => ((-(∑ D ∈ Finset.range 25600, t D) / 25600 : ℝ) : EReal) := by
  funext j
  unfold total_
  pointwise []
  rw [sum_fin_real (F := fun w => ∑ x ∈ Finset.range 16, ∑ k ∈ Finset.range 50, t (800 * w + 16 * k + x)) fun w => sum_fin_real (h w), lanes_sum,
    c25600_real, ← EReal.coe_neg, div_real _ (by norm_num)]

theorem loss_real [Cert.ReferenceIdeal.Facts] (V0 : Vals) (t : ℕ → ℝ) (h : ∀ (b : Fin 1024) (s : Fin 25), gainR V0 b s = t (25 * b + s)) :
    lossR V0 = ((-(∑ D ∈ Finset.range 25600, t D) / 25600 : ℝ) : EReal) := by
  unfold lossR
  rw [c25_real, c1024_real, negone_real,
    sum_fin_real (F := fun b => -1 * (∑ s ∈ Finset.range 25, t (25 * b + s)) / 25) fun b => by
      rw [sum_fin_real (F := fun s => t (25 * b + s)) (h b), ← EReal.coe_mul, div_real _ (by norm_num)],
    div_real _ (by norm_num), ← Finset.sum_div, ← Finset.mul_sum, show 25600 = 1024 * 25 from rfl, blocks 1024 25]
  congr 1
  push_cast
  ring

/-! ## The precondition -/

theorem real_of_abs {x : EReal} (h : max x (-x) < ⊤) : ∃ r : ℝ, x = r := by
  refine ⟨x.toReal, (EReal.coe_toReal ?_ ?_).symm⟩
  · rintro rfl; simp at h
  · rintro rfl; simp at h

theorem inf_top : Ideal.ofBits .f32 0x7F800000#32 = ⊤ := by
  simp [Ideal.ofBits, Ideal.ieee]

theorem finite_bit {x : EReal} (h : Ideal.cmp .olt (max x (-x)) (Ideal.ofBits .f32 0x7F800000#32) = 1#1) : ∃ r : ℝ, x = r := by
  rw [inf_top] at h
  exact real_of_abs ((bool_one (max x (-x) < ⊤)).1 h)

theorem neg_inf : Ideal.ofBits .f32 0xFF800000#32 = ⊥ := by
  simp [Ideal.ofBits, Ideal.ieee]

theorem above_bit {x : EReal} (h : Ideal.cmp .ogt x (Ideal.ofBits .f32 0xFF800000#32) = 1#1) : ⊥ < x := by
  rw [neg_inf] at h
  exact (bool_one (⊥ < x)).1 h

theorem nonneg_bit {x : EReal} (h : Ideal.cmp .oge x (Ideal.ofBits .f32 0x00000000#32) = 1#1) : 0 ≤ x := by
  rw [Ideal.ofBits_zero_f32] at h
  exact (bool_one ((0 : EReal) ≤ x)).1 h

/-- What the precondition says of the arguments. -/
theorem inputs_real [Cert.Pre_inputs_ok.Facts] (a0 a1 : B2 1024 200) (a2 : B3 1024 200 8) (a3 : B2 25600 200) (a4 : B2 25600 10)
    (h : Cert.Pre_inputs_ok.fn (F := Ideal) a0 a1 a2 a3 a4 = fun _ => 1#1) :
    (∀ j, ∃ r : ℝ, a0 j = r) ∧ (∀ j, 0 ≤ a1 j) ∧ (∀ j, 0 ≤ a2 j) ∧ ∀ j, ⊥ < a3 j := by
  haveI : Subsingleton Cert.Pre_inputs_ok.S_.Idx := ⟨fun _ _ => funext fun k => k.elim0⟩
  have h' := congrFun h ix0
  unfold Cert.Pre_inputs_ok.fn at h'
  obtain ⟨h', h3⟩ := IntOp.andi_eq_one.1 h'
  obtain ⟨h', h2⟩ := IntOp.andi_eq_one.1 h'
  obtain ⟨h0, h1⟩ := IntOp.andi_eq_one.1 h'
  refine ⟨fun j => ?_, fun j => ?_, fun j => ?_, fun j => ?_⟩
  · exact finite_bit (Host.reduce_andi_all _ _ _ _ _ h0 j)
  · exact nonneg_bit (Host.reduce_andi_all _ _ _ _ _ h1 j)
  · exact nonneg_bit (Host.reduce_andi_all _ _ _ _ _ h2 j)
  · exact above_bit (Host.reduce_andi_all _ _ _ _ _ h3 j)

/-- The precondition's side conditions. -/
theorem pre_facts : Cert.Pre_inputs_ok.Facts where
  bcast_S_S1024x200 := by decide
  reducesTo_S1024x200_S_d0_1 := by decide
  h_S_ := by decide
  bcast_S_S1024x200x8 := by decide
  reducesTo_S1024x200x8_S_d0_1_2 := by decide
  bcast_S_S25600x200 := by decide
  reducesTo_S25600x200_S_d0_1 := by decide

/-! ## The agreement -/

theorem rd2_all {n k : ℕ} {f : B2 n k} {P : EReal → Prop} (h : ∀ j, P (f j)) {r q : ℕ} (hr : r < n) (hq : q < k) : P (rd2 f r q) := by
  have e : f (ix2 ⟨r, hr⟩ ⟨q, hq⟩) = rd2 f r q := rd2_ix f ⟨r, hr⟩ ⟨q, hq⟩
  exact e ▸ h _

theorem rd3_all {n k p : ℕ} {f : B3 n k p} {P : EReal → Prop} (h : ∀ j, P (f j)) {r q g : ℕ} (hr : r < n) (hq : q < k) (hg : g < p) : P (rd3 f r q g) := by
  have e : f (ix3 ⟨r, hr⟩ ⟨q, hq⟩ ⟨g, hg⟩) = rd3 f r q g := rd3_ix f ⟨r, hr⟩ ⟨q, hq⟩ ⟨g, hg⟩
  exact e ▸ h _

section

variable [Cert.KernelIdeal.Facts] [Cert.ReferenceIdeal.Facts] [Cert.Pre_inputs_ok.Facts]
variable (m : (ℓ : Loc Cert.KernelIdeal.nD Cert.KernelIdeal.τ Cert.KernelIdeal.sig) → Buf (Elt Ideal) ℓ)

theorem fine (hP : Cert.Pre_KernelIdeal_inputs_ok m) : Fine m := by
  intro d L hL D hD q hq
  obtain ⟨h0, -, -, h3⟩ := inputs_real (A0 m d) (A1 m d) (A2 m d) (A3 m d) (A4 m d) (hP d)
  obtain ⟨r, hr⟩ := rd2_all (P := fun x => ∃ r : ℝ, x = r) h0 hL hq
  have hg := rd2_all (P := fun x => ⊥ < x) h3 hD hq
  rw [hr]
  exact EReal.bot_lt_add_iff.2 ⟨hg, EReal.bot_lt_coe r⟩

/-- Each draw adds the same real number in both programs. -/
theorem gains (hP : Cert.Pre_KernelIdeal_inputs_ok m) (d : Dev Cert.KernelIdeal.nD) (V0 : Vals)
    (e0 : X0 V0 = A0 m d) (e1 : X1 V0 = A1 m d) (e2 : X2 V0 = A2 m d) (e3 : X3 V0 = A3 m d) (e4 : X4 V0 = A4 m d) :
    ∃ t : ℕ → ℝ, ∀ (b : Fin 1024) (s : Fin 25), listGain m d b (25 * b + s) = t (25 * b + s) ∧ gainR V0 b s = t (25 * b + s) := by
  obtain ⟨h0, h1, h2, h3⟩ := inputs_real (A0 m d) (A1 m d) (A2 m d) (A3 m d) (A4 m d) (hP d)
  have key : ∀ (b : Fin 1024) (s : Fin 25), ∃ x : ℝ, listGain m d b (25 * b + s) = x ∧ gainR V0 b s = x := by
    intro b s
    have hF : ∀ q, ∃ r : ℝ, q < 200 → rd2 (A0 m d) b q = r := fun q => by
      by_cases hq : q < 200
      · obtain ⟨r, hr⟩ := rd2_all (P := fun x => ∃ r : ℝ, x = r) h0 b.2 hq
        exact ⟨r, fun _ => hr⟩
      · exact ⟨0, fun h => absurd h hq⟩
    choose F hF using hF
    have := draw_agree V0 b s F (fun q hq => by rw [e0]; exact hF q hq) (fun q hq => by rw [e1]; exact rd2_all (P := fun x => 0 ≤ x) h1 b.2 hq)
      (fun q hq g hg => by rw [e2]; exact rd3_all (P := fun x => 0 ≤ x) h2 b.2 hq hg)
      (fun q hq => by rw [e3]; exact rd2_all (P := fun x => ⊥ < x) h3 (by omega) hq)
    rw [e0, e1, e2, e3, e4] at this
    exact this
  choose x hx using key
  refine ⟨fun D => if h : D < 25600 then x ⟨D / 25, by omega⟩ ⟨D % 25, by omega⟩ else 0, fun b s => ?_⟩
  have hD : 25 * (b : ℕ) + s < 25600 := by omega
  have hb : (⟨(25 * (b : ℕ) + s) / 25, by omega⟩ : Fin 1024) = b := Fin.ext (by simp only []; omega)
  have hs : (⟨(25 * (b : ℕ) + s) % 25, by omega⟩ : Fin 25) = s := Fin.ext (by simp only []; omega)
  simp only [hD, dif_pos, hb, hs]
  exact hx b s

theorem algebraic : Cert.algebraic_KernelIdeal_ReferenceIdeal_pre_inputs_ok := by
  intro m g m' g' hP hA
  refine ⟨fun c => fun _ => lossR (StableHlo.launchContents m' c), ?_, reference_run m' g'⟩
  refine (θ_run Cert.KernelIdeal.defs _ _).mono (fun r h c => ?_) (run_main (F := Ideal) m g (value m (fine m hP)))
  obtain ⟨hargs, u, hu, hr⟩ := h.1 c
  refine ⟨hr.trans ?_, hargs⟩
  obtain ⟨a0, a1, a2, a3, a4⟩ := hA c
  obtain ⟨t, ht⟩ := gains m hP c (StableHlo.launchContents m' c) a0 a1 a2 a3 a4
  have hl := loss_real (StableHlo.launchContents m' c) t fun b s => (ht b s).2
  refine (total_real u t fun w x => (rows_at (fine m hP) hu w x).trans (sum_real fun k hk => ?_)).trans (funext fun _ => hl.symm)
  have hw := w.2
  have hx := x.2
  have h := (ht ⟨32 * w + (16 * k + x) / 25, by omega⟩ ⟨(16 * k + x) % 25, by omega⟩).1
  have e : 25 * (32 * (w : ℕ) + (16 * k + x) / 25) + (16 * k + x) % 25 = 800 * w + 16 * k + x := by omega
  simp only [e] at h
  exact h

end

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  haveI := Cert.Kernel.Gen.facts
  haveI := Cert.KernelIdeal.Gen.facts
  haveI := Cert.ReferenceIdeal.Gen.facts
  haveI := Cert.Agree.pre_facts
  ⟨Cert.Kernel.Gen.facts, Cert.KernelIdeal.Gen.facts, Cert.ReferenceIdeal.Gen.facts, Cert.Agree.pre_facts, frame_kernel,
    frame_ideal, fun m ρ _ => frame_ideal m ρ trivial, frame_reference, fun m ρ _ => frame_reference m ρ trivial, preserves, Cert.Agree.algebraic⟩

end Cert.Proof

end
